-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Experts [hPre_tiles_ok : Cert.Pre_tiles_ok.Facts] (m : (ℓ : Loc Cert.Experts.nD Cert.Experts.τ Cert.Experts.sig) → Buf (Elt Bits) ℓ) : Prop :=
  ∀ c : Dev Cert.Experts.nD,
    (Cert.Pre_tiles_ok.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).1 = (fun _ => 1#1)
    ∧ (Cert.Pre_tiles_ok.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).2 = (fun _ => 1#1)

def Pre_ExpertsIdeal [hPre_tiles_ok : Cert.Pre_tiles_ok.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tiles_ok.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).1 = (fun _ => 1#1)
    ∧ (Cert.Pre_tiles_ok.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).2 = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_tiles_ok [hPre_tiles_ok : Cert.Pre_tiles_ok.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_tiles_ok.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))).1 = (fun _ => 1#1)
    ∧ (Cert.Pre_tiles_ok.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))).2 = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Context [hPre_context_tiles_ok : Cert.Pre_context_tiles_ok.Facts] (m : (ℓ : Loc Cert.Context.nD Cert.Context.τ Cert.Context.sig) → Buf (Elt Bits) ℓ) : Prop :=
  ∀ c : Dev Cert.Context.nD,
    (Cert.Pre_context_tiles_ok.fn (F := Bits) (m ((c.tc : Thread Cert.Context.nD Cert.Context.τ).loc Cert.Context.main_arg0)) (m ((c.tc : Thread Cert.Context.nD Cert.Context.τ).loc Cert.Context.main_arg1)) (m ((c.tc : Thread Cert.Context.nD Cert.Context.τ).loc Cert.Context.main_arg2)) (m ((c.tc : Thread Cert.Context.nD Cert.Context.τ).loc Cert.Context.main_arg3)) (m ((c.tc : Thread Cert.Context.nD Cert.Context.τ).loc Cert.Context.main_arg4)) (m ((c.tc : Thread Cert.Context.nD Cert.Context.τ).loc Cert.Context.main_arg5))).1 = (fun _ => 1#1)
    ∧ (Cert.Pre_context_tiles_ok.fn (F := Bits) (m ((c.tc : Thread Cert.Context.nD Cert.Context.τ).loc Cert.Context.main_arg0)) (m ((c.tc : Thread Cert.Context.nD Cert.Context.τ).loc Cert.Context.main_arg1)) (m ((c.tc : Thread Cert.Context.nD Cert.Context.τ).loc Cert.Context.main_arg2)) (m ((c.tc : Thread Cert.Context.nD Cert.Context.τ).loc Cert.Context.main_arg3)) (m ((c.tc : Thread Cert.Context.nD Cert.Context.τ).loc Cert.Context.main_arg4)) (m ((c.tc : Thread Cert.Context.nD Cert.Context.τ).loc Cert.Context.main_arg5))).2 = (fun _ => 1#1)

def Pre_ContextIdeal [hPre_context_tiles_ok : Cert.Pre_context_tiles_ok.Facts] (m : (ℓ : Loc Cert.ContextIdeal.nD Cert.ContextIdeal.τ Cert.ContextIdeal.sig) → Buf (Elt Ideal) ℓ) : Prop :=
  ∀ c : Dev Cert.ContextIdeal.nD,
    (Cert.Pre_context_tiles_ok.fn (F := Ideal) (m ((c.tc : Thread Cert.ContextIdeal.nD Cert.ContextIdeal.τ).loc Cert.ContextIdeal.main_arg0)) (m ((c.tc : Thread Cert.ContextIdeal.nD Cert.ContextIdeal.τ).loc Cert.ContextIdeal.main_arg1)) (m ((c.tc : Thread Cert.ContextIdeal.nD Cert.ContextIdeal.τ).loc Cert.ContextIdeal.main_arg2)) (m ((c.tc : Thread Cert.ContextIdeal.nD Cert.ContextIdeal.τ).loc Cert.ContextIdeal.main_arg3)) (m ((c.tc : Thread Cert.ContextIdeal.nD Cert.ContextIdeal.τ).loc Cert.ContextIdeal.main_arg4)) (m ((c.tc : Thread Cert.ContextIdeal.nD Cert.ContextIdeal.τ).loc Cert.ContextIdeal.main_arg5))).1 = (fun _ => 1#1)
    ∧ (Cert.Pre_context_tiles_ok.fn (F := Ideal) (m ((c.tc : Thread Cert.ContextIdeal.nD Cert.ContextIdeal.τ).loc Cert.ContextIdeal.main_arg0)) (m ((c.tc : Thread Cert.ContextIdeal.nD Cert.ContextIdeal.τ).loc Cert.ContextIdeal.main_arg1)) (m ((c.tc : Thread Cert.ContextIdeal.nD Cert.ContextIdeal.τ).loc Cert.ContextIdeal.main_arg2)) (m ((c.tc : Thread Cert.ContextIdeal.nD Cert.ContextIdeal.τ).loc Cert.ContextIdeal.main_arg3)) (m ((c.tc : Thread Cert.ContextIdeal.nD Cert.ContextIdeal.τ).loc Cert.ContextIdeal.main_arg4)) (m ((c.tc : Thread Cert.ContextIdeal.nD Cert.ContextIdeal.τ).loc Cert.ContextIdeal.main_arg5))).2 = (fun _ => 1#1)

def Pre_ContextReferenceIdeal (m : (ℓ : Loc Cert.ContextReferenceIdeal.nD Cert.ContextReferenceIdeal.τ Cert.ContextReferenceIdeal.sig) → Buf (Elt Ideal) ℓ) : Prop :=
  True

def Pre_ContextReferenceIdeal_context_tiles_ok [hPre_context_tiles_ok : Cert.Pre_context_tiles_ok.Facts] (m : (ℓ : Loc Cert.ContextReferenceIdeal.nD Cert.ContextReferenceIdeal.τ Cert.ContextReferenceIdeal.sig) → Buf (Elt Ideal) ℓ) : Prop :=
  ∀ c : Dev Cert.ContextReferenceIdeal.nD,
    (Cert.Pre_context_tiles_ok.fn (F := Ideal) (m ((c.tc : Thread Cert.ContextReferenceIdeal.nD Cert.ContextReferenceIdeal.τ).loc Cert.ContextReferenceIdeal.main_arg0)) (m ((c.tc : Thread Cert.ContextReferenceIdeal.nD Cert.ContextReferenceIdeal.τ).loc Cert.ContextReferenceIdeal.main_arg1)) (m ((c.tc : Thread Cert.ContextReferenceIdeal.nD Cert.ContextReferenceIdeal.τ).loc Cert.ContextReferenceIdeal.main_arg2)) (m ((c.tc : Thread Cert.ContextReferenceIdeal.nD Cert.ContextReferenceIdeal.τ).loc Cert.ContextReferenceIdeal.main_arg3)) (m ((c.tc : Thread Cert.ContextReferenceIdeal.nD Cert.ContextReferenceIdeal.τ).loc Cert.ContextReferenceIdeal.main_arg4)) (m ((c.tc : Thread Cert.ContextReferenceIdeal.nD Cert.ContextReferenceIdeal.τ).loc Cert.ContextReferenceIdeal.main_arg5))).1 = (fun _ => 1#1)
    ∧ (Cert.Pre_context_tiles_ok.fn (F := Ideal) (m ((c.tc : Thread Cert.ContextReferenceIdeal.nD Cert.ContextReferenceIdeal.τ).loc Cert.ContextReferenceIdeal.main_arg0)) (m ((c.tc : Thread Cert.ContextReferenceIdeal.nD Cert.ContextReferenceIdeal.τ).loc Cert.ContextReferenceIdeal.main_arg1)) (m ((c.tc : Thread Cert.ContextReferenceIdeal.nD Cert.ContextReferenceIdeal.τ).loc Cert.ContextReferenceIdeal.main_arg2)) (m ((c.tc : Thread Cert.ContextReferenceIdeal.nD Cert.ContextReferenceIdeal.τ).loc Cert.ContextReferenceIdeal.main_arg3)) (m ((c.tc : Thread Cert.ContextReferenceIdeal.nD Cert.ContextReferenceIdeal.τ).loc Cert.ContextReferenceIdeal.main_arg4)) (m ((c.tc : Thread Cert.ContextReferenceIdeal.nD Cert.ContextReferenceIdeal.τ).loc Cert.ContextReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Experts [hExperts : Cert.Experts.Facts] [hPre_tiles_ok : Cert.Pre_tiles_ok.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_tiles_ok : Cert.Pre_tiles_ok.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_tiles_ok [hExpertsReferenceIdeal : Cert.ExpertsReferenceIdeal.Facts] [hPre_tiles_ok : Cert.Pre_tiles_ok.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_tiles_ok m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5)
      ∧ r.2.mem ((c.tc : Thread Cert.ProjectReferenceIdeal.nD Cert.ProjectReferenceIdeal.τ).loc Cert.ProjectReferenceIdeal.main_arg6) = m ((c.tc : Thread Cert.ProjectReferenceIdeal.nD Cert.ProjectReferenceIdeal.τ).loc Cert.ProjectReferenceIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12))
      ∧ r.2.sem = fun _ => 0)

def quiescent_Context [hContext : Cert.Context.Facts] [hPre_context_tiles_ok : Cert.Pre_context_tiles_ok.Facts] : Prop :=
  ∀ (m : (ℓ : Loc Cert.Context.nD Cert.Context.τ Cert.Context.sig) → Buf (Elt Bits) ℓ) (g : Dev Cert.Context.nD → PrngReg), Pre_Context m →
    θ_run (Cert.Context.defs (F := Bits)) (onTc (τ := Cert.Context.τ) (Cert.Context.main (F := Bits))) ⟨m, fun _ => 0, g⟩ (fun r => (∀ c : Dev Cert.Context.nD,
      r.2.mem ((c.tc : Thread Cert.Context.nD Cert.Context.τ).loc Cert.Context.main_arg0) = m ((c.tc : Thread Cert.Context.nD Cert.Context.τ).loc Cert.Context.main_arg0)
      ∧ r.2.mem ((c.tc : Thread Cert.Context.nD Cert.Context.τ).loc Cert.Context.main_arg1) = m ((c.tc : Thread Cert.Context.nD Cert.Context.τ).loc Cert.Context.main_arg1)
      ∧ r.2.mem ((c.tc : Thread Cert.Context.nD Cert.Context.τ).loc Cert.Context.main_arg2) = m ((c.tc : Thread Cert.Context.nD Cert.Context.τ).loc Cert.Context.main_arg2)
      ∧ r.2.mem ((c.tc : Thread Cert.Context.nD Cert.Context.τ).loc Cert.Context.main_arg3) = m ((c.tc : Thread Cert.Context.nD Cert.Context.τ).loc Cert.Context.main_arg3)
      ∧ r.2.mem ((c.tc : Thread Cert.Context.nD Cert.Context.τ).loc Cert.Context.main_arg4) = m ((c.tc : Thread Cert.Context.nD Cert.Context.τ).loc Cert.Context.main_arg4)
      ∧ r.2.mem ((c.tc : Thread Cert.Context.nD Cert.Context.τ).loc Cert.Context.main_arg5) = m ((c.tc : Thread Cert.Context.nD Cert.Context.τ).loc Cert.Context.main_arg5))
      ∧ r.2.sem = fun _ => 0)

def quiescent_ContextIdeal [hContextIdeal : Cert.ContextIdeal.Facts] [hPre_context_tiles_ok : Cert.Pre_context_tiles_ok.Facts] : Prop :=
  ∀ (m : (ℓ : Loc Cert.ContextIdeal.nD Cert.ContextIdeal.τ Cert.ContextIdeal.sig) → Buf (Elt Ideal) ℓ) (g : Dev Cert.ContextIdeal.nD → PrngReg), Pre_ContextIdeal m →
    θ_run (Cert.ContextIdeal.defs (F := Ideal)) (onTc (τ := Cert.ContextIdeal.τ) (Cert.ContextIdeal.main (F := Ideal))) ⟨m, fun _ => 0, g⟩ (fun r => (∀ c : Dev Cert.ContextIdeal.nD,
      r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
      ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
      ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
      ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3)
      ∧ r.2.mem ((c.tc : Thread Cert.ContextIdeal.nD Cert.ContextIdeal.τ).loc Cert.ContextIdeal.main_arg4) = m ((c.tc : Thread Cert.ContextIdeal.nD Cert.ContextIdeal.τ).loc Cert.ContextIdeal.main_arg4)
      ∧ r.2.mem ((c.tc : Thread Cert.ContextIdeal.nD Cert.ContextIdeal.τ).loc Cert.ContextIdeal.main_arg5) = m ((c.tc : Thread Cert.ContextIdeal.nD Cert.ContextIdeal.τ).loc Cert.ContextIdeal.main_arg5))
      ∧ r.2.sem = fun _ => 0)

def quiescent_ContextReferenceIdeal [hContextReferenceIdeal : Cert.ContextReferenceIdeal.Facts] : Prop :=
  ∀ (m : (ℓ : Loc Cert.ContextReferenceIdeal.nD Cert.ContextReferenceIdeal.τ Cert.ContextReferenceIdeal.sig) → Buf (Elt Ideal) ℓ) (g : Dev Cert.ContextReferenceIdeal.nD → PrngReg), Pre_ContextReferenceIdeal m →
    θ_run (Cert.ContextReferenceIdeal.defs (F := Ideal)) (onTc (τ := Cert.ContextReferenceIdeal.τ) (Cert.ContextReferenceIdeal.main (F := Ideal))) ⟨m, fun _ => 0, g⟩ (fun r => (∀ c : Dev Cert.ContextReferenceIdeal.nD,
      r.2.mem ((c.tc : Thread Cert.ContextReferenceIdeal.nD Cert.ContextReferenceIdeal.τ).loc Cert.ContextReferenceIdeal.main_arg0) = m ((c.tc : Thread Cert.ContextReferenceIdeal.nD Cert.ContextReferenceIdeal.τ).loc Cert.ContextReferenceIdeal.main_arg0)
      ∧ r.2.mem ((c.tc : Thread Cert.ContextReferenceIdeal.nD Cert.ContextReferenceIdeal.τ).loc Cert.ContextReferenceIdeal.main_arg1) = m ((c.tc : Thread Cert.ContextReferenceIdeal.nD Cert.ContextReferenceIdeal.τ).loc Cert.ContextReferenceIdeal.main_arg1)
      ∧ r.2.mem ((c.tc : Thread Cert.ContextReferenceIdeal.nD Cert.ContextReferenceIdeal.τ).loc Cert.ContextReferenceIdeal.main_arg2) = m ((c.tc : Thread Cert.ContextReferenceIdeal.nD Cert.ContextReferenceIdeal.τ).loc Cert.ContextReferenceIdeal.main_arg2)
      ∧ r.2.mem ((c.tc : Thread Cert.ContextReferenceIdeal.nD Cert.ContextReferenceIdeal.τ).loc Cert.ContextReferenceIdeal.main_arg3) = m ((c.tc : Thread Cert.ContextReferenceIdeal.nD Cert.ContextReferenceIdeal.τ).loc Cert.ContextReferenceIdeal.main_arg3)
      ∧ r.2.mem ((c.tc : Thread Cert.ContextReferenceIdeal.nD Cert.ContextReferenceIdeal.τ).loc Cert.ContextReferenceIdeal.main_arg4) = m ((c.tc : Thread Cert.ContextReferenceIdeal.nD Cert.ContextReferenceIdeal.τ).loc Cert.ContextReferenceIdeal.main_arg4)
      ∧ r.2.mem ((c.tc : Thread Cert.ContextReferenceIdeal.nD Cert.ContextReferenceIdeal.τ).loc Cert.ContextReferenceIdeal.main_arg5) = m ((c.tc : Thread Cert.ContextReferenceIdeal.nD Cert.ContextReferenceIdeal.τ).loc Cert.ContextReferenceIdeal.main_arg5))
      ∧ r.2.sem = fun _ => 0)

def quiescent_ContextReferenceIdeal_pre_context_tiles_ok [hContextReferenceIdeal : Cert.ContextReferenceIdeal.Facts] [hPre_context_tiles_ok : Cert.Pre_context_tiles_ok.Facts] : Prop :=
  ∀ (m : (ℓ : Loc Cert.ContextReferenceIdeal.nD Cert.ContextReferenceIdeal.τ Cert.ContextReferenceIdeal.sig) → Buf (Elt Ideal) ℓ) (g : Dev Cert.ContextReferenceIdeal.nD → PrngReg), Pre_ContextReferenceIdeal_context_tiles_ok m →
    θ_run (Cert.ContextReferenceIdeal.defs (F := Ideal)) (onTc (τ := Cert.ContextReferenceIdeal.τ) (Cert.ContextReferenceIdeal.main (F := Ideal))) ⟨m, fun _ => 0, g⟩ (fun r => (∀ c : Dev Cert.ContextReferenceIdeal.nD,
      r.2.mem ((c.tc : Thread Cert.ContextReferenceIdeal.nD Cert.ContextReferenceIdeal.τ).loc Cert.ContextReferenceIdeal.main_arg0) = m ((c.tc : Thread Cert.ContextReferenceIdeal.nD Cert.ContextReferenceIdeal.τ).loc Cert.ContextReferenceIdeal.main_arg0)
      ∧ r.2.mem ((c.tc : Thread Cert.ContextReferenceIdeal.nD Cert.ContextReferenceIdeal.τ).loc Cert.ContextReferenceIdeal.main_arg1) = m ((c.tc : Thread Cert.ContextReferenceIdeal.nD Cert.ContextReferenceIdeal.τ).loc Cert.ContextReferenceIdeal.main_arg1)
      ∧ r.2.mem ((c.tc : Thread Cert.ContextReferenceIdeal.nD Cert.ContextReferenceIdeal.τ).loc Cert.ContextReferenceIdeal.main_arg2) = m ((c.tc : Thread Cert.ContextReferenceIdeal.nD Cert.ContextReferenceIdeal.τ).loc Cert.ContextReferenceIdeal.main_arg2)
      ∧ r.2.mem ((c.tc : Thread Cert.ContextReferenceIdeal.nD Cert.ContextReferenceIdeal.τ).loc Cert.ContextReferenceIdeal.main_arg3) = m ((c.tc : Thread Cert.ContextReferenceIdeal.nD Cert.ContextReferenceIdeal.τ).loc Cert.ContextReferenceIdeal.main_arg3)
      ∧ r.2.mem ((c.tc : Thread Cert.ContextReferenceIdeal.nD Cert.ContextReferenceIdeal.τ).loc Cert.ContextReferenceIdeal.main_arg4) = m ((c.tc : Thread Cert.ContextReferenceIdeal.nD Cert.ContextReferenceIdeal.τ).loc Cert.ContextReferenceIdeal.main_arg4)
      ∧ r.2.mem ((c.tc : Thread Cert.ContextReferenceIdeal.nD Cert.ContextReferenceIdeal.τ).loc Cert.ContextReferenceIdeal.main_arg5) = m ((c.tc : Thread Cert.ContextReferenceIdeal.nD Cert.ContextReferenceIdeal.τ).loc Cert.ContextReferenceIdeal.main_arg5))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Experts_ExpertsIdeal : Prop :=
  IdealRules.bf16_pair.Statement Cert.ExpertsIdeal.S2048x512 Cert.ExpertsIdeal.S1024x512
  ∧ IdealRules.bf16_pair.SelectZeroStatement Cert.ExpertsIdeal.S1024x512
  ∧ IdealRules.bf16_pack.Statement Cert.ExpertsIdeal.S1024x512

def algebraic_ExpertsIdeal_ExpertsReferenceIdeal [hExpertsIdeal : Cert.ExpertsIdeal.Facts] [hExpertsReferenceIdeal : Cert.ExpertsReferenceIdeal.Facts] [hPre_tiles_ok : Cert.Pre_tiles_ok.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v7)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v7) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v32) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Combine_CombineIdeal : Prop :=
  IdealRules.bf16_pair.Statement Cert.CombineIdeal.S1024x512 Cert.CombineIdeal.S512x512

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)) →
    ∃ (v0 : (c : Dev Cert.CombineIdeal.nD) → Buf (Elt Ideal) ((c.tc : Thread Cert.CombineIdeal.nD Cert.CombineIdeal.τ).loc Cert.CombineIdeal.main_v7)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v7) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v10) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)
      ∧ m' ((c.tc : Thread Cert.ProjectReferenceIdeal.nD Cert.ProjectReferenceIdeal.τ).loc Cert.ProjectReferenceIdeal.main_arg5) = m ((c.tc : Thread Cert.ProjectIdeal.nD Cert.ProjectIdeal.τ).loc Cert.ProjectIdeal.main_arg5)
      ∧ m' ((c.tc : Thread Cert.ProjectReferenceIdeal.nD Cert.ProjectReferenceIdeal.τ).loc Cert.ProjectReferenceIdeal.main_arg6) = m ((c.tc : Thread Cert.ProjectIdeal.nD Cert.ProjectIdeal.τ).loc Cert.ProjectIdeal.main_arg6)) →
    ∃ (v0 : (c : Dev Cert.ProjectIdeal.nD) → Buf (Elt Ideal) ((c.tc : Thread Cert.ProjectIdeal.nD Cert.ProjectIdeal.τ).loc Cert.ProjectIdeal.main_v59_0)) (v1 : (c : Dev Cert.ProjectIdeal.nD) → Buf (Elt Ideal) ((c.tc : Thread Cert.ProjectIdeal.nD Cert.ProjectIdeal.τ).loc Cert.ProjectIdeal.main_v59_1)) (v2 : (c : Dev Cert.ProjectIdeal.nD) → Buf (Elt Ideal) ((c.tc : Thread Cert.ProjectIdeal.nD Cert.ProjectIdeal.τ).loc Cert.ProjectIdeal.main_v59_2)) (v3 : (c : Dev Cert.ProjectIdeal.nD) → Buf (Elt Ideal) ((c.tc : Thread Cert.ProjectIdeal.nD Cert.ProjectIdeal.τ).loc Cert.ProjectIdeal.main_v59_3)) (v4 : (c : Dev Cert.ProjectIdeal.nD) → Buf (Elt Ideal) ((c.tc : Thread Cert.ProjectIdeal.nD Cert.ProjectIdeal.τ).loc Cert.ProjectIdeal.main_v59_4)) (v5 : (c : Dev Cert.ProjectIdeal.nD) → Buf (Elt Ideal) ((c.tc : Thread Cert.ProjectIdeal.nD Cert.ProjectIdeal.τ).loc Cert.ProjectIdeal.main_v59_5)) (v6 : (c : Dev Cert.ProjectIdeal.nD) → Buf (Elt Ideal) ((c.tc : Thread Cert.ProjectIdeal.nD Cert.ProjectIdeal.τ).loc Cert.ProjectIdeal.main_v59_6)) (v7 : (c : Dev Cert.ProjectIdeal.nD) → Buf (Elt Ideal) ((c.tc : Thread Cert.ProjectIdeal.nD Cert.ProjectIdeal.τ).loc Cert.ProjectIdeal.main_v59_7)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v59_0) = v0 c
          ∧ r.2.mem ((c.tc : Thread Cert.ProjectIdeal.nD Cert.ProjectIdeal.τ).loc Cert.ProjectIdeal.main_v59_1) = v1 c
          ∧ r.2.mem ((c.tc : Thread Cert.ProjectIdeal.nD Cert.ProjectIdeal.τ).loc Cert.ProjectIdeal.main_v59_2) = v2 c
          ∧ r.2.mem ((c.tc : Thread Cert.ProjectIdeal.nD Cert.ProjectIdeal.τ).loc Cert.ProjectIdeal.main_v59_3) = v3 c
          ∧ r.2.mem ((c.tc : Thread Cert.ProjectIdeal.nD Cert.ProjectIdeal.τ).loc Cert.ProjectIdeal.main_v59_4) = v4 c
          ∧ r.2.mem ((c.tc : Thread Cert.ProjectIdeal.nD Cert.ProjectIdeal.τ).loc Cert.ProjectIdeal.main_v59_5) = v5 c
          ∧ r.2.mem ((c.tc : Thread Cert.ProjectIdeal.nD Cert.ProjectIdeal.τ).loc Cert.ProjectIdeal.main_v59_6) = v6 c
          ∧ r.2.mem ((c.tc : Thread Cert.ProjectIdeal.nD Cert.ProjectIdeal.τ).loc Cert.ProjectIdeal.main_v59_7) = v7 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v69) = v0 c
          ∧ r.2.mem ((c.tc : Thread Cert.ProjectReferenceIdeal.nD Cert.ProjectReferenceIdeal.τ).loc Cert.ProjectReferenceIdeal.main_v113) = v1 c
          ∧ r.2.mem ((c.tc : Thread Cert.ProjectReferenceIdeal.nD Cert.ProjectReferenceIdeal.τ).loc Cert.ProjectReferenceIdeal.main_v123) = v2 c
          ∧ r.2.mem ((c.tc : Thread Cert.ProjectReferenceIdeal.nD Cert.ProjectReferenceIdeal.τ).loc Cert.ProjectReferenceIdeal.main_v124) = v3 c
          ∧ r.2.mem ((c.tc : Thread Cert.ProjectReferenceIdeal.nD Cert.ProjectReferenceIdeal.τ).loc Cert.ProjectReferenceIdeal.main_v168) = v4 c
          ∧ r.2.mem ((c.tc : Thread Cert.ProjectReferenceIdeal.nD Cert.ProjectReferenceIdeal.τ).loc Cert.ProjectReferenceIdeal.main_v212) = v5 c
          ∧ r.2.mem ((c.tc : Thread Cert.ProjectReferenceIdeal.nD Cert.ProjectReferenceIdeal.τ).loc Cert.ProjectReferenceIdeal.main_v222) = v6 c
          ∧ r.2.mem ((c.tc : Thread Cert.ProjectReferenceIdeal.nD Cert.ProjectReferenceIdeal.τ).loc Cert.ProjectReferenceIdeal.main_v230) = v7 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4)
          ∧ r.2.mem ((c.tc : Thread Cert.ProjectReferenceIdeal.nD Cert.ProjectReferenceIdeal.τ).loc Cert.ProjectReferenceIdeal.main_arg5) = m' ((c.tc : Thread Cert.ProjectReferenceIdeal.nD Cert.ProjectReferenceIdeal.τ).loc Cert.ProjectReferenceIdeal.main_arg5)
          ∧ r.2.mem ((c.tc : Thread Cert.ProjectReferenceIdeal.nD Cert.ProjectReferenceIdeal.τ).loc Cert.ProjectReferenceIdeal.main_arg6) = m' ((c.tc : Thread Cert.ProjectReferenceIdeal.nD Cert.ProjectReferenceIdeal.τ).loc Cert.ProjectReferenceIdeal.main_arg6))

def preserves_Merge_MergeIdeal : Prop :=
  IdealRules.bf16_pair.Statement Cert.MergeIdeal.S512x512 Cert.MergeIdeal.S256x512
  ∧ IdealRules.bf16_pack.Statement Cert.MergeIdeal.S256x512

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v26_0)) (v1 : (c : Dev Cert.MergeIdeal.nD) → Buf (Elt Ideal) ((c.tc : Thread Cert.MergeIdeal.nD Cert.MergeIdeal.τ).loc Cert.MergeIdeal.main_v26_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v26_0) = v0 c
          ∧ r.2.mem ((c.tc : Thread Cert.MergeIdeal.nD Cert.MergeIdeal.τ).loc Cert.MergeIdeal.main_v26_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v38) = v0 c
          ∧ r.2.mem ((c.tc : Thread Cert.MergeReferenceIdeal.nD Cert.MergeReferenceIdeal.τ).loc Cert.MergeReferenceIdeal.main_v61) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12))

def preserves_Context_ContextIdeal : Prop :=
  IdealRules.bf16_pair.Statement Cert.ContextIdeal.S1024x512 Cert.ContextIdeal.S512x512
  ∧ IdealRules.bf16_pair.SelectZeroStatement Cert.ContextIdeal.S512x512
  ∧ IdealRules.bf16_pack.Statement Cert.ContextIdeal.S512x512

def algebraic_ContextIdeal_ContextReferenceIdeal [hContextIdeal : Cert.ContextIdeal.Facts] [hContextReferenceIdeal : Cert.ContextReferenceIdeal.Facts] [hPre_context_tiles_ok : Cert.Pre_context_tiles_ok.Facts] : Prop :=
  ∀ (m : (ℓ : Loc Cert.ContextIdeal.nD Cert.ContextIdeal.τ Cert.ContextIdeal.sig) → Buf (Elt Ideal) ℓ) (g : Dev Cert.ContextIdeal.nD → PrngReg)
    (m' : (ℓ : Loc Cert.ContextReferenceIdeal.nD Cert.ContextReferenceIdeal.τ Cert.ContextReferenceIdeal.sig) → Buf (Elt Ideal) ℓ) (g' : Dev Cert.ContextReferenceIdeal.nD → PrngReg), Pre_ContextIdeal m →
    (∀ c : Dev Cert.ContextIdeal.nD,
      m' ((c.tc : Thread Cert.ContextReferenceIdeal.nD Cert.ContextReferenceIdeal.τ).loc Cert.ContextReferenceIdeal.main_arg0) = m ((c.tc : Thread Cert.ContextIdeal.nD Cert.ContextIdeal.τ).loc Cert.ContextIdeal.main_arg0)
      ∧ m' ((c.tc : Thread Cert.ContextReferenceIdeal.nD Cert.ContextReferenceIdeal.τ).loc Cert.ContextReferenceIdeal.main_arg1) = m ((c.tc : Thread Cert.ContextIdeal.nD Cert.ContextIdeal.τ).loc Cert.ContextIdeal.main_arg1)
      ∧ m' ((c.tc : Thread Cert.ContextReferenceIdeal.nD Cert.ContextReferenceIdeal.τ).loc Cert.ContextReferenceIdeal.main_arg2) = m ((c.tc : Thread Cert.ContextIdeal.nD Cert.ContextIdeal.τ).loc Cert.ContextIdeal.main_arg2)
      ∧ m' ((c.tc : Thread Cert.ContextReferenceIdeal.nD Cert.ContextReferenceIdeal.τ).loc Cert.ContextReferenceIdeal.main_arg3) = m ((c.tc : Thread Cert.ContextIdeal.nD Cert.ContextIdeal.τ).loc Cert.ContextIdeal.main_arg3)
      ∧ m' ((c.tc : Thread Cert.ContextReferenceIdeal.nD Cert.ContextReferenceIdeal.τ).loc Cert.ContextReferenceIdeal.main_arg4) = m ((c.tc : Thread Cert.ContextIdeal.nD Cert.ContextIdeal.τ).loc Cert.ContextIdeal.main_arg4)
      ∧ m' ((c.tc : Thread Cert.ContextReferenceIdeal.nD Cert.ContextReferenceIdeal.τ).loc Cert.ContextReferenceIdeal.main_arg5) = m ((c.tc : Thread Cert.ContextIdeal.nD Cert.ContextIdeal.τ).loc Cert.ContextIdeal.main_arg5)) →
    ∃ (v0 : (c : Dev Cert.ContextIdeal.nD) → Buf (Elt Ideal) ((c.tc : Thread Cert.ContextIdeal.nD Cert.ContextIdeal.τ).loc Cert.ContextIdeal.main_v7)),
      θ_run (Cert.ContextIdeal.defs (F := Ideal)) (onTc (τ := Cert.ContextIdeal.τ) (Cert.ContextIdeal.main (F := Ideal))) ⟨m, fun _ => 0, g⟩ (fun r => ∀ c : Dev Cert.ContextIdeal.nD,
          r.2.mem ((c.tc : Thread Cert.ContextIdeal.nD Cert.ContextIdeal.τ).loc Cert.ContextIdeal.main_v7) = v0 c
          ∧ r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
          ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
          ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
          ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3)
          ∧ r.2.mem ((c.tc : Thread Cert.ContextIdeal.nD Cert.ContextIdeal.τ).loc Cert.ContextIdeal.main_arg4) = m ((c.tc : Thread Cert.ContextIdeal.nD Cert.ContextIdeal.τ).loc Cert.ContextIdeal.main_arg4)
          ∧ r.2.mem ((c.tc : Thread Cert.ContextIdeal.nD Cert.ContextIdeal.τ).loc Cert.ContextIdeal.main_arg5) = m ((c.tc : Thread Cert.ContextIdeal.nD Cert.ContextIdeal.τ).loc Cert.ContextIdeal.main_arg5))
      ∧ θ_run (Cert.ContextReferenceIdeal.defs (F := Ideal)) (onTc (τ := Cert.ContextReferenceIdeal.τ) (Cert.ContextReferenceIdeal.main (F := Ideal))) ⟨m', fun _ => 0, g'⟩ (fun r => ∀ c : Dev Cert.ContextReferenceIdeal.nD,
          r.2.mem ((c.tc : Thread Cert.ContextReferenceIdeal.nD Cert.ContextReferenceIdeal.τ).loc Cert.ContextReferenceIdeal.main_v32) = v0 c
          ∧ r.2.mem ((c.tc : Thread Cert.ContextReferenceIdeal.nD Cert.ContextReferenceIdeal.τ).loc Cert.ContextReferenceIdeal.main_arg0) = m' ((c.tc : Thread Cert.ContextReferenceIdeal.nD Cert.ContextReferenceIdeal.τ).loc Cert.ContextReferenceIdeal.main_arg0)
          ∧ r.2.mem ((c.tc : Thread Cert.ContextReferenceIdeal.nD Cert.ContextReferenceIdeal.τ).loc Cert.ContextReferenceIdeal.main_arg1) = m' ((c.tc : Thread Cert.ContextReferenceIdeal.nD Cert.ContextReferenceIdeal.τ).loc Cert.ContextReferenceIdeal.main_arg1)
          ∧ r.2.mem ((c.tc : Thread Cert.ContextReferenceIdeal.nD Cert.ContextReferenceIdeal.τ).loc Cert.ContextReferenceIdeal.main_arg2) = m' ((c.tc : Thread Cert.ContextReferenceIdeal.nD Cert.ContextReferenceIdeal.τ).loc Cert.ContextReferenceIdeal.main_arg2)
          ∧ r.2.mem ((c.tc : Thread Cert.ContextReferenceIdeal.nD Cert.ContextReferenceIdeal.τ).loc Cert.ContextReferenceIdeal.main_arg3) = m' ((c.tc : Thread Cert.ContextReferenceIdeal.nD Cert.ContextReferenceIdeal.τ).loc Cert.ContextReferenceIdeal.main_arg3)
          ∧ r.2.mem ((c.tc : Thread Cert.ContextReferenceIdeal.nD Cert.ContextReferenceIdeal.τ).loc Cert.ContextReferenceIdeal.main_arg4) = m' ((c.tc : Thread Cert.ContextReferenceIdeal.nD Cert.ContextReferenceIdeal.τ).loc Cert.ContextReferenceIdeal.main_arg4)
          ∧ r.2.mem ((c.tc : Thread Cert.ContextReferenceIdeal.nD Cert.ContextReferenceIdeal.τ).loc Cert.ContextReferenceIdeal.main_arg5) = m' ((c.tc : Thread Cert.ContextReferenceIdeal.nD Cert.ContextReferenceIdeal.τ).loc Cert.ContextReferenceIdeal.main_arg5))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hCombine : Cert.Combine.Facts) (hCombineIdeal : Cert.CombineIdeal.Facts) (hCombineReferenceIdeal : Cert.CombineReferenceIdeal.Facts) (hProject : Cert.Project.Facts) (hProjectIdeal : Cert.ProjectIdeal.Facts) (hProjectReferenceIdeal : Cert.ProjectReferenceIdeal.Facts) (hMerge : Cert.Merge.Facts) (hMergeIdeal : Cert.MergeIdeal.Facts) (hMergeReferenceIdeal : Cert.MergeReferenceIdeal.Facts) (hContext : Cert.Context.Facts) (hContextIdeal : Cert.ContextIdeal.Facts) (hContextReferenceIdeal : Cert.ContextReferenceIdeal.Facts) (hPre_finite_qk : Cert.Pre_finite_qk.Facts) (hPre_tiles_ok : Cert.Pre_tiles_ok.Facts) (hPre_context_tiles_ok : Cert.Pre_context_tiles_ok.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Experts (hExperts := hExperts) (hPre_tiles_ok := hPre_tiles_ok)
    ∧ quiescent_ExpertsIdeal (hExpertsIdeal := hExpertsIdeal) (hPre_tiles_ok := hPre_tiles_ok)
    ∧ quiescent_ExpertsReferenceIdeal (hExpertsReferenceIdeal := hExpertsReferenceIdeal)
    ∧ quiescent_ExpertsReferenceIdeal_pre_tiles_ok (hExpertsReferenceIdeal := hExpertsReferenceIdeal) (hPre_tiles_ok := hPre_tiles_ok)
    ∧ quiescent_Combine (hCombine := hCombine)
    ∧ quiescent_CombineIdeal (hCombineIdeal := hCombineIdeal)
    ∧ quiescent_CombineReferenceIdeal (hCombineReferenceIdeal := hCombineReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Context (hContext := hContext) (hPre_context_tiles_ok := hPre_context_tiles_ok)
    ∧ quiescent_ContextIdeal (hContextIdeal := hContextIdeal) (hPre_context_tiles_ok := hPre_context_tiles_ok)
    ∧ quiescent_ContextReferenceIdeal (hContextReferenceIdeal := hContextReferenceIdeal)
    ∧ quiescent_ContextReferenceIdeal_pre_context_tiles_ok (hContextReferenceIdeal := hContextReferenceIdeal) (hPre_context_tiles_ok := hPre_context_tiles_ok)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Experts_ExpertsIdeal
    ∧ algebraic_ExpertsIdeal_ExpertsReferenceIdeal (hExpertsIdeal := hExpertsIdeal) (hExpertsReferenceIdeal := hExpertsReferenceIdeal) (hPre_tiles_ok := hPre_tiles_ok)
    ∧ preserves_Combine_CombineIdeal
    ∧ algebraic_CombineIdeal_CombineReferenceIdeal (hCombineIdeal := hCombineIdeal) (hCombineReferenceIdeal := hCombineReferenceIdeal)
    ∧ preserves_Project_ProjectIdeal
    ∧ algebraic_ProjectIdeal_ProjectReferenceIdeal (hProjectIdeal := hProjectIdeal) (hProjectReferenceIdeal := hProjectReferenceIdeal)
    ∧ preserves_Merge_MergeIdeal
    ∧ algebraic_MergeIdeal_MergeReferenceIdeal (hMergeIdeal := hMergeIdeal) (hMergeReferenceIdeal := hMergeReferenceIdeal)
    ∧ preserves_Context_ContextIdeal
    ∧ algebraic_ContextIdeal_ContextReferenceIdeal (hContextIdeal := hContextIdeal) (hContextReferenceIdeal := hContextReferenceIdeal) (hPre_context_tiles_ok := hPre_context_tiles_ok)
-- ==== Pre_context_tiles_ok.lean ====
abbrev S16384x1024 : Shape := ⟨2, ![16384, 1024]⟩
abbrev S32 : Shape := ⟨1, ![32]⟩
abbrev S4x16x1024x512 : Shape := ⟨4, ![4, 16, 1024, 512]⟩
abbrev S4x16x512x1024 : Shape := ⟨4, ![4, 16, 512, 1024]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S16384x1024 .f32) (main_arg1 : IVec S32 32) (main_arg2 : IVec S32 32) (main_arg3 : FVec F S4x16x1024x512 .f32) (main_arg4 : FVec F S4x16x1024x512 .f32) (main_arg5 : FVec F S4x16x512x1024 .f32) : IVec S32 1 × IVec S32 1 :=
  let main_c : IVec S_ 32 := constantI S_ 32 0#32
  let main_v0 : IVec S32 32 := broadcastInDim S32 ![] bcast_S_S32 main_c
  let main_v1 : IVec S32 1 := cmpi .sge main_arg1 main_v0
  let main_c_0 : IVec S_ 32 := constantI S_ 32 16#32
  let main_v2 : IVec S32 32 := broadcastInDim S32 ![] bcast_S_S32 main_c_0
  let main_v3 : IVec S32 1 := cmpi .slt main_arg1 main_v2
  let main_v4 : IVec S32 1 := andi main_v1 main_v3
  let main_c_1 : IVec S_ 32 := constantI S_ 32 0#32
  let main_v5 : IVec S32 32 := broadcastInDim S32 ![] bcast_S_S32 main_c_1
  let main_v6 : IVec S32 1 := cmpi .sge main_arg2 main_v5
  (main_v4, main_v6)
-- ==== Pre_finite_qk.lean ====
abbrev S16x2048x8x64 : Shape := ⟨4, ![16, 2048, 8, 64]⟩
abbrev S16x2048x2x64 : Shape := ⟨4, ![16, 2048, 2, 64]⟩
abbrev S16x256x2x64 : Shape := ⟨4, ![16, 256, 2, 64]⟩
abbrev S_ : Shape := ⟨0, ![]⟩

class Facts : Prop where
  bcast_S_S16x2048x8x64 : S_.BroadcastsInDim S16x2048x8x64 (![] : Fin 0 → Fin S16x2048x8x64.rank)
  bcast_S_S16x2048x2x64 : S_.BroadcastsInDim S16x2048x2x64 (![] : Fin 0 → Fin S16x2048x2x64.rank)
  bcast_S_S16x256x2x64 : S_.BroadcastsInDim S16x256x2x64 (![] : Fin 0 → Fin S16x256x2x64.rank)

variable [Facts]

def fn {F : FTy → Type} [FloatOps F] (main_arg0 : FVec F S16x2048x8x64 .f32) (main_arg1 : FVec F S16x2048x2x64 .f32) (main_arg2 : FVec F S16x2048x2x64 .f32) (main_arg3 : FVec F S16x256x2x64 .f32) (main_arg4 : FVec F S16x256x2x64 .f32) : IVec S16x2048x8x64 1 × IVec S16x2048x2x64 1 × IVec S16x256x2x64 1 :=
  let main_v0 : FVec F S16x2048x8x64 .f32 := Host.absf main_arg0
  let main_cst : FVec F S_ .f32 := constant S_ .f32 0x7F800000#32
  let main_v1 : FVec F S16x2048x8x64 .f32 := broadcastInDim S16x2048x8x64 ![] bcast_S_S16x2048x8x64 main_cst
  let main_v2 : IVec S16x2048x8x64 1 := cmpf .olt main_v0 main_v1
  let main_v3 : FVec F S16x2048x2x64 .f32 := Host.absf main_arg1
  let main_cst_0 : FVec F S_ .f32 := constant S_ .f32 0x7F800000#32
  let main_v4 : FVec F S16x2048x2x64 .f32 := broadcastInDim S16x2048x2x64 ![] bcast_S_S16x2048x2x64 main_cst_0
  let main_v5 : IVec S16x2048x2x64 1 := cmpf .olt main_v3 main_v4
  let main_v6 : FVec F S16x256x2x64 .f32 := Host.absf main_arg3
  let main_cst_1 : FVec F S_ .f32 := constant S_ .f32 0x7F800000#32
  let main_v7 : FVec F S16x256x2x64 .f32 := broadcastInDim S16x256x2x64 ![] bcast_S_S16x256x2x64 main_cst_1
  let main_v8 : IVec S16x256x2x64 1 := cmpf .olt main_v6 main_v7
  (main_v2, main_v5, main_v8)
-- ==== Pre_tiles_ok.lean ====
abbrev S81920x1024 : Shape := ⟨2, ![81920, 1024]⟩
abbrev S80 : Shape := ⟨1, ![80]⟩
abbrev S4x16x1024x512 : Shape := ⟨4, ![4, 16, 1024, 512]⟩
abbrev S4x16x512x1024 : Shape := ⟨4, ![4, 16, 512, 1024]⟩
abbrev S_ : Shape := ⟨0, ![]⟩

class Facts : Prop where
  bcast_S_S80 : S_.BroadcastsInDim S80 (![] : Fin 0 → Fin S80.rank)

variable [Facts]

def fn {F : FTy → Type} [FloatOps F] (main_arg0 : FVec F S81920x1024 .f32) (main_arg1 : IVec S80 32) (main_arg2 : IVec S80 32) (main_arg3 : FVec F S4x16x1024x512 .f32) (main_arg4 : FVec F S4x16x1024x512 .f32) (main_arg5 : FVec F S4x16x512x1024 .f32) : IVec S80 1 × IVec S80 1 :=
  let main_c : IVec S_ 32 := constantI S_ 32 0#32
  let main_v0 : IVec S80 32 := broadcastInDim S80 ![] bcast_S_S80 main_c
  let main_v1 : IVec S80 1 := cmpi .sge main_arg1 main_v0
  let main_c_0 : IVec S_ 32 := constantI S_ 32 16#32
  let main_v2 : IVec S80 32 := broadcastInDim S80 ![] bcast_S_S80 main_c_0
  let main_v3 : IVec S80 1 := cmpi .slt main_arg1 main_v2
  let main_v4 : IVec S80 1 := andi main_v1 main_v3
  let main_c_1 : IVec S_ 32 := constantI S_ 32 0#32
  let main_v5 : IVec S80 32 := broadcastInDim S80 ![] bcast_S_S80 main_c_1
  let main_v6 : IVec S80 1 := cmpi .sge main_arg2 main_v5
  (main_v4, main_v6)
-- ==== Kernel.lean ====
abbrev S16x2048x8x64 : Shape := ⟨4, ![16, 2048, 8, 64]⟩
abbrev S16x2048x2x64 : Shape := ⟨4, ![16, 2048, 2, 64]⟩
abbrev S16x256x2x64 : Shape := ⟨4, ![16, 256, 2, 64]⟩
abbrev S16x8x2048x64 : Shape := ⟨4, ![16, 8, 2048, 64]⟩
abbrev S16x2x256x64 : Shape := ⟨4, ![16, 2, 256, 64]⟩
abbrev S_ : Shape := ⟨0, ![]⟩
abbrev S16x2x256x128 : Shape := ⟨4, ![16, 2, 256, 128]⟩
abbrev S16x2x2048x64 : Shape := ⟨4, ![16, 2, 2048, 64]⟩
abbrev S16x2x2048x128 : Shape := ⟨4, ![16, 2, 2048, 128]⟩
abbrev S16x2048x512 : Shape := ⟨3, ![16, 2048, 512]⟩
abbrev S1x8x1024x64 : Shape := ⟨4, ![1, 8, 1024, 64]⟩
abbrev S1x2x2048x64 : Shape := ⟨4, ![1, 2, 2048, 64]⟩
abbrev S1x2x2048x128 : Shape := ⟨4, ![1, 2, 2048, 128]⟩
abbrev S1x2x256x64 : Shape := ⟨4, ![1, 2, 256, 64]⟩
abbrev S1x2x256x128 : Shape := ⟨4, ![1, 2, 256, 128]⟩
abbrev S1x1024x512 : Shape := ⟨3, ![1, 1024, 512]⟩
abbrev S1x1x1024x64 : Shape := ⟨4, ![1, 1, 1024, 64]⟩
abbrev S1024x64 : Shape := ⟨2, ![1024, 64]⟩
abbrev S1x1x256x64 : Shape := ⟨4, ![1, 1, 256, 64]⟩
abbrev S256x64 : Shape := ⟨2, ![256, 64]⟩
abbrev S1024x256 : Shape := ⟨2, ![1024, 256]⟩
abbrev S1024 : Shape := ⟨1, ![1024]⟩
abbrev S1024x1 : Shape := ⟨2, ![1024, 1]⟩
abbrev S1x1x2048x64 : Shape := ⟨4, ![1, 1, 2048, 64]⟩
abbrev S2048x64 : Shape := ⟨2, ![2048, 64]⟩
abbrev S1024x2048 : Shape := ⟨2, ![1024, 2048]⟩
abbrev S1x1x256x128 : Shape := ⟨4, ![1, 1, 256, 128]⟩
abbrev S256x128 : Shape := ⟨2, ![256, 128]⟩
abbrev S1024x128 : Shape := ⟨2, ![1024, 128]⟩
abbrev S1x1x2048x128 : Shape := ⟨4, ![1, 1, 2048, 128]⟩
abbrev S2048x128 : Shape := ⟨2, ![2048, 128]⟩
abbrev S1024x512 : Shape := ⟨2, ![1024, 512]⟩

abbrev nBuf : Space → Nat
  | .hbm => 29
  | .vmem => 12
  | .smem => 0
  | _ => 0

abbrev bufTy : (tb : Table) → Fin (tcTables nBuf tb) → BufTy
  | .hbm, ⟨0, _⟩ => ⟨S16x2048x8x64, .f32⟩
  | .hbm, ⟨1, _⟩ => ⟨S16x2048x2x64, .f32⟩
  | .hbm, ⟨2, _⟩ => ⟨S16x2048x2x64, .f32⟩
  | .hbm, ⟨3, _⟩ => ⟨S16x256x2x64, .f32⟩
  | .hbm, ⟨4, _⟩ => ⟨S16x256x2x64, .f32⟩
  | .hbm, ⟨5, _⟩ => ⟨S16x8x2048x64, .f32⟩
  | .hbm, ⟨6, _⟩ => ⟨S16x2x256x64, .f32⟩
  | .hbm, ⟨7, _⟩ => ⟨S16x2x256x64, .bf16⟩
  | .hbm, ⟨8, _⟩ => ⟨S16x2x256x64, .f32⟩
  | .hbm, ⟨9, _⟩ => ⟨S16x2x256x64, .i32⟩
  | .hbm, ⟨10, _⟩ => ⟨S_, .i32⟩
  | .hbm, ⟨11, _⟩ => ⟨S16x2x256x64, .i32⟩
  | .hbm, ⟨12, _⟩ => ⟨S16x2x256x64, .i1⟩
  | .hbm, ⟨13, _⟩ => ⟨S16x2x256x64, .i32⟩
  | .hbm, ⟨14, _⟩ => ⟨S16x2x256x64, .f32⟩
  | .hbm, ⟨15, _⟩ => ⟨S16x2x256x128, .f32⟩
  | .hbm, ⟨16, _⟩ => ⟨S16x2x256x128, .bf16⟩
  | .hbm, ⟨17, _⟩ => ⟨S16x2x2048x64, .f32⟩
  | .hbm, ⟨18, _⟩ => ⟨S16x2x2048x64, .bf16⟩
  | .hbm, ⟨19, _⟩ => ⟨S16x2x2048x64, .f32⟩
  | .hbm, ⟨20, _⟩ => ⟨S16x2x2048x64, .i32⟩
  | .hbm, ⟨21, _⟩ => ⟨S_, .i32⟩
  | .hbm, ⟨22, _⟩ => ⟨S16x2x2048x64, .i32⟩
  | .hbm, ⟨23, _⟩ => ⟨S16x2x2048x64, .i1⟩
  | .hbm, ⟨24, _⟩ => ⟨S16x2x2048x64, .i32⟩
  | .hbm, ⟨25, _⟩ => ⟨S16x2x2048x64, .f32⟩
  | .hbm, ⟨26, _⟩ => ⟨S16x2x2048x128, .f32⟩
  | .hbm, ⟨27, _⟩ => ⟨S16x2x2048x128, .bf16⟩
  | .hbm, ⟨28, _⟩ => ⟨S16x2048x512, .bf16⟩
  | .local _ .vmem, ⟨0, _⟩ => ⟨S1x8x1024x64, .f32⟩
  | .local _ .vmem, ⟨1, _⟩ => ⟨S1x8x1024x64, .f32⟩
  | .local _ .vmem, ⟨2, _⟩ => ⟨S1x2x2048x64, .bf16⟩
  | .local _ .vmem, ⟨3, _⟩ => ⟨S1x2x2048x64, .bf16⟩
  | .local _ .vmem, ⟨4, _⟩ => ⟨S1x2x2048x128, .bf16⟩
  | .local _ .vmem, ⟨5, _⟩ => ⟨S1x2x2048x128, .bf16⟩
  | .local _ .vmem, ⟨6, _⟩ => ⟨S1x2x256x64, .bf16⟩
  | .local _ .vmem, ⟨7, _⟩ => ⟨S1x2x256x64, .bf16⟩
  | .local _ .vmem, ⟨8, _⟩ => ⟨S1x2x256x128, .bf16⟩
  | .local _ .vmem, ⟨9, _⟩ => ⟨S1x2x256x128, .bf16⟩
  | .local _ .vmem, ⟨10, _⟩ => ⟨S1x1024x512, .bf16⟩
  | .local _ .vmem, ⟨11, _⟩ => ⟨S1x1024x512, .bf16⟩
  | _, _ => ⟨S16x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "qscale" => some (((1 / 8) * (Real.log 2)⁻¹ : ℝ) : EReal)
  | _ => none
-- ==== ReferenceIdeal.lean ====
abbrev S16x2048x8x64 : Shape := ⟨4, ![16, 2048, 8, 64]⟩
abbrev S16x2048x2x64 : Shape := ⟨4, ![16, 2048, 2, 64]⟩
abbrev S16x256x2x64 : Shape := ⟨4, ![16, 256, 2, 64]⟩
abbrev S16x2304x2x64 : Shape := ⟨4, ![16, 2304, 2, 64]⟩
abbrev S16x2048x2x4x64 : Shape := ⟨5, ![16, 2048, 2, 4, 64]⟩
abbrev S16x2x2304x2048x4 : Shape := ⟨5, ![16, 2, 2304, 2048, 4]⟩
abbrev S16x2x4x2048x2304 : Shape := ⟨5, ![16, 2, 4, 2048, 2304]⟩
abbrev S_ : Shape := ⟨0, ![]⟩
abbrev S16x2x4x2048 : Shape := ⟨4, ![16, 2, 4, 2048]⟩
abbrev S16x2x4x2048x1 : Shape := ⟨5, ![16, 2, 4, 2048, 1]⟩
abbrev S16x2x64x4x2048 : Shape := ⟨5, ![16, 2, 64, 4, 2048]⟩
abbrev S16x2048x512 : Shape := ⟨3, ![16, 2048, 512]⟩

abbrev nBuf : Space → Nat
  | .hbm => 31
  | .vmem => 0
  | .smem => 0
  | _ => 0

abbrev bufTy : (tb : Table) → Fin (tcTables nBuf tb) → BufTy
  | .hbm, ⟨0, _⟩ => ⟨S16x2048x8x64, .f32⟩
  | .hbm, ⟨1, _⟩ => ⟨S16x2048x2x64, .f32⟩
  | .hbm, ⟨2, _⟩ => ⟨S16x2048x2x64, .f32⟩
  | .hbm, ⟨3, _⟩ => ⟨S16x256x2x64, .f32⟩
  | .hbm, ⟨4, _⟩ => ⟨S16x256x2x64, .f32⟩
  | .hbm, ⟨5, _⟩ => ⟨S16x2304x2x64, .f32⟩
  | .hbm, ⟨6, _⟩ => ⟨S16x2304x2x64, .f32⟩
  | .hbm, ⟨7, _⟩ => ⟨S16x2048x2x4x64, .f32⟩
  | .hbm, ⟨8, _⟩ => ⟨S16x2x2304x2048x4, .f32⟩
  | .hbm, ⟨9, _⟩ => ⟨S16x2x4x2048x2304, .f32⟩
  | .hbm, ⟨10, _⟩ => ⟨S_, .f32⟩
  | .hbm, ⟨11, _⟩ => ⟨S16x2x4x2048x2304, .f32⟩
  | .hbm, ⟨12, _⟩ => ⟨S16x2x4x2048x2304, .f32⟩
  | .hbm, ⟨13, _⟩ => ⟨S_, .f32⟩
  | .hbm, ⟨14, _⟩ => ⟨S16x2x4x2048, .f32⟩
  | .hbm, ⟨15, _⟩ => ⟨S_, .f32⟩
  | .hbm, ⟨16, _⟩ => ⟨S16x2x4x2048, .f32⟩
  | .hbm, ⟨17, _⟩ => ⟨S16x2x4x2048, .f32⟩
  | .hbm, ⟨18, _⟩ => ⟨S16x2x4x2048x1, .f32⟩
  | .hbm, ⟨19, _⟩ => ⟨S16x2x4x2048x2304, .f32⟩
  | .hbm, ⟨20, _⟩ => ⟨S16x2x4x2048x2304, .f32⟩
  | .hbm, ⟨21, _⟩ => ⟨S16x2x4x2048x2304, .f32⟩
  | .hbm, ⟨22, _⟩ => ⟨S_, .f32⟩
  | .hbm, ⟨23, _⟩ => ⟨S16x2x4x2048, .f32⟩
  | .hbm, ⟨24, _⟩ => ⟨S16x2x4x2048x1, .f32⟩
  | .hbm, ⟨25, _⟩ => ⟨S16x2x4x2048x2304, .f32⟩
  | .hbm, ⟨26, _⟩ => ⟨S16x2x4x2048x2304, .f32⟩
  | .hbm, ⟨27, _⟩ => ⟨S16x2x64x4x2048, .f32⟩
  | .hbm, ⟨28, _⟩ => ⟨S16x2048x2x4x64, .f32⟩
  | .hbm, ⟨29, _⟩ => ⟨S16x2048x512, .f32⟩
  | .hbm, ⟨30, _⟩ => ⟨S16x2048x512, .bf16⟩
  | _, _ => ⟨S16x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Experts.lean ====
abbrev S81920x1024 : Shape := ⟨2, ![81920, 1024]⟩
abbrev S80 : Shape := ⟨1, ![80]⟩
abbrev S4x16x1024x512 : Shape := ⟨4, ![4, 16, 1024, 512]⟩
abbrev S4x16x512x1024 : Shape := ⟨4, ![4, 16, 512, 1024]⟩
abbrev S81920x512 : Shape := ⟨2, ![81920, 512]⟩
abbrev S81920x1x512 : Shape := ⟨3, ![81920, 1, 512]⟩
abbrev S81920x2x512 : Shape := ⟨3, ![81920, 2, 512]⟩
abbrev S163840x512 : Shape := ⟨2, ![163840, 512]⟩
abbrev S2048x512 : Shape := ⟨2, ![2048, 512]⟩
abbrev S1x1x1024x512 : Shape := ⟨4, ![1, 1, 1024, 512]⟩
abbrev S1 : Shape := ⟨1, ![1]⟩
abbrev S1x1x512x1024 : Shape := ⟨4, ![1, 1, 512, 1024]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 12
  | .vmem => 13
  | .smem => 2
  | _ => 0

abbrev bufTy : (tb : Table) → Fin (tcTables nBuf tb) → BufTy
  | .hbm, ⟨0, _⟩ => ⟨S81920x1024, .f32⟩
  | .hbm, ⟨1, _⟩ => ⟨S4x16x1024x512, .f32⟩
  | .hbm, ⟨2, _⟩ => ⟨S4x16x1024x512, .f32⟩
  | .hbm, ⟨3, _⟩ => ⟨S4x16x512x1024, .f32⟩
  | .hbm, ⟨4, _⟩ => ⟨S81920x512, .f32⟩
  | .hbm, ⟨5, _⟩ => ⟨S81920x512, .f32⟩
  | .hbm, ⟨6, _⟩ => ⟨S81920x1x512, .f32⟩
  | .hbm, ⟨7, _⟩ => ⟨S81920x1x512, .f32⟩
  | .hbm, ⟨8, _⟩ => ⟨S81920x2x512, .f32⟩
  | .hbm, ⟨9, _⟩ => ⟨S163840x512, .f32⟩
  | .hbm, ⟨10, _⟩ => ⟨S163840x512, .bf16⟩
  | .hbm, ⟨11, _⟩ => ⟨S163840x512, .bf16⟩
  | .local _ .vmem, ⟨0, _⟩ => ⟨S2048x512, .bf16⟩
  | .local _ .vmem, ⟨1, _⟩ => ⟨S2048x512, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S2048x512, .bf16⟩
  | .local _ .vmem, ⟨9, _⟩ => ⟨S2048x512, .bf16⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S80, .i32⟩
  | .local _ .smem, ⟨1, _⟩ => ⟨S80, .i32⟩
  | _, _ => ⟨S81920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨1, ![80], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (v1 : BitVec 32) : BitVec 1 :=
  let c0_i32_2 : BitVec 32 := 0#32
  let v13 : BitVec 1 := Scalar.cmpi .sgt v1 c0_i32_2
  let v14 : BitVec 32 := Scalar.extui v13
  let c0_i32_3 : BitVec 32 := 0#32
  let v15 : BitVec 1 := Scalar.cmpi .ne v14 c0_i32_3
  v15

def k0_cond3 (v1 : BitVec 32) : BitVec 1 :=
  let c0_i32_4 : BitVec 32 := 0#32
  let v16 : BitVec 1 := Scalar.cmpi .eq v1 c0_i32_4
  let v17 : BitVec 32 := Scalar.extui v16
  let c0_i32_5 : BitVec 32 := 0#32
  let v18 : BitVec 1 := Scalar.cmpi .ne v17 c0_i32_5
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S80.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S80.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S80.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsIdeal.lean ====
variable {F : FTy → Type} [FloatOps F]
-- ==== ExpertsReferenceIdeal.lean ====
abbrev S81920x1024 : Shape := ⟨2, ![81920, 1024]⟩
abbrev S80 : Shape := ⟨1, ![80]⟩
abbrev S4x16x1024x512 : Shape := ⟨4, ![4, 16, 1024, 512]⟩
abbrev S4x16x512x1024 : Shape := ⟨4, ![4, 16, 512, 1024]⟩
abbrev S80x1024x1024 : Shape := ⟨3, ![80, 1024, 1024]⟩
abbrev S80x1x1 : Shape := ⟨3, ![80, 1, 1]⟩
abbrev S_ : Shape := ⟨0, ![]⟩
abbrev S1x16x1024x512 : Shape := ⟨4, ![1, 16, 1024, 512]⟩
abbrev S16x1024x512 : Shape := ⟨3, ![16, 1024, 512]⟩
abbrev S16x512x80x1024 : Shape := ⟨4, ![16, 512, 80, 1024]⟩
abbrev S16x80x1024x512 : Shape := ⟨4, ![16, 80, 1024, 512]⟩
abbrev S1x16x512x1024 : Shape := ⟨4, ![1, 16, 512, 1024]⟩
abbrev S16x512x1024 : Shape := ⟨3, ![16, 512, 1024]⟩
abbrev S16x80x1024x1024 : Shape := ⟨4, ![16, 80, 1024, 1024]⟩
abbrev S16x80 : Shape := ⟨2, ![16, 80]⟩
abbrev S1x80 : Shape := ⟨2, ![1, 80]⟩
abbrev S16x80x1x1 : Shape := ⟨4, ![16, 80, 1, 1]⟩
abbrev S81920x2x512 : Shape := ⟨3, ![81920, 2, 512]⟩
abbrev S163840x512 : Shape := ⟨2, ![163840, 512]⟩

abbrev nBuf : Space → Nat
  | .hbm => 51
  | .vmem => 0
  | .smem => 0
  | _ => 0

abbrev bufTy : (tb : Table) → Fin (tcTables nBuf tb) → BufTy
  | .hbm, ⟨0, _⟩ => ⟨S81920x1024, .f32⟩
  | .hbm, ⟨1, _⟩ => ⟨S80, .i32⟩
  | .hbm, ⟨2, _⟩ => ⟨S80, .i32⟩
  | .hbm, ⟨3, _⟩ => ⟨S4x16x1024x512, .f32⟩
  | .hbm, ⟨4, _⟩ => ⟨S4x16x1024x512, .f32⟩
  | .hbm, ⟨5, _⟩ => ⟨S4x16x512x1024, .f32⟩
  | .hbm, ⟨6, _⟩ => ⟨S80x1024x1024, .f32⟩
  | .hbm, ⟨7, _⟩ => ⟨S80x1024x1024, .i32⟩
  | .hbm, ⟨8, _⟩ => ⟨S80x1x1, .i32⟩
  | .hbm, ⟨9, _⟩ => ⟨S80x1024x1024, .i32⟩
  | .hbm, ⟨10, _⟩ => ⟨S80x1024x1024, .i1⟩
  | .hbm, ⟨11, _⟩ => ⟨S_, .f32⟩
  | .hbm, ⟨12, _⟩ => ⟨S_, .f32⟩
  | .hbm, ⟨13, _⟩ => ⟨S80x1024x1024, .f32⟩
  | .hbm, ⟨14, _⟩ => ⟨S80x1024x1024, .f32⟩
  | .hbm, ⟨15, _⟩ => ⟨S1x16x1024x512, .f32⟩
  | .hbm, ⟨16, _⟩ => ⟨S16x1024x512, .f32⟩
  | .hbm, ⟨17, _⟩ => ⟨S16x512x80x1024, .f32⟩
  | .hbm, ⟨18, _⟩ => ⟨S16x80x1024x512, .f32⟩
  | .hbm, ⟨19, _⟩ => ⟨S16x80x1024x512, .f32⟩
  | .hbm, ⟨20, _⟩ => ⟨S16x80x1024x512, .f32⟩
  | .hbm, ⟨21, _⟩ => ⟨S_, .f32⟩
  | .hbm, ⟨22, _⟩ => ⟨S16x80x1024x512, .f32⟩
  | .hbm, ⟨23, _⟩ => ⟨S16x80x1024x512, .f32⟩
  | .hbm, ⟨24, _⟩ => ⟨S_, .f32⟩
  | .hbm, ⟨25, _⟩ => ⟨S16x80x1024x512, .f32⟩
  | .hbm, ⟨26, _⟩ => ⟨S16x80x1024x512, .f32⟩
  | .hbm, ⟨27, _⟩ => ⟨S16x80x1024x512, .f32⟩
  | .hbm, ⟨28, _⟩ => ⟨S1x16x1024x512, .f32⟩
  | .hbm, ⟨29, _⟩ => ⟨S16x1024x512, .f32⟩
  | .hbm, ⟨30, _⟩ => ⟨S16x512x80x1024, .f32⟩
  | .hbm, ⟨31, _⟩ => ⟨S16x80x1024x512, .f32⟩
  | .hbm, ⟨32, _⟩ => ⟨S16x80x1024x512, .f32⟩
  | .hbm, ⟨33, _⟩ => ⟨S1x16x512x1024, .f32⟩
  | .hbm, ⟨34, _⟩ => ⟨S16x512x1024, .f32⟩
  | .hbm, ⟨35, _⟩ => ⟨S16x80x1024x1024, .f32⟩
  | .hbm, ⟨36, _⟩ => ⟨S16x80, .i32⟩
  | .hbm, ⟨37, _⟩ => ⟨S1x80, .i32⟩
  | .hbm, ⟨38, _⟩ => ⟨S16x80, .i32⟩
  | .hbm, ⟨39, _⟩ => ⟨S16x80, .i1⟩
  | .hbm, ⟨40, _⟩ => ⟨S16x80, .i32⟩
  | .hbm, ⟨41, _⟩ => ⟨S16x80, .f32⟩
  | .hbm, ⟨42, _⟩ => ⟨S16x80x1x1, .f32⟩
  | .hbm, ⟨43, _⟩ => ⟨S16x80x1024x1024, .f32⟩
  | .hbm, ⟨44, _⟩ => ⟨S16x80x1024x1024, .f32⟩
  | .hbm, ⟨45, _⟩ => ⟨S_, .f32⟩
  | .hbm, ⟨46, _⟩ => ⟨S80x1024x1024, .f32⟩
  | .hbm, ⟨47, _⟩ => ⟨S81920x2x512, .f32⟩
  | .hbm, ⟨48, _⟩ => ⟨S81920x2x512, .f32⟩
  | .hbm, ⟨49, _⟩ => ⟨S163840x512, .f32⟩
  | .hbm, ⟨50, _⟩ => ⟨S163840x512, .bf16⟩
  | _, _ => ⟨S81920x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Combine.lean ====
abbrev S16x2048x1024 : Shape := ⟨3, ![16, 2048, 1024]⟩
abbrev S24x6x1024 : Shape := ⟨3, ![24, 6, 1024]⟩
abbrev S65536x1024 : Shape := ⟨2, ![65536, 1024]⟩
abbrev S16x2048x128 : Shape := ⟨3, ![16, 2048, 128]⟩
abbrev S65536x512 : Shape := ⟨2, ![65536, 512]⟩
abbrev S65536x1x512 : Shape := ⟨3, ![65536, 1, 512]⟩
abbrev S65536x2x512 : Shape := ⟨3, ![65536, 2, 512]⟩
abbrev S131072x512 : Shape := ⟨2, ![131072, 512]⟩
abbrev S1x512x1024 : Shape := ⟨3, ![1, 512, 1024]⟩
abbrev S1x6x1024 : Shape := ⟨3, ![1, 6, 1024]⟩
abbrev S1024x512 : Shape := ⟨2, ![1024, 512]⟩
abbrev S1x512x128 : Shape := ⟨3, ![1, 512, 128]⟩
abbrev S512x128 : Shape := ⟨2, ![512, 128]⟩
abbrev S512x1 : Shape := ⟨2, ![512, 1]⟩
abbrev S512x512 : Shape := ⟨2, ![512, 512]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 12
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S24x6x1024, .f32⟩
  | .hbm, ⟨2, _⟩ => ⟨S65536x1024, .f32⟩
  | .hbm, ⟨3, _⟩ => ⟨S16x2048x128, .f32⟩
  | .hbm, ⟨4, _⟩ => ⟨S65536x512, .f32⟩
  | .hbm, ⟨5, _⟩ => ⟨S65536x512, .f32⟩
  | .hbm, ⟨6, _⟩ => ⟨S65536x1x512, .f32⟩
  | .hbm, ⟨7, _⟩ => ⟨S65536x1x512, .f32⟩
  | .hbm, ⟨8, _⟩ => ⟨S65536x2x512, .f32⟩
  | .hbm, ⟨9, _⟩ => ⟨S131072x512, .f32⟩
  | .hbm, ⟨10, _⟩ => ⟨S131072x512, .bf16⟩
  | .hbm, ⟨11, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1x512x128, .f32⟩
  | .local _ .vmem, ⟨9, _⟩ => ⟨S1x512x128, .f32⟩
  | .local _ .vmem, ⟨10, _⟩ => ⟨S1x512x1024, .f32⟩
  | .local _ .vmem, ⟨11, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c64_i32 : BitVec 32 := 64#32
  let v1 : BitVec 32 := Scalar.addi c64_i32 v0
  let v2 : BitVec 32 := Scalar.addi v1 arg1
  let c0_i32 : BitVec 32 := 0#32
  let c0_i32_0 : BitVec 32 := 0#32
  ![v2.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CombineIdeal.lean ====
variable {F : FTy → Type} [FloatOps F]
-- ==== CombineReferenceIdeal.lean ====
abbrev S16x2048x1024 : Shape := ⟨3, ![16, 2048, 1024]⟩
abbrev S24x6x1024 : Shape := ⟨3, ![24, 6, 1024]⟩
abbrev S65536x1024 : Shape := ⟨2, ![65536, 1024]⟩
abbrev S16x2048x128 : Shape := ⟨3, ![16, 2048, 128]⟩
abbrev S16x2048x2 : Shape := ⟨3, ![16, 2048, 2]⟩
abbrev S32768x2 : Shape := ⟨2, ![32768, 2]⟩
abbrev S2x32768x1024 : Shape := ⟨3, ![2, 32768, 1024]⟩
abbrev S32768x1024 : Shape := ⟨2, ![32768, 1024]⟩
abbrev S16x1x1024 : Shape := ⟨3, ![16, 1, 1024]⟩
abbrev S16x1024 : Shape := ⟨2, ![16, 1024]⟩

abbrev nBuf : Space → Nat
  | .hbm => 15
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S24x6x1024, .f32⟩
  | .hbm, ⟨2, _⟩ => ⟨S65536x1024, .f32⟩
  | .hbm, ⟨3, _⟩ => ⟨S16x2048x128, .f32⟩
  | .hbm, ⟨4, _⟩ => ⟨S16x2048x2, .f32⟩
  | .hbm, ⟨5, _⟩ => ⟨S32768x2, .f32⟩
  | .hbm, ⟨6, _⟩ => ⟨S2x32768x1024, .f32⟩
  | .hbm, ⟨7, _⟩ => ⟨S32768x1024, .f32⟩
  | .hbm, ⟨8, _⟩ => ⟨S16x1x1024, .f32⟩
  | .hbm, ⟨9, _⟩ => ⟨S16x1024, .f32⟩
  | .hbm, ⟨10, _⟩ => ⟨S16x1x1024, .f32⟩
  | .hbm, ⟨11, _⟩ => ⟨S16x2048x1024, .f32⟩
  | .hbm, ⟨12, _⟩ => ⟨S16x2048x1024, .f32⟩
  | .hbm, ⟨13, _⟩ => ⟨S16x2048x1024, .f32⟩
  | .hbm, ⟨14, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Project.lean ====
abbrev S16x2048x1024 : Shape := ⟨3, ![16, 2048, 1024]⟩
abbrev S24x6x1024 : Shape := ⟨3, ![24, 6, 1024]⟩
abbrev S1024 : Shape := ⟨1, ![1024]⟩
abbrev S1024x6144 : Shape := ⟨2, ![1024, 6144]⟩
abbrev S4x64 : Shape := ⟨2, ![4, 64]⟩
abbrev S2048x2x16 : Shape := ⟨3, ![2048, 2, 16]⟩
abbrev S1x64 : Shape := ⟨2, ![1, 64]⟩
abbrev S64 : Shape := ⟨1, ![64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S512x512 : Shape := ⟨2, ![512, 512]⟩
abbrev S_ : Shape := ⟨0, ![]⟩
abbrev S2048x1x16 : Shape := ⟨3, ![2048, 1, 16]⟩
abbrev S2048x16 : Shape := ⟨2, ![2048, 16]⟩
abbrev S2048x64 : Shape := ⟨2, ![2048, 64]⟩
abbrev S1x1024 : Shape := ⟨2, ![1, 1024]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S16x8x2048x64 : Shape := ⟨4, ![16, 8, 2048, 64]⟩
abbrev S16x2x2048x64 : Shape := ⟨4, ![16, 2, 2048, 64]⟩
abbrev S16x2x2048x128 : Shape := ⟨4, ![16, 2, 2048, 128]⟩
abbrev S16x2048x1536 : Shape := ⟨3, ![16, 2048, 1536]⟩
abbrev S16x2048x3072 : Shape := ⟨3, ![16, 2048, 3072]⟩
abbrev S1x512x1024 : Shape := ⟨3, ![1, 512, 1024]⟩
abbrev S1x6x1024 : Shape := ⟨3, ![1, 6, 1024]⟩
abbrev S512x128 : Shape := ⟨2, ![512, 128]⟩
abbrev S1x8x512x64 : Shape := ⟨4, ![1, 8, 512, 64]⟩
abbrev S1x2x512x64 : Shape := ⟨4, ![1, 2, 512, 64]⟩
abbrev S1x2x512x128 : Shape := ⟨4, ![1, 2, 512, 128]⟩
abbrev S1x512x1536 : Shape := ⟨3, ![1, 512, 1536]⟩
abbrev S1x512x3072 : Shape := ⟨3, ![1, 512, 3072]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S1024x3072 : Shape := ⟨2, ![1024, 3072]⟩
abbrev S256x3072 : Shape := ⟨2, ![256, 3072]⟩
abbrev S1x256x3072 : Shape := ⟨3, ![1, 256, 3072]⟩
abbrev S1024x512 : Shape := ⟨2, ![1024, 512]⟩
abbrev S256x512 : Shape := ⟨2, ![256, 512]⟩
abbrev S256x128 : Shape := ⟨2, ![256, 128]⟩
abbrev S256x64 : Shape := ⟨2, ![256, 64]⟩
abbrev S1x1x256x64 : Shape := ⟨4, ![1, 1, 256, 64]⟩
abbrev S1024x128 : Shape := ⟨2, ![1024, 128]⟩
abbrev S128x128 : Shape := ⟨2, ![128, 128]⟩
abbrev S1x1x256x128 : Shape := ⟨4, ![1, 1, 256, 128]⟩
abbrev S1024x1536 : Shape := ⟨2, ![1024, 1536]⟩
abbrev S256x1536 : Shape := ⟨2, ![256, 1536]⟩
abbrev S1x256x1536 : Shape := ⟨3, ![1, 256, 1536]⟩

abbrev nBuf : Space → Nat
  | .hbm => 108
  | .vmem => 31
  | .smem => 0
  | _ => 0

abbrev bufTy : (tb : Table) → Fin (tcTables nBuf tb) → BufTy
  | .hbm, ⟨0, _⟩ => ⟨S16x2048x1024, .f32⟩
  | .hbm, ⟨1, _⟩ => ⟨S24x6x1024, .f32⟩
  | .hbm, ⟨2, _⟩ => ⟨S1024, .f32⟩
  | .hbm, ⟨3, _⟩ => ⟨S1024x6144, .f32⟩
  | .hbm, ⟨4, _⟩ => ⟨S4x64, .f32⟩
  | .hbm, ⟨5, _⟩ => ⟨S2048x2x16, .f32⟩
  | .hbm, ⟨6, _⟩ => ⟨S2048x2x16, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S8x64, .f32⟩
  | .hbm, ⟨11, _⟩ => ⟨S512, .f32⟩
  | .hbm, ⟨12, _⟩ => ⟨S1x512, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S2x64, .f32⟩
  | .hbm, ⟨17, _⟩ => ⟨S128, .f32⟩
  | .hbm, ⟨18, _⟩ => ⟨S1x128, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S8x64, .f32⟩
  | .hbm, ⟨23, _⟩ => ⟨S512, .f32⟩
  | .hbm, ⟨24, _⟩ => ⟨S1x512, .f32⟩
  | .hbm, ⟨25, _⟩ => ⟨S1x64, .f32⟩
  | .hbm, ⟨26, _⟩ => ⟨S64, .f32⟩
  | .hbm, ⟨27, _⟩ => ⟨S1x64, .f32⟩
  | .hbm, ⟨28, _⟩ => ⟨S2x64, .f32⟩
  | .hbm, ⟨29, _⟩ => ⟨S128, .f32⟩
  | .hbm, ⟨30, _⟩ => ⟨S1x128, .f32⟩
  | .hbm, ⟨31, _⟩ => ⟨S512x512, .i32⟩
  | .hbm, ⟨32, _⟩ => ⟨S_, .i32⟩
  | .hbm, ⟨33, _⟩ => ⟨S_, .i32⟩
  | .hbm, ⟨34, _⟩ => ⟨S512x512, .i32⟩
  | .hbm, ⟨35, _⟩ => ⟨S512x512, .i32⟩
  | .hbm, ⟨36, _⟩ => ⟨S512x512, .i32⟩
  | .hbm, ⟨37, _⟩ => ⟨S_, .i32⟩
  | .hbm, ⟨38, _⟩ => ⟨S512x512, .i32⟩
  | .hbm, ⟨39, _⟩ => ⟨S512x512, .i1⟩
  | .hbm, ⟨40, _⟩ => ⟨S512x512, .i32⟩
  | .hbm, ⟨41, _⟩ => ⟨S512x512, .i32⟩
  | .hbm, ⟨42, _⟩ => ⟨S_, .i32⟩
  | .hbm, ⟨43, _⟩ => ⟨S512x512, .i32⟩
  | .hbm, ⟨44, _⟩ => ⟨S512x512, .i1⟩
  | .hbm, ⟨45, _⟩ => ⟨S512x512, .i1⟩
  | .hbm, ⟨46, _⟩ => ⟨S_, .i32⟩
  | .hbm, ⟨47, _⟩ => ⟨S512x512, .i32⟩
  | .hbm, ⟨48, _⟩ => ⟨S512x512, .i32⟩
  | .hbm, ⟨49, _⟩ => ⟨S512x512, .i32⟩
  | .hbm, ⟨50, _⟩ => ⟨S512x512, .i32⟩
  | .hbm, ⟨51, _⟩ => ⟨S_, .i32⟩
  | .hbm, ⟨52, _⟩ => ⟨S_, .i32⟩
  | .hbm, ⟨53, _⟩ => ⟨S512x512, .i32⟩
  | .hbm, ⟨54, _⟩ => ⟨S512x512, .i32⟩
  | .hbm, ⟨55, _⟩ => ⟨S512x512, .i32⟩
  | .hbm, ⟨56, _⟩ => ⟨S_, .i32⟩
  | .hbm, ⟨57, _⟩ => ⟨S512x512, .i32⟩
  | .hbm, ⟨58, _⟩ => ⟨S512x512, .i1⟩
  | .hbm, ⟨59, _⟩ => ⟨S512x512, .i32⟩
  | .hbm, ⟨60, _⟩ => ⟨S512x512, .i32⟩
  | .hbm, ⟨61, _⟩ => ⟨S_, .i32⟩
  | .hbm, ⟨62, _⟩ => ⟨S512x512, .i32⟩
  | .hbm, ⟨63, _⟩ => ⟨S512x512, .i1⟩
  | .hbm, ⟨64, _⟩ => ⟨S512x512, .i1⟩
  | .hbm, ⟨65, _⟩ => ⟨S_, .i32⟩
  | .hbm, ⟨66, _⟩ => ⟨S512x512, .i32⟩
  | .hbm, ⟨67, _⟩ => ⟨S512x512, .i32⟩
  | .hbm, ⟨68, _⟩ => ⟨S512x512, .i32⟩
  | .hbm, ⟨69, _⟩ => ⟨S512x512, .i1⟩
  | .hbm, ⟨70, _⟩ => ⟨S512x512, .i32⟩
  | .hbm, ⟨71, _⟩ => ⟨S512x512, .bf16⟩
  | .hbm, ⟨72, _⟩ => ⟨S2048x1x16, .f32⟩
  | .hbm, ⟨73, _⟩ => ⟨S2048x16, .f32⟩
  | .hbm, ⟨74, _⟩ => ⟨S2048x1x16, .f32⟩
  | .hbm, ⟨75, _⟩ => ⟨S2048x16, .f32⟩
  | .hbm, ⟨76, _⟩ => ⟨S2048x1x16, .f32⟩
  | .hbm, ⟨77, _⟩ => ⟨S2048x16, .f32⟩
  | .hbm, ⟨78, _⟩ => ⟨S2048x1x16, .f32⟩
  | .hbm, ⟨79, _⟩ => ⟨S2048x16, .f32⟩
  | .hbm, ⟨80, _⟩ => ⟨S2048x64, .f32⟩
  | .hbm, ⟨81, _⟩ => ⟨S2048x1x16, .f32⟩
  | .hbm, ⟨82, _⟩ => ⟨S2048x16, .f32⟩
  | .hbm, ⟨83, _⟩ => ⟨S2048x16, .f32⟩
  | .hbm, ⟨84, _⟩ => ⟨S2048x1x16, .f32⟩
  | .hbm, ⟨85, _⟩ => ⟨S2048x16, .f32⟩
  | .hbm, ⟨86, _⟩ => ⟨S2048x1x16, .f32⟩
  | .hbm, ⟨87, _⟩ => ⟨S2048x16, .f32⟩
  | .hbm, ⟨88, _⟩ => ⟨S2048x16, .f32⟩
  | .hbm, ⟨89, _⟩ => ⟨S2048x1x16, .f32⟩
  | .hbm, ⟨90, _⟩ => ⟨S2048x16, .f32⟩
  | .hbm, ⟨91, _⟩ => ⟨S2048x64, .f32⟩
  | .hbm, ⟨92, _⟩ => ⟨S1x1024, .f32⟩
  | .hbm, ⟨93, _⟩ => ⟨S1024x6144, .bf16⟩
  | .hbm, ⟨94, _⟩ => ⟨S1x2048x1x64, .f32⟩
  | .hbm, ⟨95, _⟩ => ⟨S1x2048x2x64, .f32⟩
  | .hbm, ⟨96, _⟩ => ⟨S2048x128, .f32⟩
  | .hbm, ⟨97, _⟩ => ⟨S1x2048x1x64, .f32⟩
  | .hbm, ⟨98, _⟩ => ⟨S1x2048x2x64, .f32⟩
  | .hbm, ⟨99, _⟩ => ⟨S2048x128, .f32⟩
  | .hbm, ⟨100, _⟩ => ⟨S16x8x2048x64, .bf16⟩
  | .hbm, ⟨101, _⟩ => ⟨S16x2x2048x64, .bf16⟩
  | .hbm, ⟨102, _⟩ => ⟨S16x2x2048x128, .bf16⟩
  | .hbm, ⟨103, _⟩ => ⟨S16x2048x1536, .f32⟩
  | .hbm, ⟨104, _⟩ => ⟨S16x8x2048x64, .bf16⟩
  | .hbm, ⟨105, _⟩ => ⟨S16x2x2048x64, .bf16⟩
  | .hbm, ⟨106, _⟩ => ⟨S16x2x2048x128, .bf16⟩
  | .hbm, ⟨107, _⟩ => ⟨S16x2048x3072, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x6144, .bf16⟩
  | .local _ .vmem, ⟨6, _⟩ => ⟨S1x512, .f32⟩
  | .local _ .vmem, ⟨7, _⟩ => ⟨S1x128, .f32⟩
  | .local _ .vmem, ⟨8, _⟩ => ⟨S1x512, .f32⟩
  | .local _ .vmem, ⟨9, _⟩ => ⟨S1x128, .f32⟩
  | .local _ .vmem, ⟨10, _⟩ => ⟨S512x512, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S1x8x512x64, .bf16⟩
  | .local _ .vmem, ⟨16, _⟩ => ⟨S1x8x512x64, .bf16⟩
  | .local _ .vmem, ⟨17, _⟩ => ⟨S1x2x512x64, .bf16⟩
  | .local _ .vmem, ⟨18, _⟩ => ⟨S1x2x512x64, .bf16⟩
  | .local _ .vmem, ⟨19, _⟩ => ⟨S1x2x512x128, .bf16⟩
  | .local _ .vmem, ⟨20, _⟩ => ⟨S1x2x512x128, .bf16⟩
  | .local _ .vmem, ⟨21, _⟩ => ⟨S1x512x1536, .f32⟩
  | .local _ .vmem, ⟨22, _⟩ => ⟨S1x512x1536, .f32⟩
  | .local _ .vmem, ⟨23, _⟩ => ⟨S1x8x512x64, .bf16⟩
  | .local _ .vmem, ⟨24, _⟩ => ⟨S1x8x512x64, .bf16⟩
  | .local _ .vmem, ⟨25, _⟩ => ⟨S1x2x512x64, .bf16⟩
  | .local _ .vmem, ⟨26, _⟩ => ⟨S1x2x512x64, .bf16⟩
  | .local _ .vmem, ⟨27, _⟩ => ⟨S1x2x512x128, .bf16⟩
  | .local _ .vmem, ⟨28, _⟩ => ⟨S1x2x512x128, .bf16⟩
  | .local _ .vmem, ⟨29, _⟩ => ⟨S1x512x3072, .bf16⟩
  | .local _ .vmem, ⟨30, _⟩ => ⟨S1x512x3072, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_c : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_0 : Ref sig .tc := ⟨.hbm, 46, rfl⟩
abbrev main_call0_v12 : Ref sig .tc := ⟨.hbm, 47, rfl⟩
abbrev main_call0_v13 : Ref sig .tc := ⟨.hbm, 48, rfl⟩
abbrev main_v25 : Ref sig .tc := ⟨.hbm, 49, rfl⟩
abbrev main_v26 : Ref sig .tc := ⟨.hbm, 50, rfl⟩
abbrev main_c_0 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_c : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_0 : Ref sig .tc := ⟨.hbm, 65, rfl⟩
abbrev main_call1_v12 : Ref sig .tc := ⟨.hbm, 66, rfl⟩
abbrev main_call1_v13 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59_0 : Ref sig .tc := ⟨.hbm, 100, rfl⟩
abbrev main_v59_1 : Ref sig .tc := ⟨.hbm, 101, rfl⟩
abbrev main_v59_2 : Ref sig .tc := ⟨.hbm, 102, rfl⟩
abbrev main_v59_3 : Ref sig .tc := ⟨.hbm, 103, rfl⟩
abbrev main_v59_4 : Ref sig .tc := ⟨.hbm, 104, rfl⟩
abbrev main_v59_5 : Ref sig .tc := ⟨.hbm, 105, rfl⟩
abbrev main_v59_6 : Ref sig .tc := ⟨.hbm, 106, rfl⟩
abbrev main_v59_7 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x8x512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x512x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1536 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x512x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2x512x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x2x512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x3072 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== ProjectReferenceIdeal.lean ====
abbrev S16x2048x1024 : Shape := ⟨3, ![16, 2048, 1024]⟩
abbrev S24x6x1024 : Shape := ⟨3, ![24, 6, 1024]⟩
abbrev S1024 : Shape := ⟨1, ![1024]⟩
abbrev S1024x6144 : Shape := ⟨2, ![1024, 6144]⟩
abbrev S4x64 : Shape := ⟨2, ![4, 64]⟩
abbrev S2048x2x16 : Shape := ⟨3, ![2048, 2, 16]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x1024 : Shape := ⟨2, ![16, 1024]⟩
abbrev S16x2048x6144 : Shape := ⟨3, ![16, 2048, 6144]⟩
abbrev S16x2048x512 : Shape := ⟨3, ![16, 2048, 512]⟩
abbrev S16x2048x8x64 : Shape := ⟨4, ![16, 2048, 8, 64]⟩
abbrev S1x64 : Shape := ⟨2, ![1, 64]⟩
abbrev S64 : Shape := ⟨1, ![64]⟩
abbrev S16x2048x8 : Shape := ⟨3, ![16, 2048, 8]⟩
abbrev S16x2048x8x1 : Shape := ⟨4, ![16, 2048, 8, 1]⟩
abbrev S1x1x1x64 : Shape := ⟨4, ![1, 1, 1, 64]⟩
abbrev S16x2048x8x2x2x16 : Shape := ⟨6, ![16, 2048, 8, 2, 2, 16]⟩
abbrev S16x2048x8x2x1x16 : Shape := ⟨6, ![16, 2048, 8, 2, 1, 16]⟩
abbrev S16x2048x8x2x16 : Shape := ⟨5, ![16, 2048, 8, 2, 16]⟩
abbrev S2048x1x2x16 : Shape := ⟨4, ![2048, 1, 2, 16]⟩
abbrev S1x2048x1x2x16 : Shape := ⟨5, ![1, 2048, 1, 2, 16]⟩
abbrev S16x8x2048x64 : Shape := ⟨4, ![16, 8, 2048, 64]⟩
abbrev S16x2048x128 : Shape := ⟨3, ![16, 2048, 128]⟩
abbrev S16x2048x2x64 : Shape := ⟨4, ![16, 2048, 2, 64]⟩
abbrev S16x2048x2 : Shape := ⟨3, ![16, 2048, 2]⟩
abbrev S16x2048x2x1 : Shape := ⟨4, ![16, 2048, 2, 1]⟩
abbrev S16x2048x2x2x2x16 : Shape := ⟨6, ![16, 2048, 2, 2, 2, 16]⟩
abbrev S16x2048x2x2x1x16 : Shape := ⟨6, ![16, 2048, 2, 2, 1, 16]⟩
abbrev S16x2048x2x2x16 : Shape := ⟨5, ![16, 2048, 2, 2, 16]⟩
abbrev S16x2x2048x64 : Shape := ⟨4, ![16, 2, 2048, 64]⟩
abbrev S16x2x2048x128 : Shape := ⟨4, ![16, 2, 2048, 128]⟩
abbrev S16x2048x1536 : Shape := ⟨3, ![16, 2048, 1536]⟩
abbrev S16x2048x3072 : Shape := ⟨3, ![16, 2048, 3072]⟩

abbrev nBuf : Space → Nat
  | .hbm => 258
  | .vmem => 0
  | .smem => 0
  | _ => 0

abbrev hbmTy0_0 (i : Nat) : BufTy := match i % 128 with
  | 0 => ⟨S16x2048x1024, .f32⟩
  | 1 => ⟨S24x6x1024, .f32⟩
  | 2 => ⟨S1024, .f32⟩
  | 3 => ⟨S1024x6144, .f32⟩
  | 4 => ⟨S4x64, .f32⟩
  | 5 => ⟨S2048x2x16, .f32⟩
  | 6 => ⟨S2048x2x16, .f32⟩
  | 7 => ⟨S16x2048x1024, .f32⟩
  | 8 => ⟨S_, .f32⟩
  | 9 => ⟨S16x2048, .f32⟩
  | 10 => ⟨S16x2048x1, .f32⟩
  | 11 => ⟨S_, .f32⟩
  | 12 => ⟨S16x2048x1, .f32⟩
  | 13 => ⟨S16x2048x1, .f32⟩
  | 14 => ⟨S_, .f32⟩
  | 15 => ⟨S16x2048x1, .f32⟩
  | 16 => ⟨S16x2048x1, .f32⟩
  | 17 => ⟨S16x2048x1, .f32⟩
  | 18 => ⟨S16x2048x1024, .f32⟩
  | 19 => ⟨S16x2048x1024, .f32⟩
  | 20 => ⟨S1x1x1024, .f32⟩
  | 21 => ⟨S16x2048x1024, .f32⟩
  | 22 => ⟨S16x2048x1024, .f32⟩
  | 23 => ⟨S16x1x1024, .f32⟩
  | 24 => ⟨S16x1024, .f32⟩
  | 25 => ⟨S16x1x1024, .f32⟩
  | 26 => ⟨S_, .f32⟩
  | 27 => ⟨S16x1x1024, .f32⟩
  | 28 => ⟨S16x1x1024, .f32⟩
  | 29 => ⟨S16x2048x1024, .f32⟩
  | 30 => ⟨S16x2048x1024, .f32⟩
  | 31 => ⟨S16x1x1024, .f32⟩
  | 32 => ⟨S16x1024, .f32⟩
  | 33 => ⟨S16x1x1024, .f32⟩
  | 34 => ⟨S16x2048x1024, .f32⟩
  | 35 => ⟨S16x2048x1024, .f32⟩
  | 36 => ⟨S16x2048x6144, .f32⟩
  | 37 => ⟨S16x2048x512, .f32⟩
  | 38 => ⟨S16x2048x8x64, .f32⟩
  | 39 => ⟨S1x64, .f32⟩
  | 40 => ⟨S64, .f32⟩
  | 41 => ⟨S16x2048x8x64, .f32⟩
  | 42 => ⟨S_, .f32⟩
  | 43 => ⟨S16x2048x8, .f32⟩
  | 44 => ⟨S16x2048x8x1, .f32⟩
  | 45 => ⟨S_, .f32⟩
  | 46 => ⟨S16x2048x8x1, .f32⟩
  | 47 => ⟨S16x2048x8x1, .f32⟩
  | 48 => ⟨S_, .f32⟩
  | 49 => ⟨S16x2048x8x1, .f32⟩
  | 50 => ⟨S16x2048x8x1, .f32⟩
  | 51 => ⟨S16x2048x8x1, .f32⟩
  | 52 => ⟨S16x2048x8x64, .f32⟩
  | 53 => ⟨S16x2048x8x64, .f32⟩
  | 54 => ⟨S1x1x1x64, .f32⟩
  | 55 => ⟨S16x2048x8x64, .f32⟩
  | 56 => ⟨S16x2048x8x64, .f32⟩
  | 57 => ⟨S16x2048x8x2x2x16, .f32⟩
  | 58 => ⟨S16x2048x8x2x1x16, .f32⟩
  | 59 => ⟨S16x2048x8x2x16, .f32⟩
  | 60 => ⟨S16x2048x8x2x1x16, .f32⟩
  | 61 => ⟨S16x2048x8x2x16, .f32⟩
  | 62 => ⟨S2048x1x2x16, .f32⟩
  | 63 => ⟨S2048x1x2x16, .f32⟩
  | 64 => ⟨S1x2048x1x2x16, .f32⟩
  | 65 => ⟨S16x2048x8x2x16, .f32⟩
  | 66 => ⟨S16x2048x8x2x16, .f32⟩
  | 67 => ⟨S1x2048x1x2x16, .f32⟩
  | 68 => ⟨S16x2048x8x2x16, .f32⟩
  | 69 => ⟨S16x2048x8x2x16, .f32⟩
  | 70 => ⟨S16x2048x8x2x16, .f32⟩
  | 71 => ⟨S1x2048x1x2x16, .f32⟩
  | 72 => ⟨S16x2048x8x2x16, .f32⟩
  | 73 => ⟨S16x2048x8x2x16, .f32⟩
  | 74 => ⟨S1x2048x1x2x16, .f32⟩
  | 75 => ⟨S16x2048x8x2x16, .f32⟩
  | 76 => ⟨S16x2048x8x2x16, .f32⟩
  | 77 => ⟨S16x2048x8x2x16, .f32⟩
  | 78 => ⟨S16x2048x8x2x1x16, .f32⟩
  | 79 => ⟨S16x2048x8x2x1x16, .f32⟩
  | 80 => ⟨S16x2048x8x2x2x16, .f32⟩
  | 81 => ⟨S16x2048x8x64, .f32⟩
  | 82 => ⟨S16x8x2048x64, .f32⟩
  | 83 => ⟨S16x8x2048x64, .bf16⟩
  | 84 => ⟨S16x2048x128, .f32⟩
  | 85 => ⟨S16x2048x2x64, .f32⟩
  | 86 => ⟨S1x64, .f32⟩
  | 87 => ⟨S64, .f32⟩
  | 88 => ⟨S16x2048x2x64, .f32⟩
  | 89 => ⟨S_, .f32⟩
  | 90 => ⟨S16x2048x2, .f32⟩
  | 91 => ⟨S16x2048x2x1, .f32⟩
  | 92 => ⟨S_, .f32⟩
  | 93 => ⟨S16x2048x2x1, .f32⟩
  | 94 => ⟨S16x2048x2x1, .f32⟩
  | 95 => ⟨S_, .f32⟩
  | 96 => ⟨S16x2048x2x1, .f32⟩
  | 97 => ⟨S16x2048x2x1, .f32⟩
  | 98 => ⟨S16x2048x2x1, .f32⟩
  | 99 => ⟨S16x2048x2x64, .f32⟩
  | 100 => ⟨S16x2048x2x64, .f32⟩
  | 101 => ⟨S1x1x1x64, .f32⟩
  | 102 => ⟨S16x2048x2x64, .f32⟩
  | 103 => ⟨S16x2048x2x64, .f32⟩
  | 104 => ⟨S16x2048x2x2x2x16, .f32⟩
  | 105 => ⟨S16x2048x2x2x1x16, .f32⟩
  | 106 => ⟨S16x2048x2x2x16, .f32⟩
  | 107 => ⟨S16x2048x2x2x1x16, .f32⟩
  | 108 => ⟨S16x2048x2x2x16, .f32⟩
  | 109 => ⟨S2048x1x2x16, .f32⟩
  | 110 => ⟨S2048x1x2x16, .f32⟩
  | 111 => ⟨S1x2048x1x2x16, .f32⟩
  | 112 => ⟨S16x2048x2x2x16, .f32⟩
  | 113 => ⟨S16x2048x2x2x16, .f32⟩
  | 114 => ⟨S1x2048x1x2x16, .f32⟩
  | 115 => ⟨S16x2048x2x2x16, .f32⟩
  | 116 => ⟨S16x2048x2x2x16, .f32⟩
  | 117 => ⟨S16x2048x2x2x16, .f32⟩
  | 118 => ⟨S1x2048x1x2x16, .f32⟩
  | 119 => ⟨S16x2048x2x2x16, .f32⟩
  | 120 => ⟨S16x2048x2x2x16, .f32⟩
  | 121 => ⟨S1x2048x1x2x16, .f32⟩
  | 122 => ⟨S16x2048x2x2x16, .f32⟩
  | 123 => ⟨S16x2048x2x2x16, .f32⟩
  | 124 => ⟨S16x2048x2x2x16, .f32⟩
  | 125 => ⟨S16x2048x2x2x1x16, .f32⟩
  | 126 => ⟨S16x2048x2x2x1x16, .f32⟩
  | 127 => ⟨S16x2048x2x2x2x16, .f32⟩
  | _ => ⟨S16x2048x1024, .f32⟩

abbrev hbmTy0_1 (i : Nat) : BufTy := match i % 128 with
  | 0 => ⟨S16x2048x2x64, .f32⟩
  | 1 => ⟨S16x2x2048x64, .f32⟩
  | 2 => ⟨S16x2x2048x64, .bf16⟩
  | 3 => ⟨S16x2048x128, .f32⟩
  | 4 => ⟨S16x2048x2x64, .f32⟩
  | 5 => ⟨S16x2x2048x64, .f32⟩
  | 6 => ⟨S16x2x2048x64, .i32⟩
  | 7 => ⟨S_, .i32⟩
  | 8 => ⟨S16x2x2048x64, .i32⟩
  | 9 => ⟨S16x2x2048x64, .i1⟩
  | 10 => ⟨S16x2x2048x64, .i32⟩
  | 11 => ⟨S16x2x2048x64, .f32⟩
  | 12 => ⟨S16x2x2048x128, .f32⟩
  | 13 => ⟨S16x2x2048x128, .bf16⟩
  | 14 => ⟨S16x2048x1536, .f32⟩
  | 15 => ⟨S16x2048x512, .f32⟩
  | 16 => ⟨S16x2048x8x64, .f32⟩
  | 17 => ⟨S1x64, .f32⟩
  | 18 => ⟨S64, .f32⟩
  | 19 => ⟨S16x2048x8x64, .f32⟩
  | 20 => ⟨S_, .f32⟩
  | 21 => ⟨S16x2048x8, .f32⟩
  | 22 => ⟨S16x2048x8x1, .f32⟩
  | 23 => ⟨S_, .f32⟩
  | 24 => ⟨S16x2048x8x1, .f32⟩
  | 25 => ⟨S16x2048x8x1, .f32⟩
  | 26 => ⟨S_, .f32⟩
  | 27 => ⟨S16x2048x8x1, .f32⟩
  | 28 => ⟨S16x2048x8x1, .f32⟩
  | 29 => ⟨S16x2048x8x1, .f32⟩
  | 30 => ⟨S16x2048x8x64, .f32⟩
  | 31 => ⟨S16x2048x8x64, .f32⟩
  | 32 => ⟨S1x1x1x64, .f32⟩
  | 33 => ⟨S16x2048x8x64, .f32⟩
  | 34 => ⟨S16x2048x8x64, .f32⟩
  | 35 => ⟨S16x2048x8x2x2x16, .f32⟩
  | 36 => ⟨S16x2048x8x2x1x16, .f32⟩
  | 37 => ⟨S16x2048x8x2x16, .f32⟩
  | 38 => ⟨S16x2048x8x2x1x16, .f32⟩
  | 39 => ⟨S16x2048x8x2x16, .f32⟩
  | 40 => ⟨S2048x1x2x16, .f32⟩
  | 41 => ⟨S2048x1x2x16, .f32⟩
  | 42 => ⟨S1x2048x1x2x16, .f32⟩
  | 43 => ⟨S16x2048x8x2x16, .f32⟩
  | 44 => ⟨S16x2048x8x2x16, .f32⟩
  | 45 => ⟨S1x2048x1x2x16, .f32⟩
  | 46 => ⟨S16x2048x8x2x16, .f32⟩
  | 47 => ⟨S16x2048x8x2x16, .f32⟩
  | 48 => ⟨S16x2048x8x2x16, .f32⟩
  | 49 => ⟨S1x2048x1x2x16, .f32⟩
  | 50 => ⟨S16x2048x8x2x16, .f32⟩
  | 51 => ⟨S16x2048x8x2x16, .f32⟩
  | 52 => ⟨S1x2048x1x2x16, .f32⟩
  | 53 => ⟨S16x2048x8x2x16, .f32⟩
  | 54 => ⟨S16x2048x8x2x16, .f32⟩
  | 55 => ⟨S16x2048x8x2x16, .f32⟩
  | 56 => ⟨S16x2048x8x2x1x16, .f32⟩
  | 57 => ⟨S16x2048x8x2x1x16, .f32⟩
  | 58 => ⟨S16x2048x8x2x2x16, .f32⟩
  | 59 => ⟨S16x2048x8x64, .f32⟩
  | 60 => ⟨S16x8x2048x64, .f32⟩
  | 61 => ⟨S16x8x2048x64, .bf16⟩
  | 62 => ⟨S16x2048x128, .f32⟩
  | 63 => ⟨S16x2048x2x64, .f32⟩
  | 64 => ⟨S1x64, .f32⟩
  | 65 => ⟨S64, .f32⟩
  | 66 => ⟨S16x2048x2x64, .f32⟩
  | 67 => ⟨S_, .f32⟩
  | 68 => ⟨S16x2048x2, .f32⟩
  | 69 => ⟨S16x2048x2x1, .f32⟩
  | 70 => ⟨S_, .f32⟩
  | 71 => ⟨S16x2048x2x1, .f32⟩
  | 72 => ⟨S16x2048x2x1, .f32⟩
  | 73 => ⟨S_, .f32⟩
  | 74 => ⟨S16x2048x2x1, .f32⟩
  | 75 => ⟨S16x2048x2x1, .f32⟩
  | 76 => ⟨S16x2048x2x1, .f32⟩
  | 77 => ⟨S16x2048x2x64, .f32⟩
  | 78 => ⟨S16x2048x2x64, .f32⟩
  | 79 => ⟨S1x1x1x64, .f32⟩
  | 80 => ⟨S16x2048x2x64, .f32⟩
  | 81 => ⟨S16x2048x2x64, .f32⟩
  | 82 => ⟨S16x2048x2x2x2x16, .f32⟩
  | 83 => ⟨S16x2048x2x2x1x16, .f32⟩
  | 84 => ⟨S16x2048x2x2x16, .f32⟩
  | 85 => ⟨S16x2048x2x2x1x16, .f32⟩
  | 86 => ⟨S16x2048x2x2x16, .f32⟩
  | 87 => ⟨S2048x1x2x16, .f32⟩
  | 88 => ⟨S2048x1x2x16, .f32⟩
  | 89 => ⟨S1x2048x1x2x16, .f32⟩
  | 90 => ⟨S16x2048x2x2x16, .f32⟩
  | 91 => ⟨S16x2048x2x2x16, .f32⟩
  | 92 => ⟨S1x2048x1x2x16, .f32⟩
  | 93 => ⟨S16x2048x2x2x16, .f32⟩
  | 94 => ⟨S16x2048x2x2x16, .f32⟩
  | 95 => ⟨S16x2048x2x2x16, .f32⟩
  | 96 => ⟨S1x2048x1x2x16, .f32⟩
  | 97 => ⟨S16x2048x2x2x16, .f32⟩
  | 98 => ⟨S16x2048x2x2x16, .f32⟩
  | 99 => ⟨S1x2048x1x2x16, .f32⟩
  | 100 => ⟨S16x2048x2x2x16, .f32⟩
  | 101 => ⟨S16x2048x2x2x16, .f32⟩
  | 102 => ⟨S16x2048x2x2x16, .f32⟩
  | 103 => ⟨S16x2048x2x2x1x16, .f32⟩
  | 104 => ⟨S16x2048x2x2x1x16, .f32⟩
  | 105 => ⟨S16x2048x2x2x2x16, .f32⟩
  | 106 => ⟨S16x2048x2x64, .f32⟩
  | 107 => ⟨S16x2x2048x64, .f32⟩
  | 108 => ⟨S16x2x2048x64, .bf16⟩
  | 109 => ⟨S16x2048x128, .f32⟩
  | 110 => ⟨S16x2048x2x64, .f32⟩
  | 111 => ⟨S16x2x2048x64, .f32⟩
  | 112 => ⟨S16x2x2048x64, .i32⟩
  | 113 => ⟨S_, .i32⟩
  | 114 => ⟨S16x2x2048x64, .i32⟩
  | 115 => ⟨S16x2x2048x64, .i1⟩
  | 116 => ⟨S16x2x2048x64, .i32⟩
  | 117 => ⟨S16x2x2048x64, .f32⟩
  | 118 => ⟨S16x2x2048x128, .f32⟩
  | 119 => ⟨S16x2x2048x128, .bf16⟩
  | 120 => ⟨S16x2048x3072, .f32⟩
  | 121 => ⟨S16x2048x3072, .f32⟩
  | 122 => ⟨S16x2048x3072, .f32⟩
  | 123 => ⟨S_, .f32⟩
  | 124 => ⟨S16x2048x3072, .f32⟩
  | 125 => ⟨S16x2048x3072, .f32⟩
  | 126 => ⟨S_, .f32⟩
  | 127 => ⟨S16x2048x3072, .f32⟩
  | _ => ⟨S16x2048x1024, .f32⟩

abbrev hbmTy0_2 (i : Nat) : BufTy := match i % 128 with
  | 0 => ⟨S16x2048x3072, .f32⟩
  | 1 => ⟨S16x2048x3072, .bf16⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_cst_6 : Ref sig .tc := ⟨.hbm, 89, rfl⟩
abbrev main_v75 : Ref sig .tc := ⟨.hbm, 90, rfl⟩
abbrev main_v76 : Ref sig .tc := ⟨.hbm, 91, rfl⟩
abbrev main_cst_7 : Ref sig .tc := ⟨.hbm, 92, rfl⟩
abbrev main_v77 : Ref sig .tc := ⟨.hbm, 93, rfl⟩
abbrev main_v78 : Ref sig .tc := ⟨.hbm, 94, rfl⟩
abbrev main_cst_8 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_c : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_cst_9 : Ref sig .tc := ⟨.hbm, 148, rfl⟩
abbrev main_v130 : Ref sig .tc := ⟨.hbm, 149, rfl⟩
abbrev main_v131 : Ref sig .tc := ⟨.hbm, 150, rfl⟩
abbrev main_cst_10 : Ref sig .tc := ⟨.hbm, 151, rfl⟩
abbrev main_v132 : Ref sig .tc := ⟨.hbm, 152, rfl⟩
abbrev main_v133 : Ref sig .tc := ⟨.hbm, 153, rfl⟩
abbrev main_cst_11 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_cst_12 : Ref sig .tc := ⟨.hbm, 195, rfl⟩
abbrev main_v174 : Ref sig .tc := ⟨.hbm, 196, rfl⟩
abbrev main_v175 : Ref sig .tc := ⟨.hbm, 197, rfl⟩
abbrev main_cst_13 : Ref sig .tc := ⟨.hbm, 198, rfl⟩
abbrev main_v176 : Ref sig .tc := ⟨.hbm, 199, rfl⟩
abbrev main_v177 : Ref sig .tc := ⟨.hbm, 200, rfl⟩
abbrev main_cst_14 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_c_15 : Ref sig .tc := ⟨.hbm, 241, rfl⟩
abbrev main_v217 : Ref sig .tc := ⟨.hbm, 242, rfl⟩
abbrev main_v218 : Ref sig .tc := ⟨.hbm, 243, rfl⟩
abbrev main_v219 : Ref sig .tc := ⟨.hbm, 244, rfl⟩
abbrev main_v220 : Ref sig .tc := ⟨.hbm, 245, rfl⟩
abbrev main_v221 : Ref sig .tc := ⟨.hbm, 246, rfl⟩
abbrev main_v222 : Ref sig .tc := ⟨.hbm, 247, rfl⟩
abbrev main_v223 : Ref sig .tc := ⟨.hbm, 248, rfl⟩
abbrev main_v224 : Ref sig .tc := ⟨.hbm, 249, rfl⟩
abbrev main_v225 : Ref sig .tc := ⟨.hbm, 250, rfl⟩
abbrev main_cst_16 : Ref sig .tc := ⟨.hbm, 251, rfl⟩
abbrev main_v226 : Ref sig .tc := ⟨.hbm, 252, rfl⟩
abbrev main_v227 : Ref sig .tc := ⟨.hbm, 253, rfl⟩
abbrev main_cst_17 : Ref sig .tc := ⟨.hbm, 254, rfl⟩
abbrev main_v228 : Ref sig .tc := ⟨.hbm, 255, rfl⟩
abbrev main_v229 : Ref sig .tc := ⟨.hbm, 256, rfl⟩
abbrev main_v230 : Ref sig .tc := ⟨.hbm, 257, rfl⟩

abbrev nD : Nat := 1
abbrev τ : Topo := Topo.v7x

variable {F : FTy → Type} [FloatOps F]
-- ==== Merge.lean ====
abbrev S16x2048x1024 : Shape := ⟨3, ![16, 2048, 1024]⟩
abbrev S24x6x1024 : Shape := ⟨3, ![24, 6, 1024]⟩
abbrev S16x2048x512 : Shape := ⟨3, ![16, 2048, 512]⟩
abbrev S16x2048x3072 : Shape := ⟨3, ![16, 2048, 3072]⟩
abbrev S3x512x1024 : Shape := ⟨3, ![3, 512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1024x256 : Shape := ⟨2, ![1024, 256]⟩
abbrev S1x1024 : Shape := ⟨2, ![1, 1024]⟩
abbrev S65536x512 : Shape := ⟨2, ![65536, 512]⟩
abbrev S16x2048x128 : Shape := ⟨3, ![16, 2048, 128]⟩
abbrev S16x8x2048 : Shape := ⟨3, ![16, 8, 2048]⟩
abbrev S1x512x1024 : Shape := ⟨3, ![1, 512, 1024]⟩
abbrev S1x6x1024 : Shape := ⟨3, ![1, 6, 1024]⟩
abbrev S1x512x512 : Shape := ⟨3, ![1, 512, 512]⟩
abbrev S1x512x3072 : Shape := ⟨3, ![1, 512, 3072]⟩
abbrev S1024x512 : Shape := ⟨2, ![1024, 512]⟩
abbrev S1x512x128 : Shape := ⟨3, ![1, 512, 128]⟩
abbrev S1x8x512 : Shape := ⟨3, ![1, 8, 512]⟩
abbrev S1x256x3072 : Shape := ⟨3, ![1, 256, 3072]⟩
abbrev S256x3072 : Shape := ⟨2, ![256, 3072]⟩
abbrev S256x1024 : Shape := ⟨2, ![256, 1024]⟩
abbrev S1x256x512 : Shape := ⟨3, ![1, 256, 512]⟩
abbrev S256x512 : Shape := ⟨2, ![256, 512]⟩
abbrev S512x1024 : Shape := ⟨2, ![512, 1024]⟩
abbrev S1x256x1024 : Shape := ⟨3, ![1, 256, 1024]⟩
abbrev S1x1x1024 : Shape := ⟨3, ![1, 1, 1024]⟩
abbrev S256 : Shape := ⟨1, ![256]⟩
abbrev S256x1 : Shape := ⟨2, ![256, 1]⟩
abbrev S512x512 : Shape := ⟨2, ![512, 512]⟩
abbrev S256x256 : Shape := ⟨2, ![256, 256]⟩
abbrev S256x128 : Shape := ⟨2, ![256, 128]⟩
abbrev S1x256x128 : Shape := ⟨3, ![1, 256, 128]⟩
abbrev S128x256 : Shape := ⟨2, ![128, 256]⟩
abbrev S8x256 : Shape := ⟨2, ![8, 256]⟩
abbrev S1x8x256 : Shape := ⟨3, ![1, 8, 256]⟩

abbrev nBuf : Space → Nat
  | .hbm => 51
  | .vmem => 25
  | .smem => 0
  | _ => 0

abbrev bufTy : (tb : Table) → Fin (tcTables nBuf tb) → BufTy
  | .hbm, ⟨0, _⟩ => ⟨S16x2048x1024, .f32⟩
  | .hbm, ⟨1, _⟩ => ⟨S24x6x1024, .f32⟩
  | .hbm, ⟨2, _⟩ => ⟨S16x2048x512, .f32⟩
  | .hbm, ⟨3, _⟩ => ⟨S16x2048x512, .f32⟩
  | .hbm, ⟨4, _⟩ => ⟨S16x2048x512, .f32⟩
  | .hbm, ⟨5, _⟩ => ⟨S16x2048x3072, .f32⟩
  | .hbm, ⟨6, _⟩ => ⟨S3x512x1024, .f32⟩
  | .hbm, ⟨7, _⟩ => ⟨S1024x1024, .f32⟩
  | .hbm, ⟨8, _⟩ => ⟨S1024, .f32⟩
  | .hbm, ⟨9, _⟩ => ⟨S1024x4, .f32⟩
  | .hbm, ⟨10, _⟩ => ⟨S4, .f32⟩
  | .hbm, ⟨11, _⟩ => ⟨S1024x16, .f32⟩
  | .hbm, ⟨12, _⟩ => ⟨S16, .f32⟩
  | .hbm, ⟨13, _⟩ => ⟨S_, .f32⟩
  | .hbm, ⟨14, _⟩ => ⟨S1024x128, .f32⟩
  | .hbm, ⟨15, _⟩ => ⟨S_, .i32⟩
  | .hbm, ⟨16, _⟩ => ⟨S1, .i32⟩
  | .hbm, ⟨17, _⟩ => ⟨S1024x128, .f32⟩
  | .hbm, ⟨18, _⟩ => ⟨S_, .i32⟩
  | .hbm, ⟨19, _⟩ => ⟨S1, .i32⟩
  | .hbm, ⟨20, _⟩ => ⟨S1024x128, .f32⟩
  | .hbm, ⟨21, _⟩ => ⟨S_, .f32⟩
  | .hbm, ⟨22, _⟩ => ⟨S1x128, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S1x128, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S1x128, .f32⟩
  | .hbm, ⟨35, _⟩ => ⟨S1024x128, .bf16⟩
  | .hbm, ⟨36, _⟩ => ⟨S1024x128, .f32⟩
  | .hbm, ⟨37, _⟩ => ⟨S1024x128, .f32⟩
  | .hbm, ⟨38, _⟩ => ⟨S1024x128, .bf16⟩
  | .hbm, ⟨39, _⟩ => ⟨S1024x256, .bf16⟩
  | .hbm, ⟨40, _⟩ => ⟨S16x2048x512, .bf16⟩
  | .hbm, ⟨41, _⟩ => ⟨S16x2048x512, .bf16⟩
  | .hbm, ⟨42, _⟩ => ⟨S16x2048x512, .bf16⟩
  | .hbm, ⟨43, _⟩ => ⟨S16x2048x3072, .bf16⟩
  | .hbm, ⟨44, _⟩ => ⟨S3x512x1024, .bf16⟩
  | .hbm, ⟨45, _⟩ => ⟨S1024x1024, .bf16⟩
  | .hbm, ⟨46, _⟩ => ⟨S1x1024, .f32⟩
  | .hbm, ⟨47, _⟩ => ⟨S16x2048x1024, .f32⟩
  | .hbm, ⟨48, _⟩ => ⟨S65536x512, .bf16⟩
  | .hbm, ⟨49, _⟩ => ⟨S16x2048x128, .f32⟩
  | .hbm, ⟨50, _⟩ => ⟨S16x8x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x3072, .bf16⟩
  | .local _ .vmem, ⟨11, _⟩ => ⟨S1x512x3072, .bf16⟩
  | .local _ .vmem, ⟨12, _⟩ => ⟨S3x512x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x256, .bf16⟩
  | .local _ .vmem, ⟨16, _⟩ => ⟨S1x128, .f32⟩
  | .local _ .vmem, ⟨17, _⟩ => ⟨S1x512x1024, .f32⟩
  | .local _ .vmem, ⟨18, _⟩ => ⟨S1x512x1024, .f32⟩
  | .local _ .vmem, ⟨19, _⟩ => ⟨S1024x512, .bf16⟩
  | .local _ .vmem, ⟨20, _⟩ => ⟨S1024x512, .bf16⟩
  | .local _ .vmem, ⟨21, _⟩ => ⟨S1x512x128, .f32⟩
  | .local _ .vmem, ⟨22, _⟩ => ⟨S1x512x128, .f32⟩
  | .local _ .vmem, ⟨23, _⟩ => ⟨S1x8x512, .f32⟩
  | .local _ .vmem, ⟨24, _⟩ => ⟨S1x8x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_c_2 : Ref sig .tc := ⟨.hbm, 23, rfl⟩
abbrev main_v6 : Ref sig .tc := ⟨.hbm, 24, rfl⟩
abbrev main_c_3 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c_4 : Ref sig .tc := ⟨.hbm, 29, rfl⟩
abbrev main_v10 : Ref sig .tc := ⟨.hbm, 30, rfl⟩
abbrev main_c_5 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26_0 : Ref sig .tc := ⟨.hbm, 47, rfl⟩
abbrev main_v26_1 : Ref sig .tc := ⟨.hbm, 48, rfl⟩
abbrev main_v26_2 : Ref sig .tc := ⟨.hbm, 49, rfl⟩
abbrev main_v26_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [BitOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== MergeIdeal.lean ====
variable {F : FTy → Type} [FloatOps F]
-- ==== MergeReferenceIdeal.lean ====
abbrev S16x2048x1024 : Shape := ⟨3, ![16, 2048, 1024]⟩
abbrev S24x6x1024 : Shape := ⟨3, ![24, 6, 1024]⟩
abbrev S16x2048x512 : Shape := ⟨3, ![16, 2048, 512]⟩
abbrev S16x2048x3072 : Shape := ⟨3, ![16, 2048, 3072]⟩
abbrev S3x512x1024 : Shape := ⟨3, ![3, 512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1x1024 : Shape := ⟨3, ![16, 1, 1024]⟩
abbrev S16x1024 : Shape := ⟨2, ![16, 1024]⟩
abbrev S1x512x1024 : Shape := ⟨3, ![1, 512, 1024]⟩
abbrev S512x1024 : Shape := ⟨2, ![512, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2x512 : Shape := ⟨4, ![16, 2048, 2, 512]⟩
abbrev S65536x512 : Shape := ⟨2, ![65536, 512]⟩

abbrev nBuf : Space → Nat
  | .hbm => 79
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S24x6x1024, .f32⟩
  | .hbm, ⟨2, _⟩ => ⟨S16x2048x512, .f32⟩
  | .hbm, ⟨3, _⟩ => ⟨S16x2048x512, .f32⟩
  | .hbm, ⟨4, _⟩ => ⟨S16x2048x512, .f32⟩
  | .hbm, ⟨5, _⟩ => ⟨S16x2048x3072, .f32⟩
  | .hbm, ⟨6, _⟩ => ⟨S3x512x1024, .f32⟩
  | .hbm, ⟨7, _⟩ => ⟨S1024x1024, .f32⟩
  | .hbm, ⟨8, _⟩ => ⟨S1024, .f32⟩
  | .hbm, ⟨9, _⟩ => ⟨S1024x4, .f32⟩
  | .hbm, ⟨10, _⟩ => ⟨S4, .f32⟩
  | .hbm, ⟨11, _⟩ => ⟨S1024x16, .f32⟩
  | .hbm, ⟨12, _⟩ => ⟨S16, .f32⟩
  | .hbm, ⟨13, _⟩ => ⟨S16x1x1024, .f32⟩
  | .hbm, ⟨14, _⟩ => ⟨S16x1024, .f32⟩
  | .hbm, ⟨15, _⟩ => ⟨S16x1x1024, .f32⟩
  | .hbm, ⟨16, _⟩ => ⟨S16x1x1024, .f32⟩
  | .hbm, ⟨17, _⟩ => ⟨S16x1024, .f32⟩
  | .hbm, ⟨18, _⟩ => ⟨S16x1x1024, .f32⟩
  | .hbm, ⟨19, _⟩ => ⟨S16x1x1024, .f32⟩
  | .hbm, ⟨20, _⟩ => ⟨S16x1024, .f32⟩
  | .hbm, ⟨21, _⟩ => ⟨S16x1x1024, .f32⟩
  | .hbm, ⟨22, _⟩ => ⟨S16x1x1024, .f32⟩
  | .hbm, ⟨23, _⟩ => ⟨S16x1024, .f32⟩
  | .hbm, ⟨24, _⟩ => ⟨S16x1x1024, .f32⟩
  | .hbm, ⟨25, _⟩ => ⟨S16x1x1024, .f32⟩
  | .hbm, ⟨26, _⟩ => ⟨S16x1024, .f32⟩
  | .hbm, ⟨27, _⟩ => ⟨S16x1x1024, .f32⟩
  | .hbm, ⟨28, _⟩ => ⟨S16x1x1024, .f32⟩
  | .hbm, ⟨29, _⟩ => ⟨S16x1024, .f32⟩
  | .hbm, ⟨30, _⟩ => ⟨S16x1x1024, .f32⟩
  | .hbm, ⟨31, _⟩ => ⟨S16x2048x1024, .f32⟩
  | .hbm, ⟨32, _⟩ => ⟨S16x2048x1024, .f32⟩
  | .hbm, ⟨33, _⟩ => ⟨S16x2048x1024, .f32⟩
  | .hbm, ⟨34, _⟩ => ⟨S1x512x1024, .f32⟩
  | .hbm, ⟨35, _⟩ => ⟨S512x1024, .f32⟩
  | .hbm, ⟨36, _⟩ => ⟨S16x2048x1024, .f32⟩
  | .hbm, ⟨37, _⟩ => ⟨S16x2048x1024, .f32⟩
  | .hbm, ⟨38, _⟩ => ⟨S1x512x1024, .f32⟩
  | .hbm, ⟨39, _⟩ => ⟨S512x1024, .f32⟩
  | .hbm, ⟨40, _⟩ => ⟨S16x2048x1024, .f32⟩
  | .hbm, ⟨41, _⟩ => ⟨S16x2048x1024, .f32⟩
  | .hbm, ⟨42, _⟩ => ⟨S16x2048x1024, .f32⟩
  | .hbm, ⟨43, _⟩ => ⟨S1x512x1024, .f32⟩
  | .hbm, ⟨44, _⟩ => ⟨S512x1024, .f32⟩
  | .hbm, ⟨45, _⟩ => ⟨S16x2048x1024, .f32⟩
  | .hbm, ⟨46, _⟩ => ⟨S16x2048x1024, .f32⟩
  | .hbm, ⟨47, _⟩ => ⟨S16x2048x1024, .f32⟩
  | .hbm, ⟨48, _⟩ => ⟨S16x2048x1024, .f32⟩
  | .hbm, ⟨49, _⟩ => ⟨S16x2048x1024, .f32⟩
  | .hbm, ⟨50, _⟩ => ⟨S16x2048x1024, .f32⟩
  | .hbm, ⟨51, _⟩ => ⟨S16x2048x1024, .f32⟩
  | .hbm, ⟨52, _⟩ => ⟨S16x2048x1024, .f32⟩
  | .hbm, ⟨53, _⟩ => ⟨S_, .f32⟩
  | .hbm, ⟨54, _⟩ => ⟨S16x2048, .f32⟩
  | .hbm, ⟨55, _⟩ => ⟨S16x2048x1, .f32⟩
  | .hbm, ⟨56, _⟩ => ⟨S_, .f32⟩
  | .hbm, ⟨57, _⟩ => ⟨S16x2048x1, .f32⟩
  | .hbm, ⟨58, _⟩ => ⟨S16x2048x1, .f32⟩
  | .hbm, ⟨59, _⟩ => ⟨S_, .f32⟩
  | .hbm, ⟨60, _⟩ => ⟨S16x2048x1, .f32⟩
  | .hbm, ⟨61, _⟩ => ⟨S16x2048x1, .f32⟩
  | .hbm, ⟨62, _⟩ => ⟨S16x2048x1, .f32⟩
  | .hbm, ⟨63, _⟩ => ⟨S16x2048x1024, .f32⟩
  | .hbm, ⟨64, _⟩ => ⟨S16x2048x1024, .f32⟩
  | .hbm, ⟨65, _⟩ => ⟨S1x1x1024, .f32⟩
  | .hbm, ⟨66, _⟩ => ⟨S16x2048x1024, .f32⟩
  | .hbm, ⟨67, _⟩ => ⟨S16x2048x1024, .f32⟩
  | .hbm, ⟨68, _⟩ => ⟨S_, .f32⟩
  | .hbm, ⟨69, _⟩ => ⟨S16x1x1024, .f32⟩
  | .hbm, ⟨70, _⟩ => ⟨S16x1x1024, .f32⟩
  | .hbm, ⟨71, _⟩ => ⟨S16x2048x1024, .f32⟩
  | .hbm, ⟨72, _⟩ => ⟨S16x2048x1024, .f32⟩
  | .hbm, ⟨73, _⟩ => ⟨S16x2048x1024, .f32⟩
  | .hbm, ⟨74, _⟩ => ⟨S16x2048x1024, .f32⟩
  | .hbm, ⟨75, _⟩ => ⟨S16x2048x2x512, .f32⟩
  | .hbm, ⟨76, _⟩ => ⟨S16x2048x2x512, .f32⟩
  | .hbm, ⟨77, _⟩ => ⟨S65536x512, .f32⟩
  | .hbm, ⟨78, _⟩ => ⟨S65536x512, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst : Ref sig .tc := ⟨.hbm, 53, rfl⟩
abbrev main_v40 : Ref sig .tc := ⟨.hbm, 54, rfl⟩
abbrev main_v41 : Ref sig .tc := ⟨.hbm, 55, rfl⟩
abbrev main_cst_0 : Ref sig .tc := ⟨.hbm, 56, rfl⟩
abbrev main_v42 : Ref sig .tc := ⟨.hbm, 57, rfl⟩
abbrev main_v43 : Ref sig .tc := ⟨.hbm, 58, rfl⟩
abbrev main_cst_1 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_2 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩

abbrev nD : Nat := 1
abbrev τ : Topo := Topo.v7x

variable {F : FTy → Type} [FloatOps F]
-- ==== Context.lean ====
abbrev S16384x1024 : Shape := ⟨2, ![16384, 1024]⟩
abbrev S32 : Shape := ⟨1, ![32]⟩
abbrev S4x16x1024x512 : Shape := ⟨4, ![4, 16, 1024, 512]⟩
abbrev S4x16x512x1024 : Shape := ⟨4, ![4, 16, 512, 1024]⟩
abbrev S16384x512 : Shape := ⟨2, ![16384, 512]⟩
abbrev S16384x1x512 : Shape := ⟨3, ![16384, 1, 512]⟩
abbrev S16384x2x512 : Shape := ⟨3, ![16384, 2, 512]⟩
abbrev S32768x512 : Shape := ⟨2, ![32768, 512]⟩
abbrev S1024x512 : Shape := ⟨2, ![1024, 512]⟩
abbrev S1x1x1024x512 : Shape := ⟨4, ![1, 1, 1024, 512]⟩
abbrev S1 : Shape := ⟨1, ![1]⟩
abbrev S1x1x512x1024 : Shape := ⟨4, ![1, 1, 512, 1024]⟩
abbrev S512x1024 : Shape := ⟨2, ![512, 1024]⟩
abbrev S512x512 : Shape := ⟨2, ![512, 512]⟩

abbrev nBuf : Space → Nat
  | .hbm => 12
  | .vmem => 13
  | .smem => 2
  | _ => 0

abbrev bufTy : (tb : Table) → Fin (tcTables nBuf tb) → BufTy
  | .hbm, ⟨0, _⟩ => ⟨S16384x1024, .f32⟩
  | .hbm, ⟨1, _⟩ => ⟨S4x16x1024x512, .f32⟩
  | .hbm, ⟨2, _⟩ => ⟨S4x16x1024x512, .f32⟩
  | .hbm, ⟨3, _⟩ => ⟨S4x16x512x1024, .f32⟩
  | .hbm, ⟨4, _⟩ => ⟨S16384x512, .f32⟩
  | .hbm, ⟨5, _⟩ => ⟨S16384x512, .f32⟩
  | .hbm, ⟨6, _⟩ => ⟨S16384x1x512, .f32⟩
  | .hbm, ⟨7, _⟩ => ⟨S16384x1x512, .f32⟩
  | .hbm, ⟨8, _⟩ => ⟨S16384x2x512, .f32⟩
  | .hbm, ⟨9, _⟩ => ⟨S32768x512, .f32⟩
  | .hbm, ⟨10, _⟩ => ⟨S32768x512, .bf16⟩
  | .hbm, ⟨11, _⟩ => ⟨S32768x512, .bf16⟩
  | .local _ .vmem, ⟨0, _⟩ => ⟨S1024x512, .bf16⟩
  | .local _ .vmem, ⟨1, _⟩ => ⟨S1024x512, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S32, .i32⟩
  | .local _ .smem, ⟨1, _⟩ => ⟨S32, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨1, ![32], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (v1 : BitVec 32) : BitVec 1 :=
  let c0_i32_2 : BitVec 32 := 0#32
  let v13 : BitVec 1 := Scalar.cmpi .sgt v1 c0_i32_2
  let v14 : BitVec 32 := Scalar.extui v13
  let c0_i32_3 : BitVec 32 := 0#32
  let v15 : BitVec 1 := Scalar.cmpi .ne v14 c0_i32_3
  v15

def k0_cond3 (v1 : BitVec 32) : BitVec 1 :=
  let c0_i32_4 : BitVec 32 := 0#32
  let v16 : BitVec 1 := Scalar.cmpi .eq v1 c0_i32_4
  let v17 : BitVec 32 := Scalar.extui v16
  let c0_i32_5 : BitVec 32 := 0#32
  let v18 : BitVec 1 := Scalar.cmpi .ne v17 c0_i32_5
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S32.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S32.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S32.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ContextIdeal.lean ====
variable {F : FTy → Type} [FloatOps F]
-- ==== ContextReferenceIdeal.lean ====
abbrev S16384x1024 : Shape := ⟨2, ![16384, 1024]⟩
abbrev S32 : Shape := ⟨1, ![32]⟩
abbrev S4x16x1024x512 : Shape := ⟨4, ![4, 16, 1024, 512]⟩
abbrev S4x16x512x1024 : Shape := ⟨4, ![4, 16, 512, 1024]⟩
abbrev S32x512x1024 : Shape := ⟨3, ![32, 512, 1024]⟩
abbrev S32x1x1 : Shape := ⟨3, ![32, 1, 1]⟩
abbrev S_ : Shape := ⟨0, ![]⟩
abbrev S1x16x1024x512 : Shape := ⟨4, ![1, 16, 1024, 512]⟩
abbrev S16x1024x512 : Shape := ⟨3, ![16, 1024, 512]⟩
abbrev S16x512x32x512 : Shape := ⟨4, ![16, 512, 32, 512]⟩
abbrev S16x32x512x512 : Shape := ⟨4, ![16, 32, 512, 512]⟩
abbrev S1x16x512x1024 : Shape := ⟨4, ![1, 16, 512, 1024]⟩
abbrev S16x512x1024 : Shape := ⟨3, ![16, 512, 1024]⟩
abbrev S16x32x512x1024 : Shape := ⟨4, ![16, 32, 512, 1024]⟩
abbrev S16x32 : Shape := ⟨2, ![16, 32]⟩
abbrev S1x32 : Shape := ⟨2, ![1, 32]⟩
abbrev S16x32x1x1 : Shape := ⟨4, ![16, 32, 1, 1]⟩
abbrev S16384x2x512 : Shape := ⟨3, ![16384, 2, 512]⟩
abbrev S32768x512 : Shape := ⟨2, ![32768, 512]⟩

abbrev nBuf : Space → Nat
  | .hbm => 51
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S32, .i32⟩
  | .hbm, ⟨2, _⟩ => ⟨S32, .i32⟩
  | .hbm, ⟨3, _⟩ => ⟨S4x16x1024x512, .f32⟩
  | .hbm, ⟨4, _⟩ => ⟨S4x16x1024x512, .f32⟩
  | .hbm, ⟨5, _⟩ => ⟨S4x16x512x1024, .f32⟩
  | .hbm, ⟨6, _⟩ => ⟨S32x512x1024, .f32⟩
  | .hbm, ⟨7, _⟩ => ⟨S32x512x1024, .i32⟩
  | .hbm, ⟨8, _⟩ => ⟨S32x1x1, .i32⟩
  | .hbm, ⟨9, _⟩ => ⟨S32x512x1024, .i32⟩
  | .hbm, ⟨10, _⟩ => ⟨S32x512x1024, .i1⟩
  | .hbm, ⟨11, _⟩ => ⟨S_, .f32⟩
  | .hbm, ⟨12, _⟩ => ⟨S_, .f32⟩
  | .hbm, ⟨13, _⟩ => ⟨S32x512x1024, .f32⟩
  | .hbm, ⟨14, _⟩ => ⟨S32x512x1024, .f32⟩
  | .hbm, ⟨15, _⟩ => ⟨S1x16x1024x512, .f32⟩
  | .hbm, ⟨16, _⟩ => ⟨S16x1024x512, .f32⟩
  | .hbm, ⟨17, _⟩ => ⟨S16x512x32x512, .f32⟩
  | .hbm, ⟨18, _⟩ => ⟨S16x32x512x512, .f32⟩
  | .hbm, ⟨19, _⟩ => ⟨S16x32x512x512, .f32⟩
  | .hbm, ⟨20, _⟩ => ⟨S16x32x512x512, .f32⟩
  | .hbm, ⟨21, _⟩ => ⟨S_, .f32⟩
  | .hbm, ⟨22, _⟩ => ⟨S16x32x512x512, .f32⟩
  | .hbm, ⟨23, _⟩ => ⟨S16x32x512x512, .f32⟩
  | .hbm, ⟨24, _⟩ => ⟨S_, .f32⟩
  | .hbm, ⟨25, _⟩ => ⟨S16x32x512x512, .f32⟩
  | .hbm, ⟨26, _⟩ => ⟨S16x32x512x512, .f32⟩
  | .hbm, ⟨27, _⟩ => ⟨S16x32x512x512, .f32⟩
  | .hbm, ⟨28, _⟩ => ⟨S1x16x1024x512, .f32⟩
  | .hbm, ⟨29, _⟩ => ⟨S16x1024x512, .f32⟩
  | .hbm, ⟨30, _⟩ => ⟨S16x512x32x512, .f32⟩
  | .hbm, ⟨31, _⟩ => ⟨S16x32x512x512, .f32⟩
  | .hbm, ⟨32, _⟩ => ⟨S16x32x512x512, .f32⟩
  | .hbm, ⟨33, _⟩ => ⟨S1x16x512x1024, .f32⟩
  | .hbm, ⟨34, _⟩ => ⟨S16x512x1024, .f32⟩
  | .hbm, ⟨35, _⟩ => ⟨S16x32x512x1024, .f32⟩
  | .hbm, ⟨36, _⟩ => ⟨S16x32, .i32⟩
  | .hbm, ⟨37, _⟩ => ⟨S1x32, .i32⟩
  | .hbm, ⟨38, _⟩ => ⟨S16x32, .i32⟩
  | .hbm, ⟨39, _⟩ => ⟨S16x32, .i1⟩
  | .hbm, ⟨40, _⟩ => ⟨S16x32, .i32⟩
  | .hbm, ⟨41, _⟩ => ⟨S16x32, .f32⟩
  | .hbm, ⟨42, _⟩ => ⟨S16x32x1x1, .f32⟩
  | .hbm, ⟨43, _⟩ => ⟨S16x32x512x1024, .f32⟩
  | .hbm, ⟨44, _⟩ => ⟨S16x32x512x1024, .f32⟩
  | .hbm, ⟨45, _⟩ => ⟨S_, .f32⟩
  | .hbm, ⟨46, _⟩ => ⟨S32x512x1024, .f32⟩
  | .hbm, ⟨47, _⟩ => ⟨S16384x2x512, .f32⟩
  | .hbm, ⟨48, _⟩ => ⟨S16384x2x512, .f32⟩
  | .hbm, ⟨49, _⟩ => ⟨S32768x512, .f32⟩
  | .hbm, ⟨50, _⟩ => ⟨S32768x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Proof.Softmax.lean ====
/- The arithmetic of a softmax that is taken in base two and divided once at the end, on the extended reals: hand-written.
   A row has scores `s i` (none of them `⊤`, at least one finite) and values `v i`. The reference forms the weights
   `exp (s i - M) / ∑ exp (s j - M)`, with `M` the largest score, and sums weight times value. The kernel has the scores
   times `(log 2)⁻¹`, takes powers of two, sums them against the values and against a column of ones, and divides the
   two sums. -/
module

public import Idealize.ShloMosaic.Lib.Pointwise

@[expose] public section

noncomputable section

open Idealize.ShloMosaic

namespace Cert.Softmax

/-- The largest of finitely many scores, `⊥` where there is none. -/
abbrev top {ι : Type} [Fintype ι] (s : ι → EReal) : EReal := Finset.univ.fold max ⊥ s

/-- The softmax average of `v` under the scores `s`, as the reference computes it. A sink is one more
    position, with value zero. -/
def avg {ι : Type} [Fintype ι] (s v : ι → EReal) : EReal :=
  ∑ i, v i * Ideal.div (Ideal.exp (s i - top s)) (∑ j, Ideal.exp (s j - top s))

theorem top_eq_sup {ι : Type} [Fintype ι] (s : ι → EReal) : top s = Finset.univ.sup s := rfl

theorem le_top {ι : Type} [Fintype ι] (s : ι → EReal) (i : ι) : s i ≤ top s := by
  rw [top_eq_sup]; exact Finset.le_sup (Finset.mem_univ i)

/-- The largest score is one of them. -/
theorem top_mem {ι : Type} [Fintype ι] [Nonempty ι] (s : ι → EReal) : ∃ i, top s = s i := by
  rw [top_eq_sup]
  obtain ⟨i, -, hi⟩ := Finset.exists_mem_eq_sup Finset.univ Finset.univ_nonempty s
  exact ⟨i, hi⟩

/-- The largest score of a row with a finite score and none infinite above is a real number. -/
theorem top_real {ι : Type} [Fintype ι] (s : ι → EReal) (hs : ∀ i, s i ≠ ⊤) (i₀ : ι) (h₀ : s i₀ ≠ ⊥) :
    ∃ M : ℝ, top s = M := by
  haveI : Nonempty ι := ⟨i₀⟩
  obtain ⟨i, hi⟩ := top_mem s
  have hb : top s ≠ ⊥ := fun h => h₀ (le_bot_iff.1 (h ▸ le_top s i₀))
  have ht : top s ≠ ⊤ := by rw [hi]; exact hs i
  exact ⟨(top s).toReal, (EReal.coe_toReal ht hb).symm⟩

/-- The largest entry of two blocks of scores side by side. -/
theorem top_sum {α β : Type} [Fintype α] [Fintype β] (a : α → EReal) (b : β → EReal) :
    top (Sum.elim a b) = max (top a) (top b) := by
  apply le_antisymm
  · rw [top_eq_sup (Sum.elim a b)]
    refine Finset.sup_le fun i _ => ?_
    rcases i with i | i
    · exact le_max_of_le_left (le_top a i)
    · exact le_max_of_le_right (le_top b i)
  · refine max_le ?_ ?_
    · rw [top_eq_sup a]; exact Finset.sup_le fun i _ => le_top (Sum.elim a b) (Sum.inl i)
    · rw [top_eq_sup b]; exact Finset.sup_le fun i _ => le_top (Sum.elim a b) (Sum.inr i)

/-- Renaming the positions does not change the largest score. -/
theorem top_equiv {α β : Type} [Fintype α] [Fintype β] (f : α ≃ β) (s : β → EReal) :
    top (fun a => s (f a)) = top s := by
  apply le_antisymm
  · rw [top_eq_sup]; exact Finset.sup_le fun i _ => le_top s (f i)
  · rw [top_eq_sup s]
    refine Finset.sup_le fun i _ => ?_
    have := le_top (fun a => s (f a)) (f.symm i)
    simpa using this

/-- Scaling every score by one positive real scales the largest. -/
theorem top_mul {ι : Type} [Fintype ι] [Nonempty ι] (s : ι → EReal) (c : ℝ) (hc : 0 < c) :
    top (fun i => s i * (c : EReal)) = top s * (c : EReal) := by
  have mono : ∀ x y : EReal, x ≤ y → x * (c : EReal) ≤ y * (c : EReal) := fun x y h =>
    mul_le_mul_of_nonneg_right h (by exact_mod_cast hc.le)
  apply le_antisymm
  · rw [top_eq_sup]; exact Finset.sup_le fun i _ => mono _ _ (le_top s i)
  · obtain ⟨i, hi⟩ := top_mem s
    rw [hi]
    exact le_top (fun i => s i * (c : EReal)) i

/-- A power of two of a scaled difference is the exponential of the difference. -/
theorem exp2_scaled (x : EReal) (hx : x ≠ ⊤) (M : ℝ) :
    Ideal.exp2 (x * (((Real.log 2)⁻¹ : ℝ) : EReal) - (M : EReal) * (((Real.log 2)⁻¹ : ℝ) : EReal)) = Ideal.exp (x - (M : EReal)) := by
  have h2 : 0 < (Real.log 2)⁻¹ := inv_pos.2 (Real.log_pos one_lt_two)
  induction x using EReal.rec with
  | bot =>
    rw [EReal.bot_mul_coe_of_pos h2, ← EReal.coe_mul, EReal.bot_sub, EReal.bot_sub]
    rfl
  | top => exact absurd rfl hx
  | coe r =>
    rw [← EReal.coe_mul, ← EReal.coe_mul, ← EReal.coe_sub, ← EReal.coe_sub]
    show ((Real.rpow 2 _ : ℝ) : EReal) = ((Real.exp _ : ℝ) : EReal)
    congr 1
    rw [Real.rpow_eq_pow, Real.rpow_def_of_pos two_pos]
    congr 1
    have : Real.log 2 ≠ 0 := (Real.log_pos one_lt_two).ne'
    field_simp

/-- The weight of a score below the largest is a nonnegative real. -/
theorem weight_real (x : EReal) (hx : x ≠ ⊤) (M : ℝ) : ∃ w : ℝ, 0 ≤ w ∧ Ideal.exp (x - (M : EReal)) = w := by
  induction x using EReal.rec with
  | bot => exact ⟨0, le_rfl, by rw [EReal.bot_sub]; rfl⟩
  | top => exact absurd rfl hx
  | coe r => exact ⟨Real.exp (r - M), (Real.exp_pos _).le, by rw [← EReal.coe_sub]; rfl⟩

/-- A finite sum of reals, read in the extended reals. -/
theorem coe_sum {ι : Type} [Fintype ι] (w : ι → ℝ) : ((∑ i, w i : ℝ) : EReal) = ∑ i, (w i : EReal) :=
  map_sum (⟨⟨Real.toEReal, rfl⟩, EReal.coe_add⟩ : ℝ →+ EReal) w Finset.univ

/-- Dividing by a nonzero real is multiplying by its inverse. -/
theorem div_real (x : EReal) (D : ℝ) (hD : D ≠ 0) : Ideal.div x (D : EReal) = x * ((D⁻¹ : ℝ) : EReal) := by
  unfold Ideal.div
  rw [if_neg (by exact_mod_cast hD), EReal.coe_inv]

/-- A sum times a nonnegative real, term by term. -/
theorem sum_mul_real {ι : Type} [Fintype ι] (f : ι → EReal) (c : ℝ) (hc : 0 ≤ c) :
    (∑ i, f i) * (c : EReal) = ∑ i, f i * (c : EReal) := by
  classical
  have h : ∀ t : Finset ι, (∑ i ∈ t, f i) * (c : EReal) = ∑ i ∈ t, f i * (c : EReal) := by
    intro t
    induction t using Finset.induction_on with
    | empty => simp
    | insert a t ha ih =>
      rw [Finset.sum_insert ha, Finset.sum_insert ha, ← ih,
        EReal.right_distrib_of_nonneg_of_ne_top (by exact_mod_cast hc) (EReal.coe_ne_top c)]
  exact h Finset.univ

/-- One division after the sum is the division of every weight, for weights that are nonnegative reals with a positive
    real denominator: whatever the values are. -/
theorem div_sum {ι : Type} [Fintype ι] (w v : ι → EReal) (hw : ∀ i, ∃ a : ℝ, 0 ≤ a ∧ w i = a) (D : ℝ) (hD : 0 < D) :
    Ideal.div (∑ i, w i * v i) (D : EReal) = ∑ i, v i * Ideal.div (w i) (D : EReal) := by
  rw [div_real _ D hD.ne', sum_mul_real _ _ (inv_nonneg.2 hD.le)]
  refine Finset.sum_congr rfl fun i _ => ?_
  rw [div_real _ D hD.ne', mul_comm (w i) (v i), mul_assoc]

/-- The sum of the weights is a positive real: every weight is a nonnegative real and the largest score has weight one. -/
theorem den_real {ι : Type} [Fintype ι] (s : ι → EReal) (hs : ∀ i, s i ≠ ⊤) (i₀ : ι) (h₀ : s i₀ ≠ ⊥) :
    ∃ D : ℝ, 0 < D ∧ ∑ j, Ideal.exp (s j - top s) = D := by
  haveI : Nonempty ι := ⟨i₀⟩
  obtain ⟨M, hM⟩ := top_real s hs i₀ h₀
  choose w hw0 hw using fun i => weight_real (s i) (hs i) M
  refine ⟨∑ i, w i, ?_, ?_⟩
  · obtain ⟨k, hk⟩ := top_mem s
    refine Finset.sum_pos' (fun i _ => hw0 i) ⟨k, Finset.mem_univ _, ?_⟩
    have h1 : Ideal.exp (s k - (M : EReal)) = ((1 : ℝ) : EReal) := by
      rw [← hk, hM, ← EReal.coe_sub, sub_self]
      show ((Real.exp 0 : ℝ) : EReal) = _
      rw [Real.exp_zero]
    have : w k = 1 := by exact_mod_cast (hw k).symm.trans h1
    rw [this]; exact one_pos
  · rw [coe_sum]
    exact Finset.sum_congr rfl fun i _ => by rw [hM]; exact hw i

/-- THE KERNEL'S ROW: powers of two of the scaled scores, summed against the values and against ones, one division. -/
theorem base_two {ι : Type} [Fintype ι] (s v : ι → EReal) (hs : ∀ i, s i ≠ ⊤) (i₀ : ι) (h₀ : s i₀ ≠ ⊥)
    (t : ι → EReal) (ht : ∀ i, t i = s i * (((Real.log 2)⁻¹ : ℝ) : EReal)) :
    Ideal.div (∑ i, Ideal.exp2 (t i - top t) * v i) (∑ i, Ideal.exp2 (t i - top t)) = avg s v := by
  haveI : Nonempty ι := ⟨i₀⟩
  obtain ⟨M, hM⟩ := top_real s hs i₀ h₀
  obtain ⟨D, hD, hDe⟩ := den_real s hs i₀ h₀
  have htt : top t = top s * (((Real.log 2)⁻¹ : ℝ) : EReal) := by
    rw [show t = fun i => s i * (((Real.log 2)⁻¹ : ℝ) : EReal) from funext ht]
    exact top_mul s _ (inv_pos.2 (Real.log_pos one_lt_two))
  have hw : ∀ i, Ideal.exp2 (t i - top t) = Ideal.exp (s i - top s) := fun i => by
    rw [htt, ht i, hM]; exact exp2_scaled (s i) (hs i) M
  simp only [hw]
  unfold avg
  rw [hDe]
  exact div_sum _ v (fun i => by rw [hM]; exact weight_real (s i) (hs i) M) D hD

/-- The kernel's row over two blocks of keys: scaled scores `tc`, `tl`, values `vc`, `vl` and what the two value blocks
    hold in the column of ones, `oc`, `ol`. -/
def row {α β : Type} [Fintype α] [Fintype β] (tc vc oc : α → EReal) (tl vl ol : β → EReal) : EReal :=
  Ideal.div
    (∑ x, Ideal.exp2 (tc x - max (top tc) (top tl)) * vc x + ∑ x, Ideal.exp2 (tl x - max (top tc) (top tl)) * vl x)
    (∑ x, Ideal.exp2 (tc x - max (top tc) (top tl)) * oc x + ∑ x, Ideal.exp2 (tl x - max (top tc) (top tl)) * ol x)

theorem row_congr {n₁ n₂ : ℕ} {tc tc' vc vc' oc oc' : Fin n₁ → EReal} {tl tl' vl vl' ol ol' : Fin n₂ → EReal} (h₁ : tc = tc') (h₂ : vc = vc')
    (h₃ : oc = oc') (h₄ : tl = tl') (h₅ : vl = vl') (h₆ : ol = ol') : row tc vc oc tl vl ol = row tc' vc' oc' tl' vl' ol' := by
  rw [h₁, h₂, h₃, h₄, h₅, h₆]

/-- With ones in the column of ones the kernel's row is the softmax average over the two blocks together. -/
theorem row_eq {α β : Type} [Fintype α] [Fintype β] (sc vc tc oc : α → EReal) (sl vl tl ol : β → EReal)
    (hc : ∀ i, sc i ≠ ⊤) (hl : ∀ i, sl i ≠ ⊤) (i₀ : α) (h₀ : sc i₀ ≠ ⊥)
    (htc : ∀ i, tc i = sc i * (((Real.log 2)⁻¹ : ℝ) : EReal)) (htl : ∀ i, tl i = sl i * (((Real.log 2)⁻¹ : ℝ) : EReal))
    (hoc : ∀ i, oc i = 1) (hol : ∀ i, ol i = 1) :
    row tc vc oc tl vl ol = avg (Sum.elim sc sl) (Sum.elim vc vl) := by
  rw [← base_two (Sum.elim sc sl) (Sum.elim vc vl) (by rintro (i | i); exacts [hc i, hl i]) (Sum.inl i₀) h₀ (Sum.elim tc tl)
    (by rintro (i | i); exacts [htc i, htl i])]
  unfold row
  rw [top_sum]
  simp only [Fintype.sum_sum_type, Sum.elim_inl, Sum.elim_inr, hoc, hol, mul_one]

/-- A sum over a pair of blocks laid end to end, block by block. -/
theorem avg_split {n₁ n₂ : ℕ} (s v : Fin (n₁ + n₂) → EReal) :
    avg s v = avg (Sum.elim (fun i => s (Fin.castAdd n₂ i)) (fun j => s (Fin.natAdd n₁ j)))
      (Sum.elim (fun i => v (Fin.castAdd n₂ i)) (fun j => v (Fin.natAdd n₁ j))) := by
  have hs : Sum.elim (fun i => s (Fin.castAdd n₂ i)) (fun j => s (Fin.natAdd n₁ j)) = fun a => s (finSumFinEquiv a) := by
    funext a; rcases a with a | a <;> rfl
  have hv : Sum.elim (fun i => v (Fin.castAdd n₂ i)) (fun j => v (Fin.natAdd n₁ j)) = fun a => v (finSumFinEquiv a) := by
    funext a; rcases a with a | a <;> rfl
  unfold avg
  rw [hs, hv, top_equiv finSumFinEquiv s]
  rw [Equiv.sum_comp finSumFinEquiv (fun j => Ideal.exp (s j - top s))]
  exact (Equiv.sum_comp finSumFinEquiv (fun i => v i * Ideal.div (Ideal.exp (s i - top s)) (∑ j, Ideal.exp (s j - top s)))).symm

/-- The scale that the kernel puts on the queries: one eighth, and the change of base. -/
abbrev qs : EReal := (((1 / 8) * (Real.log 2)⁻¹ : ℝ) : EReal)

/-- A query row's product with a key row, as the reference scales it. -/
def score {n : ℕ} (q k : Fin n → EReal) : EReal := (∑ x, k x * q x) * ((1 / 8 : ℝ) : EReal)

/-- With finite queries and keys a score is a real number. -/
theorem score_real {n : ℕ} (q k : Fin n → EReal) (hq : ∀ x, ∃ a : ℝ, q x = a) (hk : ∀ x, ∃ a : ℝ, k x = a) :
    ∃ a : ℝ, score q k = a := by
  choose q' hq using hq
  choose k' hk using hk
  refine ⟨(∑ x, k' x * q' x) * (1 / 8), ?_⟩
  unfold score
  simp only [hq, hk]
  rw [EReal.coe_mul, coe_sum]
  simp only [EReal.coe_mul]

/-- The kernel's product of the scaled query row with a key row is the score in the other base. -/
theorem score_base_two {n : ℕ} (q k : Fin n → EReal) (hq : ∀ x, ∃ a : ℝ, q x = a) (hk : ∀ x, ∃ a : ℝ, k x = a) :
    ∑ x, q x * qs * k x = score q k * (((Real.log 2)⁻¹ : ℝ) : EReal) := by
  choose q' hq using hq
  choose k' hk using hk
  unfold score qs
  simp only [hq, hk, ← EReal.coe_mul, ← coe_sum]
  congr 1
  rw [Finset.sum_mul, Finset.sum_mul]
  exact Finset.sum_congr rfl fun x _ => by ring

/-- The pattern of minus infinity. -/
theorem ofBits_neg_inf : Ideal.ofBits .f32 0xFF800000#32 = ⊥ := by simp [Ideal.ofBits, Ideal.ieee]

/-- The pattern of one eighth. -/
theorem ofBits_eighth : Ideal.ofBits .f32 0x3E000000#32 = ((1 / 8 : ℝ) : EReal) := by
  simp [Ideal.ofBits, Ideal.ieee, -EReal.coe_mul]; norm_num

/-- A maximum over the last of five axes, at any extents. -/
theorem reduce_max5 {n0 n1 n2 n3 n4 : ℕ} (x : FVec Ideal ⟨5, ![n0, n1, n2, n3, n4]⟩ .f32)
    (h' : (⟨5, ![n0, n1, n2, n3, n4]⟩ : Shape).ReducesTo [4] (⟨4, ![n0, n1, n2, n3]⟩ : Shape))
    (h : (⟨5, ![n0, n1, n2, n3, n4]⟩ : Shape).Reduces [4] (⟨4, ![n0, n1, n2, n3]⟩ : Shape))
    (hu : 0 < (⟨0, ![]⟩ : Shape).numel) (a : Fin n0) (b : Fin n1) (c : Fin n2) (d : Fin n3) :
    Host.reduce FloatOps.maximumf x (constant (⟨0, ![]⟩ : Shape) .f32 0xFF800000#32) h' hu (ix4 a b c d)
      = top fun k => x (ix5 a b c d k) := by
  rw [Host.reduce_eq_fold_single FloatOps.maximumf x _ h' h hu]
  have hf : (x ∘ h.lift (ix4 a b c d)) = fun k : Fin n4 => x (ix5 a b c d k) :=
    funext fun k => congrArg x (funext fun e => Fin.ext (by fin_cases e <;> rfl))
  have e : (constant (F := Ideal) (⟨0, ![]⟩ : Shape) .f32 0xFF800000#32) (Shape.Idx.first hu) = (⊥ : EReal) := ofBits_neg_inf
  rw [e]
  exact congrArg (fun f => Finset.fold max ⊥ f (Finset.univ : Finset (Fin n4))) hf

end Cert.Softmax

end
-- ==== Proof.Head.lean ====
/- One head of the attention kernel, read at an index: hand-written. -/
module

public import proofs.«01_k».proof.Proof.Softmax
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem

namespace Cert.KernelIdeal.Head

open Cert.KernelIdeal Cert.KernelIdeal.Gen Cert.Softmax

/-- One head's result from its loads: the kernel's operations, as the first head has them. -/
def head (q : Vec Ideal S1x1x1024x64 .f32) (kc : Vec Ideal S1x1x256x64 .bf16) (kl : Vec Ideal S1x1x2048x64 .bf16)
    (vc : Vec Ideal S1x1x256x128 .bf16) (vl : Vec Ideal S1x1x2048x128 .bf16) : FVec Ideal S1024x64 .f32 :=
  k0_pay3 (k0_pay2 q kc kl vc vl)

/-- The body's block is the eight heads side by side. -/
theorem out_eq (x0 : Vec Ideal S1x8x1024x64 .f32) (x1 : Vec Ideal S1x2x2048x64 .bf16) (x2 : Vec Ideal S1x2x2048x128 .bf16)
    (x3 : Vec Ideal S1x2x256x64 .bf16) (x4 : Vec Ideal S1x2x256x128 .bf16) :
    out0_5 x0 x1 x2 x3 x4 = View.canon [⟨r0_16, shapeCast S1x1024x512 (truncf .bf16 (concatenate S1024x512 1
      [⟨S1024x64, head (View.ld x0 r0_0) (View.ld x3 r0_1) (View.ld x1 r0_2) (View.ld x4 r0_3) (View.ld x2 r0_4)⟩,
       ⟨S1024x64, head (View.ld x0 r0_5) (View.ld x3 r0_1) (View.ld x1 r0_2) (View.ld x4 r0_3) (View.ld x2 r0_4)⟩,
       ⟨S1024x64, head (View.ld x0 r0_6) (View.ld x3 r0_1) (View.ld x1 r0_2) (View.ld x4 r0_3) (View.ld x2 r0_4)⟩,
       ⟨S1024x64, head (View.ld x0 r0_7) (View.ld x3 r0_1) (View.ld x1 r0_2) (View.ld x4 r0_3) (View.ld x2 r0_4)⟩,
       ⟨S1024x64, head (View.ld x0 r0_8) (View.ld x3 r0_9) (View.ld x1 r0_10) (View.ld x4 r0_11) (View.ld x2 r0_12)⟩,
       ⟨S1024x64, head (View.ld x0 r0_13) (View.ld x3 r0_9) (View.ld x1 r0_10) (View.ld x4 r0_11) (View.ld x2 r0_12)⟩,
       ⟨S1024x64, head (View.ld x0 r0_14) (View.ld x3 r0_9) (View.ld x1 r0_10) (View.ld x4 r0_11) (View.ld x2 r0_12)⟩,
       ⟨S1024x64, head (View.ld x0 r0_15) (View.ld x3 r0_9) (View.ld x1 r0_10) (View.ld x4 r0_11) (View.ld x2 r0_12)⟩]
      concatenates_S1024x64_S1024x64_S1024x64_S1024x64_S1024x64_S1024x64_S1024x64_S1024x64_S1024x512_d1) bitsLt_bf16_f32)
      shapeCasts_S1024x512_S1x1024x512⟩] := by
  unfold out0_5 head
  rfl

theorem scale_eq : Named.named (F := Ideal) κ "qscale" (φ := .f32) 0x3E38AA3B#32 = qs := rfl

/-- One head at row `r`, lane `d`. -/
theorem head_apply (q : Vec Ideal S1x1x1024x64 .f32) (kc : Vec Ideal S1x1x256x64 .bf16) (kl : Vec Ideal S1x1x2048x64 .bf16)
    (vc : Vec Ideal S1x1x256x128 .bf16) (vl : Vec Ideal S1x1x2048x128 .bf16) (r : Fin 1024) (d : Fin 64) :
    head q kc kl vc vl (ix2 r d)
      = row (fun i : Fin 256 => ∑ x : Fin 64, q (ix4 0 0 r x) * qs * kc (ix4 0 0 i x)) (fun i => vc (ix4 0 0 i ⟨d.val, by omega⟩)) (fun i => vc (ix4 0 0 i 64))
          (fun i : Fin 2048 => ∑ x : Fin 64, q (ix4 0 0 r x) * qs * kl (ix4 0 0 i x)) (fun i => vl (ix4 0 0 i ⟨d.val, by omega⟩)) (fun i => vl (ix4 0 0 i 64)) := by
  pointwise [head, k0_pay3, k0_pay2]
  rw [ofBits_neg_inf]
  rfl

/-- The row that the body computes for head `h` over key head `g`, at row `r` and lane `d`. -/
def blockRow (x0 : Vec Ideal S1x8x1024x64 .f32) (x1 : Vec Ideal S1x2x2048x64 .bf16) (x2 : Vec Ideal S1x2x2048x128 .bf16)
    (x3 : Vec Ideal S1x2x256x64 .bf16) (x4 : Vec Ideal S1x2x256x128 .bf16) (r : Fin 1024) (h : Fin 8) (g : Fin 2) (d : Fin 64) : EReal :=
  row (fun i : Fin 256 => ∑ x : Fin 64, x0 (ix4 0 h r x) * qs * x3 (ix4 0 g i x)) (fun i => x4 (ix4 0 g i ⟨d.val, by omega⟩)) (fun i => x4 (ix4 0 g i 64))
    (fun i : Fin 2048 => ∑ x : Fin 64, x0 (ix4 0 h r x) * qs * x1 (ix4 0 g i x)) (fun i => x2 (ix4 0 g i ⟨d.val, by omega⟩)) (fun i => x2 (ix4 0 g i 64))

/-- A column is its head and its lane. -/
theorem pick (f : Fin 8 → Fin 2 → Fin 64 → EReal) (y : Fin 512) (h : Fin 8) (g : Fin 2) (d : Fin 64) (hy : y.val = h.val * 64 + d.val)
    (hg : g.val = h.val / 4) : f h g d = f ⟨y.val / 64, by omega⟩ ⟨y.val / 256, by omega⟩ ⟨y.val % 64, by omega⟩ := by
  have e1 : h = ⟨y.val / 64, by omega⟩ := Fin.ext (by simp only; omega)
  have e2 : g = ⟨y.val / 256, by omega⟩ := Fin.ext (by simp only; omega)
  have e3 : d = ⟨y.val % 64, by omega⟩ := Fin.ext (by simp only; omega)
  rw [← e1, ← e2, ← e3]

/-- THE BODY'S BLOCK AT AN INDEX: column `y` is head `y / 64`, lane `y % 64`, over key head `y / 256`. -/
theorem out_apply (x0 : Vec Ideal S1x8x1024x64 .f32) (x1 : Vec Ideal S1x2x2048x64 .bf16) (x2 : Vec Ideal S1x2x2048x128 .bf16)
    (x3 : Vec Ideal S1x2x256x64 .bf16) (x4 : Vec Ideal S1x2x256x128 .bf16) (r : Fin 1024) (y : Fin 512) :
    out0_5 x0 x1 x2 x3 x4 (ix3 0 r y)
      = blockRow x0 x1 x2 x3 x4 r ⟨y.val / 64, by omega⟩ ⟨y.val / 256, by omega⟩ ⟨y.val % 64, by omega⟩ := by
  rw [out_eq]
  frame_out
  pointwise [head_apply]
  by_cases h0 : y.val < 64
  · rw [dif_pos h0]
    exact (pick (blockRow x0 x1 x2 x3 x4 r) y 0 0 ⟨y.val, h0⟩ (by simp only [Fin.isValue, Fin.reduceFinMk, Fin.coe_ofNat_eq_mod]; omega) rfl)
  rw [dif_neg h0]
  by_cases h1 : y.val - 64 < 64
  · rw [dif_pos h1]
    exact (pick (blockRow x0 x1 x2 x3 x4 r) y 1 0 ⟨y.val - 64, h1⟩ (by simp only [Fin.isValue, Fin.reduceFinMk, Fin.coe_ofNat_eq_mod]; omega) rfl)
  rw [dif_neg h1]
  by_cases h2 : y.val - 64 - 64 < 64
  · rw [dif_pos h2]
    exact (pick (blockRow x0 x1 x2 x3 x4 r) y 2 0 ⟨y.val - 64 - 64, h2⟩ (by simp only [Fin.isValue, Fin.reduceFinMk, Fin.coe_ofNat_eq_mod]; omega) rfl)
  rw [dif_neg h2]
  by_cases h3 : y.val - 64 - 64 - 64 < 64
  · rw [dif_pos h3]
    exact (pick (blockRow x0 x1 x2 x3 x4 r) y 3 0 ⟨y.val - 64 - 64 - 64, h3⟩ (by simp only [Fin.isValue, Fin.reduceFinMk, Fin.coe_ofNat_eq_mod]; omega) rfl)
  rw [dif_neg h3]
  by_cases h4 : y.val - 64 - 64 - 64 - 64 < 64
  · rw [dif_pos h4]
    exact (pick (blockRow x0 x1 x2 x3 x4 r) y 4 1 ⟨y.val - 64 - 64 - 64 - 64, h4⟩ (by simp only [Fin.isValue, Fin.reduceFinMk, Fin.coe_ofNat_eq_mod]; omega) rfl)
  rw [dif_neg h4]
  by_cases h5 : y.val - 64 - 64 - 64 - 64 - 64 < 64
  · rw [dif_pos h5]
    exact (pick (blockRow x0 x1 x2 x3 x4 r) y 5 1 ⟨y.val - 64 - 64 - 64 - 64 - 64, h5⟩ (by simp only [Fin.isValue, Fin.reduceFinMk, Fin.coe_ofNat_eq_mod]; omega) rfl)
  rw [dif_neg h5]
  by_cases h6 : y.val - 64 - 64 - 64 - 64 - 64 - 64 < 64
  · rw [dif_pos h6]
    exact (pick (blockRow x0 x1 x2 x3 x4 r) y 6 1 ⟨y.val - 64 - 64 - 64 - 64 - 64 - 64, h6⟩ (by simp only [Fin.isValue, Fin.reduceFinMk, Fin.coe_ofNat_eq_mod]; omega) rfl)
  rw [dif_neg h6]
  exact (pick (blockRow x0 x1 x2 x3 x4 r) y 7 1 ⟨y.val - 64 - 64 - 64 - 64 - 64 - 64 - 64, by omega⟩ (by simp only [Fin.isValue, Fin.reduceFinMk, Fin.coe_ofNat_eq_mod]; omega) rfl)

end Cert.KernelIdeal.Head

end
-- ==== Proof.Array.lean ====
/- The call's arrays: what the host prepares for each window, where a grid point's blocks sit, and the result array. -/
module

public import proofs.«01_k».proof.Proof.Head
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Softmax

namespace Cert.KernelIdeal.Head
open Cert.KernelIdeal Cert.KernelIdeal.Gen
variable (m : (ℓ : Loc nD τ sig) → Buf (Elt Ideal) ℓ)

theorem idx : ∀ t : Fin cfg0.N, win0_0.index t = ![t.val / 2, 0, t.val % 2, 0] ∧ win0_1.index t = ![t.val / 2, 0, 0, 0]
    ∧ win0_2.index t = ![t.val / 2, 0, 0, 0] ∧ win0_3.index t = ![t.val / 2, 0, 0, 0] ∧ win0_4.index t = ![t.val / 2, 0, 0, 0]
    ∧ win0_5.index t = ![t.val / 2, t.val % 2, 0] ∧ t.val / 2 < 16 :=
  (by decide +kernel : ∀ t : Fin grid0.N, _)

theorem one_int : (FloatOps.sitofp (F := Ideal) .f32 1#32 : EReal) = 1 := by
  show (((1#32 : BitVec 32).toInt : ℝ) : EReal) = 1
  simp

/-- The queries' window's array: the queries, heads before rows. -/
theorem entry_q (c : Dev nD) (b : Fin 16) (h : Fin 8) (s : Fin 2048) (x : Fin 64) :
    (V m c main_v0 : FVec Ideal S16x8x2048x64 .f32) (ix4 b h s x) = (m ((c : Thread nD τ).loc main_arg0) : FVec Ideal S16x2048x8x64 .f32) (ix4 b s h x) := by
  entry_read
  pointwise

/-- The context keys, heads before rows. -/
theorem entry_kc (c : Dev nD) (b : Fin 16) (g : Fin 2) (i : Fin 256) (x : Fin 64) :
    (V m c main_v2 : FVec Ideal S16x2x256x64 .bf16) (ix4 b g i x) = (m ((c : Thread nD τ).loc main_arg3) : FVec Ideal S16x256x2x64 .f32) (ix4 b i g x) := by
  entry_read
  pointwise

/-- The latent keys, heads before rows. -/
theorem entry_kl (c : Dev nD) (b : Fin 16) (g : Fin 2) (i : Fin 2048) (x : Fin 64) :
    (V m c main_v12 : FVec Ideal S16x2x2048x64 .bf16) (ix4 b g i x) = (m ((c : Thread nD τ).loc main_arg1) : FVec Ideal S16x2048x2x64 .f32) (ix4 b i g x) := by
  entry_read
  pointwise

/-- The context values, heads before rows, in the first 64 lanes. -/
theorem entry_vc (c : Dev nD) (b : Fin 16) (g : Fin 2) (i : Fin 256) (d : Fin 64) :
    (V m c main_v10 : FVec Ideal S16x2x256x128 .bf16) (ix4 b g i ⟨d.val, by omega⟩) = (m ((c : Thread nD τ).loc main_arg4) : FVec Ideal S16x256x2x64 .f32) (ix4 b i g d) := by
  entry_read
  pointwise

/-- Lane 64 of the context values' array is one. -/
theorem entry_vc_one (c : Dev nD) (b : Fin 16) (g : Fin 2) (i : Fin 256) :
    (V m c main_v10 : FVec Ideal S16x2x256x128 .bf16) (ix4 b g i 64) = (1 : EReal) := by
  entry_read
  pointwise
  exact one_int

/-- The latent values, heads before rows, in the first 64 lanes. -/
theorem entry_vl (c : Dev nD) (b : Fin 16) (g : Fin 2) (i : Fin 2048) (d : Fin 64) :
    (V m c main_v20 : FVec Ideal S16x2x2048x128 .bf16) (ix4 b g i ⟨d.val, by omega⟩) = (m ((c : Thread nD τ).loc main_arg2) : FVec Ideal S16x2048x2x64 .f32) (ix4 b i g d) := by
  entry_read
  pointwise

/-- Lane 64 of the latent values' array is one. -/
theorem entry_vl_one (c : Dev nD) (b : Fin 16) (g : Fin 2) (i : Fin 2048) :
    (V m c main_v20 : FVec Ideal S16x2x2048x128 .bf16) (ix4 b g i 64) = (1 : EReal) := by
  entry_read
  pointwise
  exact one_int

theorem block_q (c : Dev nD) (t : Fin cfg0.N) (h : Fin 8) (r : Fin 1024) (x : Fin 64) : iblk m c 0 t (ix4 0 h r x)
    = (V m c main_v0 : FVec Ideal S16x8x2048x64 .f32) (ix4 ⟨t.val / 2, (idx t).2.2.2.2.2.2⟩ h ⟨t.val % 2 * 1024 + r.val, by omega⟩ x) := by
  blk_ext [iblk, idx t]

theorem block_kl (c : Dev nD) (t : Fin cfg0.N) (g : Fin 2) (i : Fin 2048) (x : Fin 64) : iblk m c 1 t (ix4 0 g i x)
    = (V m c main_v12 : FVec Ideal S16x2x2048x64 .bf16) (ix4 ⟨t.val / 2, (idx t).2.2.2.2.2.2⟩ g i x) := by
  blk_ext [iblk, idx t]

theorem block_vl (c : Dev nD) (t : Fin cfg0.N) (g : Fin 2) (i : Fin 2048) (x : Fin 128) : iblk m c 2 t (ix4 0 g i x)
    = (V m c main_v20 : FVec Ideal S16x2x2048x128 .bf16) (ix4 ⟨t.val / 2, (idx t).2.2.2.2.2.2⟩ g i x) := by
  blk_ext [iblk, idx t]

theorem block_kc (c : Dev nD) (t : Fin cfg0.N) (g : Fin 2) (i : Fin 256) (x : Fin 64) : iblk m c 3 t (ix4 0 g i x)
    = (V m c main_v2 : FVec Ideal S16x2x256x64 .bf16) (ix4 ⟨t.val / 2, (idx t).2.2.2.2.2.2⟩ g i x) := by
  blk_ext [iblk, idx t]

theorem block_vc (c : Dev nD) (t : Fin cfg0.N) (g : Fin 2) (i : Fin 256) (x : Fin 128) : iblk m c 4 t (ix4 0 g i x)
    = (V m c main_v10 : FVec Ideal S16x2x256x128 .bf16) (ix4 ⟨t.val / 2, (idx t).2.2.2.2.2.2⟩ g i x) := by
  blk_ext [iblk, idx t]

/-- The result's row at batch `b`, row `s`, head `h` over key head `g`, lane `d`, from the arguments. -/
def arrayRow (Q : FVec Ideal S16x2048x8x64 .f32) (K W : FVec Ideal S16x2048x2x64 .f32) (KC VC : FVec Ideal S16x256x2x64 .f32)
    (b : Fin 16) (s : Fin 2048) (h : Fin 8) (g : Fin 2) (d : Fin 64) : EReal :=
  row (fun i : Fin 256 => ∑ x : Fin 64, Q (ix4 b s h x) * qs * KC (ix4 b i g x)) (fun i => VC (ix4 b i g d)) (fun _ => 1)
    (fun i : Fin 2048 => ∑ x : Fin 64, Q (ix4 b s h x) * qs * K (ix4 b i g x)) (fun i => W (ix4 b i g d)) (fun _ => 1)

/-- A grid point's row is the arguments' row at the place of its block. -/
theorem row_point (c : Dev nD) (t : Fin cfg0.N) (r : Fin 1024) (h : Fin 8) (g : Fin 2) (d : Fin 64) :
    blockRow (iblk m c 0 t) (iblk m c 1 t) (iblk m c 2 t) (iblk m c 3 t) (iblk m c 4 t) r h g d
      = arrayRow (m ((c : Thread nD τ).loc main_arg0)) (m ((c : Thread nD τ).loc main_arg1)) (m ((c : Thread nD τ).loc main_arg2))
          (m ((c : Thread nD τ).loc main_arg3)) (m ((c : Thread nD τ).loc main_arg4)) ⟨t.val / 2, (idx t).2.2.2.2.2.2⟩ ⟨t.val % 2 * 1024 + r.val, by omega⟩ h g d := by
  unfold blockRow arrayRow
  simp only [block_q, block_kl, block_vl, block_kc, block_vc]
  exact row_congr (funext fun i => Finset.sum_congr rfl fun x _ => congrArg₂ (· * ·) (congrArg (· * qs) (entry_q m c _ _ _ _)) (entry_kc m c _ _ _ _))
    (funext fun i => entry_vc m c _ _ _ _) (funext fun i => entry_vc_one m c _ _ _)
    (funext fun i => Finset.sum_congr rfl fun x _ => congrArg₂ (· * ·) (congrArg (· * qs) (entry_q m c _ _ _ _)) (entry_kl m c _ _ _ _))
    (funext fun i => entry_vl m c _ _ _ _) (funext fun i => entry_vl_one m c _ _ _)

/-- A row depends on its coordinates' numbers alone. -/
theorem arrayRow_congr (Q : FVec Ideal S16x2048x8x64 .f32) (K W : FVec Ideal S16x2048x2x64 .f32) (KC VC : FVec Ideal S16x256x2x64 .f32)
    {b b' : Fin 16} {s s' : Fin 2048} {h h' : Fin 8} {g g' : Fin 2} {d d' : Fin 64} (hb : b.val = b'.val) (hs : s.val = s'.val)
    (hh : h.val = h'.val) (hg : g.val = g'.val) (hd : d.val = d'.val) :
    arrayRow Q K W KC VC b s h g d = arrayRow Q K W KC VC b' s' h' g' d' := by
  rw [Fin.ext hb, Fin.ext hs, Fin.ext hh, Fin.ext hg, Fin.ext hd]

/-- The result array over the arguments. -/
def arrayOut (Q : FVec Ideal S16x2048x8x64 .f32) (K W : FVec Ideal S16x2048x2x64 .f32) (KC VC : FVec Ideal S16x256x2x64 .f32) :
    FVec Ideal S16x2048x512 .bf16 := fun i =>
  arrayRow Q K W KC VC (i 0) (i 1) ⟨(i 2).val / 64, Nat.div_lt_of_lt_mul (i 2).isLt⟩ ⟨(i 2).val / 256, Nat.div_lt_of_lt_mul (i 2).isLt⟩
    ⟨(i 2).val % 64, Nat.mod_lt _ (by decide)⟩

/-- THE RESULT ARRAY AFTER THE RUN. -/
theorem final (c : Dev nD) : (dats m 0 c).arrAt 5 cfg0.N
    = arrayOut (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp
  rw [after0_5]
  have hy : (y : S1x1024x512.Idx) = ix3 0 (y 1) (y 2) := by
    funext a; fin_cases a
    · exact Fin.ext (Nat.lt_one_iff.mp (y 0).isLt)
    · rfl
    · rfl
  rw [hy]
  refine (out_apply _ _ _ _ _ _ _).trans ((row_point m c t _ _ _ _).trans ?_)
  have e0 : ((((cfg0.win 5).blk t).view.emb y) 0 : ℕ) = t.val / 2 := by blk_simp [idx t]
  have e1 : ((((cfg0.win 5).blk t).view.emb y) 1 : ℕ) = t.val % 2 * 1024 + (y 1).val := by blk_simp [idx t]
  have e2 : ((((cfg0.win 5).blk t).view.emb y) 2 : ℕ) = (y 2).val := by blk_simp [idx t]
  rw [← hy]
  refine arrayRow_congr _ _ _ _ _ e0.symm e1.symm ?_ ?_ ?_
  · exact congrArg (· / 64) e2.symm
  · exact congrArg (· / 256) e2.symm
  · exact congrArg (· % 64) e2.symm

end Cert.KernelIdeal.Head

end
-- ==== Proof.Ref.lean ====
/- The attention reference, read at an index: hand-written. -/
module

public import proofs.«01_k».proof.Proof.Softmax
public import proofs.«01_k».proof.Proof.Gen.ReferenceIdeal.Run
public import Idealize.ShloMosaic.Lib.Pipeline.ValueKit

@[expose] public section

set_option maxRecDepth 16384

noncomputable section

open Idealize.ShloMosaic Idealize.ShloMosaic.TcCoe Idealize.SL.Sem

namespace Cert.ReferenceIdeal.Read

open Cert.ReferenceIdeal Cert.ReferenceIdeal.Gen Cert.Softmax

/-- The context's rows, then the latents'. -/
def joined (C : FVec Ideal S16x256x2x64 .f32) (L : FVec Ideal S16x2048x2x64 .f32) : FVec Ideal S16x2304x2x64 .f32 :=
  concatenate S16x2304x2x64 1 [⟨S16x256x2x64, C⟩, ⟨S16x2048x2x64, L⟩] concatenates_S16x256x2x64_S16x2048x2x64_S16x2304x2x64_d1

/-- The scaled scores. -/
def scores (Q : FVec Ideal S16x2048x8x64 .f32) (K : FVec Ideal S16x2304x2x64 .f32) : FVec Ideal S16x2x4x2048x2304 .f32 :=
  mulf (transpose S16x2x4x2048x2304 [0, 1, 4, 3, 2] (Host.dotGeneral dot_S16x2304x2x64_S16x2048x2x4x64_S16x2x2304x2048x4_3_4_1_13_02_02 none K
    (shapeCast S16x2048x2x4x64 Q shapeCasts_S16x2048x8x64_S16x2048x2x4x64)) transposes_S16x2x2304x2048x4_S16x2x4x2048x2304_0_1_4_3_2)
    (broadcastInDim S16x2x4x2048x2304 ![] bcast_S_S16x2x4x2048x2304 (constant S_ .f32 0x3E000000#32))

/-- The largest score of each row. -/
def largest (S : FVec Ideal S16x2x4x2048x2304 .f32) : FVec Ideal S16x2x4x2048 .f32 :=
  maximumf (broadcastInDim S16x2x4x2048 ![] bcast_S_S16x2x4x2048 (constant S_ .f32 0xFF800000#32))
    (Host.reduce FloatOps.maximumf S (constant S_ .f32 0xFF800000#32) reducesTo_S16x2x4x2048x2304_S16x2x4x2048_d4 h_S_)

/-- One number a row, laid along the row. -/
def along (M : FVec Ideal S16x2x4x2048 .f32) : FVec Ideal S16x2x4x2048x2304 .f32 :=
  broadcastInDim S16x2x4x2048x2304 ![0, 1, 2, 3, 4] bcast_S16x2x4x2048x1_S16x2x4x2048x2304_0_1_2_3_4
    (broadcastInDim S16x2x4x2048x1 ![0, 1, 2, 3] bcast_S16x2x4x2048_S16x2x4x2048x1_0_1_2_3 M)

/-- The exponentials below the largest score. -/
def expo (S : FVec Ideal S16x2x4x2048x2304 .f32) : FVec Ideal S16x2x4x2048x2304 .f32 :=
  Host.exp (subf S (along (largest S)))

/-- The softmax's weights. -/
def weights (S : FVec Ideal S16x2x4x2048x2304 .f32) : FVec Ideal S16x2x4x2048x2304 .f32 :=
  Host.divf (expo S) (along (Host.reduceAdd (expo S) (constant S_ .f32 0x00000000#32) reducesTo_S16x2x4x2048x2304_S16x2x4x2048_d4 h_S_))

/-- The weighted values, heads side by side. -/
def mixed (V : FVec Ideal S16x2304x2x64 .f32) (W : FVec Ideal S16x2x4x2048x2304 .f32) : FVec Ideal S16x2048x512 .bf16 :=
  truncf .bf16 (shapeCast S16x2048x512 (transpose S16x2048x2x4x64 [0, 4, 1, 3, 2]
    (Host.dotGeneral dot_S16x2304x2x64_S16x2x4x2048x2304_S16x2x64x4x2048_1_4_3_23_02_01 none V W)
    transposes_S16x2x64x4x2048_S16x2048x2x4x64_0_4_1_3_2) shapeCasts_S16x2048x2x4x64_S16x2048x512) bitsLt_bf16_f32

theorem res_eq (m : (ℓ : Loc nD τ sig) → Buf (Elt Ideal) ℓ) (c : Dev nD) :
    Value.res_main_v21 m c = mixed (joined (m ((c.tc : Thread nD τ).loc main_arg4)) (m ((c.tc : Thread nD τ).loc main_arg2)))
      (weights (scores (m ((c.tc : Thread nD τ).loc main_arg0)) (joined (m ((c.tc : Thread nD τ).loc main_arg3)) (m ((c.tc : Thread nD τ).loc main_arg1))))) := by
  unfold Value.res_main_v21 mixed weights expo along largest scores joined
  rfl

theorem scores_apply (Q K) (b : Fin 16) (k : Fin 2) (g : Fin 4) (s : Fin 2048) (i : Fin 2304) :
    scores Q K (ix5 b k g s i) = score (fun x => Q (ix4 b s ⟨k.val * 4 + g.val, by omega⟩ x)) (fun x => K (ix4 b i k x)) := by
  pointwise [scores]
  rw [ofBits_eighth]
  rfl

theorem largest_apply (S) (b : Fin 16) (k : Fin 2) (g : Fin 4) (s : Fin 2048) :
    largest S (ix4 b k g s) = top fun i => S (ix5 b k g s i) := by
  unfold largest
  rw [maximumf_apply, reduce_max5 S _ (by decide)]
  pointwise
  rw [ofBits_neg_inf]
  exact bot_sup_eq _

theorem weights_apply (S) (b : Fin 16) (k : Fin 2) (g : Fin 4) (s : Fin 2048) (i : Fin 2304) :
    weights S (ix5 b k g s i) = Ideal.div (Ideal.exp (S (ix5 b k g s i) - top fun j => S (ix5 b k g s j)))
      (∑ x, Ideal.exp (S (ix5 b k g s x) - top fun j => S (ix5 b k g s j))) := by
  pointwise [weights, expo, along, largest_apply]

theorem mixed_apply (V W) (b : Fin 16) (s : Fin 2048) (y : Fin 512) :
    mixed V W (ix3 b s y) = ∑ x, V (ix4 b x ⟨y.val / 256, by omega⟩ ⟨y.val % 64, by omega⟩)
      * W (ix5 b ⟨y.val / 256, by omega⟩ ⟨y.val / 64 % 4, by omega⟩ s x) := by
  pointwise [mixed]

theorem joined_left (C L) (b : Fin 16) (i : Fin 256) (k : Fin 2) (x : Fin 64) :
    joined C L (ix4 b (Fin.castAdd 2048 i) k x) = C (ix4 b i k x) := by
  pointwise [joined]
  rw [dif_pos (by simp)]
  rfl

theorem joined_right (C L) (b : Fin 16) (i : Fin 2048) (k : Fin 2) (x : Fin 64) :
    joined C L (ix4 b (Fin.natAdd 256 i) k x) = L (ix4 b i k x) := by
  pointwise [joined]
  rw [dif_neg (by simp)]
  congr 1
  simp

/-- THE REFERENCE'S RESULT AT AN INDEX: column `y` is head `y / 64`, lane `y % 64`, and the value the softmax average over
    the context's rows and the latents' of key head `y / 256`. -/
theorem res_apply (Q : FVec Ideal S16x2048x8x64 .f32) (K V : FVec Ideal S16x2048x2x64 .f32) (KC VC : FVec Ideal S16x256x2x64 .f32)
    (b : Fin 16) (s : Fin 2048) (y : Fin 512) :
    mixed (joined VC V) (weights (scores Q (joined KC K))) (ix3 b s y)
      = avg (Sum.elim (fun i : Fin 256 => score (fun x => Q (ix4 b s ⟨y.val / 64, by omega⟩ x)) (fun x => KC (ix4 b i ⟨y.val / 256, by omega⟩ x)))
            (fun i : Fin 2048 => score (fun x => Q (ix4 b s ⟨y.val / 64, by omega⟩ x)) (fun x => K (ix4 b i ⟨y.val / 256, by omega⟩ x))))
          (Sum.elim (fun i : Fin 256 => VC (ix4 b i ⟨y.val / 256, by omega⟩ ⟨y.val % 64, by omega⟩))
            (fun i : Fin 2048 => V (ix4 b i ⟨y.val / 256, by omega⟩ ⟨y.val % 64, by omega⟩))) := by
  have hh : (⟨y.val / 256 * 4 + y.val / 64 % 4, by omega⟩ : Fin 8) = ⟨y.val / 64, by omega⟩ := Fin.ext (by simp only; omega)
  rw [mixed_apply]
  simp only [weights_apply, scores_apply, hh]
  refine Eq.trans (b := avg (fun i : Fin (256 + 2048) => score (fun x => Q (ix4 b s ⟨y.val / 64, by omega⟩ x))
      (fun x => joined KC K (ix4 b i ⟨y.val / 256, by omega⟩ x)))
    (fun i : Fin (256 + 2048) => joined VC V (ix4 b i ⟨y.val / 256, by omega⟩ ⟨y.val % 64, by omega⟩))) rfl ?_
  rw [avg_split]
  simp only [joined_left, joined_right]

end Cert.ReferenceIdeal.Read

end
-- ==== Proof.Meet.lean ====
/- Kernel and reference meet: under finite queries and keys the two result arrays are the same. -/
module

public import proofs.«01_k».proof.Proof.Array
public import proofs.«01_k».proof.Proof.Gen.KernelIdeal.Value
public import proofs.«01_k».proof.Proof.Ref
public import proofs.«01_k».proof.Defs
public import proofs.«01_k».proof.Proof.Gen.Pre_finite_qk

@[expose] public section

set_option maxRecDepth 16384

noncomputable section

open Idealize.ShloMosaic Idealize.ShloMosaic.TcCoe Idealize.SL.Sem
open Cert.Softmax

namespace Cert.Meet

/-- Every entry is a real number. -/
def AllReal {S : Shape} (x : FVec Ideal S .f32) : Prop := ∀ i, ∃ a : ℝ, x i = (a : EReal)

/-- An entry whose absolute value compares below infinity is a real number. -/
theorem real_of_below {S : Shape} (x : FVec Ideal S .f32) (hb : (⟨0, ![]⟩ : Shape).BroadcastsInDim S ![])
    (h : cmpf .olt (Host.absf x) (broadcastInDim S ![] hb (constant (F := Ideal) ⟨0, ![]⟩ .f32 0x7F800000#32)) = fun _ => 1#1) : AllReal x := by
  intro i
  have e : Ideal.cmp .olt (max (x i : EReal) (-(x i : EReal))) (Ideal.ofBits .f32 0x7F800000#32) = 1#1 := congrFun h i
  have htop : Ideal.ofBits .f32 0x7F800000#32 = ⊤ := by simp [Ideal.ofBits, Ideal.ieee]
  rw [htop] at e
  generalize (x i : EReal) = y at e ⊢
  induction y using EReal.rec with
  | bot => simp [Ideal.cmp] at e
  | top => simp [Ideal.cmp] at e
  | coe a => exact ⟨a, rfl⟩

/-- The two result arrays are one. -/
theorem meet (Q : FVec Ideal KernelIdeal.S16x2048x8x64 .f32) (K W : FVec Ideal KernelIdeal.S16x2048x2x64 .f32)
    (KC VC : FVec Ideal KernelIdeal.S16x256x2x64 .f32) (hQ : AllReal Q) (hK : AllReal K) (hKC : AllReal KC) :
    KernelIdeal.Head.arrayOut Q K W KC VC
      = ReferenceIdeal.Read.mixed (ReferenceIdeal.Read.joined VC W) (ReferenceIdeal.Read.weights (ReferenceIdeal.Read.scores Q (ReferenceIdeal.Read.joined KC K))) := by
  funext i
  have hi : i = ix3 (i 0) (i 1) (i 2) := by
    funext a; fin_cases a <;> rfl
  rw [hi]
  refine Eq.trans ?_ (ReferenceIdeal.Read.res_apply Q K W KC VC (i 0) (i 1) (i 2)).symm
  refine row_eq _ _ _ _ _ _ _ _ (fun j => ?_) (fun j => ?_) 0 ?_ (fun j => ?_) (fun j => ?_) (fun _ => rfl) (fun _ => rfl)
  · obtain ⟨a, ha⟩ := score_real _ _ (fun x => hQ _) (fun x => hKC _); rw [ha]; exact EReal.coe_ne_top a
  · obtain ⟨a, ha⟩ := score_real _ _ (fun x => hQ _) (fun x => hK _); rw [ha]; exact EReal.coe_ne_top a
  · obtain ⟨a, ha⟩ := score_real _ _ (fun x => hQ _) (fun x => hKC _); rw [ha]; exact EReal.coe_ne_bot a
  · exact score_base_two _ _ (fun x => hQ _) (fun x => hKC _)
  · exact score_base_two _ _ (fun x => hQ _) (fun x => hK _)

/-- What the precondition says: queries and keys are real numbers. -/
theorem finite_of_pre (m : (ℓ : Loc Cert.KernelIdeal.nD Cert.KernelIdeal.τ Cert.KernelIdeal.sig) → Buf (Elt Ideal) ℓ)
    (h : Pre_KernelIdeal_finite_qk m) (c : Dev Cert.KernelIdeal.nD) :
    AllReal (S := KernelIdeal.S16x2048x8x64) (m ((c.tc : Thread Cert.KernelIdeal.nD Cert.KernelIdeal.τ).loc Cert.KernelIdeal.main_arg0))
    ∧ AllReal (S := KernelIdeal.S16x2048x2x64) (m ((c.tc : Thread Cert.KernelIdeal.nD Cert.KernelIdeal.τ).loc Cert.KernelIdeal.main_arg1))
    ∧ AllReal (S := KernelIdeal.S16x256x2x64) (m ((c.tc : Thread Cert.KernelIdeal.nD Cert.KernelIdeal.τ).loc Cert.KernelIdeal.main_arg3)) :=
  ⟨real_of_below _ _ (h c).1, real_of_below _ _ (h c).2.1, real_of_below _ _ (h c).2.2⟩

/-- The algebraic claim of the attention. -/
theorem algebraic : algebraic_KernelIdeal_ReferenceIdeal_pre_finite_qk := by
  intro m g m' g' hpre hargs
  refine ⟨fun c => (KernelIdeal.Gen.dats m 0 c).arrAt 5 KernelIdeal.cfg0.N, KernelIdeal.Value.run_blocks m g, ?_⟩
  refine (θ_run _ _ _).mono (fun r h c => ⟨(h c).1.trans ?_, (h c).2⟩) (ReferenceIdeal.Value.run m' g')
  obtain ⟨hQ, hK, hKC⟩ := finite_of_pre m hpre c
  obtain ⟨e0, e1, e2, e3, e4⟩ := hargs c
  rw [ReferenceIdeal.Read.res_eq, e0, e1, e2, e3, e4]
  exact ((KernelIdeal.Head.final m c).trans (meet _ _ _ _ _ hQ hK hKC)).symm

end Cert.Meet

end
-- ==== Proof.ExpertsPre.lean ====
/- What the experts' precondition says of the two tables. -/
module

public import proofs.«01_k».proof.Proof.Gen.Pre_tiles_ok
public import Idealize.ShloMosaic.Lib.StableHlo.Predicate
public import Idealize.ShloMosaic.Lib.Pointwise

@[expose] public section

noncomputable section

open Idealize.ShloMosaic Idealize.ShloMosaic.TcCoe Idealize.SL.Sem

namespace Cert.Tables

open Cert.Pre_tiles_ok

/-- A word at least zero and below sixteen, both as signed words, is a number below sixteen. -/
theorem below (a : BitVec 32) (h0 : (0#32).sle a = true) (h1 : a.slt 16#32 = true) : a.toNat < 16 := by
  rw [BitVec.sle, decide_eq_true_eq] at h0
  rw [BitVec.slt, decide_eq_true_eq] at h1
  have e0 : (0#32).toInt = 0 := by decide
  have e1 : (16#32).toInt = 16 := by decide
  rw [e0] at h0
  rw [e1] at h1
  rw [BitVec.toInt_eq_toNat_cond] at h0 h1
  have := a.isLt
  split at h0 <;> omega

/-- The experts' numbers are below sixteen. -/
theorem expert_lt {F : FTy → Type} [FloatOps F] (x : FVec F S81920x1024 .f32) (e n : IVec S80 32) (w1 w3 : FVec F S4x16x1024x512 .f32) (w2 : FVec F S4x16x512x1024 .f32)
    (h : (fn x e n w1 w3 w2).1 = fun _ => 1#1) (i : S80.Idx) : (e i).toNat < 16 := by
  have h := congrFun h i
  have h : IntOp.cmpi .sge (e i) 0#32 &&& IntOp.cmpi .slt (e i) 16#32 = 1#1 := h
  simp only [IntOp.cmpi] at h
  refine below _ ?_ ?_
  · by_contra hh
    rw [Bool.not_eq_true] at hh
    rw [hh] at h
    revert h
    cases (e i).slt 16#32 <;> decide
  · by_contra hh
    rw [Bool.not_eq_true] at hh
    rw [hh] at h
    revert h
    cases (0#32).sle (e i) <;> decide

/-- The tiles' counts of rows are not negative. -/
theorem rows_nonneg {F : FTy → Type} [FloatOps F] (x : FVec F S81920x1024 .f32) (e n : IVec S80 32) (w1 w3 : FVec F S4x16x1024x512 .f32) (w2 : FVec F S4x16x512x1024 .f32)
    (h : (fn x e n w1 w3 w2).2 = fun _ => 1#1) (i : S80.Idx) : 0 ≤ (n i).toInt := by
  have h := congrFun h i
  have h : IntOp.cmpi .sge (n i) 0#32 = 1#1 := h
  simp only [IntOp.cmpi] at h
  by_contra hh
  have : (0#32).sle (n i) = false := by rw [BitVec.sle, decide_eq_false_iff_not]; exact hh
  rw [this] at h
  revert h
  decide

end Cert.Tables

end
-- ==== Proof.ExpertsRuns.lean ====
/- The expert kernel's body at one grid point, as compiled: it runs from any contents of the result's staging buffer and of
   the weight copies. -/
module

public import proofs.«01_k».proof.Proof.ExpertsSetup

@[expose] public section

set_option maxRecDepth 16384

noncomputable section

namespace Cert.Experts.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 3200000 in
/-- At any point, whatever its two conditions are, the body runs and leaves its inputs and the tables as they were. -/
theorem run_any (c : Dev nD) (i : grid0.Coords)
    (a3 : Memref sig .tc .vmem S2048x512 .bf16) (h3 : a3.IsWhole) (a4 : Memref sig .tc .vmem S1x1x1024x512 .f32) (h4 : a4.IsWhole)
    (a5 : Memref sig .tc .vmem S1x1x1024x512 .f32) (h5 : a5.IsWhole) (a6 : Memref sig .tc .vmem S1x1x512x1024 .f32) (h6 : a6.IsWhole)
    (a7 : Memref sig .tc .vmem S2048x512 .bf16) (h7 : a7.IsWhole) (a8 : Memref sig .tc .vmem S1024x512 .bf16) (h8 : a8.IsWhole)
    (a9 : Memref sig .tc .vmem S1024x512 .bf16) (h9 : a9.IsWhole) (a10 : Memref sig .tc .vmem S512x1024 .bf16) (h10 : a10.IsWhole)
    (x0 : Vec F S2048x512 .bf16) (x1 : Vec F S1x1x1024x512 .f32) (x2 : Vec F S1x1x1024x512 .f32) (x3 : Vec F S1x1x512x1024 .f32)
    (e : TabBuf (F := F) c mE) (r : TabBuf (F := F) c mR)
    (hr : ¬ (k0_cond2 (rowsAt c i r) = 1#1 ∧ k0_cond3 (rowsAt c i r) = 1#1)) (E : Set ℕ) (K : PUnit → sProp 𝕄) :
    iprop(owns (c : Thread nD τ) a3 fullShare (x0) ∗ owns (c : Thread nD τ) a4 fullShare (x1) ∗ owns (c : Thread nD τ) a5 fullShare (x2) ∗ owns (c : Thread nD τ) a6 fullShare (x3) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ tabAt c mE e ∗ tabAt c mR r ∗ (iprop(owns (c : Thread nD τ) a3 fullShare (x0) ∗ owns (c : Thread nD τ) a4 fullShare (x1) ∗ owns (c : Thread nD τ) a5 fullShare (x2) ∗ owns (c : Thread nD τ) a6 fullShare (x3) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ tabAt c mE e ∗ tabAt c mR r) -∗ K ⟨⟩))
      ⊢ wp frame (wpE (defs₀ (F := F)) Variants.none c none) E (cc0_moe_experts i mE (Memref.isWhole_whole _) mR (Memref.isWhole_whole _) a3 h3 a4 h4 a5 h5 a6 h6 a7 h7 a8 h8 a9 h9 a10 h10) K := by
  have key : ∀ {p q : Prop}, ¬ (p ∧ q) → (p ∧ ¬ q) ∨ (¬ p ∧ q) ∨ (¬ p ∧ ¬ q) := by tauto
  rcases key hr with ⟨hp, hz⟩ | ⟨hp, hz⟩ | ⟨hp, hz⟩ <;> rcases Classical.em (Copies c i e) with hc | hc
  all_goals
    simp only [cc0_moe_experts_eq_skeleton, k0_part1_eq_skeleton]; unfold cc0_moe_experts_skel
    try unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, HT0, HT1, Hk⟩
    obtain rfl := h3.eq_unread hf0; obtain rfl := h4.eq_unread hf1; obtain rfl := h5.eq_unread hf2; obtain rfl := h6.eq_unread hf3
    sl_exec (disch := first | sl_exact hc | sl_exact hp | sl_exact hz)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _, _; isplitr; swap; · iexact H4
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    iexact HT1

end Cert.Experts.Gen

end
-- ==== Proof.ExpertsFrame.lean ====
/- The expert program as compiled runs, and its argument arrays end unchanged, whenever every tile's expert number is in range.
   What the kernel leaves in its result is not named here. -/
module

public import proofs.«01_k».proof.Proof.ExpertsRuns
public import proofs.«01_k».proof.Proof.ExpertsTables
public import Idealize.ShloMosaic.Lib.Claim

@[expose] public section

set_option maxRecDepth 16384

noncomputable section

namespace Cert.Experts.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The window whose contents are left unnamed: the result. -/
def unnamedWins : Fin 5 → Bool := fun w => w.val == 4

/-- The proof data: each input's buffer keeps its block, the result's holds something, the weight copies hold something. -/
def dats (hO : Ok m) (_ : Fin 1) (c : Dev nD) : Dat τ (Elt F) Unit ℕ (UR sig nD τ) ℕ (cfgM m hO) c where
  A w := entry m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, h⟩ => Pipeline.Dat.unnamed (cfg := (cfgM m hO)) ⟨4, h⟩ t
  Φ _ := iprop(Pipeline.ΦA spec0 c ∗ Pipeline.ΦT pre0 (tbl m) c)
  q _ := fullShare
  owed _ := 0

theorem dats_A (hO : Ok m) (c : Dev nD) (w : Fin (cfgM m hO).W) : (dats m hO 0 c).A w = entry m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl

/-- What the body starts from at point `t`. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st0 m hO t) fullShare ((dats m hO 0 c).before 0 t d))
    ∗ (∃ d, owns (c : Thread nD τ) (st1 m hO t) fullShare ((dats m hO 0 c).before 1 t d))
    ∗ (∃ d, owns (c : Thread nD τ) (st2 m hO t) fullShare ((dats m hO 0 c).before 2 t d))
    ∗ (∃ d, owns (c : Thread nD τ) (st3 m hO t) fullShare ((dats m hO 0 c).before 3 t d))
    ∗ (∃ d, owns (c : Thread nD τ) (st4 m hO t) fullShare d))

/-- What it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (st0 m hO t) fullShare ((dats m hO 0 c).after 0 t)
    ∗ owns (c : Thread nD τ) (st1 m hO t) fullShare ((dats m hO 0 c).after 1 t)
    ∗ owns (c : Thread nD τ) (st2 m hO t) fullShare ((dats m hO 0 c).after 2 t)
    ∗ owns (c : Thread nD τ) (st3 m hO t) fullShare ((dats m hO 0 c).after 3 t)
    ∗ (∃ d, owns (c : Thread nD τ) (st4 m hO t) fullShare d))

set_option maxHeartbeats 3200000 in
/-- The body's triple at any point. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  have hb := before_in m hO (dats m hO 0 c) (dats_A m hO c) t
  unfold bodyPre bodyPost bodyAt
  simp only [hb.1 (after_0 m hO c), hb.2.1 (after_1 m hO c), hb.2.2.1 (after_2 m hO c), hb.2.2.2 (after_3 m hO c)]
  rw [show (dats m hO 0 c).Φ t.succ = (dats m hO 0 c).Φ t.castSucc from rfl,
    show (dats m hO 0 c).owesAt () t.succ = (dats m hO 0 c).owesAt () t.castSucc from rfl, after_0, after_1, after_2, after_3]
  rw [show (dats m hO 0 c).Φ t.castSucc = iprop(Pipeline.ΦA spec0 c ∗ Pipeline.ΦT pre0 (tbl m) c) from rfl, tables_eq, scratch_eq]
  iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩⟩
  iapply (run_any c (grid0.coords t) _ _ _ _ _ _ _ _ _ _ _ _ _ _ _ _ (iblk m hO c 0 t) (iblk m hO c 1 t) (iblk m hO c 2 t)
    (iblk m hO c 3 t) (tbl m 0) (tbl m 1) (conds_excl _) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HT0]; · iexact HT0
  isplitl [HT1]; · iexact HT1
  iintro ⟨H0, H1, H2, H3, H4, HS0, HS1, HS2, HT0, HT1⟩
  isplitl [HS0 HS1 HS2 Hg HT0 HT1]
  · isplitl [HS0 HS1 HS2 Hg]
    · isplitl [HS0 HS1 HS2]
      · isplitl [HS0]
        · iexact HS0
        isplitl [HS1]
        · iexact HS1
        iexact HS2
      iexact Hg
    isplitl [HT0]; · iexact HT0
    iexact HT1
  isplitl [Ho]; · iexact Ho
  isplitl [H0]; · iexact H0
  isplitl [H1]; · iexact H1
  isplitl [H2]; · iexact H2
  isplitl [H3]; · iexact H3
  iexact H4

theorem body_obligation (hO : Ok m) (c : Dev nD) :
    BodyObligation (dats (F := F) m hO 0 c) (defs₀ (F := F)) Variants.none () Set.univ unnamedWins := fun t => by
  rw [bigSep_W0, bigSep_W0, body_row m hO]
  exact triple_restated (sound_body m hO c t) rfl .rfl fun _ => .rfl

set_option backward.isDefEq.respectTransparency.types false in
/-- The run: it ends with the inputs as they were and every semaphore at zero. -/
theorem run_main (hO : Ok m) : θ_run defs (onTc (τ := τ) (main (F := F))) (s₀ m ρ)
    (fun r => (Pipeline.RDat.FramePost ((Pipeline.pin pcfgs fun _ => adm m hO) 0) (fun c => (dats m hO 0 c).toRForget unnamedWins) (entry m)) r
      ∧ r.2.sem = fun _ => 0) :=
  Pipeline.θ_run_frameP_forget (Q' := _) pcfgs (fun _ => adm m hO) (dats m hO) (0 : Fin 1) launch0 defs₀ Variants.none unnamedWins m ρ main
    (hbody := fun c => (body_obligation m hO c).loose) (hshare := fun c => (dats m hO 0 c).share_full fun _ => rfl)
    (howed := fun _ _ => rfl) (V := entry m) (hmain := main_prefix m Variants.none) (hA := dats_A m hO) (hpf := entry_tbl m) (hΦ := fun _ _ => rfl)

/-- THE FRAME of the compiled program. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hh => ⟨fun c => ⟨
      (((hh.1) c).2 main_arg0 (by decide : main_arg0 ∈ Pipeline.restRefs sig spec0)).trans (entry_args m c).1,
      (((hh.1) c).2 main_arg1 (by decide : main_arg1 ∈ Pipeline.restRefs sig spec0)).trans (entry_args m c).2.1,
      (((hh.1) c).2 main_arg2 (by decide : main_arg2 ∈ Pipeline.restRefs sig spec0)).trans (entry_args m c).2.2.1,
      (Pipeline.RDat.FramePost.arr_in hh.1 c 1 rfl).trans ((dats_A m hO c 1).trans (entry_args m c).2.2.2.1),
      (Pipeline.RDat.FramePost.arr_in hh.1 c 2 rfl).trans ((dats_A m hO c 2).trans (entry_args m c).2.2.2.2.1),
      (Pipeline.RDat.FramePost.arr_in hh.1 c 3 rfl).trans ((dats_A m hO c 3).trans (entry_args m c).2.2.2.2.2)⟩, hh.2⟩) (run_main m ρ hO)

end Cert.Experts.Gen

end
-- ==== Proof.Ffn.lean ====
/- An expert's feed-forward row: the product of a gated and a plain projection, projected back. -/
module

public import Idealize.ShloMosaic.PureOps.Ideal
public import Idealize.ShloMosaic.Lib.Pointwise

@[expose] public section

noncomputable section

open Idealize.ShloMosaic

namespace Cert.Ffn

/-- A row against a column of weights. -/
def dot (x w : Fin 1024 → EReal) : EReal := ∑ k, x k * w k

/-- The gate. -/
def silu (h : EReal) : EReal := h * Ideal.logistic h

/-- A row's hidden value. -/
def hidden (x : Fin 1024 → EReal) (w1 w3 : Fin 1024 → Fin 512 → EReal) (f : Fin 512) : EReal :=
  silu (dot x fun k => w1 k f) * dot x fun k => w3 k f

/-- A row's result. -/
def ffn (x : Fin 1024 → EReal) (w1 w3 : Fin 1024 → Fin 512 → EReal) (w2 : Fin 512 → Fin 1024 → EReal) (d : Fin 1024) : EReal :=
  ∑ f, hidden x w1 w3 f * w2 f d

/-- A row of zeros gives zeros. -/
theorem ffn_zero (w1 w3 : Fin 1024 → Fin 512 → EReal) (w2 : Fin 512 → Fin 1024 → EReal) (d : Fin 1024) :
    ffn (fun _ => 0) w1 w3 w2 d = 0 := by
  simp [ffn, hidden, dot]

/-- A row's first `n` of zeros-padded entries: what a tile with `n` rows holds at row `s`. -/
def masked (n : BitVec 32) (s : Fin 1024) (x : Fin 1024 → EReal) : Fin 1024 → EReal :=
  fun k => if (BitVec.ofNat 32 s.val).slt n then x k else 0

/-- A tile without rows holds zeros. -/
theorem masked_none (n : BitVec 32) (h : n.toInt = 0) (s : Fin 1024) (x : Fin 1024 → EReal) : masked n s x = fun _ => 0 := by
  have hs : (BitVec.ofNat 32 s.val).toInt = (s.val : ℤ) := by
    have hs := s.isLt
    rw [BitVec.toInt_eq_toNat_cond, BitVec.toNat_ofNat, Nat.mod_eq_of_lt (by omega), if_pos (by omega)]
  funext k
  unfold masked
  rw [if_neg]
  rw [BitVec.slt, hs, h, decide_eq_true_eq]
  omega

/-- A choice on a signed comparison. -/
theorem select_slt (a b : BitVec 32) (x y : EReal) : Scalar.select (IntOp.cmpi .slt a b) x y = if a.slt b then x else y := by
  unfold Scalar.select IntOp.cmpi
  cases a.slt b <;> rfl

/-- A sum over the experts that counts only one. -/
theorem pick (n : Fin 16) (y : Fin 16 → EReal) : ∑ e, (if e = n then (1 : EReal) else 0) * y e = y n := by
  rw [Finset.sum_eq_single n]
  · simp
  · intro b _ hb; simp [hb]
  · simp

end Cert.Ffn

end
-- ==== Proof.ExpertsRef.lean ====
/- The experts' reference, read at an index. -/
module

public import proofs.«01_k».proof.Proof.Ffn
public import proofs.«01_k».proof.Proof.Gen.ExpertsReferenceIdeal.Run
public import Idealize.ShloMosaic.Lib.Pipeline.ValueKit

@[expose] public section

set_option maxRecDepth 16384

noncomputable section

open Idealize.ShloMosaic Idealize.ShloMosaic.TcCoe Idealize.SL.Sem

namespace Cert.ExpertsReferenceIdeal.Read

open Cert.ExpertsReferenceIdeal Cert.ExpertsReferenceIdeal.Gen Cert.Ffn

/-- The tiles' rows, those past a tile's count at zero. -/
def rows (X : FVec Ideal S81920x1024 .f32) (n : IVec S80 32) : FVec Ideal S80x1024x1024 .f32 :=
  select (cmpi .slt (iotaInDim S80x1024x1024 32 1) (broadcastInDim S80x1024x1024 ![0, 1, 2] bcast_S80x1x1_S80x1024x1024_0_1_2
      (broadcastInDim S80x1x1 ![0] bcast_S80_S80x1x1_0 n)))
    (shapeCast S80x1024x1024 X shapeCasts_S81920x1024_S80x1024x1024)
    (broadcastInDim S80x1024x1024 ![] bcast_S_S80x1024x1024 (id (constant S_ .f32 0x00000000#32)))

/-- Every row against one of the first two weight arrays of every expert. -/
def proj (T : FVec Ideal S80x1024x1024 .f32) (W : FVec Ideal S4x16x1024x512 .f32) : FVec Ideal S16x80x1024x512 .f32 :=
  transpose S16x80x1024x512 [0, 2, 3, 1] (Host.dotGeneral dot_S16x1024x512_S80x1024x1024_S16x512x80x1024_1_2_02_01_n_n none
    (shapeCast S16x1024x512 (extractStridedSlice S1x16x1024x512 ![0, 0, 0, 0] W slices_S4x16x1024x512_S1x16x1024x512_0_0_0_0)
      shapeCasts_S1x16x1024x512_S16x1024x512) T) transposes_S16x512x80x1024_S16x80x1024x512_0_2_3_1

/-- The gate. -/
def gate (H : FVec Ideal S16x80x1024x512 .f32) : FVec Ideal S16x80x1024x512 .f32 :=
  mulf H (Host.divf (broadcastInDim S16x80x1024x512 ![] bcast_S_S16x80x1024x512 (constant S_ .f32 0x3F800000#32))
    (addf (broadcastInDim S16x80x1024x512 ![] bcast_S_S16x80x1024x512 (constant S_ .f32 0x3F800000#32)) (Host.exp (Host.negf H))))

/-- Every row through every expert. -/
def all (T : FVec Ideal S80x1024x1024 .f32) (W1 W3 : FVec Ideal S4x16x1024x512 .f32) (W2 : FVec Ideal S4x16x512x1024 .f32) :
    FVec Ideal S16x80x1024x1024 .f32 :=
  Host.dotGeneral dot_S16x80x1024x512_S16x512x1024_S16x80x1024x1024_3_1_12_2_0_0 none (mulf (gate (proj T W1)) (proj T W3))
    (shapeCast S16x512x1024 (extractStridedSlice S1x16x512x1024 ![0, 0, 0, 0] W2 slices_S4x16x512x1024_S1x16x512x1024_0_0_0_0)
      shapeCasts_S1x16x512x1024_S16x512x1024)

/-- One where the tile is the expert's, zero elsewhere. -/
def mine (e : IVec S80 32) : FVec Ideal S16x80 .f32 :=
  sitofp .f32 (extui 32 (cmpi .eq (iotaInDim S16x80 32 0) (broadcastInDim S16x80 ![0, 1] bcast_S1x80_S16x80_0_1
    (broadcastInDim S1x80 ![1] bcast_S80_S1x80_1 e))) natLt_1_32)

/-- Each tile's result of its own expert, its rows in halves. -/
def halves (e : IVec S80 32) (Y : FVec Ideal S16x80x1024x1024 .f32) : FVec Ideal S81920x2x512 .f32 :=
  shapeCast S81920x2x512 (Host.reduceAdd (mulf (broadcastInDim S16x80x1024x1024 ![0, 1, 2, 3] bcast_S16x80x1x1_S16x80x1024x1024_0_1_2_3
      (broadcastInDim S16x80x1x1 ![0, 1] bcast_S16x80_S16x80x1x1_0_1 (mine e))) Y)
    (constant S_ .f32 0x00000000#32) reducesTo_S16x80x1024x1024_S80x1024x1024_d0 h_S_) shapeCasts_S80x1024x1024_S81920x2x512

/-- The halves in turned order. -/
def turned (Z : FVec Ideal S81920x2x512 .f32) : FVec Ideal S81920x2x512 .f32 := Host.reverse [1] Z

/-- The result: its rows' second halves before their first halves. -/
def result (e : IVec S80 32) (Y : FVec Ideal S16x80x1024x1024 .f32) : FVec Ideal S163840x512 .bf16 :=
  truncf .bf16 (shapeCast S163840x512 (turned (halves e Y)) shapeCasts_S81920x2x512_S163840x512) bitsLt_bf16_f32

/-- The reference's run with its result by stages. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = result (m ((c.tc : Thread nD τ).loc main_arg1))
        (all (rows (m ((c.tc : Thread nD τ).loc main_arg0)) (m ((c.tc : Thread nD τ).loc main_arg2)))
          (m ((c.tc : Thread nD τ).loc main_arg3)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  unfold result turned halves mine all gate proj rows
  exact Value.run (F := Ideal) m ρ

theorem rows_apply (X n) (t : Fin 80) (s k : Fin 1024) :
    rows X n (ix3 t s k) = masked (n (ix1 t)) s (fun k => X (ix2 ⟨t.val * 1024 + s.val, by omega⟩ k)) k := by
  pointwise [rows]
  rw [select_slt]
  unfold masked
  have hz : (id (constant (F := Ideal) S_ .f32 0x00000000#32) : FVec Ideal S_ .f32) ix0 = (0 : EReal) := by
    show Ideal.ofBits .f32 0x00000000#32 = 0
    simp [Ideal.ofBits, Ideal.ieee]
  rw [hz]

theorem proj_apply (T W) (e : Fin 16) (t : Fin 80) (s : Fin 1024) (f : Fin 512) :
    proj T W (ix4 e t s f) = dot (fun k => T (ix3 t s k)) (fun k => W (ix4 0 e k f)) := by
  pointwise [proj]
  exact Finset.sum_congr rfl fun _ _ => mul_comm _ _

theorem gate_apply (H) (e : Fin 16) (t : Fin 80) (s : Fin 1024) (f : Fin 512) :
    gate H (ix4 e t s f) = silu (H (ix4 e t s f)) := by
  pointwise [gate]
  rfl

theorem all_apply (T W1 W3 W2) (e : Fin 16) (t : Fin 80) (s d : Fin 1024) :
    all T W1 W3 W2 (ix4 e t s d) = ffn (fun k => T (ix3 t s k)) (fun k f => W1 (ix4 0 e k f)) (fun k f => W3 (ix4 0 e k f))
      (fun f d => W2 (ix4 0 e f d)) d := by
  pointwise [all]
  unfold ffn
  refine Finset.sum_congr rfl fun f _ => ?_
  rw [gate_apply, proj_apply, proj_apply]
  rfl

theorem mine_apply (x) (e : Fin 16) (t : Fin 80) (n : Fin 16) (h : (x (ix1 t)).toNat = n.val) :
    mine x (ix2 e t) = if e = n then 1 else 0 := by
  pointwise [mine]
  have he : (BitVec.ofNat 32 e.val = x (ix1 t)) ↔ e = n := by
    have := e.isLt
    rw [← BitVec.toNat_inj, BitVec.toNat_ofNat, Nat.mod_eq_of_lt (by omega), h]
    exact Fin.ext_iff.symm
  have hc : IntOp.cmpi .eq (BitVec.ofNat 32 e.val) (x (ix1 t)) = if e = n then 1#1 else 0#1 := by
    unfold IntOp.cmpi
    by_cases hn : e = n
    · rw [if_pos hn, he.2 hn]; simp
    · rw [if_neg hn, show (BitVec.ofNat 32 e.val == x (ix1 t)) = false from beq_eq_false_iff_ne.2 (mt he.1 hn)]; rfl
  rw [hc]
  by_cases hn : e = n
  · rw [if_pos hn, if_pos hn]; simp [FloatOps.sitofp]
  · rw [if_neg hn, if_neg hn]; simp [FloatOps.sitofp]

theorem turned_apply (Z) (a : Fin 81920) (b : Fin 2) (q : Fin 512) : turned Z (ix3 a b q) = Z (ix3 a b.rev q) := by
  unfold turned
  rw [Host.reverse_apply]
  refine congrArg Z (funext fun x => ?_)
  fin_cases x <;> rfl

theorem halves_apply (x Y) (a : Fin 81920) (b : Fin 2) (q : Fin 512) :
    halves x Y (ix3 a b q) = ∑ e, mine x (ix2 e ⟨a.val / 1024, by omega⟩) * Y (ix4 e ⟨a.val / 1024, by omega⟩ ⟨a.val % 1024, by omega⟩ ⟨b.val * 512 + q.val, by omega⟩) := by
  pointwise [halves]

theorem result_apply (x Y) (r : Fin 163840) (q : Fin 512) (t : Fin 80) (s d : Fin 1024)
    (ht : t.val = r.val / 2048) (hs : s.val = r.val / 2 % 1024) (hd : d.val = (1 - r.val % 2) * 512 + q.val) :
    result x Y (ix2 r q) = ∑ e, mine x (ix2 e t) * Y (ix4 e t s d) := by
  pointwise [result]
  rw [turned_apply, halves_apply]
  have h1 : ∀ h, (⟨r.val / 2 / 1024, h⟩ : Fin 80) = t := fun h => Fin.ext (by show r.val / 2 / 1024 = t.val; omega)
  have h2 : ∀ h, (⟨r.val / 2 % 1024, h⟩ : Fin 1024) = s := fun h => Fin.ext hs.symm
  have h3 : ∀ h h', (⟨(⟨r.val % 2, h⟩ : Fin 2).rev.val * 512 + q.val, h'⟩ : Fin 1024) = d := fun h h' =>
    Fin.ext (by show (2 - (r.val % 2 + 1)) * 512 + q.val = d.val; omega)
  refine Finset.sum_congr rfl fun e _ => ?_
  rw [h1, h2, h3]

end Cert.ExpertsReferenceIdeal.Read

end
-- ==== Proof.ExpertsIdealRow.lean ====
/- One tile of the expert kernel, read at an index. -/
module

public import proofs.«01_k».proof.Proof.Ffn
public import proofs.«01_k».proof.Proof.Gen.ExpertsIdeal.Skeleton
public import Idealize.ShloMosaic.Lib.Pipeline.ValueKit

@[expose] public section

set_option maxRecDepth 16384

noncomputable section

open Idealize.ShloMosaic Idealize.ShloMosaic.TcCoe Idealize.SL.Sem

namespace Cert.ExpertsIdeal.Row

open Cert.ExpertsIdeal Cert.ExpertsIdeal.Gen Cert.Ffn

/-- The tile's rows: each pair of stored rows side by side, the later first, rows past the count at zero. -/
def tokens (n : BitVec 32) (X : FVec Ideal S2048x512 .bf16) : FVec Ideal S1024x1024 .bf16 :=
  truncf .bf16 (concatenate S1024x1024 1
    [⟨S1024x512, extf .f32 (select (cmpi .slt (iota .tc S1024x512 32 [0] iota_S1024x512_d0_w32) (broadcast S1024x512 n))
        (rowsOfParity 1 S1024x512 X bitcasts_S2048x512_w16_S1024x512_w32) (constant S1024x512 .bf16 0x0000#16)) bitsLt_bf16_f32⟩,
     ⟨S1024x512, extf .f32 (select (cmpi .slt (iota .tc S1024x512 32 [0] iota_S1024x512_d0_w32) (broadcast S1024x512 n))
        (rowsOfParity 0 S1024x512 X bitcasts_S2048x512_w16_S1024x512_w32) (constant S1024x512 .bf16 0x0000#16)) bitsLt_bf16_f32⟩]
    concatenates_S1024x512_S1024x512_S1024x1024_d1) bitsLt_bf16_f32

/-- The tile's rows through the expert. -/
def through (T : FVec Ideal S1024x1024 .bf16) (W1 W3 : FVec Ideal S1024x512 .bf16) (W2 : FVec Ideal S512x1024 .bf16) : FVec Ideal S1024x1024 .f32 :=
  matmul dot_S1024x512_S512x1024_S1024x1024_1_0_0_1_n_n none
    (truncf .bf16 (mulf (mulf (matmul dot_S1024x1024_S1024x512_S1024x512_1_0_0_1_n_n none T W1 (constant S1024x512 .f32 0x00000000#32))
        (logistic (matmul dot_S1024x1024_S1024x512_S1024x512_1_0_0_1_n_n none T W1 (constant S1024x512 .f32 0x00000000#32))))
      (matmul dot_S1024x1024_S1024x512_S1024x512_1_0_0_1_n_n none T W3 (constant S1024x512 .f32 0x00000000#32))) bitsLt_bf16_f32)
    W2 (constant S1024x1024 .f32 0x00000000#32)

/-- The rows' second halves and first halves, interleaved. -/
def pairs (Y : FVec Ideal S1024x1024 .f32) : FVec Ideal S2048x512 .bf16 :=
  interleaveRows S2048x512
    (truncf .bf16 (extf .f32 (truncf .bf16 (extractStridedSlice S1024x512 ![0, 512] Y slices_S1024x1024_o0_512_S1024x512) bitsLt_bf16_f32) bitsLt_bf16_f32) bitsLt_bf16_f32)
    (truncf .bf16 (extf .f32 (truncf .bf16 (extractStridedSlice S1024x512 ![0, 0] Y slices_S1024x1024_o0_0_S1024x512) bitsLt_bf16_f32) bitsLt_bf16_f32) bitsLt_bf16_f32)
    bitcasts_S2048x512_w16_S1024x512_w32

theorem pay4_eq (n : BitVec 32) (X : FVec Ideal S2048x512 .bf16) (W1 W3 : FVec Ideal S1024x512 .bf16) (W2 : FVec Ideal S512x1024 .bf16) :
    k0_pay4 (F := Ideal) n X W1 W3 W2 = pairs (through (tokens n X) W1 W3 W2) := rfl

theorem tokens_apply (n : BitVec 32) (X : FVec Ideal S2048x512 .bf16) (s k : Fin 1024) :
    tokens n X (ix2 s k) = masked n s (fun k => if h : k.val < 512 then X (ix2 ⟨2 * s.val + 1, by omega⟩ ⟨k.val, h⟩)
      else X (ix2 ⟨2 * s.val, by omega⟩ ⟨k.val - 512, by omega⟩)) k := by
  pointwise [tokens]
  by_cases h : k.val < 512
  · refine (dif_pos h).trans ((select_slt _ _ _ _).trans ?_)
    simp only [masked, dif_pos h]
  · refine (dif_neg h).trans ((select_slt _ _ _ _).trans ?_)
    simp only [masked, dif_neg h]

theorem through_apply (T W1 W3 W2) (s d : Fin 1024) :
    through T W1 W3 W2 (ix2 s d) = ffn (fun k => T (ix2 s k)) (fun k f => W1 (ix2 k f)) (fun k f => W3 (ix2 k f)) (fun f d => W2 (ix2 f d)) d := by
  pointwise [through]
  rfl

theorem pairs_apply (Y) (r : Fin 2048) (q : Fin 512) :
    pairs Y (ix2 r q) = Y (ix2 ⟨r.val / 2, by omega⟩ ⟨(1 - r.val % 2) * 512 + q.val, by omega⟩) := by
  pointwise [pairs]
  rcases Nat.mod_two_eq_zero_or_one r.val with h | h
  · rw [if_pos h]
    exact congrArg (fun z : Fin 1024 => Y (ix2 _ z)) (Fin.ext (by show 512 + q.val = (1 - r.val % 2) * 512 + q.val; omega))
  · rw [if_neg (by omega)]
    exact congrArg (fun z : Fin 1024 => Y (ix2 _ z)) (Fin.ext (by show q.val = (1 - r.val % 2) * 512 + q.val; omega))

theorem zeros_apply (r : Fin 2048) (q : Fin 512) : k0_pay5 (F := Ideal) (ix2 r q) = 0 := by
  pointwise [k0_pay5]

theorem w1_apply (W : FVec Ideal S1x1x1024x512 .f32) (k : Fin 1024) (f : Fin 512) : k0_pay1 (F := Ideal) W (ix2 k f) = W (ix4 0 0 k f) := by
  pointwise [k0_pay1]
theorem w3_apply (W : FVec Ideal S1x1x1024x512 .f32) (k : Fin 1024) (f : Fin 512) : k0_pay2 (F := Ideal) W (ix2 k f) = W (ix4 0 0 k f) := by
  pointwise [k0_pay2]
theorem w2_apply (W : FVec Ideal S1x1x512x1024 .f32) (k : Fin 512) (f : Fin 1024) : k0_pay3 (F := Ideal) W (ix2 k f) = W (ix4 0 0 k f) := by
  pointwise [k0_pay3]

/-- A tile's result block from its stored rows and weight blocks: what the body leaves at pair row `r`, lane `q`. -/
theorem tile_apply (n : BitVec 32) (X : FVec Ideal S2048x512 .bf16) (B1 B3 : FVec Ideal S1x1x1024x512 .f32) (B2 : FVec Ideal S1x1x512x1024 .f32)
    (hn : (k0_cond2 n = 1#1) ∨ (¬ k0_cond2 n = 1#1 ∧ n.toInt = 0)) (r : Fin 2048) (q : Fin 512)
    (x : Fin 1024 → EReal) (w1 w3 : Fin 1024 → Fin 512 → EReal) (w2 : Fin 512 → Fin 1024 → EReal)
    (hx : ∀ k, (if h : k.val < 512 then X (ix2 ⟨2 * (r.val / 2) + 1, by omega⟩ ⟨k.val, h⟩) else X (ix2 ⟨2 * (r.val / 2), by omega⟩ ⟨k.val - 512, by omega⟩)) = x k)
    (h1 : ∀ k f, B1 (ix4 0 0 k f) = w1 k f) (h3 : ∀ k f, B3 (ix4 0 0 k f) = w3 k f) (h2 : ∀ f k, B2 (ix4 0 0 f k) = w2 f k) :
    (if k0_cond2 n = 1#1 then k0_pay4 (F := Ideal) n X (k0_pay1 (F := Ideal) B1) (k0_pay2 (F := Ideal) B3) (k0_pay3 (F := Ideal) B2) else k0_pay5 (F := Ideal)) (ix2 r q)
      = ffn (masked n ⟨r.val / 2, by omega⟩ x) w1 w3 w2 ⟨(1 - r.val % 2) * 512 + q.val, by omega⟩ := by
  rcases hn with hn | ⟨hn, h0⟩
  · rw [if_pos hn, pay4_eq, pairs_apply, through_apply]
    simp only [tokens_apply, w1_apply, w3_apply, w2_apply, h1, h2, h3]
    exact congrArg (fun y => ffn (masked n _ y) w1 w3 w2 _) (funext hx)
  · rw [if_neg hn, zeros_apply, masked_none n h0, ffn_zero]

end Cert.ExpertsIdeal.Row

end
-- ==== Proof.ExpertsIdealSetup.lean ====
/- How `ExpertsIdeal`'s region starts: what the host operations before it leave in the arrays, what the two tables hold, the
   block each window reads at a grid point, and the words the body reads from the tables. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays when the region starts -/

/-- What core `c`'s buffer `b` holds when the region starts: the launch memory after the seven host operations. -/
abbrev entry (c : Dev nD) (b : Ref sig .tc) : Buf (Elt F) ((c : Thread nD τ).loc b) :=
  StableHlo.after hostOps0 (fun b => m (c, b)) b

theorem hostOps_fresh : (hostOps0 : List (HloOp τ sig (Elt F))).Forall fun op => op.fresh = ∅ := by
  simp only [List.Forall]; repeat' constructor

set_option maxHeartbeats 800000 in
/-- @main runs its host operations and then the region. -/
theorem main_prefix (𝒱₀ : Variants) :
    Pipeline.HMainP (Ix := Unit) (Name := ℕ) (U := UR sig nD τ) (Lvl := ℕ) pcfgs 0 defs₀ 𝒱₀ m (main (F := F)) (entry m) :=
  Pipeline.hmainP_prefix pcfgs 0 defs₀ 𝒱₀ m main hostOps0 hostOps0_sub hostOps_fresh main_chain

/-- The arguments are written by no host operation: the region finds them as launched. -/
theorem entry_args (c : Dev nD) :
    entry m c main_arg0 = m ((c : Thread nD τ).loc main_arg0) ∧ entry m c main_arg1 = m ((c : Thread nD τ).loc main_arg1)
    ∧ entry m c main_arg2 = m ((c : Thread nD τ).loc main_arg2) ∧ entry m c main_arg3 = m ((c : Thread nD τ).loc main_arg3)
    ∧ entry m c main_arg4 = m ((c : Thread nD τ).loc main_arg4) ∧ entry m c main_arg5 = m ((c : Thread nD τ).loc main_arg5) := by
  refine ⟨?_, ?_, ?_, ?_, ?_, ?_⟩ <;>
  · refine StableHlo.after_of_forall_not_mem _ _ (List.forall_iff_forall_mem.mp ?_)
    simp only [hostOps0, List.Forall, StableHlo.unary_writes, StableHlo.binary_writes, StableHlo.reshape_writes,
      Finset.mem_singleton]
    repeat' apply And.intro
    all_goals exact StableHlo.devRef_ne_of_ne (by decide)

/-! ## The tables -/

/-- The two tables' words when the region starts. -/
def tbl : pre0.Contents (Elt F) := fun j => entry m (0 : Dev nD) (pre0.ref j)

theorem entry_tbl (c : Dev nD) (j : Fin 2) : entry m c (pre0.ref j) = tbl m j := by
  obtain rfl : c = 0 := Subsingleton.elim _ _; rfl

theorem tbl_zero : tbl m 0 = m (((0 : Dev nD) : Thread nD τ).loc main_arg1) := (entry_args m 0).2.1
theorem tbl_one : tbl m 1 = m (((0 : Dev nD) : Thread nD τ).loc main_arg2) := (entry_args m 0).2.2.1

/-- Every tile's expert number places its weight blocks inside the weight arrays. -/
abbrev Ok : Prop := ok0 (F := F) (tbl m)

abbrev adm (hO : Ok m) : (pcfg0 (F := F)).Adm := ⟨tbl m, hO⟩
/-- The pipeline at the tables' words. -/
abbrev cfgM (hO : Ok m) : Pipeline.Cfg sig Λ₀ := cfg0 (adm m hO)

/-- The expert table and the row-count table, as the body holds them. -/
abbrev mE : Memref sig .tc .smem S80 .i32 := Memref.whole main_arg1
abbrev mR : Memref sig .tc .smem S80 .i32 := Memref.whole main_arg2

abbrev TabBuf (c : Dev nD) (M : Memref sig .tc .smem S80 .i32) : Type := Buf (Elt F) (M.view.loc (c : Thread nD τ))
/-- A table held by half at the words `f`. -/
abbrev tabAt (c : Dev nD) (M : Memref sig .tc .smem S80 .i32) (f : TabBuf (F := F) c M) : sProp 𝕄 :=
  M.view.loc (c : Thread nD τ) ↦{fullShare.right} f

theorem tables_eq (c : Dev nD) :
    (Pipeline.ΦT pre0 (tbl m) c : sProp 𝕄) = iprop(tabAt c mE (tbl m 0) ∗ tabAt c mR (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The word the body reads of a table at one of its two offsets. -/
abbrev wordAt (c : Dev nD) (M : Memref sig .tc .smem S80 .i32) (off : Fin 1 → ℕ)
    (inb : ∀ a, off a + S1.size a ≤ S80.size a) (f : TabBuf (F := F) c M) : Elt F .i32 :=
  M.view.readAt (Elt F) (Rect.unit (s := S80) off S1.size inb).toLoadRect f (Shape.Idx.first (numel1_S1.symm ▸ Nat.one_pos))

/-- The row count the body reads at a point, and the expert numbers of this tile and of the tile before it. -/
abbrev rowsAt (c : Dev nD) (i : grid0.Coords) (f : TabBuf (F := F) c mR) : Elt F .i32 := wordAt c mR (k0_off1 i) (k0_off1_inb i) f
abbrev hereAt (c : Dev nD) (i : grid0.Coords) (f : TabBuf (F := F) c mE) : Elt F .i32 := wordAt c mE (k0_off1 i) (k0_off1_inb i) f
abbrev prevAt (c : Dev nD) (i : grid0.Coords) (f : TabBuf (F := F) c mE) : Elt F .i32 := wordAt c mE (k0_off2 i) (k0_off2_inb i) f

/-- The body copies the weights at this point: it is the first point, or the expert differs from the tile before's. -/
abbrev Copies (c : Dev nD) (i : grid0.Coords) (f : TabBuf (F := F) c mE) : Prop :=
  (Scalar.cmpi .ne (Scalar.extui (Scalar.ori (Scalar.cmpi .eq (BitVec.ofNat 32 (i 0).val) 0#32)
    (Scalar.cmpi .ne (hereAt c i f) (prevAt c i f)))) 0#32) = 1#1

/-! ## The windows' blocks and staging buffers -/

/-- The block of window `w`'s array that point `t` reads. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (entry m c (Pipeline.arrRef spec0 w))

/-- An input's staging buffer holds the point's block when the body starts, for any proof data that starts from the entry
    arrays and leaves the blocks in place. -/
theorem before_in (hO : Ok m) {c : Dev nD} (dat : Dat τ (Elt F) Unit ℕ (UR sig nD τ) ℕ (cfgM m hO) c)
    (hA : ∀ w, dat.A w = entry m c (Pipeline.arrRef spec0 w)) (t : Fin (cfgM m hO).N) :
    ((∀ t, dat.after 0 t = iblk m hO c 0 t) → ∀ d, dat.before 0 t d = iblk m hO c 0 t)
    ∧ ((∀ t, dat.after 1 t = iblk m hO c 1 t) → ∀ d, dat.before 1 t d = iblk m hO c 1 t)
    ∧ ((∀ t, dat.after 2 t = iblk m hO c 2 t) → ∀ d, dat.before 2 t d = iblk m hO c 2 t)
    ∧ ((∀ t, dat.after 3 t = iblk m hO c 3 t) → ∀ d, dat.before 3 t d = iblk m hO c 3 t) := by
  refine ⟨fun h d => ?_, fun h d => ?_, fun h d => ?_, fun h d => ?_⟩
  · exact (dat.before_in_eq_fetched 0 rfl (fun _ => rfl) (fun _ _ _ => rfl)
      (fun t => by rw [h]; unfold Dat.blockOf iblk; rw [hA]; try rfl) t d).trans (by unfold Dat.fetched Dat.blockOf iblk; rw [hA]; try rfl)
  · exact (dat.before_in_eq_fetched 1 rfl (fun _ => rfl) (fun _ _ _ => rfl)
      (fun t => by rw [h]; unfold Dat.blockOf iblk; rw [hA]; try rfl) t d).trans (by unfold Dat.fetched Dat.blockOf iblk; rw [hA]; try rfl)
  · exact (dat.before_in_eq_fetched 2 rfl (fun _ => rfl) (fun _ _ _ => rfl)
      (fun t => by rw [h]; unfold Dat.blockOf iblk; rw [hA]; try rfl) t d).trans (by unfold Dat.fetched Dat.blockOf iblk; rw [hA]; try rfl)
  · exact (dat.before_in_eq_fetched 3 rfl (fun _ => rfl) (fun _ _ _ => rfl)
      (fun t => by rw [h]; unfold Dat.blockOf iblk; rw [hA]; try rfl) t d).trans (by unfold Dat.fetched Dat.blockOf iblk; rw [hA]; try rfl)

/-- The staging buffer each window uses at point `t`. -/
abbrev st0 (hO : Ok m) (t : Fin (cfgM m hO).N) : Memref sig .tc .vmem S2048x512 .bf16 := spec0_0.stage ((cfgM m hO).slots t 0)
abbrev st1 (hO : Ok m) (t : Fin (cfgM m hO).N) : Memref sig .tc .vmem S1x1x1024x512 .f32 := spec0_1.stage ((cfgM m hO).slots t 1)
abbrev st2 (hO : Ok m) (t : Fin (cfgM m hO).N) : Memref sig .tc .vmem S1x1x1024x512 .f32 := spec0_2.stage ((cfgM m hO).slots t 2)
abbrev st3 (hO : Ok m) (t : Fin (cfgM m hO).N) : Memref sig .tc .vmem S1x1x512x1024 .f32 := spec0_3.stage ((cfgM m hO).slots t 3)
abbrev st4 (hO : Ok m) (t : Fin (cfgM m hO).N) : Memref sig .tc .vmem S2048x512 .bf16 := spec0_4.stage ((cfgM m hO).slots t 4)

/-- The three weight copies kept between points. -/
abbrev mW1 : Memref sig .tc .vmem S1024x512 .bf16 := Memref.whole cc0_scratch0
abbrev mW3 : Memref sig .tc .vmem S1024x512 .bf16 := Memref.whole cc0_scratch1
abbrev mW2 : Memref sig .tc .vmem S512x1024 .bf16 := Memref.whole cc0_scratch2

/-- The region hands the body the three weight copies at whatever they hold. -/
theorem scratch_eq (c : Dev nD) :
    (Pipeline.ΦA spec0 c : sProp 𝕄)
      = iprop(iprop((∃ d, owns (c : Thread nD τ) mW1 fullShare d) ∗ (∃ d, owns (c : Thread nD τ) mW3 fullShare d)
          ∗ (∃ d, owns (c : Thread nD τ) mW2 fullShare d)) ∗ (∃ r, prngReg c r)) := by
  unfold Pipeline.ΦA; rw [scopedRest0_eq]; simp only [mW1, mW3, mW2, owns_whole]; try rfl

/-- The kernel on the staging buffers of point `t`. -/
abbrev bodyAt (hO : Ok m) (t : Fin (cfgM m hO).N) : Prog (TpuEff nD τ sig (Elt F) Λ₀ .tc) PUnit :=
  cc0_moe_experts (grid0.coords t) mE (Memref.isWhole_whole _) mR (Memref.isWhole_whole _)
    (st0 m hO t) (hstage0_0 (((cfgM m hO).slots t 0).cast nbuf0_0)) (st1 m hO t) (hstage0_1 (((cfgM m hO).slots t 1).cast nbuf0_1))
    (st2 m hO t) (hstage0_2 (((cfgM m hO).slots t 2).cast nbuf0_2)) (st3 m hO t) (hstage0_3 (((cfgM m hO).slots t 3).cast nbuf0_3))
    (st4 m hO t) (hstage0_4 (((cfgM m hO).slots t 4).cast nbuf0_4)) mW1 (Memref.isWhole_whole _) mW3 (Memref.isWhole_whole _)
    mW2 (Memref.isWhole_whole _)

/-- The body run at point `t` is the kernel on that point's staging buffers. -/
theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

end Cert.ExpertsIdeal.Gen

end
-- ==== Proof.ExpertsIdealRuns.lean ====
/- The expert kernel's body at one grid point, in the four cases of its two conditions: the weights are copied or kept,
   and the tile has rows or has none. -/
module

public import proofs.«01_k».proof.Proof.ExpertsIdealSetup

@[expose] public section

set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem pay4_congr {v : Elt F .i32} {x x' : Vec F S2048x512 .bf16} {p p' q q' : Vec F S1024x512 .bf16} {s s' : Vec F S512x1024 .bf16}
    (hx : x = x') (hp : p = p') (hq : q = q') (hs : s = s') : k0_pay4 v x p q s = k0_pay4 v x' p' q' s' := by
  subst hx hp hq hs; rfl

set_option maxHeartbeats 1600000 in
/-- A point that copies the weights and has rows: what the body leaves in the result's staging buffer and in the three weight copies. -/
theorem run_copy_rows (c : Dev nD) (i : grid0.Coords)
    (a3 : Memref sig .tc .vmem S2048x512 .bf16) (h3 : a3.IsWhole) (a4 : Memref sig .tc .vmem S1x1x1024x512 .f32) (h4 : a4.IsWhole)
    (a5 : Memref sig .tc .vmem S1x1x1024x512 .f32) (h5 : a5.IsWhole) (a6 : Memref sig .tc .vmem S1x1x512x1024 .f32) (h6 : a6.IsWhole)
    (a7 : Memref sig .tc .vmem S2048x512 .bf16) (h7 : a7.IsWhole) (a8 : Memref sig .tc .vmem S1024x512 .bf16) (h8 : a8.IsWhole)
    (a9 : Memref sig .tc .vmem S1024x512 .bf16) (h9 : a9.IsWhole) (a10 : Memref sig .tc .vmem S512x1024 .bf16) (h10 : a10.IsWhole)
    (x0 : Vec F S2048x512 .bf16) (x1 : Vec F S1x1x1024x512 .f32) (x2 : Vec F S1x1x1024x512 .f32) (x3 : Vec F S1x1x512x1024 .f32)
    (e : TabBuf (F := F) c mE) (r : TabBuf (F := F) c mR)
    (hc : Copies c i e) (hp : k0_cond2 (rowsAt c i r) = 1#1) (hz : ¬ k0_cond3 (rowsAt c i r) = 1#1) (E : Set ℕ) (K : PUnit → sProp 𝕄) :
    iprop(owns (c : Thread nD τ) a3 fullShare (x0) ∗ owns (c : Thread nD τ) a4 fullShare (x1) ∗ owns (c : Thread nD τ) a5 fullShare (x2) ∗ owns (c : Thread nD τ) a6 fullShare (x3) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ tabAt c mE e ∗ tabAt c mR r
        ∗ (iprop(owns (c : Thread nD τ) a3 fullShare (x0) ∗ owns (c : Thread nD τ) a4 fullShare (x1) ∗ owns (c : Thread nD τ) a5 fullShare (x2) ∗ owns (c : Thread nD τ) a6 fullShare (x3) ∗ owns (c : Thread nD τ) a7 fullShare (k0_pay4 (rowsAt c i r) x0 (k0_pay1 x1) (k0_pay2 x2) (k0_pay3 x3)) ∗ owns (c : Thread nD τ) a8 fullShare (k0_pay1 x1) ∗ owns (c : Thread nD τ) a9 fullShare (k0_pay2 x2) ∗ owns (c : Thread nD τ) a10 fullShare (k0_pay3 x3) ∗ tabAt c mE e ∗ tabAt c mR r) -∗ K ⟨⟩))
      ⊢ wp frame (wpE (defs₀ (F := F)) Variants.none c none) E (cc0_moe_experts i mE (Memref.isWhole_whole _) mR (Memref.isWhole_whole _) a3 h3 a4 h4 a5 h5 a6 h6 a7 h7 a8 h8 a9 h9 a10 h10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, HT0, HT1, Hk⟩
  obtain rfl := h3.eq_unread hf0; obtain rfl := h4.eq_unread hf1; obtain rfl := h5.eq_unread hf2; obtain rfl := h6.eq_unread hf3
  sl_exec (disch := first | sl_exact hc | sl_exact hp | sl_exact hz)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; swap; · iexact H4
    ipureintro
    exact (View.read_writes_full _ _ _ _ _).trans (pay4_congr ((View.readAt_full _ _ _).trans (h3.read_unread _))
      ((View.readCov_full _ _ _ _ _).trans (congrArg k0_pay1 ((View.readAt_full _ _ _).trans (h4.read_unread _))))
      ((View.readCov_full _ _ _ _ _).trans (congrArg k0_pay2 ((View.readAt_full _ _ _).trans (h5.read_unread _))))
      ((View.readCov_full _ _ _ _ _).trans (congrArg k0_pay3 ((View.readAt_full _ _ _).trans (h6.read_unread _)))))
  isplitl [HS0]
  · iexists _; isplitr; swap; · iexact HS0
    ipureintro; exact (View.read_writes_full _ _ _ _ _).trans (congrArg k0_pay1 ((View.readAt_full _ _ _).trans (h4.read_unread _)))
  isplitl [HS1]
  · iexists _; isplitr; swap; · iexact HS1
    ipureintro; exact (View.read_writes_full _ _ _ _ _).trans (congrArg k0_pay2 ((View.readAt_full _ _ _).trans (h5.read_unread _)))
  isplitl [HS2]
  · iexists _; isplitr; swap; · iexact HS2
    ipureintro; exact (View.read_writes_full _ _ _ _ _).trans (congrArg k0_pay3 ((View.readAt_full _ _ _).trans (h6.read_unread _)))
  isplitl [HT0]; · iexact HT0
  iexact HT1

set_option maxHeartbeats 1600000 in
/-- A point that copies the weights and has no row: what the body leaves in the result's staging buffer and in the three weight copies. -/
theorem run_copy_none (c : Dev nD) (i : grid0.Coords)
    (a3 : Memref sig .tc .vmem S2048x512 .bf16) (h3 : a3.IsWhole) (a4 : Memref sig .tc .vmem S1x1x1024x512 .f32) (h4 : a4.IsWhole)
    (a5 : Memref sig .tc .vmem S1x1x1024x512 .f32) (h5 : a5.IsWhole) (a6 : Memref sig .tc .vmem S1x1x512x1024 .f32) (h6 : a6.IsWhole)
    (a7 : Memref sig .tc .vmem S2048x512 .bf16) (h7 : a7.IsWhole) (a8 : Memref sig .tc .vmem S1024x512 .bf16) (h8 : a8.IsWhole)
    (a9 : Memref sig .tc .vmem S1024x512 .bf16) (h9 : a9.IsWhole) (a10 : Memref sig .tc .vmem S512x1024 .bf16) (h10 : a10.IsWhole)
    (x0 : Vec F S2048x512 .bf16) (x1 : Vec F S1x1x1024x512 .f32) (x2 : Vec F S1x1x1024x512 .f32) (x3 : Vec F S1x1x512x1024 .f32)
    (e : TabBuf (F := F) c mE) (r : TabBuf (F := F) c mR)
    (hc : Copies c i e) (hp : ¬ k0_cond2 (rowsAt c i r) = 1#1) (hz : k0_cond3 (rowsAt c i r) = 1#1) (E : Set ℕ) (K : PUnit → sProp 𝕄) :
    iprop(owns (c : Thread nD τ) a3 fullShare (x0) ∗ owns (c : Thread nD τ) a4 fullShare (x1) ∗ owns (c : Thread nD τ) a5 fullShare (x2) ∗ owns (c : Thread nD τ) a6 fullShare (x3) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ tabAt c mE e ∗ tabAt c mR r
        ∗ (iprop(owns (c : Thread nD τ) a3 fullShare (x0) ∗ owns (c : Thread nD τ) a4 fullShare (x1) ∗ owns (c : Thread nD τ) a5 fullShare (x2) ∗ owns (c : Thread nD τ) a6 fullShare (x3) ∗ owns (c : Thread nD τ) a7 fullShare (k0_pay5 (F := F)) ∗ owns (c : Thread nD τ) a8 fullShare (k0_pay1 x1) ∗ owns (c : Thread nD τ) a9 fullShare (k0_pay2 x2) ∗ owns (c : Thread nD τ) a10 fullShare (k0_pay3 x3) ∗ tabAt c mE e ∗ tabAt c mR r) -∗ K ⟨⟩))
      ⊢ wp frame (wpE (defs₀ (F := F)) Variants.none c none) E (cc0_moe_experts i mE (Memref.isWhole_whole _) mR (Memref.isWhole_whole _) a3 h3 a4 h4 a5 h5 a6 h6 a7 h7 a8 h8 a9 h9 a10 h10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, HT0, HT1, Hk⟩
  obtain rfl := h3.eq_unread hf0; obtain rfl := h4.eq_unread hf1; obtain rfl := h5.eq_unread hf2; obtain rfl := h6.eq_unread hf3
  sl_exec (disch := first | sl_exact hc | sl_exact hp | sl_exact hz)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; swap; · iexact H4
    ipureintro
    exact View.read_writes_full _ _ _ _ _
  isplitl [HS0]
  · iexists _; isplitr; swap; · iexact HS0
    ipureintro; exact (View.read_writes_full _ _ _ _ _).trans (congrArg k0_pay1 ((View.readAt_full _ _ _).trans (h4.read_unread _)))
  isplitl [HS1]
  · iexists _; isplitr; swap; · iexact HS1
    ipureintro; exact (View.read_writes_full _ _ _ _ _).trans (congrArg k0_pay2 ((View.readAt_full _ _ _).trans (h5.read_unread _)))
  isplitl [HS2]
  · iexists _; isplitr; swap; · iexact HS2
    ipureintro; exact (View.read_writes_full _ _ _ _ _).trans (congrArg k0_pay3 ((View.readAt_full _ _ _).trans (h6.read_unread _)))
  isplitl [HT0]; · iexact HT0
  iexact HT1

set_option maxHeartbeats 1600000 in
/-- A point that keeps the weights and has rows: what the body leaves in the result's staging buffer and in the three weight copies. -/
theorem run_keep_rows (c : Dev nD) (i : grid0.Coords)
    (a3 : Memref sig .tc .vmem S2048x512 .bf16) (h3 : a3.IsWhole) (a4 : Memref sig .tc .vmem S1x1x1024x512 .f32) (h4 : a4.IsWhole)
    (a5 : Memref sig .tc .vmem S1x1x1024x512 .f32) (h5 : a5.IsWhole) (a6 : Memref sig .tc .vmem S1x1x512x1024 .f32) (h6 : a6.IsWhole)
    (a7 : Memref sig .tc .vmem S2048x512 .bf16) (h7 : a7.IsWhole) (a8 : Memref sig .tc .vmem S1024x512 .bf16) (h8 : a8.IsWhole)
    (a9 : Memref sig .tc .vmem S1024x512 .bf16) (h9 : a9.IsWhole) (a10 : Memref sig .tc .vmem S512x1024 .bf16) (h10 : a10.IsWhole)
    (x0 : Vec F S2048x512 .bf16) (x1 : Vec F S1x1x1024x512 .f32) (x2 : Vec F S1x1x1024x512 .f32) (x3 : Vec F S1x1x512x1024 .f32)
    (e : TabBuf (F := F) c mE) (r : TabBuf (F := F) c mR)
    (w1 : Vec F S1024x512 .bf16) (w3 : Vec F S1024x512 .bf16) (w2 : Vec F S512x1024 .bf16)
    (hc : ¬ Copies c i e) (hp : k0_cond2 (rowsAt c i r) = 1#1) (hz : ¬ k0_cond3 (rowsAt c i r) = 1#1) (E : Set ℕ) (K : PUnit → sProp 𝕄) :
    iprop(owns (c : Thread nD τ) a3 fullShare (x0) ∗ owns (c : Thread nD τ) a4 fullShare (x1) ∗ owns (c : Thread nD τ) a5 fullShare (x2) ∗ owns (c : Thread nD τ) a6 fullShare (x3) ∗ (∃ d, owns (c : Thread nD τ) a7 fullShare d) ∗ owns (c : Thread nD τ) a8 fullShare (w1) ∗ owns (c : Thread nD τ) a9 fullShare (w3) ∗ owns (c : Thread nD τ) a10 fullShare (w2) ∗ tabAt c mE e ∗ tabAt c mR r
        ∗ (iprop(owns (c : Thread nD τ) a3 fullShare (x0) ∗ owns (c : Thread nD τ) a4 fullShare (x1) ∗ owns (c : Thread nD τ) a5 fullShare (x2) ∗ owns (c : Thread nD τ) a6 fullShare (x3) ∗ owns (c : Thread nD τ) a7 fullShare (k0_pay4 (rowsAt c i r) x0 (w1) (w3) (w2)) ∗ owns (c : Thread nD τ) a8 fullShare (w1) ∗ owns (c : Thread nD τ) a9 fullShare (w3) ∗ owns (c : Thread nD τ) a10 fullShare (w2) ∗ tabAt c mE e ∗ tabAt c mR r) -∗ K ⟨⟩))
      ⊢ wp frame (wpE (defs₀ (F := F)) Variants.none c none) E (cc0_moe_experts i mE (Memref.isWhole_whole _) mR (Memref.isWhole_whole _) a3 h3 a4 h4 a5 h5 a6 h6 a7 h7 a8 h8 a9 h9 a10 h10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, HT0, HT1, Hk⟩
  obtain rfl := h3.eq_unread hf0; obtain rfl := h4.eq_unread hf1; obtain rfl := h5.eq_unread hf2; obtain rfl := h6.eq_unread hf3; obtain rfl := h8.eq_unread hs0; obtain rfl := h9.eq_unread hs1
  obtain rfl := h10.eq_unread hs2
  sl_exec (disch := first | sl_exact hc | sl_exact hp | sl_exact hz)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; swap; · iexact H4
    ipureintro
    exact (View.read_writes_full _ _ _ _ _).trans (pay4_congr ((View.readAt_full _ _ _).trans (h3.read_unread _))
      ((View.readAt_full _ _ _).trans (h8.read_unread _))
      ((View.readAt_full _ _ _).trans (h9.read_unread _))
      ((View.readAt_full _ _ _).trans (h10.read_unread _)))
  isplitl [HS0]
  · iexists _; isplitr; swap; · iexact HS0
    ipureintro; exact h8.read_unread _
  isplitl [HS1]
  · iexists _; isplitr; swap; · iexact HS1
    ipureintro; exact h9.read_unread _
  isplitl [HS2]
  · iexists _; isplitr; swap; · iexact HS2
    ipureintro; exact h10.read_unread _
  isplitl [HT0]; · iexact HT0
  iexact HT1

set_option maxHeartbeats 1600000 in
/-- A point that keeps the weights and has no row: what the body leaves in the result's staging buffer and in the three weight copies. -/
theorem run_keep_none (c : Dev nD) (i : grid0.Coords)
    (a3 : Memref sig .tc .vmem S2048x512 .bf16) (h3 : a3.IsWhole) (a4 : Memref sig .tc .vmem S1x1x1024x512 .f32) (h4 : a4.IsWhole)
    (a5 : Memref sig .tc .vmem S1x1x1024x512 .f32) (h5 : a5.IsWhole) (a6 : Memref sig .tc .vmem S1x1x512x1024 .f32) (h6 : a6.IsWhole)
    (a7 : Memref sig .tc .vmem S2048x512 .bf16) (h7 : a7.IsWhole) (a8 : Memref sig .tc .vmem S1024x512 .bf16) (h8 : a8.IsWhole)
    (a9 : Memref sig .tc .vmem S1024x512 .bf16) (h9 : a9.IsWhole) (a10 : Memref sig .tc .vmem S512x1024 .bf16) (h10 : a10.IsWhole)
    (x0 : Vec F S2048x512 .bf16) (x1 : Vec F S1x1x1024x512 .f32) (x2 : Vec F S1x1x1024x512 .f32) (x3 : Vec F S1x1x512x1024 .f32)
    (e : TabBuf (F := F) c mE) (r : TabBuf (F := F) c mR)
    (w1 : Vec F S1024x512 .bf16) (w3 : Vec F S1024x512 .bf16) (w2 : Vec F S512x1024 .bf16)
    (hc : ¬ Copies c i e) (hp : ¬ k0_cond2 (rowsAt c i r) = 1#1) (hz : k0_cond3 (rowsAt c i r) = 1#1) (E : Set ℕ) (K : PUnit → sProp 𝕄) :
    iprop(owns (c : Thread nD τ) a3 fullShare (x0) ∗ owns (c : Thread nD τ) a4 fullShare (x1) ∗ owns (c : Thread nD τ) a5 fullShare (x2) ∗ owns (c : Thread nD τ) a6 fullShare (x3) ∗ (∃ d, owns (c : Thread nD τ) a7 fullShare d) ∗ owns (c : Thread nD τ) a8 fullShare (w1) ∗ owns (c : Thread nD τ) a9 fullShare (w3) ∗ owns (c : Thread nD τ) a10 fullShare (w2) ∗ tabAt c mE e ∗ tabAt c mR r
        ∗ (iprop(owns (c : Thread nD τ) a3 fullShare (x0) ∗ owns (c : Thread nD τ) a4 fullShare (x1) ∗ owns (c : Thread nD τ) a5 fullShare (x2) ∗ owns (c : Thread nD τ) a6 fullShare (x3) ∗ owns (c : Thread nD τ) a7 fullShare (k0_pay5 (F := F)) ∗ owns (c : Thread nD τ) a8 fullShare (w1) ∗ owns (c : Thread nD τ) a9 fullShare (w3) ∗ owns (c : Thread nD τ) a10 fullShare (w2) ∗ tabAt c mE e ∗ tabAt c mR r) -∗ K ⟨⟩))
      ⊢ wp frame (wpE (defs₀ (F := F)) Variants.none c none) E (cc0_moe_experts i mE (Memref.isWhole_whole _) mR (Memref.isWhole_whole _) a3 h3 a4 h4 a5 h5 a6 h6 a7 h7 a8 h8 a9 h9 a10 h10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, HT0, HT1, Hk⟩
  obtain rfl := h3.eq_unread hf0; obtain rfl := h4.eq_unread hf1; obtain rfl := h5.eq_unread hf2; obtain rfl := h6.eq_unread hf3; obtain rfl := h8.eq_unread hs0; obtain rfl := h9.eq_unread hs1
  obtain rfl := h10.eq_unread hs2
  sl_exec (disch := first | sl_exact hc | sl_exact hp | sl_exact hz)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; swap; · iexact H4
    ipureintro
    exact View.read_writes_full _ _ _ _ _
  isplitl [HS0]
  · iexists _; isplitr; swap; · iexact HS0
    ipureintro; exact h8.read_unread _
  isplitl [HS1]
  · iexists _; isplitr; swap; · iexact HS1
    ipureintro; exact h9.read_unread _
  isplitl [HS2]
  · iexists _; isplitr; swap; · iexact HS2
    ipureintro; exact h10.read_unread _
  isplitl [HT0]; · iexact HT0
  iexact HT1

end Cert.ExpertsIdeal.Gen

end
-- ==== Proof.ExpertsIdealTables.lean ====
/- Where `ExpertsIdeal`'s reads of the tables fall, and the index maps that follow them. -/
module

public import proofs.«01_k».proof.Proof.ExpertsIdealSetup
public import Idealize.ShloMosaic.Lib.Pipeline.ValueKit

@[expose] public section

set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table entry of grid point `i`. -/
def tix (i : grid0.Coords) : S80.Idx := fun a => ⟨(i 0).val, by obtain rfl : a = 0 := Subsingleton.elim _ _; exact (i 0).isLt⟩

theorem off1_val : ∀ (i : grid0.Coords) (a : Fin 1), k0_off1 i a = (i 0).val := fun i a => by
  have h : (i 0).val < 80 := (i 0).isLt
  obtain rfl : a = 0 := Subsingleton.elim _ _
  show (Scalar.indexCast (BitVec.ofNat 32 (i 0).val)).toNat = (i 0).val
  simp only [Scalar.indexCast, BitVec.toNat_ofNat]
  omega

theorem off2_val : ∀ (i : grid0.Coords) (a : Fin 1), k0_off2 i a = (i 0).val - 1 := by decide +kernel

theorem hereAt_eq (c : Dev nD) (i : grid0.Coords) (f : TabBuf (F := F) c mE) : hereAt c i f = f (tix i) := by
  refine congrArg f (funext fun a => Fin.ext ?_)
  exact (Nat.add_zero _).trans (off1_val i a)

theorem rowsAt_eq (c : Dev nD) (i : grid0.Coords) (f : TabBuf (F := F) c mR) : rowsAt c i f = f (tix i) := by
  refine congrArg f (funext fun a => Fin.ext ?_)
  exact (Nat.add_zero _).trans (off1_val i a)

theorem prevAt_eq (c : Dev nD) (i j : grid0.Coords) (h : (j 0).val = (i 0).val - 1) (f : TabBuf (F := F) c mE) : prevAt c i f = f (tix j) := by
  refine congrArg f (funext fun a => Fin.ext ?_)
  exact (Nat.add_zero _).trans ((off2_val i a).trans h.symm)

/-- A point that keeps the weights is not the first, and its tile has the expert of the tile before it. -/
theorem keeps_iff (c : Dev nD) (i : grid0.Coords) (f : TabBuf (F := F) c mE) (h : ¬ Copies c i f) :
    (i 0).val ≠ 0 ∧ hereAt c i f = prevAt c i f := by
  have key : ∀ p q : BitVec 1, ¬ (Scalar.cmpi .ne (Scalar.extui (Scalar.ori p q)) (0#32 : BitVec 32)) = 1#1 → ¬ p = 1#1 ∧ ¬ q = 1#1 := by
    decide
  have hN : (i 0).val < 80 := (i 0).isLt
  obtain ⟨hp, hq⟩ := key _ _ h
  constructor
  · intro h0
    exact hp (by rw [h0]; rfl)
  · by_contra hne
    exact hq (by show BitVec.ofBool (hereAt c i f != prevAt c i f) = 1#1; rw [bne_iff_ne.mpr hne]; rfl)

/-- The word an index map reads is the tile's expert number. -/
theorem at_eq (pf : pre0.Contents (Elt F)) (i : grid0.Coords) :
    pf.at 0 (Rect.unit (s := S80) ![(Scalar.indexCast (BitVec.ofNat 32 (i 0).val)).toNat] S1.size (k0_off1_inb i)) numel1_S1 = pf 0 (tix i) := by
  refine congrArg (pf 0) (funext fun a => Fin.ext ?_)
  exact (Nat.add_zero _).trans (off1_val i a)

theorem map1_eq (pf : pre0.Contents (Elt F)) (i : grid0.Coords) :
    cc0_transform_1 k0_off1_inb numel1_S1 pf i = ![0, (pf 0 (tix i) : BitVec 32).toNat, 0, 0] := by
  rw [← at_eq pf i]; rfl
theorem map2_eq (pf : pre0.Contents (Elt F)) (i : grid0.Coords) :
    cc0_transform_2 k0_off1_inb numel1_S1 pf i = ![0, (pf 0 (tix i) : BitVec 32).toNat, 0, 0] := by
  rw [← at_eq pf i]; rfl
theorem map3_eq (pf : pre0.Contents (Elt F)) (i : grid0.Coords) :
    cc0_transform_3 k0_off1_inb numel1_S1 pf i = ![0, (pf 0 (tix i) : BitVec 32).toNat, 0, 0] := by
  rw [← at_eq pf i]; rfl

/-- Expert numbers below 16 keep every weight block inside its array. -/
theorem ok_of_lt (pf : pre0.Contents (Elt F)) (h : ∀ i : grid0.Coords, (pf 0 (tix i) : BitVec 32).toNat < 16) : ok0 pf := by
  unfold ok0
  refine ⟨fun i => ⟨fun a => ?_, .inl rfl⟩, fun i => ⟨fun a => ?_, .inl rfl⟩, fun i => ⟨fun a => ?_, .inl rfl⟩⟩
  · rw [map1_eq]; have := h i; fin_cases a <;> simp [Shape.size] <;> omega
  · rw [map2_eq]; have := h i; fin_cases a <;> simp [Shape.size] <;> omega
  · rw [map3_eq]; have := h i; fin_cases a <;> simp [Shape.size] <;> omega

/-- A row count is never both positive and zero. -/
theorem conds_excl (v : BitVec 32) : ¬ (k0_cond2 v = 1#1 ∧ k0_cond3 v = 1#1) := by
  rintro ⟨h2, h3⟩
  have h0 : v = 0#32 := by
    by_contra hne
    have : k0_cond3 v = 0#1 := by
      have e : Scalar.cmpi .eq v 0#32 = 0#1 := by
        show BitVec.ofBool (v == 0#32) = 0#1; rw [beq_false_of_ne hne]; rfl
      unfold k0_cond3; simp only [e]; decide
    rw [this] at h3; exact absurd h3 (by decide)
  subst h0
  exact absurd h2 (by decide)

/-- A row count that is not negative is positive or zero. -/
theorem conds_of_nonneg (v : BitVec 32) (h : 0 ≤ v.toInt) :
    (k0_cond2 v = 1#1 ∧ ¬ k0_cond3 v = 1#1 ∧ 0 < v.toInt) ∨ (¬ k0_cond2 v = 1#1 ∧ k0_cond3 v = 1#1 ∧ v.toInt = 0) := by
  by_cases h0 : v = 0#32
  · subst h0; right; decide
  · left
    have hz : ¬ k0_cond3 v = 1#1 := by
      have : k0_cond3 v = 0#1 := by
        have e : Scalar.cmpi .eq v 0#32 = 0#1 := by
          show BitVec.ofBool (v == 0#32) = 0#1; rw [beq_false_of_ne h0]; rfl
        unfold k0_cond3; simp only [e]; decide
      rw [this]; decide
    have hpos : 0 < v.toInt := by
      rcases h.lt_or_eq with h | h
      · exact h
      · exact absurd (BitVec.eq_of_toInt_eq (h.symm.trans (by decide : (0 : ℤ) = (0#32 : BitVec 32).toInt))) h0
    refine ⟨?_, hz, hpos⟩
    have hs : BitVec.slt 0#32 v = true := by
      rw [BitVec.slt_iff_toInt_lt]; simpa using hpos
    have e : Scalar.cmpi .sgt v 0#32 = 1#1 := by
      show BitVec.ofBool (BitVec.slt 0#32 v) = 1#1; rw [hs]; rfl
    unfold k0_cond2; simp only [e]; decide

end Cert.ExpertsIdeal.Gen

end
-- ==== Proof.ExpertsIdealBlocks.lean ====
/- The blocks the expert kernel's windows read, entry by entry. -/
module

public import proofs.«01_k».proof.Proof.ExpertsIdealTables
public import Idealize.ShloMosaic.Lib.Pipeline.ValueKit

@[expose] public section

set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (m : (ℓ : Loc nD τ sig) → Buf (Elt F) ℓ)

/-- Tile `t`'s expert number. -/
abbrev expertOf (t : Fin grid0.N) : ℕ := (tbl m 0 (tix (grid0.coords t)) : BitVec 32).toNat

theorem coords_val : ∀ t : Fin grid0.N, (grid0.coords t 0).val = t.val := by decide +kernel

theorem expert_lt (hO : Ok m) (t : Fin grid0.N) : expertOf m t < 16 := by
  obtain ⟨h, -⟩ := hO.1 (grid0.coords t)
  have h1 := h 1
  rw [map1_eq] at h1
  simpa using h1

/-- The weight blocks are the tile's expert's. -/
theorem iblk1_apply (hO : Ok m) (c : Dev nD) (t : Fin (cfgM m hO).N) (a b : Fin 1) (i : Fin 1024) (j : Fin 512) :
    iblk m hO c 1 t (ix4 a b i j) = entry m c main_arg3 (ix4 0 ⟨expertOf m t, expert_lt m hO t⟩ i j) := by
  obtain rfl : a = 0 := Subsingleton.elim _ _
  obtain rfl : b = 0 := Subsingleton.elim _ _
  refine congrArg (entry m c main_arg3) (funext fun a => Fin.ext ?_)
  have e : ((cfgM m hO).win 1).index t = ![0, expertOf m t, 0, 0] := map1_eq (tbl m) (grid0.coords t)
  fin_cases a <;> blk_simp [e] <;> rfl

theorem iblk2_apply (hO : Ok m) (c : Dev nD) (t : Fin (cfgM m hO).N) (a b : Fin 1) (i : Fin 1024) (j : Fin 512) :
    iblk m hO c 2 t (ix4 a b i j) = entry m c main_arg4 (ix4 0 ⟨expertOf m t, expert_lt m hO t⟩ i j) := by
  obtain rfl : a = 0 := Subsingleton.elim _ _
  obtain rfl : b = 0 := Subsingleton.elim _ _
  refine congrArg (entry m c main_arg4) (funext fun a => Fin.ext ?_)
  have e : ((cfgM m hO).win 2).index t = ![0, expertOf m t, 0, 0] := map2_eq (tbl m) (grid0.coords t)
  fin_cases a <;> blk_simp [e] <;> rfl

theorem iblk3_apply (hO : Ok m) (c : Dev nD) (t : Fin (cfgM m hO).N) (a b : Fin 1) (i : Fin 512) (j : Fin 1024) :
    iblk m hO c 3 t (ix4 a b i j) = entry m c main_arg5 (ix4 0 ⟨expertOf m t, expert_lt m hO t⟩ i j) := by
  obtain rfl : a = 0 := Subsingleton.elim _ _
  obtain rfl : b = 0 := Subsingleton.elim _ _
  refine congrArg (entry m c main_arg5) (funext fun a => Fin.ext ?_)
  have e : ((cfgM m hO).win 3).index t = ![0, expertOf m t, 0, 0] := map3_eq (tbl m) (grid0.coords t)
  fin_cases a <;> blk_simp [e] <;> rfl

theorem iblk0_apply (hO : Ok m) (c : Dev nD) (t : Fin (cfgM m hO).N) (i : Fin 2048) (j : Fin 512) (h : t.val * 2048 + i.val < 163840) :
    iblk m hO c 0 t (ix2 i j) = entry m c main_v6 (ix2 ⟨t.val * 2048 + i.val, h⟩ j) := by
  refine congrArg (entry m c main_v6) (funext fun a => Fin.ext ?_)
  have e : ∀ t : Fin grid0.N, cc0_transform_0 (grid0.coords t) = ![t.val, 0] := by decide +kernel
  have e : ((cfgM m hO).win 0).index t = ![t.val, 0] := e t
  fin_cases a <;> blk_simp [e] <;> rfl

end

section
variable (m : (ℓ : Loc nD τ sig) → Buf (Elt Ideal) ℓ)

/-- The array the rows come from: the second half of row `s`'s columns, then the first. -/
theorem entry_even (c : Dev nD) (s : Fin 81920) (q : Fin 512) : (entry m c main_v6 : FVec Ideal S163840x512 .bf16) (ix2 ⟨2 * s.val, by omega⟩ q)
    = (m ((c : Thread nD τ).loc main_arg0) : FVec Ideal S81920x1024 .f32) (ix2 s ⟨512 + q.val, by omega⟩) := by
  unfold entry
  entry_read
  pointwise
  rw [dif_pos (by omega)]
  exact congrArg (fun r : Fin 81920 => (m ((c : Thread nD τ).loc main_arg0) : FVec Ideal S81920x1024 .f32) (ix2 r _)) (Fin.ext (by show 2 * s.val / 2 = s.val; omega))

theorem entry_odd (c : Dev nD) (s : Fin 81920) (q : Fin 512) : (entry m c main_v6 : FVec Ideal S163840x512 .bf16) (ix2 ⟨2 * s.val + 1, by omega⟩ q)
    = (m ((c : Thread nD τ).loc main_arg0) : FVec Ideal S81920x1024 .f32) (ix2 s ⟨q.val, by omega⟩) := by
  unfold entry
  entry_read
  pointwise
  rw [dif_neg (by omega)]
  exact congrArg (fun r : Fin 81920 => (m ((c : Thread nD τ).loc main_arg0) : FVec Ideal S81920x1024 .f32) (ix2 r _)) (Fin.ext (by show (2 * s.val + 1) / 2 = s.val; omega))

end

end Cert.ExpertsIdeal.Gen

end
-- ==== Proof.ExpertsIdealFrame.lean ====
/- The expert program at the ideal instance runs, with every tile's result block named: from its rows and its expert's weights.
   Between points the three weight copies hold the weights of the point just run. -/
module

public import proofs.«01_k».proof.Proof.ExpertsIdealRuns
public import proofs.«01_k».proof.Proof.ExpertsIdealBlocks
public import Idealize.ShloMosaic.Lib.Claim

@[expose] public section

set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No tile's row count is negative. -/
abbrev RowsOk : Prop := ∀ i : grid0.Coords, 0 ≤ (tbl m 1 (tix i) : BitVec 32).toInt

/-- What the body leaves of the result at point `t`. -/
def outOf (hO : Ok m) (c : Dev nD) (t : Fin (cfgM m hO).N) : Vec F S2048x512 .bf16 :=
  if k0_cond2 (rowsAt c (grid0.coords t) (tbl m 1)) = 1#1 then
    k0_pay4 (rowsAt c (grid0.coords t) (tbl m 1)) (iblk m hO c 0 t) (k0_pay1 (iblk m hO c 1 t)) (k0_pay2 (iblk m hO c 2 t)) (k0_pay3 (iblk m hO c 3 t))
  else k0_pay5 (F := F)

/-- The three weight copies at the weights of point `t`, and the generator's register. -/
def kept (hO : Ok m) (c : Dev nD) (t : Fin (cfgM m hO).N) : sProp 𝕄 :=
  iprop(iprop(owns (c : Thread nD τ) mW1 fullShare (k0_pay1 (iblk m hO c 1 t)) ∗ owns (c : Thread nD τ) mW3 fullShare (k0_pay2 (iblk m hO c 2 t))
    ∗ owns (c : Thread nD τ) mW2 fullShare (k0_pay3 (iblk m hO c 3 t))) ∗ (∃ r, prngReg c r))

/-- What is held between points: before the first, the copies at anything; after a point, at that point's weights. -/
def between (hO : Ok m) (c : Dev nD) (k : Fin ((cfgM m hO).N + 1)) : sProp 𝕄 :=
  if h : k.val = 0 then Pipeline.ΦA spec0 c else kept m hO c ⟨k.val - 1, by have := k.isLt; omega⟩

def dats (hO : Ok m) (_ : Fin 1) (c : Dev nD) : Dat τ (Elt F) Unit ℕ (UR sig nD τ) ℕ (cfgM m hO) c where
  A w := entry m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outOf m hO c t
  Φ k := iprop(between m hO c k ∗ Pipeline.ΦT pre0 (tbl m) c)
  q _ := fullShare
  owed _ := 0

theorem dats_A (hO : Ok m) (c : Dev nD) (w : Fin (cfgM m hO).W) : (dats m hO 0 c).A w = entry m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = outOf m hO c t := by dsimp only [dats]; try rfl

theorem between_succ (hO : Ok m) (c : Dev nD) (t : Fin (cfgM m hO).N) : between m hO c t.succ = kept m hO c t :=
  dif_neg (Nat.succ_ne_zero _)

theorem kept_forget (hO : Ok m) (c : Dev nD) (t : Fin (cfgM m hO).N) : kept m hO c t ⊢ Pipeline.ΦA spec0 c := by
  rw [scratch_eq]; unfold kept
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

theorem between_forget (hO : Ok m) (c : Dev nD) (k : Fin ((cfgM m hO).N + 1)) : between m hO c k ⊢ Pipeline.ΦA spec0 c := by
  unfold between
  by_cases h : k.val = 0
  · rw [dif_pos h]
  · rw [dif_neg h]; exact kept_forget m hO c _

/-- Points with the same expert have the same block of weight array 1. -/
theorem iblk1_eq (hO : Ok m) (c : Dev nD) (s t : Fin (cfgM m hO).N) (h : expertOf m s = expertOf m t) :
    (iblk m hO c 1 s : Vec F S1x1x1024x512 .f32) = iblk m hO c 1 t := by
  refine funext fun y : S1x1x1024x512.Idx => ?_
  have hy : y = ix4 (y 0) (y 1) (y 2) (y 3) := by funext a; fin_cases a <;> rfl
  rw [hy]
  refine (iblk1_apply m hO c s (y 0) (y 1) (y 2) (y 3)).trans (Eq.trans ?_ (iblk1_apply m hO c t (y 0) (y 1) (y 2) (y 3)).symm)
  exact congrArg (fun e : Fin 16 => (entry m c main_arg3 : Vec F _ .f32) (ix4 0 e (y 2) (y 3))) (Fin.ext h)

/-- Points with the same expert have the same block of weight array 2. -/
theorem iblk2_eq (hO : Ok m) (c : Dev nD) (s t : Fin (cfgM m hO).N) (h : expertOf m s = expertOf m t) :
    (iblk m hO c 2 s : Vec F S1x1x1024x512 .f32) = iblk m hO c 2 t := by
  refine funext fun y : S1x1x1024x512.Idx => ?_
  have hy : y = ix4 (y 0) (y 1) (y 2) (y 3) := by funext a; fin_cases a <;> rfl
  rw [hy]
  refine (iblk2_apply m hO c s (y 0) (y 1) (y 2) (y 3)).trans (Eq.trans ?_ (iblk2_apply m hO c t (y 0) (y 1) (y 2) (y 3)).symm)
  exact congrArg (fun e : Fin 16 => (entry m c main_arg4 : Vec F _ .f32) (ix4 0 e (y 2) (y 3))) (Fin.ext h)

/-- Points with the same expert have the same block of weight array 3. -/
theorem iblk3_eq (hO : Ok m) (c : Dev nD) (s t : Fin (cfgM m hO).N) (h : expertOf m s = expertOf m t) :
    (iblk m hO c 3 s : Vec F S1x1x512x1024 .f32) = iblk m hO c 3 t := by
  refine funext fun y : S1x1x512x1024.Idx => ?_
  have hy : y = ix4 (y 0) (y 1) (y 2) (y 3) := by funext a; fin_cases a <;> rfl
  rw [hy]
  refine (iblk3_apply m hO c s (y 0) (y 1) (y 2) (y 3)).trans (Eq.trans ?_ (iblk3_apply m hO c t (y 0) (y 1) (y 2) (y 3)).symm)
  exact congrArg (fun e : Fin 16 => (entry m c main_arg5 : Vec F _ .f32) (ix4 0 e (y 2) (y 3))) (Fin.ext h)

/-- At a point that keeps the weights, the point before it had the same weight blocks. -/
theorem between_keep (hO : Ok m) (c : Dev nD) (t : Fin (cfgM m hO).N) (h : ¬ Copies c (grid0.coords t) (tbl m 0)) :
    between m hO c t.castSucc = kept m hO c t := by
  obtain ⟨h0, he⟩ := keeps_iff c _ _ h
  have hv := coords_val t
  have ht : t.val ≠ 0 := by rw [← hv]; exact h0
  have hlt : t.val - 1 < grid0.N := lt_of_le_of_lt (Nat.sub_le _ _) t.isLt
  have hx : expertOf m ⟨t.val - 1, hlt⟩ = expertOf m t := by
    have hh := (hereAt_eq c (grid0.coords t) (tbl m 0)).symm.trans (he.trans (prevAt_eq c (grid0.coords t)
      (grid0.coords ⟨t.val - 1, hlt⟩) (by rw [coords_val, coords_val]) (tbl m 0)))
    exact (congrArg BitVec.toNat hh).symm
  unfold between
  rw [dif_neg (show ¬ (t.castSucc).val = 0 from ht)]
  unfold kept
  have e1 := iblk1_eq m hO c ⟨t.val - 1, hlt⟩ t hx
  have e2 := iblk2_eq m hO c ⟨t.val - 1, hlt⟩ t hx
  have e3 := iblk3_eq m hO c ⟨t.val - 1, hlt⟩ t hx
  show (iprop(iprop(owns (c : Thread nD τ) mW1 fullShare (k0_pay1 (iblk m hO c 1 ⟨t.val - 1, hlt⟩) : Vec F S1024x512 .bf16) ∗ owns (c : Thread nD τ) mW3 fullShare (k0_pay2 (iblk m hO c 2 ⟨t.val - 1, hlt⟩) : Vec F S1024x512 .bf16)
      ∗ owns (c : Thread nD τ) mW2 fullShare (k0_pay3 (iblk m hO c 3 ⟨t.val - 1, hlt⟩) : Vec F S512x1024 .bf16)) ∗ (∃ r, prngReg c r)) : sProp 𝕄) = _
  rw [show (k0_pay1 (iblk m hO c 1 ⟨t.val - 1, hlt⟩) : Vec F S1024x512 .bf16) = k0_pay1 (iblk m hO c 1 t) from congrArg _ e1,
    show (k0_pay2 (iblk m hO c 2 ⟨t.val - 1, hlt⟩) : Vec F S1024x512 .bf16) = k0_pay2 (iblk m hO c 2 t) from congrArg _ e2,
    show (k0_pay3 (iblk m hO c 3 ⟨t.val - 1, hlt⟩) : Vec F S512x1024 .bf16) = k0_pay3 (iblk m hO c 3 t) from congrArg _ e3]

/-- What the body starts from at point `t`. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st0 m hO t) fullShare ((dats m hO 0 c).before 0 t d))
    ∗ (∃ d, owns (c : Thread nD τ) (st1 m hO t) fullShare ((dats m hO 0 c).before 1 t d))
    ∗ (∃ d, owns (c : Thread nD τ) (st2 m hO t) fullShare ((dats m hO 0 c).before 2 t d))
    ∗ (∃ d, owns (c : Thread nD τ) (st3 m hO t) fullShare ((dats m hO 0 c).before 3 t d))
    ∗ (∃ d, owns (c : Thread nD τ) (st4 m hO t) fullShare ((dats m hO 0 c).before 4 t d)))

/-- What it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (st0 m hO t) fullShare ((dats m hO 0 c).after 0 t)
    ∗ owns (c : Thread nD τ) (st1 m hO t) fullShare ((dats m hO 0 c).after 1 t)
    ∗ owns (c : Thread nD τ) (st2 m hO t) fullShare ((dats m hO 0 c).after 2 t)
    ∗ owns (c : Thread nD τ) (st3 m hO t) fullShare ((dats m hO 0 c).after 3 t)
    ∗ owns (c : Thread nD τ) (st4 m hO t) fullShare ((dats m hO 0 c).after 4 t))

set_option maxHeartbeats 3200000 in
/-- The body's triple at any point. -/
theorem sound_body (hO : Ok m) (hR : RowsOk m) (c : Dev nD) (t : Fin (cfgM m hO).N) :
    bodyPre m hO c t ⊢ wp frame (wpE (defs₀ (F := F)) Variants.none c none) Set.univ (bodyAt m hO t) (fun _ => bodyPost m hO c t) := by
  have hb := before_in m hO (dats m hO 0 c) (dats_A m hO c) t
  unfold bodyPre bodyPost bodyAt
  simp only [hb.1 (after_0 m hO c), hb.2.1 (after_1 m hO c), hb.2.2.1 (after_2 m hO c), hb.2.2.2 (after_3 m hO c)]
  rw [show (dats m hO 0 c).owesAt () t.succ = (dats m hO 0 c).owesAt () t.castSucc from rfl, after_0, after_1, after_2, after_3, after_4]
  rw [show (dats m hO 0 c).Φ t.castSucc = iprop(between m hO c t.castSucc ∗ Pipeline.ΦT pre0 (tbl m) c) from rfl,
    show (dats m hO 0 c).Φ t.succ = iprop(between m hO c t.succ ∗ Pipeline.ΦT pre0 (tbl m) c) from rfl, tables_eq, between_succ]
  have hr : 0 ≤ (rowsAt c (grid0.coords t) (tbl m 1) : BitVec 32).toInt := le_of_le_of_eq (hR _) (congrArg BitVec.toInt (rowsAt_eq c (grid0.coords t) (tbl m 1)).symm)
  unfold outOf
  have hk : kept m hO c t = iprop(iprop(owns (c : Thread nD τ) mW1 fullShare (k0_pay1 (iblk m hO c 1 t)) ∗ owns (c : Thread nD τ) mW3 fullShare (k0_pay2 (iblk m hO c 2 t))
    ∗ owns (c : Thread nD τ) mW2 fullShare (k0_pay3 (iblk m hO c 3 t))) ∗ (∃ r, prngReg c r)) := rfl
  rcases Classical.em (Copies c (grid0.coords t) (tbl m 0)) with hc | hc <;> rcases conds_of_nonneg _ hr with ⟨hp, hz, -⟩ | ⟨hp, hz, -⟩
  · rw [if_pos hp, hk]
    refine (sep_mono (sep_mono (between_forget m hO c _) .rfl) .rfl).trans ?_
    rw [scratch_eq]
    iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩⟩
    iapply (run_copy_rows c (grid0.coords t) _ _ _ _ _ _ _ _ _ _ _ _ _ _ _ _ (iblk m hO c 0 t) (iblk m hO c 1 t) (iblk m hO c 2 t)
      (iblk m hO c 3 t) (tbl m 0) (tbl m 1) hc hp hz Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HT0]; · iexact HT0
    isplitl [HT1]; · iexact HT1
    iintro ⟨H0, H1, H2, H3, H4, HS0, HS1, HS2, HT0, HT1⟩
    isplitl [HS0 HS1 HS2 Hg HT0 HT1]
    · isplitl [HS0 HS1 HS2 Hg]
      · isplitl [HS0 HS1 HS2]
        · isplitl [HS0]
          · iexact HS0
          isplitl [HS1]
          · iexact HS1
          iexact HS2
        iexact Hg
      isplitl [HT0]; · iexact HT0
      iexact HT1
    isplitl [Ho]; · iexact Ho
    isplitl [H0]; · iexact H0
    isplitl [H1]; · iexact H1
    isplitl [H2]; · iexact H2
    isplitl [H3]; · iexact H3
    iexact H4
  · rw [if_neg hp, hk]
    refine (sep_mono (sep_mono (between_forget m hO c _) .rfl) .rfl).trans ?_
    rw [scratch_eq]
    iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩⟩
    iapply (run_copy_none c (grid0.coords t) _ _ _ _ _ _ _ _ _ _ _ _ _ _ _ _ (iblk m hO c 0 t) (iblk m hO c 1 t) (iblk m hO c 2 t)
      (iblk m hO c 3 t) (tbl m 0) (tbl m 1) hc hp hz Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HT0]; · iexact HT0
    isplitl [HT1]; · iexact HT1
    iintro ⟨H0, H1, H2, H3, H4, HS0, HS1, HS2, HT0, HT1⟩
    isplitl [HS0 HS1 HS2 Hg HT0 HT1]
    · isplitl [HS0 HS1 HS2 Hg]
      · isplitl [HS0 HS1 HS2]
        · isplitl [HS0]
          · iexact HS0
          isplitl [HS1]
          · iexact HS1
          iexact HS2
        iexact Hg
      isplitl [HT0]; · iexact HT0
      iexact HT1
    isplitl [Ho]; · iexact Ho
    isplitl [H0]; · iexact H0
    isplitl [H1]; · iexact H1
    isplitl [H2]; · iexact H2
    isplitl [H3]; · iexact H3
    iexact H4
  · rw [if_pos hp, between_keep m hO c t hc, hk]
    iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩⟩
    iapply (run_keep_rows c (grid0.coords t) _ _ _ _ _ _ _ _ _ _ _ _ _ _ _ _ (iblk m hO c 0 t) (iblk m hO c 1 t) (iblk m hO c 2 t)
      (iblk m hO c 3 t) (tbl m 0) (tbl m 1) (k0_pay1 (iblk m hO c 1 t)) (k0_pay2 (iblk m hO c 2 t)) (k0_pay3 (iblk m hO c 3 t)) hc hp hz Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HT0]; · iexact HT0
    isplitl [HT1]; · iexact HT1
    iintro ⟨H0, H1, H2, H3, H4, HS0, HS1, HS2, HT0, HT1⟩
    isplitl [HS0 HS1 HS2 Hg HT0 HT1]
    · isplitl [HS0 HS1 HS2 Hg]
      · isplitl [HS0 HS1 HS2]
        · isplitl [HS0]
          · iexact HS0
          isplitl [HS1]
          · iexact HS1
          iexact HS2
        iexact Hg
      isplitl [HT0]; · iexact HT0
      iexact HT1
    isplitl [Ho]; · iexact Ho
    isplitl [H0]; · iexact H0
    isplitl [H1]; · iexact H1
    isplitl [H2]; · iexact H2
    isplitl [H3]; · iexact H3
    iexact H4
  · rw [if_neg hp, between_keep m hO c t hc, hk]
    iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩⟩
    iapply (run_keep_none c (grid0.coords t) _ _ _ _ _ _ _ _ _ _ _ _ _ _ _ _ (iblk m hO c 0 t) (iblk m hO c 1 t) (iblk m hO c 2 t)
      (iblk m hO c 3 t) (tbl m 0) (tbl m 1) (k0_pay1 (iblk m hO c 1 t)) (k0_pay2 (iblk m hO c 2 t)) (k0_pay3 (iblk m hO c 3 t)) hc hp hz Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HT0]; · iexact HT0
    isplitl [HT1]; · iexact HT1
    iintro ⟨H0, H1, H2, H3, H4, HS0, HS1, HS2, HT0, HT1⟩
    isplitl [HS0 HS1 HS2 Hg HT0 HT1]
    · isplitl [HS0 HS1 HS2 Hg]
      · isplitl [HS0 HS1 HS2]
        · isplitl [HS0]
          · iexact HS0
          isplitl [HS1]
          · iexact HS1
          iexact HS2
        iexact Hg
      isplitl [HT0]; · iexact HT0
      iexact HT1
    isplitl [Ho]; · iexact Ho
    isplitl [H0]; · iexact H0
    isplitl [H1]; · iexact H1
    isplitl [H2]; · iexact H2
    isplitl [H3]; · iexact H3
    iexact H4

/-- The result's window is written at every point. -/
theorem busy (hR : RowsOk m) (i : grid0.Coords) : idle0 (tbl m) 4 i = false := by
  have e : Pipeline.Prefetch.Contents.atD (tbl m) 1 (k0_off1 i) = tbl m 1 (tix i) := by
    have h : ∀ a : Fin 1, k0_off1 i a + 1 ≤ S80.size a := fun a => by
      have := k0_off1_inb i a
      obtain rfl : a = 0 := Subsingleton.elim _ _
      exact this
    exact (dif_pos h).trans (congrArg (tbl m 1) (funext fun a => Fin.ext (off1_val i a)))
  show (!(k0_cond2 (Pipeline.Prefetch.Contents.atD (tbl m) 1 (k0_off1 i)) == 1#1) && !(k0_cond3 (Pipeline.Prefetch.Contents.atD (tbl m) 1 (k0_off1 i)) == 1#1)) = false
  rw [e]
  rcases conds_of_nonneg _ (hR i) with ⟨hp, -, -⟩ | ⟨-, hz, -⟩
  · rw [hp]; rfl
  · rw [hz]; simp

theorem body_obligation (hO : Ok m) (hR : RowsOk m) (c : Dev nD) :
    BodyObligation (dats (F := F) m hO 0 c) (defs₀ (F := F)) Variants.none () Set.univ := fun t => by
  rw [bigSep_W0, bigSep_W0, body_row m hO]
  have hbz : (cfgM m hO).idle (4 : Fin 5) ((cfgM m hO).grid.coords t) = false := busy m hR _
  rw [hbz]
  exact triple_restated (sound_body m hO hR c t) rfl .rfl fun _ => .rfl

set_option backward.isDefEq.respectTransparency.types false in
/-- The run: it ends with every window's array named and every semaphore at zero. -/
theorem run_main (hO : Ok m) (hR : RowsOk m) : θ_run defs (onTc (τ := τ) (main (F := F))) (s₀ m ρ)
    (fun r => Pipeline.FramePost (Pipeline.pin pcfgs fun _ => adm m hO) (dats m hO) (0 : Fin 1) (entry m) r ∧ r.2.sem = fun _ => 0) :=
  Pipeline.θ_run_frameP_track (Q' := _) pcfgs (fun _ => adm m hO) (dats m hO) (0 : Fin 1) launch0 defs₀ Variants.none m ρ main
    (hbody := fun c => (body_obligation m hO hR c).loose) (hshare := fun c => (dats m hO 0 c).share_full fun _ => rfl)
    (howed := fun _ _ => rfl) (V := entry m) (hmain := main_prefix m Variants.none) (hA := dats_A m hO) (hpf := entry_tbl m)
    (hin := fun c => .rfl) (hout := fun c => sep_elim_left.trans (between_forget m hO c _))

/-- THE RUN of the ideal program: the result is the window's array after the last point, the arguments are unchanged. -/
theorem run_value (hO : Ok m) (hR : RowsOk m) : θ_run defs (onTc (τ := τ) (main (F := F))) ⟨m, fun _ => 0, ρ⟩ (fun r => (∀ c : Dev nD,
      r.2.mem ((c.tc : Thread nD τ).loc main_v7) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hh => ⟨fun c => ⟨((hh.1) c).1 4,
      (((hh.1) c).2 main_arg0 (by decide : main_arg0 ∈ Pipeline.restRefs sig spec0)).trans (entry_args m c).1,
      (((hh.1) c).2 main_arg1 (by decide : main_arg1 ∈ Pipeline.restRefs sig spec0)).trans (entry_args m c).2.1,
      (((hh.1) c).2 main_arg2 (by decide : main_arg2 ∈ Pipeline.restRefs sig spec0)).trans (entry_args m c).2.2.1,
      (((hh.1) c).1 1).trans (((dats m hO 0 c).arrAt_in 1 rfl _).trans ((dats_A m hO c 1).trans (entry_args m c).2.2.2.1)),
      (((hh.1) c).1 2).trans (((dats m hO 0 c).arrAt_in 2 rfl _).trans ((dats_A m hO c 2).trans (entry_args m c).2.2.2.2.1)),
      (((hh.1) c).1 3).trans (((dats m hO 0 c).arrAt_in 3 rfl _).trans ((dats_A m hO c 3).trans (entry_args m c).2.2.2.2.2))⟩, hh.2⟩) (run_main m ρ hO hR)

end Cert.ExpertsIdeal.Gen

end
-- ==== Proof.ExpertsMeet.lean ====
/- The expert program's result is the reference's. -/
module

public import proofs.«01_k».proof.Proof.ExpertsRef
public import proofs.«01_k».proof.Proof.ExpertsIdealRow
public import proofs.«01_k».proof.Proof.ExpertsIdealFrame
public import proofs.«01_k».proof.Defs
public import Idealize.ShloMosaic.Lib.Pipeline.Covers

@[expose] public section

set_option maxRecDepth 16384

noncomputable section

open Idealize.ShloMosaic Idealize.ShloMosaic.TcCoe Idealize.SL.Sem

namespace Cert.ExpertsIdeal.Row

open Cert.ExpertsIdeal Cert.ExpertsIdeal.Gen Cert.Ffn

variable (m : (ℓ : Loc nD τ sig) → Buf (Elt Ideal) ℓ)

/-- The result's block at a point is the point's own. -/
theorem index4 : ∀ t : Fin grid0.N, cc0_transform_4 (grid0.coords t) = ![t.val, 0] := by decide +kernel

theorem covers (hO : Ok m) : ((cfgM m hO).win 4).Covers := by
  have e : ∀ t, ((cfgM m hO).win 4).index t = ![t.val, 0] := index4
  refine Pipeline.Window.covers_of_index_surj _ rfl (by decide : ∀ a : Fin 2, 0 < S2048x512.size a) fun (β : (a : Fin 2) → Fin ((S163840x512.size a + S2048x512.size a - 1) / S2048x512.size a)) => ?_
  refine ⟨⟨(β 0).val, show (β 0).val < 80 from lt_of_lt_of_eq (β 0).isLt (by decide)⟩, fun (a : Fin 2) => ?_⟩
  rw [e]
  fin_cases a
  · rfl
  · exact (Nat.lt_one_iff.1 (β 1).isLt).symm

/-- The expert of a tile, from the table. -/
def theExpert (hO : Ok m) (t : Fin grid0.N) : Fin 16 := ⟨expertOf m t, expert_lt m hO t⟩

/-- What the body leaves of the result at a point, from the arguments. -/
theorem out_apply (hO : Ok m) (hR : RowsOk m) (c : Dev nD) (t : Fin grid0.N) (r : Fin 2048) (q : Fin 512) :
    outOf m hO c t (ix2 r q) = ffn (masked (rowsAt c (grid0.coords t) (tbl m 1)) ⟨r.val / 2, by omega⟩
        fun k => (m ((c : Thread nD τ).loc main_arg0) : FVec Ideal S81920x1024 .f32) (ix2 ⟨t.val * 1024 + r.val / 2, by have : t.val < 80 := t.isLt; omega⟩ k))
      (fun k f => (m ((c : Thread nD τ).loc main_arg3) : FVec Ideal S4x16x1024x512 .f32) (ix4 0 (theExpert m hO t) k f))
      (fun k f => (m ((c : Thread nD τ).loc main_arg4) : FVec Ideal S4x16x1024x512 .f32) (ix4 0 (theExpert m hO t) k f))
      (fun f d => (m ((c : Thread nD τ).loc main_arg5) : FVec Ideal S4x16x512x1024 .f32) (ix4 0 (theExpert m hO t) f d))
      ⟨(1 - r.val % 2) * 512 + q.val, by omega⟩ := by
  have hr : (rowsAt c (grid0.coords t) (tbl m 1) : BitVec 32) = tbl m 1 (tix (grid0.coords t)) := rowsAt_eq c _ (tbl m 1)
  have ht : t.val < 80 := t.isLt
  have hc := conds_of_nonneg (rowsAt c (grid0.coords t) (tbl m 1)) (le_of_le_of_eq (hR _) (congrArg BitVec.toInt hr.symm))
  unfold outOf
  refine tile_apply _ _ _ _ _ (hc.imp (fun h => h.1) fun h => ⟨h.1, h.2.2⟩) r q _ _ _ _ (fun k => ?_) (fun k f => ?_) (fun k f => ?_) (fun f k => ?_)
  · by_cases h : k.val < 512
    · refine (dif_pos h).trans ?_
      refine (iblk0_apply m hO c t _ _ (by show t.val * 2048 + (2 * (r.val / 2) + 1) < 163840; omega)).trans (Eq.trans ?_ (entry_odd m c ⟨t.val * 1024 + r.val / 2, by omega⟩ ⟨k.val, h⟩))
      exact congrArg (fun z : Fin 163840 => (entry m c main_v6 : FVec Ideal S163840x512 .bf16) (ix2 z _)) (Fin.ext (by show t.val * 2048 + (2 * (r.val / 2) + 1) = 2 * (t.val * 1024 + r.val / 2) + 1; omega))
    · refine (dif_neg h).trans ?_
      refine (iblk0_apply m hO c t _ _ (by show t.val * 2048 + 2 * (r.val / 2) < 163840; omega)).trans (Eq.trans ?_ ((entry_even m c ⟨t.val * 1024 + r.val / 2, by omega⟩ ⟨k.val - 512, by omega⟩).trans ?_))
      · exact congrArg (fun z : Fin 163840 => (entry m c main_v6 : FVec Ideal S163840x512 .bf16) (ix2 z _)) (Fin.ext (by show t.val * 2048 + 2 * (r.val / 2) = 2 * (t.val * 1024 + r.val / 2); omega))
      · exact congrArg (fun z : Fin 1024 => (m ((c : Thread nD τ).loc main_arg0) : FVec Ideal S81920x1024 .f32) (ix2 _ z)) (Fin.ext (by show 512 + (k.val - 512) = k.val; omega))
  · exact (iblk1_apply m hO c t 0 0 k f).trans (congrFun (entry_args m c).2.2.2.1 _)
  · exact (iblk2_apply m hO c t 0 0 k f).trans (congrFun (entry_args m c).2.2.2.2.1 _)
  · exact (iblk3_apply m hO c t 0 0 f k).trans (congrFun (entry_args m c).2.2.2.2.2 _)

/-- The reference's result at pair row `r` of tile `t`. -/
theorem ref_apply (X : FVec Ideal ExpertsReferenceIdeal.S81920x1024 .f32) (e n : IVec ExpertsReferenceIdeal.S80 32) (W1 W3 : FVec Ideal ExpertsReferenceIdeal.S4x16x1024x512 .f32)
    (W2 : FVec Ideal ExpertsReferenceIdeal.S4x16x512x1024 .f32) (t : Fin 80) (r : Fin 2048) (q : Fin 512) (x : Fin 16) (hx : (e (ix1 t)).toNat = x.val) :
    ExpertsReferenceIdeal.Read.result e (ExpertsReferenceIdeal.Read.all (ExpertsReferenceIdeal.Read.rows X n) W1 W3 W2) (ix2 ⟨t.val * 2048 + r.val, by omega⟩ q)
      = ffn (masked (n (ix1 t)) ⟨r.val / 2, by omega⟩ fun k => X (ix2 ⟨t.val * 1024 + r.val / 2, by omega⟩ k))
        (fun k f => W1 (ix4 0 x k f)) (fun k f => W3 (ix4 0 x k f)) (fun f d => W2 (ix4 0 x f d)) ⟨(1 - r.val % 2) * 512 + q.val, by omega⟩ := by
  rw [ExpertsReferenceIdeal.Read.result_apply e _ ⟨t.val * 2048 + r.val, by omega⟩ q t ⟨r.val / 2, by omega⟩ ⟨(1 - r.val % 2) * 512 + q.val, by omega⟩
    (by show t.val = (t.val * 2048 + r.val) / 2048; omega) (by show r.val / 2 = (t.val * 2048 + r.val) / 2 % 1024; omega)
    (by show (1 - r.val % 2) * 512 + q.val = (1 - (t.val * 2048 + r.val) % 2) * 512 + q.val; omega)]
  simp only [ExpertsReferenceIdeal.Read.mine_apply e _ t x hx]
  rw [pick, ExpertsReferenceIdeal.Read.all_apply]
  simp only [ExpertsReferenceIdeal.Read.rows_apply]

theorem tix_coords (t : Fin grid0.N) : tix (grid0.coords t) = ix1 (⟨t.val, t.isLt⟩ : Fin 80) := by
  funext a
  obtain rfl : a = 0 := Subsingleton.elim _ _
  exact Fin.ext (coords_val t)

/-- THE RESULT ARRAY AFTER THE RUN is the reference's, over the tables the program reads. -/
theorem final (hO : Ok m) (hR : RowsOk m) (c : Dev nD) (e n : IVec S80 32) (he : (tbl m 0 : IVec S80 32) = e) (hn : (tbl m 1 : IVec S80 32) = n) :
    (dats m hO 0 c).arrAt 4 (cfgM m hO).N = Cert.ExpertsReferenceIdeal.Read.result e
      (Cert.ExpertsReferenceIdeal.Read.all (Cert.ExpertsReferenceIdeal.Read.rows (m ((c : Thread nD τ).loc main_arg0)) n)
        (m ((c : Thread nD τ).loc main_arg3)) (m ((c : Thread nD τ).loc main_arg4)) (m ((c : Thread nD τ).loc main_arg5))) := by
  have e4 : ∀ t, ((cfgM m hO).win 4).index t = ![t.val, 0] := index4
  refine (dats m hO 0 c).arrAt_eq_of_covers 4 _ (covers m hO) fun t _ (y : S2048x512.Idx) => ?_
  blk_simp
  rw [after_4]
  have ht : t.val < 80 := t.isLt
  obtain ⟨r, q, hy⟩ : ∃ (r : Fin 2048) (q : Fin 512), y = ix2 r q := ⟨y 0, y 1, by funext a; fin_cases a <;> rfl⟩
  have hi : (((cfgM m hO).win 4).blk t).view.emb y = ix2 (⟨t.val * 2048 + r.val, by omega⟩ : Fin 163840) q := by
    subst hy
    funext a
    fin_cases a <;> refine Fin.ext ?_ <;> blk_simp [e4 t] <;> rfl
  refine Eq.trans ?_ (congrArg _ hi.symm)
  refine (congrArg (outOf m hO c t) hy).trans ((out_apply m hO hR c t r q).trans (Eq.trans ?_ (ref_apply (m ((c : Thread nD τ).loc main_arg0)) e n
    (m ((c : Thread nD τ).loc main_arg3)) (m ((c : Thread nD τ).loc main_arg4)) (m ((c : Thread nD τ).loc main_arg5)) ⟨t.val, ht⟩ r q (theExpert m hO t) ?_).symm))
  · refine congrArg (fun v : BitVec 32 => ffn (masked v _ _) _ _ _ _) ?_
    rw [← hn, ← tix_coords]
    exact rowsAt_eq c _ (tbl m 1)
  · rw [← he, ← tix_coords]
    rfl

end Cert.ExpertsIdeal.Row

end
-- ==== Proof.ExpertsClaims.lean ====
/- The claims of the expert kernel. -/
module

public import proofs.«01_k».proof.Proof.ExpertsPre
public import proofs.«01_k».proof.Proof.ExpertsFrame
public import proofs.«01_k».proof.Proof.ExpertsMeet
public import proofs.«01_k».proof.Defs
public import Idealize.ShloMosaic.Lib.Bf16Pair

@[expose] public section

noncomputable section

open Idealize.ShloMosaic Idealize.ShloMosaic.TcCoe Idealize.SL.Sem

namespace Cert.ExpertsClaims

/-- The precondition gives the kernel's tables what its run needs. -/
theorem ok (m : (ℓ : Loc Experts.nD Experts.τ Experts.sig) → Buf (Elt Bits) ℓ) (h : Pre_Experts m) : Experts.Gen.Ok m := by
  refine Experts.Gen.ok_of_lt _ fun i => ?_
  rw [Experts.Gen.tbl_zero]
  exact Tables.expert_lt _ _ _ _ _ _ (h 0).1 _

/-- The same of the idealized kernel. -/
theorem ok_ideal (m : (ℓ : Loc ExpertsIdeal.nD ExpertsIdeal.τ ExpertsIdeal.sig) → Buf (Elt Ideal) ℓ) (h : Pre_ExpertsIdeal m) : ExpertsIdeal.Gen.Ok m := by
  refine ExpertsIdeal.Gen.ok_of_lt _ fun i => ?_
  rw [ExpertsIdeal.Gen.tbl_zero]
  exact Tables.expert_lt _ _ _ _ _ _ (h 0).1 _

/-- No tile of the idealized kernel counts fewer than no rows. -/
theorem rows_ideal (m : (ℓ : Loc ExpertsIdeal.nD ExpertsIdeal.τ ExpertsIdeal.sig) → Buf (Elt Ideal) ℓ) (h : Pre_ExpertsIdeal m) : ExpertsIdeal.Gen.RowsOk m := fun i => by
  rw [ExpertsIdeal.Gen.tbl_one]
  exact Tables.rows_nonneg _ _ _ _ _ _ (h 0).2 _

/-- The kernel as printed runs and keeps its arguments. -/
theorem frame : quiescent_Experts := fun m ρ h => Experts.Gen.frame m ρ (ok m h)

/-- So does the idealized kernel. -/
theorem frame_ideal : quiescent_ExpertsIdeal := fun m ρ h =>
  (θ_run ExpertsIdeal.defs _ _).mono (fun r hh => ⟨fun c => (hh.1 c).2, hh.2⟩) (ExpertsIdeal.Gen.run_value m ρ (ok_ideal m h) (rows_ideal m h))

/-- The experts' reference runs, keeps its arguments, and has no counter to leave open. -/
theorem frame_reference : quiescent_ExpertsReferenceIdeal := fun m ρ _ =>
  (θ_run ExpertsReferenceIdeal.defs _ _).mono (fun r h => ⟨fun c => (h c).2, sem_eq_zero_of_no_sems (by decide) r.2⟩)
    (ExpertsReferenceIdeal.Value.run (F := Ideal) m ρ)

/-- The same under the precondition, which the run does not need. -/
theorem frame_reference_pre : quiescent_ExpertsReferenceIdeal_pre_tiles_ok := fun m ρ _ => frame_reference m ρ trivial

/-- The rewrites the idealized kernel makes: words of two halves, at the shapes it has them. -/
theorem preserves : preserves_Experts_ExpertsIdeal :=
  ⟨IdealRules.bf16_pair.statement _ _, IdealRules.bf16_pair.selectZeroStatement _, IdealRules.bf16_pack.statement _⟩

/-- The algebraic claim of the experts. -/
theorem algebraic : algebraic_ExpertsIdeal_ExpertsReferenceIdeal := by
  intro m g m' g' hpre hargs
  have hO := ok_ideal m hpre
  have hR := rows_ideal m hpre
  refine ⟨fun c => (ExpertsIdeal.Gen.dats m hO 0 c).arrAt 4 (ExpertsIdeal.Gen.cfgM m hO).N,
    (θ_run _ _ _).mono (fun r h => h.1) (ExpertsIdeal.Gen.run_value m g hO hR), ?_⟩
  refine (θ_run _ _ _).mono (fun r h c => ⟨(h c).1.trans ?_, (h c).2⟩) (ExpertsReferenceIdeal.Read.run_stages m' g')
  obtain ⟨e0, e1, e2, e3, e4, e5⟩ := hargs c
  obtain rfl : c = 0 := Subsingleton.elim _ _
  rw [e0, e1, e2, e3, e4, e5]
  exact (ExpertsIdeal.Row.final m hO hR 0 _ _ (ExpertsIdeal.Gen.tbl_zero m) (ExpertsIdeal.Gen.tbl_one m)).symm

end Cert.ExpertsClaims

end
-- ==== Proof.ContextPre.lean ====
/- What the precondition of the context's experts says of the two tables. -/
module

public import proofs.«01_k».proof.Proof.ExpertsPre
public import proofs.«01_k».proof.Proof.Gen.Pre_context_tiles_ok
public import Idealize.ShloMosaic.Lib.StableHlo.Predicate
public import Idealize.ShloMosaic.Lib.Pointwise

@[expose] public section

noncomputable section

open Idealize.ShloMosaic Idealize.ShloMosaic.TcCoe Idealize.SL.Sem

namespace Cert.ContextTables

open Cert.Pre_context_tiles_ok

/-- The experts' numbers are below sixteen. -/
theorem expert_lt {F : FTy → Type} [FloatOps F] (x : FVec F S16384x1024 .f32) (e n : IVec S32 32) (w1 w3 : FVec F S4x16x1024x512 .f32) (w2 : FVec F S4x16x512x1024 .f32)
    (h : (fn x e n w1 w3 w2).1 = fun _ => 1#1) (i : S32.Idx) : (e i).toNat < 16 := by
  have h := congrFun h i
  have h : IntOp.cmpi .sge (e i) 0#32 &&& IntOp.cmpi .slt (e i) 16#32 = 1#1 := h
  simp only [IntOp.cmpi] at h
  refine Tables.below _ ?_ ?_
  · by_contra hh
    rw [Bool.not_eq_true] at hh
    rw [hh] at h
    revert h
    cases (e i).slt 16#32 <;> decide
  · by_contra hh
    rw [Bool.not_eq_true] at hh
    rw [hh] at h
    revert h
    cases (0#32).sle (e i) <;> decide

/-- The tiles' counts of rows are not negative. -/
theorem rows_nonneg {F : FTy → Type} [FloatOps F] (x : FVec F S16384x1024 .f32) (e n : IVec S32 32) (w1 w3 : FVec F S4x16x1024x512 .f32) (w2 : FVec F S4x16x512x1024 .f32)
    (h : (fn x e n w1 w3 w2).2 = fun _ => 1#1) (i : S32.Idx) : 0 ≤ (n i).toInt := by
  have h := congrFun h i
  have h : IntOp.cmpi .sge (n i) 0#32 = 1#1 := h
  simp only [IntOp.cmpi] at h
  by_contra hh
  have : (0#32).sle (n i) = false := by rw [BitVec.sle, decide_eq_false_iff_not]; exact hh
  rw [this] at h
  revert h
  decide

end Cert.ContextTables

end
-- ==== Proof.ContextRuns.lean ====
/- The context's expert kernel's body at one grid point, as compiled: it runs from any contents of the result's staging buffer and of
   the weight copies. -/
module

public import proofs.«01_k».proof.Proof.ContextSetup

@[expose] public section

set_option maxRecDepth 16384

noncomputable section

namespace Cert.Context.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 3200000 in
/-- At any point, whatever its two conditions are, the body runs and leaves its inputs and the tables as they were. -/
theorem run_any (c : Dev nD) (i : grid0.Coords)
    (a3 : Memref sig .tc .vmem S1024x512 .bf16) (h3 : a3.IsWhole) (a4 : Memref sig .tc .vmem S1x1x1024x512 .f32) (h4 : a4.IsWhole)
    (a5 : Memref sig .tc .vmem S1x1x1024x512 .f32) (h5 : a5.IsWhole) (a6 : Memref sig .tc .vmem S1x1x512x1024 .f32) (h6 : a6.IsWhole)
    (a7 : Memref sig .tc .vmem S1024x512 .bf16) (h7 : a7.IsWhole) (a8 : Memref sig .tc .vmem S1024x512 .bf16) (h8 : a8.IsWhole)
    (a9 : Memref sig .tc .vmem S1024x512 .bf16) (h9 : a9.IsWhole) (a10 : Memref sig .tc .vmem S512x1024 .bf16) (h10 : a10.IsWhole)
    (x0 : Vec F S1024x512 .bf16) (x1 : Vec F S1x1x1024x512 .f32) (x2 : Vec F S1x1x1024x512 .f32) (x3 : Vec F S1x1x512x1024 .f32)
    (e : TabBuf (F := F) c mE) (r : TabBuf (F := F) c mR)
    (hr : ¬ (k0_cond2 (rowsAt c i r) = 1#1 ∧ k0_cond3 (rowsAt c i r) = 1#1)) (E : Set ℕ) (K : PUnit → sProp 𝕄) :
    iprop(owns (c : Thread nD τ) a3 fullShare (x0) ∗ owns (c : Thread nD τ) a4 fullShare (x1) ∗ owns (c : Thread nD τ) a5 fullShare (x2) ∗ owns (c : Thread nD τ) a6 fullShare (x3) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ tabAt c mE e ∗ tabAt c mR r ∗ (iprop(owns (c : Thread nD τ) a3 fullShare (x0) ∗ owns (c : Thread nD τ) a4 fullShare (x1) ∗ owns (c : Thread nD τ) a5 fullShare (x2) ∗ owns (c : Thread nD τ) a6 fullShare (x3) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ tabAt c mE e ∗ tabAt c mR r) -∗ K ⟨⟩))
      ⊢ wp frame (wpE (defs₀ (F := F)) Variants.none c none) E (cc0_moe_experts i mE (Memref.isWhole_whole _) mR (Memref.isWhole_whole _) a3 h3 a4 h4 a5 h5 a6 h6 a7 h7 a8 h8 a9 h9 a10 h10) K := by
  have key : ∀ {p q : Prop}, ¬ (p ∧ q) → (p ∧ ¬ q) ∨ (¬ p ∧ q) ∨ (¬ p ∧ ¬ q) := by tauto
  rcases key hr with ⟨hp, hz⟩ | ⟨hp, hz⟩ | ⟨hp, hz⟩ <;> rcases Classical.em (Copies c i e) with hc | hc
  all_goals
    simp only [cc0_moe_experts_eq_skeleton, k0_part1_eq_skeleton]; unfold cc0_moe_experts_skel
    try unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, HT0, HT1, Hk⟩
    obtain rfl := h3.eq_unread hf0; obtain rfl := h4.eq_unread hf1; obtain rfl := h5.eq_unread hf2; obtain rfl := h6.eq_unread hf3
    sl_exec (disch := first | sl_exact hc | sl_exact hp | sl_exact hz)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _, _; isplitr; swap; · iexact H4
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    iexact HT1

end Cert.Context.Gen

end
-- ==== Proof.ContextFrame.lean ====
/- The context's expert program as compiled runs, and its argument arrays end unchanged, whenever every tile's expert number is in range.
   What the kernel leaves in its result is not named here. -/
module

public import proofs.«01_k».proof.Proof.ContextRuns
public import proofs.«01_k».proof.Proof.ContextTables
public import Idealize.ShloMosaic.Lib.Claim

@[expose] public section

set_option maxRecDepth 16384

noncomputable section

namespace Cert.Context.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The window whose contents are left unnamed: the result. -/
def unnamedWins : Fin 5 → Bool := fun w => w.val == 4

/-- The proof data: each input's buffer keeps its block, the result's holds something, the weight copies hold something. -/
def dats (hO : Ok m) (_ : Fin 1) (c : Dev nD) : Dat τ (Elt F) Unit ℕ (UR sig nD τ) ℕ (cfgM m hO) c where
  A w := entry m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, h⟩ => Pipeline.Dat.unnamed (cfg := (cfgM m hO)) ⟨4, h⟩ t
  Φ _ := iprop(Pipeline.ΦA spec0 c ∗ Pipeline.ΦT pre0 (tbl m) c)
  q _ := fullShare
  owed _ := 0

theorem dats_A (hO : Ok m) (c : Dev nD) (w : Fin (cfgM m hO).W) : (dats m hO 0 c).A w = entry m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl

/-- What the body starts from at point `t`. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st0 m hO t) fullShare ((dats m hO 0 c).before 0 t d))
    ∗ (∃ d, owns (c : Thread nD τ) (st1 m hO t) fullShare ((dats m hO 0 c).before 1 t d))
    ∗ (∃ d, owns (c : Thread nD τ) (st2 m hO t) fullShare ((dats m hO 0 c).before 2 t d))
    ∗ (∃ d, owns (c : Thread nD τ) (st3 m hO t) fullShare ((dats m hO 0 c).before 3 t d))
    ∗ (∃ d, owns (c : Thread nD τ) (st4 m hO t) fullShare d))

/-- What it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (st0 m hO t) fullShare ((dats m hO 0 c).after 0 t)
    ∗ owns (c : Thread nD τ) (st1 m hO t) fullShare ((dats m hO 0 c).after 1 t)
    ∗ owns (c : Thread nD τ) (st2 m hO t) fullShare ((dats m hO 0 c).after 2 t)
    ∗ owns (c : Thread nD τ) (st3 m hO t) fullShare ((dats m hO 0 c).after 3 t)
    ∗ (∃ d, owns (c : Thread nD τ) (st4 m hO t) fullShare d))

set_option maxHeartbeats 3200000 in
/-- The body's triple at any point. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  have hb := before_in m hO (dats m hO 0 c) (dats_A m hO c) t
  unfold bodyPre bodyPost bodyAt
  simp only [hb.1 (after_0 m hO c), hb.2.1 (after_1 m hO c), hb.2.2.1 (after_2 m hO c), hb.2.2.2 (after_3 m hO c)]
  rw [show (dats m hO 0 c).Φ t.succ = (dats m hO 0 c).Φ t.castSucc from rfl,
    show (dats m hO 0 c).owesAt () t.succ = (dats m hO 0 c).owesAt () t.castSucc from rfl, after_0, after_1, after_2, after_3]
  rw [show (dats m hO 0 c).Φ t.castSucc = iprop(Pipeline.ΦA spec0 c ∗ Pipeline.ΦT pre0 (tbl m) c) from rfl, tables_eq, scratch_eq]
  iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩⟩
  iapply (run_any c (grid0.coords t) _ _ _ _ _ _ _ _ _ _ _ _ _ _ _ _ (iblk m hO c 0 t) (iblk m hO c 1 t) (iblk m hO c 2 t)
    (iblk m hO c 3 t) (tbl m 0) (tbl m 1) (conds_excl _) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HT0]; · iexact HT0
  isplitl [HT1]; · iexact HT1
  iintro ⟨H0, H1, H2, H3, H4, HS0, HS1, HS2, HT0, HT1⟩
  isplitl [HS0 HS1 HS2 Hg HT0 HT1]
  · isplitl [HS0 HS1 HS2 Hg]
    · isplitl [HS0 HS1 HS2]
      · isplitl [HS0]
        · iexact HS0
        isplitl [HS1]
        · iexact HS1
        iexact HS2
      iexact Hg
    isplitl [HT0]; · iexact HT0
    iexact HT1
  isplitl [Ho]; · iexact Ho
  isplitl [H0]; · iexact H0
  isplitl [H1]; · iexact H1
  isplitl [H2]; · iexact H2
  isplitl [H3]; · iexact H3
  iexact H4

theorem body_obligation (hO : Ok m) (c : Dev nD) :
    BodyObligation (dats (F := F) m hO 0 c) (defs₀ (F := F)) Variants.none () Set.univ unnamedWins := fun t => by
  rw [bigSep_W0, bigSep_W0, body_row m hO]
  exact triple_restated (sound_body m hO c t) rfl .rfl fun _ => .rfl

set_option backward.isDefEq.respectTransparency.types false in
/-- The run: it ends with the inputs as they were and every semaphore at zero. -/
theorem run_main (hO : Ok m) : θ_run defs (onTc (τ := τ) (main (F := F))) (s₀ m ρ)
    (fun r => (Pipeline.RDat.FramePost ((Pipeline.pin pcfgs fun _ => adm m hO) 0) (fun c => (dats m hO 0 c).toRForget unnamedWins) (entry m)) r
      ∧ r.2.sem = fun _ => 0) :=
  Pipeline.θ_run_frameP_forget (Q' := _) pcfgs (fun _ => adm m hO) (dats m hO) (0 : Fin 1) launch0 defs₀ Variants.none unnamedWins m ρ main
    (hbody := fun c => (body_obligation m hO c).loose) (hshare := fun c => (dats m hO 0 c).share_full fun _ => rfl)
    (howed := fun _ _ => rfl) (V := entry m) (hmain := main_prefix m Variants.none) (hA := dats_A m hO) (hpf := entry_tbl m) (hΦ := fun _ _ => rfl)

/-- THE FRAME of the compiled program. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hh => ⟨fun c => ⟨
      (((hh.1) c).2 main_arg0 (by decide : main_arg0 ∈ Pipeline.restRefs sig spec0)).trans (entry_args m c).1,
      (((hh.1) c).2 main_arg1 (by decide : main_arg1 ∈ Pipeline.restRefs sig spec0)).trans (entry_args m c).2.1,
      (((hh.1) c).2 main_arg2 (by decide : main_arg2 ∈ Pipeline.restRefs sig spec0)).trans (entry_args m c).2.2.1,
      (Pipeline.RDat.FramePost.arr_in hh.1 c 1 rfl).trans ((dats_A m hO c 1).trans (entry_args m c).2.2.2.1),
      (Pipeline.RDat.FramePost.arr_in hh.1 c 2 rfl).trans ((dats_A m hO c 2).trans (entry_args m c).2.2.2.2.1),
      (Pipeline.RDat.FramePost.arr_in hh.1 c 3 rfl).trans ((dats_A m hO c 3).trans (entry_args m c).2.2.2.2.2)⟩, hh.2⟩) (run_main m ρ hO)

end Cert.Context.Gen

end
-- ==== Proof.ContextRef.lean ====
/- The context's experts' reference, read at an index. -/
module

public import proofs.«01_k».proof.Proof.Ffn
public import proofs.«01_k».proof.Proof.Gen.ContextReferenceIdeal.Run
public import Idealize.ShloMosaic.Lib.Pipeline.ValueKit

@[expose] public section

set_option maxRecDepth 16384

noncomputable section

open Idealize.ShloMosaic Idealize.ShloMosaic.TcCoe Idealize.SL.Sem

namespace Cert.ContextReferenceIdeal.Read

open Cert.ContextReferenceIdeal Cert.ContextReferenceIdeal.Gen Cert.Ffn

/-- The tiles' rows, those past a tile's count at zero. -/
def rows (X : FVec Ideal S16384x1024 .f32) (n : IVec S32 32) : FVec Ideal S32x512x1024 .f32 :=
  select (cmpi .slt (iotaInDim S32x512x1024 32 1) (broadcastInDim S32x512x1024 ![0, 1, 2] bcast_S32x1x1_S32x512x1024_0_1_2
      (broadcastInDim S32x1x1 ![0] bcast_S32_S32x1x1_0 n)))
    (shapeCast S32x512x1024 X shapeCasts_S16384x1024_S32x512x1024)
    (broadcastInDim S32x512x1024 ![] bcast_S_S32x512x1024 (id (constant S_ .f32 0x00000000#32)))

/-- Every row against one of the first two weight arrays of every expert. -/
def proj (T : FVec Ideal S32x512x1024 .f32) (W : FVec Ideal S4x16x1024x512 .f32) : FVec Ideal S16x32x512x512 .f32 :=
  transpose S16x32x512x512 [0, 2, 3, 1] (Host.dotGeneral dot_S16x1024x512_S32x512x1024_S16x512x32x512_1_2_02_01_n_n none
    (shapeCast S16x1024x512 (extractStridedSlice S1x16x1024x512 ![0, 0, 0, 0] W slices_S4x16x1024x512_S1x16x1024x512_0_0_0_0)
      shapeCasts_S1x16x1024x512_S16x1024x512) T) transposes_S16x512x32x512_S16x32x512x512_0_2_3_1

/-- The gate. -/
def gate (H : FVec Ideal S16x32x512x512 .f32) : FVec Ideal S16x32x512x512 .f32 :=
  mulf H (Host.divf (broadcastInDim S16x32x512x512 ![] bcast_S_S16x32x512x512 (constant S_ .f32 0x3F800000#32))
    (addf (broadcastInDim S16x32x512x512 ![] bcast_S_S16x32x512x512 (constant S_ .f32 0x3F800000#32)) (Host.exp (Host.negf H))))

/-- Every row through every expert. -/
def all (T : FVec Ideal S32x512x1024 .f32) (W1 W3 : FVec Ideal S4x16x1024x512 .f32) (W2 : FVec Ideal S4x16x512x1024 .f32) :
    FVec Ideal S16x32x512x1024 .f32 :=
  Host.dotGeneral dot_S16x32x512x512_S16x512x1024_S16x32x512x1024_3_1_12_2_0_0 none (mulf (gate (proj T W1)) (proj T W3))
    (shapeCast S16x512x1024 (extractStridedSlice S1x16x512x1024 ![0, 0, 0, 0] W2 slices_S4x16x512x1024_S1x16x512x1024_0_0_0_0)
      shapeCasts_S1x16x512x1024_S16x512x1024)

/-- One where the tile is the expert's, zero elsewhere. -/
def mine (e : IVec S32 32) : FVec Ideal S16x32 .f32 :=
  sitofp .f32 (extui 32 (cmpi .eq (iotaInDim S16x32 32 0) (broadcastInDim S16x32 ![0, 1] bcast_S1x32_S16x32_0_1
    (broadcastInDim S1x32 ![1] bcast_S32_S1x32_1 e))) natLt_1_32)

/-- Each tile's result of its own expert, its rows in halves. -/
def halves (e : IVec S32 32) (Y : FVec Ideal S16x32x512x1024 .f32) : FVec Ideal S16384x2x512 .f32 :=
  shapeCast S16384x2x512 (Host.reduceAdd (mulf (broadcastInDim S16x32x512x1024 ![0, 1, 2, 3] bcast_S16x32x1x1_S16x32x512x1024_0_1_2_3
      (broadcastInDim S16x32x1x1 ![0, 1] bcast_S16x32_S16x32x1x1_0_1 (mine e))) Y)
    (constant S_ .f32 0x00000000#32) reducesTo_S16x32x512x1024_S32x512x1024_d0 h_S_) shapeCasts_S32x512x1024_S16384x2x512

/-- The halves in turned order. -/
def turned (Z : FVec Ideal S16384x2x512 .f32) : FVec Ideal S16384x2x512 .f32 := Host.reverse [1] Z

/-- The result: its rows' second halves before their first halves. -/
def result (e : IVec S32 32) (Y : FVec Ideal S16x32x512x1024 .f32) : FVec Ideal S32768x512 .bf16 :=
  truncf .bf16 (shapeCast S32768x512 (turned (halves e Y)) shapeCasts_S16384x2x512_S32768x512) bitsLt_bf16_f32

/-- The reference's run with its result by stages. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = result (m ((c.tc : Thread nD τ).loc main_arg1))
        (all (rows (m ((c.tc : Thread nD τ).loc main_arg0)) (m ((c.tc : Thread nD τ).loc main_arg2)))
          (m ((c.tc : Thread nD τ).loc main_arg3)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  unfold result turned halves mine all gate proj rows
  exact Value.run (F := Ideal) m ρ

theorem rows_apply (X n) (t : Fin 32) (s : Fin 512) (k : Fin 1024) :
    rows X n (ix3 t s k) = masked (n (ix1 t)) ⟨s.val, by omega⟩ (fun k => X (ix2 ⟨t.val * 512 + s.val, by omega⟩ k)) k := by
  pointwise [rows]
  rw [select_slt]
  unfold masked
  have hz : (id (constant (F := Ideal) S_ .f32 0x00000000#32) : FVec Ideal S_ .f32) ix0 = (0 : EReal) := by
    show Ideal.ofBits .f32 0x00000000#32 = 0
    simp [Ideal.ofBits, Ideal.ieee]
  rw [hz]

theorem proj_apply (T W) (e : Fin 16) (t : Fin 32) (s : Fin 512) (f : Fin 512) :
    proj T W (ix4 e t s f) = dot (fun k => T (ix3 t s k)) (fun k => W (ix4 0 e k f)) := by
  pointwise [proj]
  exact Finset.sum_congr rfl fun _ _ => mul_comm _ _

theorem gate_apply (H) (e : Fin 16) (t : Fin 32) (s : Fin 512) (f : Fin 512) :
    gate H (ix4 e t s f) = silu (H (ix4 e t s f)) := by
  pointwise [gate]
  rfl

theorem all_apply (T W1 W3 W2) (e : Fin 16) (t : Fin 32) (s : Fin 512) (d : Fin 1024) :
    all T W1 W3 W2 (ix4 e t s d) = ffn (fun k => T (ix3 t s k)) (fun k f => W1 (ix4 0 e k f)) (fun k f => W3 (ix4 0 e k f))
      (fun f d => W2 (ix4 0 e f d)) d := by
  pointwise [all]
  unfold ffn
  refine Finset.sum_congr rfl fun f _ => ?_
  rw [gate_apply, proj_apply, proj_apply]
  rfl

theorem mine_apply (x) (e : Fin 16) (t : Fin 32) (n : Fin 16) (h : (x (ix1 t)).toNat = n.val) :
    mine x (ix2 e t) = if e = n then 1 else 0 := by
  pointwise [mine]
  have he : (BitVec.ofNat 32 e.val = x (ix1 t)) ↔ e = n := by
    have := e.isLt
    rw [← BitVec.toNat_inj, BitVec.toNat_ofNat, Nat.mod_eq_of_lt (by omega), h]
    exact Fin.ext_iff.symm
  have hc : IntOp.cmpi .eq (BitVec.ofNat 32 e.val) (x (ix1 t)) = if e = n then 1#1 else 0#1 := by
    unfold IntOp.cmpi
    by_cases hn : e = n
    · rw [if_pos hn, he.2 hn]; simp
    · rw [if_neg hn, show (BitVec.ofNat 32 e.val == x (ix1 t)) = false from beq_eq_false_iff_ne.2 (mt he.1 hn)]; rfl
  rw [hc]
  by_cases hn : e = n
  · rw [if_pos hn, if_pos hn]; simp [FloatOps.sitofp]
  · rw [if_neg hn, if_neg hn]; simp [FloatOps.sitofp]

theorem turned_apply (Z) (a : Fin 16384) (b : Fin 2) (q : Fin 512) : turned Z (ix3 a b q) = Z (ix3 a b.rev q) := by
  unfold turned
  rw [Host.reverse_apply]
  refine congrArg Z (funext fun x => ?_)
  fin_cases x <;> rfl

theorem halves_apply (x Y) (a : Fin 16384) (b : Fin 2) (q : Fin 512) :
    halves x Y (ix3 a b q) = ∑ e, mine x (ix2 e ⟨a.val / 512, by omega⟩) * Y (ix4 e ⟨a.val / 512, by omega⟩ ⟨a.val % 512, by omega⟩ ⟨b.val * 512 + q.val, by omega⟩) := by
  pointwise [halves]

theorem result_apply (x Y) (r : Fin 32768) (q : Fin 512) (t : Fin 32) (s : Fin 512) (d : Fin 1024)
    (ht : t.val = r.val / 1024) (hs : s.val = r.val / 2 % 512) (hd : d.val = (1 - r.val % 2) * 512 + q.val) :
    result x Y (ix2 r q) = ∑ e, mine x (ix2 e t) * Y (ix4 e t s d) := by
  pointwise [result]
  rw [turned_apply, halves_apply]
  have h1 : ∀ h, (⟨r.val / 2 / 512, h⟩ : Fin 32) = t := fun h => Fin.ext (by show r.val / 2 / 512 = t.val; omega)
  have h2 : ∀ h, (⟨r.val / 2 % 512, h⟩ : Fin 512) = s := fun h => Fin.ext hs.symm
  have h3 : ∀ h h', (⟨(⟨r.val % 2, h⟩ : Fin 2).rev.val * 512 + q.val, h'⟩ : Fin 1024) = d := fun h h' =>
    Fin.ext (by show (2 - (r.val % 2 + 1)) * 512 + q.val = d.val; omega)
  refine Finset.sum_congr rfl fun e _ => ?_
  rw [h1, h2, h3]

end Cert.ContextReferenceIdeal.Read

end
-- ==== Proof.ContextIdealRow.lean ====
/- One tile of the context's expert kernel, read at an index. -/
module

public import proofs.«01_k».proof.Proof.Ffn
public import proofs.«01_k».proof.Proof.Gen.ContextIdeal.Skeleton
public import Idealize.ShloMosaic.Lib.Pipeline.ValueKit

@[expose] public section

set_option maxRecDepth 16384

noncomputable section

open Idealize.ShloMosaic Idealize.ShloMosaic.TcCoe Idealize.SL.Sem

namespace Cert.ContextIdeal.Row

open Cert.ContextIdeal Cert.ContextIdeal.Gen Cert.Ffn

/-- The tile's rows: each pair of stored rows side by side, the later first, rows past the count at zero. -/
def tokens (n : BitVec 32) (X : FVec Ideal S1024x512 .bf16) : FVec Ideal S512x1024 .bf16 :=
  truncf .bf16 (concatenate S512x1024 1
    [⟨S512x512, extf .f32 (select (cmpi .slt (iota .tc S512x512 32 [0] iota_S512x512_d0_w32) (broadcast S512x512 n))
        (rowsOfParity 1 S512x512 X bitcasts_S1024x512_w16_S512x512_w32) (constant S512x512 .bf16 0x0000#16)) bitsLt_bf16_f32⟩,
     ⟨S512x512, extf .f32 (select (cmpi .slt (iota .tc S512x512 32 [0] iota_S512x512_d0_w32) (broadcast S512x512 n))
        (rowsOfParity 0 S512x512 X bitcasts_S1024x512_w16_S512x512_w32) (constant S512x512 .bf16 0x0000#16)) bitsLt_bf16_f32⟩]
    concatenates_S512x512_S512x512_S512x1024_d1) bitsLt_bf16_f32

/-- The tile's rows through the expert. -/
def through (T : FVec Ideal S512x1024 .bf16) (W1 W3 : FVec Ideal S1024x512 .bf16) (W2 : FVec Ideal S512x1024 .bf16) : FVec Ideal S512x1024 .f32 :=
  matmul dot_S512x512_S512x1024_S512x1024_1_0_0_1_n_n none
    (truncf .bf16 (mulf (mulf (matmul dot_S512x1024_S1024x512_S512x512_1_0_0_1_n_n none T W1 (constant S512x512 .f32 0x00000000#32))
        (logistic (matmul dot_S512x1024_S1024x512_S512x512_1_0_0_1_n_n none T W1 (constant S512x512 .f32 0x00000000#32))))
      (matmul dot_S512x1024_S1024x512_S512x512_1_0_0_1_n_n none T W3 (constant S512x512 .f32 0x00000000#32))) bitsLt_bf16_f32)
    W2 (constant S512x1024 .f32 0x00000000#32)

/-- The rows' second halves and first halves, interleaved. -/
def pairs (Y : FVec Ideal S512x1024 .f32) : FVec Ideal S1024x512 .bf16 :=
  interleaveRows S1024x512
    (truncf .bf16 (extf .f32 (truncf .bf16 (extractStridedSlice S512x512 ![0, 512] Y slices_S512x1024_o0_512_S512x512) bitsLt_bf16_f32) bitsLt_bf16_f32) bitsLt_bf16_f32)
    (truncf .bf16 (extf .f32 (truncf .bf16 (extractStridedSlice S512x512 ![0, 0] Y slices_S512x1024_o0_0_S512x512) bitsLt_bf16_f32) bitsLt_bf16_f32) bitsLt_bf16_f32)
    bitcasts_S1024x512_w16_S512x512_w32

theorem pay4_eq (n : BitVec 32) (X : FVec Ideal S1024x512 .bf16) (W1 W3 : FVec Ideal S1024x512 .bf16) (W2 : FVec Ideal S512x1024 .bf16) :
    k0_pay4 (F := Ideal) n X W1 W3 W2 = pairs (through (tokens n X) W1 W3 W2) := rfl

theorem tokens_apply (n : BitVec 32) (X : FVec Ideal S1024x512 .bf16) (s : Fin 512) (k : Fin 1024) :
    tokens n X (ix2 s k) = masked n ⟨s.val, by omega⟩ (fun k => if h : k.val < 512 then X (ix2 ⟨2 * s.val + 1, by omega⟩ ⟨k.val, h⟩)
      else X (ix2 ⟨2 * s.val, by omega⟩ ⟨k.val - 512, by omega⟩)) k := by
  pointwise [tokens]
  by_cases h : k.val < 512
  · refine (dif_pos h).trans ((select_slt _ _ _ _).trans ?_)
    simp only [masked, dif_pos h]
  · refine (dif_neg h).trans ((select_slt _ _ _ _).trans ?_)
    simp only [masked, dif_neg h]

theorem through_apply (T W1 W3 W2) (s : Fin 512) (d : Fin 1024) :
    through T W1 W3 W2 (ix2 s d) = ffn (fun k => T (ix2 s k)) (fun k f => W1 (ix2 k f)) (fun k f => W3 (ix2 k f)) (fun f d => W2 (ix2 f d)) d := by
  pointwise [through]
  rfl

theorem pairs_apply (Y) (r : Fin 1024) (q : Fin 512) :
    pairs Y (ix2 r q) = Y (ix2 ⟨r.val / 2, by omega⟩ ⟨(1 - r.val % 2) * 512 + q.val, by omega⟩) := by
  pointwise [pairs]
  rcases Nat.mod_two_eq_zero_or_one r.val with h | h
  · rw [if_pos h]
    exact congrArg (fun z : Fin 1024 => Y (ix2 _ z)) (Fin.ext (by show 512 + q.val = (1 - r.val % 2) * 512 + q.val; omega))
  · rw [if_neg (by omega)]
    exact congrArg (fun z : Fin 1024 => Y (ix2 _ z)) (Fin.ext (by show q.val = (1 - r.val % 2) * 512 + q.val; omega))

theorem zeros_apply (r : Fin 1024) (q : Fin 512) : k0_pay5 (F := Ideal) (ix2 r q) = 0 := by
  pointwise [k0_pay5]

theorem w1_apply (W : FVec Ideal S1x1x1024x512 .f32) (k : Fin 1024) (f : Fin 512) : k0_pay1 (F := Ideal) W (ix2 k f) = W (ix4 0 0 k f) := by
  pointwise [k0_pay1]
theorem w3_apply (W : FVec Ideal S1x1x1024x512 .f32) (k : Fin 1024) (f : Fin 512) : k0_pay2 (F := Ideal) W (ix2 k f) = W (ix4 0 0 k f) := by
  pointwise [k0_pay2]
theorem w2_apply (W : FVec Ideal S1x1x512x1024 .f32) (k : Fin 512) (f : Fin 1024) : k0_pay3 (F := Ideal) W (ix2 k f) = W (ix4 0 0 k f) := by
  pointwise [k0_pay3]

/-- A tile's result block from its stored rows and weight blocks: what the body leaves at pair row `r`, lane `q`. -/
theorem tile_apply (n : BitVec 32) (X : FVec Ideal S1024x512 .bf16) (B1 B3 : FVec Ideal S1x1x1024x512 .f32) (B2 : FVec Ideal S1x1x512x1024 .f32)
    (hn : (k0_cond2 n = 1#1) ∨ (¬ k0_cond2 n = 1#1 ∧ n.toInt = 0)) (r : Fin 1024) (q : Fin 512)
    (x : Fin 1024 → EReal) (w1 w3 : Fin 1024 → Fin 512 → EReal) (w2 : Fin 512 → Fin 1024 → EReal)
    (hx : ∀ k, (if h : k.val < 512 then X (ix2 ⟨2 * (r.val / 2) + 1, by omega⟩ ⟨k.val, h⟩) else X (ix2 ⟨2 * (r.val / 2), by omega⟩ ⟨k.val - 512, by omega⟩)) = x k)
    (h1 : ∀ k f, B1 (ix4 0 0 k f) = w1 k f) (h3 : ∀ k f, B3 (ix4 0 0 k f) = w3 k f) (h2 : ∀ f k, B2 (ix4 0 0 f k) = w2 f k) :
    (if k0_cond2 n = 1#1 then k0_pay4 (F := Ideal) n X (k0_pay1 (F := Ideal) B1) (k0_pay2 (F := Ideal) B3) (k0_pay3 (F := Ideal) B2) else k0_pay5 (F := Ideal)) (ix2 r q)
      = ffn (masked n ⟨r.val / 2, by omega⟩ x) w1 w3 w2 ⟨(1 - r.val % 2) * 512 + q.val, by omega⟩ := by
  rcases hn with hn | ⟨hn, h0⟩
  · rw [if_pos hn, pay4_eq, pairs_apply, through_apply]
    simp only [tokens_apply, w1_apply, w3_apply, w2_apply, h1, h2, h3]
    exact congrArg (fun y => ffn (masked n _ y) w1 w3 w2 _) (funext hx)
  · rw [if_neg hn, zeros_apply, masked_none n h0, ffn_zero]

end Cert.ContextIdeal.Row

end
-- ==== Proof.ContextIdealSetup.lean ====
/- How `ContextIdeal`'s region starts: what the host operations before it leave in the arrays, what the two tables hold, the
   block each window reads at a grid point, and the words the body reads from the tables. -/
module

public import proofs.«01_k».proof.Proof.Gen.ContextIdeal.Launch
public import proofs.«01_k».proof.Proof.Gen.ContextIdeal.Skeleton
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.ContextIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays when the region starts -/

/-- What core `c`'s buffer `b` holds when the region starts: the launch memory after the seven host operations. -/
abbrev entry (c : Dev nD) (b : Ref sig .tc) : Buf (Elt F) ((c : Thread nD τ).loc b) :=
  StableHlo.after hostOps0 (fun b => m (c, b)) b

theorem hostOps_fresh : (hostOps0 : List (HloOp τ sig (Elt F))).Forall fun op => op.fresh = ∅ := by
  simp only [List.Forall]; repeat' constructor

set_option maxHeartbeats 800000 in
/-- @main runs its host operations and then the region. -/
theorem main_prefix (𝒱₀ : Variants) :
    Pipeline.HMainP (Ix := Unit) (Name := ℕ) (U := UR sig nD τ) (Lvl := ℕ) pcfgs 0 defs₀ 𝒱₀ m (main (F := F)) (entry m) :=
  Pipeline.hmainP_prefix pcfgs 0 defs₀ 𝒱₀ m main hostOps0 hostOps0_sub hostOps_fresh main_chain

/-- The arguments are written by no host operation: the region finds them as launched. -/
theorem entry_args (c : Dev nD) :
    entry m c main_arg0 = m ((c : Thread nD τ).loc main_arg0) ∧ entry m c main_arg1 = m ((c : Thread nD τ).loc main_arg1)
    ∧ entry m c main_arg2 = m ((c : Thread nD τ).loc main_arg2) ∧ entry m c main_arg3 = m ((c : Thread nD τ).loc main_arg3)
    ∧ entry m c main_arg4 = m ((c : Thread nD τ).loc main_arg4) ∧ entry m c main_arg5 = m ((c : Thread nD τ).loc main_arg5) := by
  refine ⟨?_, ?_, ?_, ?_, ?_, ?_⟩ <;>
  · refine StableHlo.after_of_forall_not_mem _ _ (List.forall_iff_forall_mem.mp ?_)
    simp only [hostOps0, List.Forall, StableHlo.unary_writes, StableHlo.binary_writes, StableHlo.reshape_writes,
      Finset.mem_singleton]
    repeat' apply And.intro
    all_goals exact StableHlo.devRef_ne_of_ne (by decide)

/-! ## The tables -/

/-- The two tables' words when the region starts. -/
def tbl : pre0.Contents (Elt F) := fun j => entry m (0 : Dev nD) (pre0.ref j)

theorem entry_tbl (c : Dev nD) (j : Fin 2) : entry m c (pre0.ref j) = tbl m j := by
  obtain rfl : c = 0 := Subsingleton.elim _ _; rfl

theorem tbl_zero : tbl m 0 = m (((0 : Dev nD) : Thread nD τ).loc main_arg1) := (entry_args m 0).2.1
theorem tbl_one : tbl m 1 = m (((0 : Dev nD) : Thread nD τ).loc main_arg2) := (entry_args m 0).2.2.1

/-- Every tile's expert number places its weight blocks inside the weight arrays. -/
abbrev Ok : Prop := ok0 (F := F) (tbl m)

abbrev adm (hO : Ok m) : (pcfg0 (F := F)).Adm := ⟨tbl m, hO⟩
/-- The pipeline at the tables' words. -/
abbrev cfgM (hO : Ok m) : Pipeline.Cfg sig Λ₀ := cfg0 (adm m hO)

/-- The expert table and the row-count table, as the body holds them. -/
abbrev mE : Memref sig .tc .smem S32 .i32 := Memref.whole main_arg1
abbrev mR : Memref sig .tc .smem S32 .i32 := Memref.whole main_arg2

abbrev TabBuf (c : Dev nD) (M : Memref sig .tc .smem S32 .i32) : Type := Buf (Elt F) (M.view.loc (c : Thread nD τ))
/-- A table held by half at the words `f`. -/
abbrev tabAt (c : Dev nD) (M : Memref sig .tc .smem S32 .i32) (f : TabBuf (F := F) c M) : sProp 𝕄 :=
  M.view.loc (c : Thread nD τ) ↦{fullShare.right} f

theorem tables_eq (c : Dev nD) :
    (Pipeline.ΦT pre0 (tbl m) c : sProp 𝕄) = iprop(tabAt c mE (tbl m 0) ∗ tabAt c mR (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The word the body reads of a table at one of its two offsets. -/
abbrev wordAt (c : Dev nD) (M : Memref sig .tc .smem S32 .i32) (off : Fin 1 → ℕ)
    (inb : ∀ a, off a + S1.size a ≤ S32.size a) (f : TabBuf (F := F) c M) : Elt F .i32 :=
  M.view.readAt (Elt F) (Rect.unit (s := S32) off S1.size inb).toLoadRect f (Shape.Idx.first (numel1_S1.symm ▸ Nat.one_pos))

/-- The row count the body reads at a point, and the expert numbers of this tile and of the tile before it. -/
abbrev rowsAt (c : Dev nD) (i : grid0.Coords) (f : TabBuf (F := F) c mR) : Elt F .i32 := wordAt c mR (k0_off1 i) (k0_off1_inb i) f
abbrev hereAt (c : Dev nD) (i : grid0.Coords) (f : TabBuf (F := F) c mE) : Elt F .i32 := wordAt c mE (k0_off1 i) (k0_off1_inb i) f
abbrev prevAt (c : Dev nD) (i : grid0.Coords) (f : TabBuf (F := F) c mE) : Elt F .i32 := wordAt c mE (k0_off2 i) (k0_off2_inb i) f

/-- The body copies the weights at this point: it is the first point, or the expert differs from the tile before's. -/
abbrev Copies (c : Dev nD) (i : grid0.Coords) (f : TabBuf (F := F) c mE) : Prop :=
  (Scalar.cmpi .ne (Scalar.extui (Scalar.ori (Scalar.cmpi .eq (BitVec.ofNat 32 (i 0).val) 0#32)
    (Scalar.cmpi .ne (hereAt c i f) (prevAt c i f)))) 0#32) = 1#1

/-! ## The windows' blocks and staging buffers -/

/-- The block of window `w`'s array that point `t` reads. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (entry m c (Pipeline.arrRef spec0 w))

/-- An input's staging buffer holds the point's block when the body starts, for any proof data that starts from the entry
    arrays and leaves the blocks in place. -/
theorem before_in (hO : Ok m) {c : Dev nD} (dat : Dat τ (Elt F) Unit ℕ (UR sig nD τ) ℕ (cfgM m hO) c)
    (hA : ∀ w, dat.A w = entry m c (Pipeline.arrRef spec0 w)) (t : Fin (cfgM m hO).N) :
    ((∀ t, dat.after 0 t = iblk m hO c 0 t) → ∀ d, dat.before 0 t d = iblk m hO c 0 t)
    ∧ ((∀ t, dat.after 1 t = iblk m hO c 1 t) → ∀ d, dat.before 1 t d = iblk m hO c 1 t)
    ∧ ((∀ t, dat.after 2 t = iblk m hO c 2 t) → ∀ d, dat.before 2 t d = iblk m hO c 2 t)
    ∧ ((∀ t, dat.after 3 t = iblk m hO c 3 t) → ∀ d, dat.before 3 t d = iblk m hO c 3 t) := by
  refine ⟨fun h d => ?_, fun h d => ?_, fun h d => ?_, fun h d => ?_⟩
  · exact (dat.before_in_eq_fetched 0 rfl (fun _ => rfl) (fun _ _ _ => rfl)
      (fun t => by rw [h]; unfold Dat.blockOf iblk; rw [hA]; try rfl) t d).trans (by unfold Dat.fetched Dat.blockOf iblk; rw [hA]; try rfl)
  · exact (dat.before_in_eq_fetched 1 rfl (fun _ => rfl) (fun _ _ _ => rfl)
      (fun t => by rw [h]; unfold Dat.blockOf iblk; rw [hA]; try rfl) t d).trans (by unfold Dat.fetched Dat.blockOf iblk; rw [hA]; try rfl)
  · exact (dat.before_in_eq_fetched 2 rfl (fun _ => rfl) (fun _ _ _ => rfl)
      (fun t => by rw [h]; unfold Dat.blockOf iblk; rw [hA]; try rfl) t d).trans (by unfold Dat.fetched Dat.blockOf iblk; rw [hA]; try rfl)
  · exact (dat.before_in_eq_fetched 3 rfl (fun _ => rfl) (fun _ _ _ => rfl)
      (fun t => by rw [h]; unfold Dat.blockOf iblk; rw [hA]; try rfl) t d).trans (by unfold Dat.fetched Dat.blockOf iblk; rw [hA]; try rfl)

/-- The staging buffer each window uses at point `t`. -/
abbrev st0 (hO : Ok m) (t : Fin (cfgM m hO).N) : Memref sig .tc .vmem S1024x512 .bf16 := spec0_0.stage ((cfgM m hO).slots t 0)
abbrev st1 (hO : Ok m) (t : Fin (cfgM m hO).N) : Memref sig .tc .vmem S1x1x1024x512 .f32 := spec0_1.stage ((cfgM m hO).slots t 1)
abbrev st2 (hO : Ok m) (t : Fin (cfgM m hO).N) : Memref sig .tc .vmem S1x1x1024x512 .f32 := spec0_2.stage ((cfgM m hO).slots t 2)
abbrev st3 (hO : Ok m) (t : Fin (cfgM m hO).N) : Memref sig .tc .vmem S1x1x512x1024 .f32 := spec0_3.stage ((cfgM m hO).slots t 3)
abbrev st4 (hO : Ok m) (t : Fin (cfgM m hO).N) : Memref sig .tc .vmem S1024x512 .bf16 := spec0_4.stage ((cfgM m hO).slots t 4)

/-- The three weight copies kept between points. -/
abbrev mW1 : Memref sig .tc .vmem S1024x512 .bf16 := Memref.whole cc0_scratch0
abbrev mW3 : Memref sig .tc .vmem S1024x512 .bf16 := Memref.whole cc0_scratch1
abbrev mW2 : Memref sig .tc .vmem S512x1024 .bf16 := Memref.whole cc0_scratch2

/-- The region hands the body the three weight copies at whatever they hold. -/
theorem scratch_eq (c : Dev nD) :
    (Pipeline.ΦA spec0 c : sProp 𝕄)
      = iprop(iprop((∃ d, owns (c : Thread nD τ) mW1 fullShare d) ∗ (∃ d, owns (c : Thread nD τ) mW3 fullShare d)
          ∗ (∃ d, owns (c : Thread nD τ) mW2 fullShare d)) ∗ (∃ r, prngReg c r)) := by
  unfold Pipeline.ΦA; rw [scopedRest0_eq]; simp only [mW1, mW3, mW2, owns_whole]; try rfl

/-- The kernel on the staging buffers of point `t`. -/
abbrev bodyAt (hO : Ok m) (t : Fin (cfgM m hO).N) : Prog (TpuEff nD τ sig (Elt F) Λ₀ .tc) PUnit :=
  cc0_moe_experts (grid0.coords t) mE (Memref.isWhole_whole _) mR (Memref.isWhole_whole _)
    (st0 m hO t) (hstage0_0 (((cfgM m hO).slots t 0).cast nbuf0_0)) (st1 m hO t) (hstage0_1 (((cfgM m hO).slots t 1).cast nbuf0_1))
    (st2 m hO t) (hstage0_2 (((cfgM m hO).slots t 2).cast nbuf0_2)) (st3 m hO t) (hstage0_3 (((cfgM m hO).slots t 3).cast nbuf0_3))
    (st4 m hO t) (hstage0_4 (((cfgM m hO).slots t 4).cast nbuf0_4)) mW1 (Memref.isWhole_whole _) mW3 (Memref.isWhole_whole _)
    mW2 (Memref.isWhole_whole _)

/-- The body run at point `t` is the kernel on that point's staging buffers. -/
theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

end Cert.ContextIdeal.Gen

end
-- ==== Proof.ContextIdealRuns.lean ====
/- The context's expert kernel's body at one grid point, in the four cases of its two conditions: the weights are copied or kept,
   and the tile has rows or has none. -/
module

public import proofs.«01_k».proof.Proof.ContextIdealSetup

@[expose] public section

set_option maxRecDepth 16384

noncomputable section

namespace Cert.ContextIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem pay4_congr {v : Elt F .i32} {x x' : Vec F S1024x512 .bf16} {p p' q q' : Vec F S1024x512 .bf16} {s s' : Vec F S512x1024 .bf16}
    (hx : x = x') (hp : p = p') (hq : q = q') (hs : s = s') : k0_pay4 v x p q s = k0_pay4 v x' p' q' s' := by
  subst hx hp hq hs; rfl

set_option maxHeartbeats 1600000 in
/-- A point that copies the weights and has rows: what the body leaves in the result's staging buffer and in the three weight copies. -/
theorem run_copy_rows (c : Dev nD) (i : grid0.Coords)
    (a3 : Memref sig .tc .vmem S1024x512 .bf16) (h3 : a3.IsWhole) (a4 : Memref sig .tc .vmem S1x1x1024x512 .f32) (h4 : a4.IsWhole)
    (a5 : Memref sig .tc .vmem S1x1x1024x512 .f32) (h5 : a5.IsWhole) (a6 : Memref sig .tc .vmem S1x1x512x1024 .f32) (h6 : a6.IsWhole)
    (a7 : Memref sig .tc .vmem S1024x512 .bf16) (h7 : a7.IsWhole) (a8 : Memref sig .tc .vmem S1024x512 .bf16) (h8 : a8.IsWhole)
    (a9 : Memref sig .tc .vmem S1024x512 .bf16) (h9 : a9.IsWhole) (a10 : Memref sig .tc .vmem S512x1024 .bf16) (h10 : a10.IsWhole)
    (x0 : Vec F S1024x512 .bf16) (x1 : Vec F S1x1x1024x512 .f32) (x2 : Vec F S1x1x1024x512 .f32) (x3 : Vec F S1x1x512x1024 .f32)
    (e : TabBuf (F := F) c mE) (r : TabBuf (F := F) c mR)
    (hc : Copies c i e) (hp : k0_cond2 (rowsAt c i r) = 1#1) (hz : ¬ k0_cond3 (rowsAt c i r) = 1#1) (E : Set ℕ) (K : PUnit → sProp 𝕄) :
    iprop(owns (c : Thread nD τ) a3 fullShare (x0) ∗ owns (c : Thread nD τ) a4 fullShare (x1) ∗ owns (c : Thread nD τ) a5 fullShare (x2) ∗ owns (c : Thread nD τ) a6 fullShare (x3) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ tabAt c mE e ∗ tabAt c mR r
        ∗ (iprop(owns (c : Thread nD τ) a3 fullShare (x0) ∗ owns (c : Thread nD τ) a4 fullShare (x1) ∗ owns (c : Thread nD τ) a5 fullShare (x2) ∗ owns (c : Thread nD τ) a6 fullShare (x3) ∗ owns (c : Thread nD τ) a7 fullShare (k0_pay4 (rowsAt c i r) x0 (k0_pay1 x1) (k0_pay2 x2) (k0_pay3 x3)) ∗ owns (c : Thread nD τ) a8 fullShare (k0_pay1 x1) ∗ owns (c : Thread nD τ) a9 fullShare (k0_pay2 x2) ∗ owns (c : Thread nD τ) a10 fullShare (k0_pay3 x3) ∗ tabAt c mE e ∗ tabAt c mR r) -∗ K ⟨⟩))
      ⊢ wp frame (wpE (defs₀ (F := F)) Variants.none c none) E (cc0_moe_experts i mE (Memref.isWhole_whole _) mR (Memref.isWhole_whole _) a3 h3 a4 h4 a5 h5 a6 h6 a7 h7 a8 h8 a9 h9 a10 h10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, HT0, HT1, Hk⟩
  obtain rfl := h3.eq_unread hf0; obtain rfl := h4.eq_unread hf1; obtain rfl := h5.eq_unread hf2; obtain rfl := h6.eq_unread hf3
  sl_exec (disch := first | sl_exact hc | sl_exact hp | sl_exact hz)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; swap; · iexact H4
    ipureintro
    exact (View.read_writes_full _ _ _ _ _).trans (pay4_congr ((View.readAt_full _ _ _).trans (h3.read_unread _))
      ((View.readCov_full _ _ _ _ _).trans (congrArg k0_pay1 ((View.readAt_full _ _ _).trans (h4.read_unread _))))
      ((View.readCov_full _ _ _ _ _).trans (congrArg k0_pay2 ((View.readAt_full _ _ _).trans (h5.read_unread _))))
      ((View.readCov_full _ _ _ _ _).trans (congrArg k0_pay3 ((View.readAt_full _ _ _).trans (h6.read_unread _)))))
  isplitl [HS0]
  · iexists _; isplitr; swap; · iexact HS0
    ipureintro; exact (View.read_writes_full _ _ _ _ _).trans (congrArg k0_pay1 ((View.readAt_full _ _ _).trans (h4.read_unread _)))
  isplitl [HS1]
  · iexists _; isplitr; swap; · iexact HS1
    ipureintro; exact (View.read_writes_full _ _ _ _ _).trans (congrArg k0_pay2 ((View.readAt_full _ _ _).trans (h5.read_unread _)))
  isplitl [HS2]
  · iexists _; isplitr; swap; · iexact HS2
    ipureintro; exact (View.read_writes_full _ _ _ _ _).trans (congrArg k0_pay3 ((View.readAt_full _ _ _).trans (h6.read_unread _)))
  isplitl [HT0]; · iexact HT0
  iexact HT1

set_option maxHeartbeats 1600000 in
/-- A point that copies the weights and has no row: what the body leaves in the result's staging buffer and in the three weight copies. -/
theorem run_copy_none (c : Dev nD) (i : grid0.Coords)
    (a3 : Memref sig .tc .vmem S1024x512 .bf16) (h3 : a3.IsWhole) (a4 : Memref sig .tc .vmem S1x1x1024x512 .f32) (h4 : a4.IsWhole)
    (a5 : Memref sig .tc .vmem S1x1x1024x512 .f32) (h5 : a5.IsWhole) (a6 : Memref sig .tc .vmem S1x1x512x1024 .f32) (h6 : a6.IsWhole)
    (a7 : Memref sig .tc .vmem S1024x512 .bf16) (h7 : a7.IsWhole) (a8 : Memref sig .tc .vmem S1024x512 .bf16) (h8 : a8.IsWhole)
    (a9 : Memref sig .tc .vmem S1024x512 .bf16) (h9 : a9.IsWhole) (a10 : Memref sig .tc .vmem S512x1024 .bf16) (h10 : a10.IsWhole)
    (x0 : Vec F S1024x512 .bf16) (x1 : Vec F S1x1x1024x512 .f32) (x2 : Vec F S1x1x1024x512 .f32) (x3 : Vec F S1x1x512x1024 .f32)
    (e : TabBuf (F := F) c mE) (r : TabBuf (F := F) c mR)
    (hc : Copies c i e) (hp : ¬ k0_cond2 (rowsAt c i r) = 1#1) (hz : k0_cond3 (rowsAt c i r) = 1#1) (E : Set ℕ) (K : PUnit → sProp 𝕄) :
    iprop(owns (c : Thread nD τ) a3 fullShare (x0) ∗ owns (c : Thread nD τ) a4 fullShare (x1) ∗ owns (c : Thread nD τ) a5 fullShare (x2) ∗ owns (c : Thread nD τ) a6 fullShare (x3) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d) ∗ tabAt c mE e ∗ tabAt c mR r
        ∗ (iprop(owns (c : Thread nD τ) a3 fullShare (x0) ∗ owns (c : Thread nD τ) a4 fullShare (x1) ∗ owns (c : Thread nD τ) a5 fullShare (x2) ∗ owns (c : Thread nD τ) a6 fullShare (x3) ∗ owns (c : Thread nD τ) a7 fullShare (k0_pay5 (F := F)) ∗ owns (c : Thread nD τ) a8 fullShare (k0_pay1 x1) ∗ owns (c : Thread nD τ) a9 fullShare (k0_pay2 x2) ∗ owns (c : Thread nD τ) a10 fullShare (k0_pay3 x3) ∗ tabAt c mE e ∗ tabAt c mR r) -∗ K ⟨⟩))
      ⊢ wp frame (wpE (defs₀ (F := F)) Variants.none c none) E (cc0_moe_experts i mE (Memref.isWhole_whole _) mR (Memref.isWhole_whole _) a3 h3 a4 h4 a5 h5 a6 h6 a7 h7 a8 h8 a9 h9 a10 h10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, HT0, HT1, Hk⟩
  obtain rfl := h3.eq_unread hf0; obtain rfl := h4.eq_unread hf1; obtain rfl := h5.eq_unread hf2; obtain rfl := h6.eq_unread hf3
  sl_exec (disch := first | sl_exact hc | sl_exact hp | sl_exact hz)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; swap; · iexact H4
    ipureintro
    exact View.read_writes_full _ _ _ _ _
  isplitl [HS0]
  · iexists _; isplitr; swap; · iexact HS0
    ipureintro; exact (View.read_writes_full _ _ _ _ _).trans (congrArg k0_pay1 ((View.readAt_full _ _ _).trans (h4.read_unread _)))
  isplitl [HS1]
  · iexists _; isplitr; swap; · iexact HS1
    ipureintro; exact (View.read_writes_full _ _ _ _ _).trans (congrArg k0_pay2 ((View.readAt_full _ _ _).trans (h5.read_unread _)))
  isplitl [HS2]
  · iexists _; isplitr; swap; · iexact HS2
    ipureintro; exact (View.read_writes_full _ _ _ _ _).trans (congrArg k0_pay3 ((View.readAt_full _ _ _).trans (h6.read_unread _)))
  isplitl [HT0]; · iexact HT0
  iexact HT1

set_option maxHeartbeats 1600000 in
/-- A point that keeps the weights and has rows: what the body leaves in the result's staging buffer and in the three weight copies. -/
theorem run_keep_rows (c : Dev nD) (i : grid0.Coords)
    (a3 : Memref sig .tc .vmem S1024x512 .bf16) (h3 : a3.IsWhole) (a4 : Memref sig .tc .vmem S1x1x1024x512 .f32) (h4 : a4.IsWhole)
    (a5 : Memref sig .tc .vmem S1x1x1024x512 .f32) (h5 : a5.IsWhole) (a6 : Memref sig .tc .vmem S1x1x512x1024 .f32) (h6 : a6.IsWhole)
    (a7 : Memref sig .tc .vmem S1024x512 .bf16) (h7 : a7.IsWhole) (a8 : Memref sig .tc .vmem S1024x512 .bf16) (h8 : a8.IsWhole)
    (a9 : Memref sig .tc .vmem S1024x512 .bf16) (h9 : a9.IsWhole) (a10 : Memref sig .tc .vmem S512x1024 .bf16) (h10 : a10.IsWhole)
    (x0 : Vec F S1024x512 .bf16) (x1 : Vec F S1x1x1024x512 .f32) (x2 : Vec F S1x1x1024x512 .f32) (x3 : Vec F S1x1x512x1024 .f32)
    (e : TabBuf (F := F) c mE) (r : TabBuf (F := F) c mR)
    (w1 : Vec F S1024x512 .bf16) (w3 : Vec F S1024x512 .bf16) (w2 : Vec F S512x1024 .bf16)
    (hc : ¬ Copies c i e) (hp : k0_cond2 (rowsAt c i r) = 1#1) (hz : ¬ k0_cond3 (rowsAt c i r) = 1#1) (E : Set ℕ) (K : PUnit → sProp 𝕄) :
    iprop(owns (c : Thread nD τ) a3 fullShare (x0) ∗ owns (c : Thread nD τ) a4 fullShare (x1) ∗ owns (c : Thread nD τ) a5 fullShare (x2) ∗ owns (c : Thread nD τ) a6 fullShare (x3) ∗ (∃ d, owns (c : Thread nD τ) a7 fullShare d) ∗ owns (c : Thread nD τ) a8 fullShare (w1) ∗ owns (c : Thread nD τ) a9 fullShare (w3) ∗ owns (c : Thread nD τ) a10 fullShare (w2) ∗ tabAt c mE e ∗ tabAt c mR r
        ∗ (iprop(owns (c : Thread nD τ) a3 fullShare (x0) ∗ owns (c : Thread nD τ) a4 fullShare (x1) ∗ owns (c : Thread nD τ) a5 fullShare (x2) ∗ owns (c : Thread nD τ) a6 fullShare (x3) ∗ owns (c : Thread nD τ) a7 fullShare (k0_pay4 (rowsAt c i r) x0 (w1) (w3) (w2)) ∗ owns (c : Thread nD τ) a8 fullShare (w1) ∗ owns (c : Thread nD τ) a9 fullShare (w3) ∗ owns (c : Thread nD τ) a10 fullShare (w2) ∗ tabAt c mE e ∗ tabAt c mR r) -∗ K ⟨⟩))
      ⊢ wp frame (wpE (defs₀ (F := F)) Variants.none c none) E (cc0_moe_experts i mE (Memref.isWhole_whole _) mR (Memref.isWhole_whole _) a3 h3 a4 h4 a5 h5 a6 h6 a7 h7 a8 h8 a9 h9 a10 h10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, HT0, HT1, Hk⟩
  obtain rfl := h3.eq_unread hf0; obtain rfl := h4.eq_unread hf1; obtain rfl := h5.eq_unread hf2; obtain rfl := h6.eq_unread hf3; obtain rfl := h8.eq_unread hs0; obtain rfl := h9.eq_unread hs1
  obtain rfl := h10.eq_unread hs2
  sl_exec (disch := first | sl_exact hc | sl_exact hp | sl_exact hz)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; swap; · iexact H4
    ipureintro
    exact (View.read_writes_full _ _ _ _ _).trans (pay4_congr ((View.readAt_full _ _ _).trans (h3.read_unread _))
      ((View.readAt_full _ _ _).trans (h8.read_unread _))
      ((View.readAt_full _ _ _).trans (h9.read_unread _))
      ((View.readAt_full _ _ _).trans (h10.read_unread _)))
  isplitl [HS0]
  · iexists _; isplitr; swap; · iexact HS0
    ipureintro; exact h8.read_unread _
  isplitl [HS1]
  · iexists _; isplitr; swap; · iexact HS1
    ipureintro; exact h9.read_unread _
  isplitl [HS2]
  · iexists _; isplitr; swap; · iexact HS2
    ipureintro; exact h10.read_unread _
  isplitl [HT0]; · iexact HT0
  iexact HT1

set_option maxHeartbeats 1600000 in
/-- A point that keeps the weights and has no row: what the body leaves in the result's staging buffer and in the three weight copies. -/
theorem run_keep_none (c : Dev nD) (i : grid0.Coords)
    (a3 : Memref sig .tc .vmem S1024x512 .bf16) (h3 : a3.IsWhole) (a4 : Memref sig .tc .vmem S1x1x1024x512 .f32) (h4 : a4.IsWhole)
    (a5 : Memref sig .tc .vmem S1x1x1024x512 .f32) (h5 : a5.IsWhole) (a6 : Memref sig .tc .vmem S1x1x512x1024 .f32) (h6 : a6.IsWhole)
    (a7 : Memref sig .tc .vmem S1024x512 .bf16) (h7 : a7.IsWhole) (a8 : Memref sig .tc .vmem S1024x512 .bf16) (h8 : a8.IsWhole)
    (a9 : Memref sig .tc .vmem S1024x512 .bf16) (h9 : a9.IsWhole) (a10 : Memref sig .tc .vmem S512x1024 .bf16) (h10 : a10.IsWhole)
    (x0 : Vec F S1024x512 .bf16) (x1 : Vec F S1x1x1024x512 .f32) (x2 : Vec F S1x1x1024x512 .f32) (x3 : Vec F S1x1x512x1024 .f32)
    (e : TabBuf (F := F) c mE) (r : TabBuf (F := F) c mR)
    (w1 : Vec F S1024x512 .bf16) (w3 : Vec F S1024x512 .bf16) (w2 : Vec F S512x1024 .bf16)
    (hc : ¬ Copies c i e) (hp : ¬ k0_cond2 (rowsAt c i r) = 1#1) (hz : k0_cond3 (rowsAt c i r) = 1#1) (E : Set ℕ) (K : PUnit → sProp 𝕄) :
    iprop(owns (c : Thread nD τ) a3 fullShare (x0) ∗ owns (c : Thread nD τ) a4 fullShare (x1) ∗ owns (c : Thread nD τ) a5 fullShare (x2) ∗ owns (c : Thread nD τ) a6 fullShare (x3) ∗ (∃ d, owns (c : Thread nD τ) a7 fullShare d) ∗ owns (c : Thread nD τ) a8 fullShare (w1) ∗ owns (c : Thread nD τ) a9 fullShare (w3) ∗ owns (c : Thread nD τ) a10 fullShare (w2) ∗ tabAt c mE e ∗ tabAt c mR r
        ∗ (iprop(owns (c : Thread nD τ) a3 fullShare (x0) ∗ owns (c : Thread nD τ) a4 fullShare (x1) ∗ owns (c : Thread nD τ) a5 fullShare (x2) ∗ owns (c : Thread nD τ) a6 fullShare (x3) ∗ owns (c : Thread nD τ) a7 fullShare (k0_pay5 (F := F)) ∗ owns (c : Thread nD τ) a8 fullShare (w1) ∗ owns (c : Thread nD τ) a9 fullShare (w3) ∗ owns (c : Thread nD τ) a10 fullShare (w2) ∗ tabAt c mE e ∗ tabAt c mR r) -∗ K ⟨⟩))
      ⊢ wp frame (wpE (defs₀ (F := F)) Variants.none c none) E (cc0_moe_experts i mE (Memref.isWhole_whole _) mR (Memref.isWhole_whole _) a3 h3 a4 h4 a5 h5 a6 h6 a7 h7 a8 h8 a9 h9 a10 h10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, HT0, HT1, Hk⟩
  obtain rfl := h3.eq_unread hf0; obtain rfl := h4.eq_unread hf1; obtain rfl := h5.eq_unread hf2; obtain rfl := h6.eq_unread hf3; obtain rfl := h8.eq_unread hs0; obtain rfl := h9.eq_unread hs1
  obtain rfl := h10.eq_unread hs2
  sl_exec (disch := first | sl_exact hc | sl_exact hp | sl_exact hz)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; swap; · iexact H4
    ipureintro
    exact View.read_writes_full _ _ _ _ _
  isplitl [HS0]
  · iexists _; isplitr; swap; · iexact HS0
    ipureintro; exact h8.read_unread _
  isplitl [HS1]
  · iexists _; isplitr; swap; · iexact HS1
    ipureintro; exact h9.read_unread _
  isplitl [HS2]
  · iexists _; isplitr; swap; · iexact HS2
    ipureintro; exact h10.read_unread _
  isplitl [HT0]; · iexact HT0
  iexact HT1

end Cert.ContextIdeal.Gen

end
-- ==== Proof.ContextIdealTables.lean ====
/- Where `ContextIdeal`'s reads of the tables fall, and the index maps that follow them. -/
module

public import proofs.«01_k».proof.Proof.ContextIdealSetup
public import Idealize.ShloMosaic.Lib.Pipeline.ValueKit

@[expose] public section

set_option maxRecDepth 16384

noncomputable section

namespace Cert.ContextIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table entry of grid point `i`. -/
def tix (i : grid0.Coords) : S32.Idx := fun a => ⟨(i 0).val, by obtain rfl : a = 0 := Subsingleton.elim _ _; exact (i 0).isLt⟩

theorem off1_val : ∀ (i : grid0.Coords) (a : Fin 1), k0_off1 i a = (i 0).val := fun i a => by
  have h : (i 0).val < 32 := (i 0).isLt
  obtain rfl : a = 0 := Subsingleton.elim _ _
  show (Scalar.indexCast (BitVec.ofNat 32 (i 0).val)).toNat = (i 0).val
  simp only [Scalar.indexCast, BitVec.toNat_ofNat]
  omega

theorem off2_val : ∀ (i : grid0.Coords) (a : Fin 1), k0_off2 i a = (i 0).val - 1 := by decide +kernel

theorem hereAt_eq (c : Dev nD) (i : grid0.Coords) (f : TabBuf (F := F) c mE) : hereAt c i f = f (tix i) := by
  refine congrArg f (funext fun a => Fin.ext ?_)
  exact (Nat.add_zero _).trans (off1_val i a)

theorem rowsAt_eq (c : Dev nD) (i : grid0.Coords) (f : TabBuf (F := F) c mR) : rowsAt c i f = f (tix i) := by
  refine congrArg f (funext fun a => Fin.ext ?_)
  exact (Nat.add_zero _).trans (off1_val i a)

theorem prevAt_eq (c : Dev nD) (i j : grid0.Coords) (h : (j 0).val = (i 0).val - 1) (f : TabBuf (F := F) c mE) : prevAt c i f = f (tix j) := by
  refine congrArg f (funext fun a => Fin.ext ?_)
  exact (Nat.add_zero _).trans ((off2_val i a).trans h.symm)

/-- A point that keeps the weights is not the first, and its tile has the expert of the tile before it. -/
theorem keeps_iff (c : Dev nD) (i : grid0.Coords) (f : TabBuf (F := F) c mE) (h : ¬ Copies c i f) :
    (i 0).val ≠ 0 ∧ hereAt c i f = prevAt c i f := by
  have key : ∀ p q : BitVec 1, ¬ (Scalar.cmpi .ne (Scalar.extui (Scalar.ori p q)) (0#32 : BitVec 32)) = 1#1 → ¬ p = 1#1 ∧ ¬ q = 1#1 := by
    decide
  have hN : (i 0).val < 32 := (i 0).isLt
  obtain ⟨hp, hq⟩ := key _ _ h
  constructor
  · intro h0
    exact hp (by rw [h0]; rfl)
  · by_contra hne
    exact hq (by show BitVec.ofBool (hereAt c i f != prevAt c i f) = 1#1; rw [bne_iff_ne.mpr hne]; rfl)

/-- The word an index map reads is the tile's expert number. -/
theorem at_eq (pf : pre0.Contents (Elt F)) (i : grid0.Coords) :
    pf.at 0 (Rect.unit (s := S32) ![(Scalar.indexCast (BitVec.ofNat 32 (i 0).val)).toNat] S1.size (k0_off1_inb i)) numel1_S1 = pf 0 (tix i) := by
  refine congrArg (pf 0) (funext fun a => Fin.ext ?_)
  exact (Nat.add_zero _).trans (off1_val i a)

theorem map1_eq (pf : pre0.Contents (Elt F)) (i : grid0.Coords) :
    cc0_transform_1 k0_off1_inb numel1_S1 pf i = ![0, (pf 0 (tix i) : BitVec 32).toNat, 0, 0] := by
  rw [← at_eq pf i]; rfl
theorem map2_eq (pf : pre0.Contents (Elt F)) (i : grid0.Coords) :
    cc0_transform_2 k0_off1_inb numel1_S1 pf i = ![0, (pf 0 (tix i) : BitVec 32).toNat, 0, 0] := by
  rw [← at_eq pf i]; rfl
theorem map3_eq (pf : pre0.Contents (Elt F)) (i : grid0.Coords) :
    cc0_transform_3 k0_off1_inb numel1_S1 pf i = ![0, (pf 0 (tix i) : BitVec 32).toNat, 0, 0] := by
  rw [← at_eq pf i]; rfl

/-- Expert numbers below 16 keep every weight block inside its array. -/
theorem ok_of_lt (pf : pre0.Contents (Elt F)) (h : ∀ i : grid0.Coords, (pf 0 (tix i) : BitVec 32).toNat < 16) : ok0 pf := by
  unfold ok0
  refine ⟨fun i => ⟨fun a => ?_, .inl rfl⟩, fun i => ⟨fun a => ?_, .inl rfl⟩, fun i => ⟨fun a => ?_, .inl rfl⟩⟩
  · rw [map1_eq]; have := h i; fin_cases a <;> simp [Shape.size] <;> omega
  · rw [map2_eq]; have := h i; fin_cases a <;> simp [Shape.size] <;> omega
  · rw [map3_eq]; have := h i; fin_cases a <;> simp [Shape.size] <;> omega

/-- A row count is never both positive and zero. -/
theorem conds_excl (v : BitVec 32) : ¬ (k0_cond2 v = 1#1 ∧ k0_cond3 v = 1#1) := by
  rintro ⟨h2, h3⟩
  have h0 : v = 0#32 := by
    by_contra hne
    have : k0_cond3 v = 0#1 := by
      have e : Scalar.cmpi .eq v 0#32 = 0#1 := by
        show BitVec.ofBool (v == 0#32) = 0#1; rw [beq_false_of_ne hne]; rfl
      unfold k0_cond3; simp only [e]; decide
    rw [this] at h3; exact absurd h3 (by decide)
  subst h0
  exact absurd h2 (by decide)

/-- A row count that is not negative is positive or zero. -/
theorem conds_of_nonneg (v : BitVec 32) (h : 0 ≤ v.toInt) :
    (k0_cond2 v = 1#1 ∧ ¬ k0_cond3 v = 1#1 ∧ 0 < v.toInt) ∨ (¬ k0_cond2 v = 1#1 ∧ k0_cond3 v = 1#1 ∧ v.toInt = 0) := by
  by_cases h0 : v = 0#32
  · subst h0; right; decide
  · left
    have hz : ¬ k0_cond3 v = 1#1 := by
      have : k0_cond3 v = 0#1 := by
        have e : Scalar.cmpi .eq v 0#32 = 0#1 := by
          show BitVec.ofBool (v == 0#32) = 0#1; rw [beq_false_of_ne h0]; rfl
        unfold k0_cond3; simp only [e]; decide
      rw [this]; decide
    have hpos : 0 < v.toInt := by
      rcases h.lt_or_eq with h | h
      · exact h
      · exact absurd (BitVec.eq_of_toInt_eq (h.symm.trans (by decide : (0 : ℤ) = (0#32 : BitVec 32).toInt))) h0
    refine ⟨?_, hz, hpos⟩
    have hs : BitVec.slt 0#32 v = true := by
      rw [BitVec.slt_iff_toInt_lt]; simpa using hpos
    have e : Scalar.cmpi .sgt v 0#32 = 1#1 := by
      show BitVec.ofBool (BitVec.slt 0#32 v) = 1#1; rw [hs]; rfl
    unfold k0_cond2; simp only [e]; decide

end Cert.ContextIdeal.Gen

end
-- ==== Proof.ContextIdealBlocks.lean ====
/- The blocks the context's expert kernel's windows read, entry by entry. -/
module

public import proofs.«01_k».proof.Proof.ContextIdealTables
public import Idealize.ShloMosaic.Lib.Pipeline.ValueKit

@[expose] public section

set_option maxRecDepth 16384

noncomputable section

namespace Cert.ContextIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (m : (ℓ : Loc nD τ sig) → Buf (Elt F) ℓ)

/-- Tile `t`'s expert number. -/
abbrev expertOf (t : Fin grid0.N) : ℕ := (tbl m 0 (tix (grid0.coords t)) : BitVec 32).toNat

theorem coords_val : ∀ t : Fin grid0.N, (grid0.coords t 0).val = t.val := by decide +kernel

theorem expert_lt (hO : Ok m) (t : Fin grid0.N) : expertOf m t < 16 := by
  obtain ⟨h, -⟩ := hO.1 (grid0.coords t)
  have h1 := h 1
  rw [map1_eq] at h1
  simpa using h1

/-- The weight blocks are the tile's expert's. -/
theorem iblk1_apply (hO : Ok m) (c : Dev nD) (t : Fin (cfgM m hO).N) (a b : Fin 1) (i : Fin 1024) (j : Fin 512) :
    iblk m hO c 1 t (ix4 a b i j) = entry m c main_arg3 (ix4 0 ⟨expertOf m t, expert_lt m hO t⟩ i j) := by
  obtain rfl : a = 0 := Subsingleton.elim _ _
  obtain rfl : b = 0 := Subsingleton.elim _ _
  refine congrArg (entry m c main_arg3) (funext fun a => Fin.ext ?_)
  have e : ((cfgM m hO).win 1).index t = ![0, expertOf m t, 0, 0] := map1_eq (tbl m) (grid0.coords t)
  fin_cases a <;> blk_simp [e] <;> rfl

theorem iblk2_apply (hO : Ok m) (c : Dev nD) (t : Fin (cfgM m hO).N) (a b : Fin 1) (i : Fin 1024) (j : Fin 512) :
    iblk m hO c 2 t (ix4 a b i j) = entry m c main_arg4 (ix4 0 ⟨expertOf m t, expert_lt m hO t⟩ i j) := by
  obtain rfl : a = 0 := Subsingleton.elim _ _
  obtain rfl : b = 0 := Subsingleton.elim _ _
  refine congrArg (entry m c main_arg4) (funext fun a => Fin.ext ?_)
  have e : ((cfgM m hO).win 2).index t = ![0, expertOf m t, 0, 0] := map2_eq (tbl m) (grid0.coords t)
  fin_cases a <;> blk_simp [e] <;> rfl

theorem iblk3_apply (hO : Ok m) (c : Dev nD) (t : Fin (cfgM m hO).N) (a b : Fin 1) (i : Fin 512) (j : Fin 1024) :
    iblk m hO c 3 t (ix4 a b i j) = entry m c main_arg5 (ix4 0 ⟨expertOf m t, expert_lt m hO t⟩ i j) := by
  obtain rfl : a = 0 := Subsingleton.elim _ _
  obtain rfl : b = 0 := Subsingleton.elim _ _
  refine congrArg (entry m c main_arg5) (funext fun a => Fin.ext ?_)
  have e : ((cfgM m hO).win 3).index t = ![0, expertOf m t, 0, 0] := map3_eq (tbl m) (grid0.coords t)
  fin_cases a <;> blk_simp [e] <;> rfl

theorem iblk0_apply (hO : Ok m) (c : Dev nD) (t : Fin (cfgM m hO).N) (i : Fin 1024) (j : Fin 512) (h : t.val * 1024 + i.val < 32768) :
    iblk m hO c 0 t (ix2 i j) = entry m c main_v6 (ix2 ⟨t.val * 1024 + i.val, h⟩ j) := by
  refine congrArg (entry m c main_v6) (funext fun a => Fin.ext ?_)
  have e : ∀ t : Fin grid0.N, cc0_transform_0 (grid0.coords t) = ![t.val, 0] := by decide +kernel
  have e : ((cfgM m hO).win 0).index t = ![t.val, 0] := e t
  fin_cases a <;> blk_simp [e] <;> rfl

end

section
variable (m : (ℓ : Loc nD τ sig) → Buf (Elt Ideal) ℓ)

/-- The array the rows come from: the second half of row `s`'s columns, then the first. -/
theorem entry_even (c : Dev nD) (s : Fin 16384) (q : Fin 512) : (entry m c main_v6 : FVec Ideal S32768x512 .bf16) (ix2 ⟨2 * s.val, by omega⟩ q)
    = (m ((c : Thread nD τ).loc main_arg0) : FVec Ideal S16384x1024 .f32) (ix2 s ⟨512 + q.val, by omega⟩) := by
  unfold entry
  entry_read
  pointwise
  rw [dif_pos (by omega)]
  exact congrArg (fun r : Fin 16384 => (m ((c : Thread nD τ).loc main_arg0) : FVec Ideal S16384x1024 .f32) (ix2 r _)) (Fin.ext (by show 2 * s.val / 2 = s.val; omega))

theorem entry_odd (c : Dev nD) (s : Fin 16384) (q : Fin 512) : (entry m c main_v6 : FVec Ideal S32768x512 .bf16) (ix2 ⟨2 * s.val + 1, by omega⟩ q)
    = (m ((c : Thread nD τ).loc main_arg0) : FVec Ideal S16384x1024 .f32) (ix2 s ⟨q.val, by omega⟩) := by
  unfold entry
  entry_read
  pointwise
  rw [dif_neg (by omega)]
  exact congrArg (fun r : Fin 16384 => (m ((c : Thread nD τ).loc main_arg0) : FVec Ideal S16384x1024 .f32) (ix2 r _)) (Fin.ext (by show (2 * s.val + 1) / 2 = s.val; omega))

end

end Cert.ContextIdeal.Gen

end
-- ==== Proof.ContextIdealFrame.lean ====
/- The context's expert program at the ideal instance runs, with every tile's result block named: from its rows and its expert's weights.
   Between points the three weight copies hold the weights of the point just run. -/
module

public import proofs.«01_k».proof.Proof.ContextIdealRuns
public import proofs.«01_k».proof.Proof.ContextIdealBlocks
public import Idealize.ShloMosaic.Lib.Claim

@[expose] public section

set_option maxRecDepth 16384

noncomputable section

namespace Cert.ContextIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No tile's row count is negative. -/
abbrev RowsOk : Prop := ∀ i : grid0.Coords, 0 ≤ (tbl m 1 (tix i) : BitVec 32).toInt

/-- What the body leaves of the result at point `t`. -/
def outOf (hO : Ok m) (c : Dev nD) (t : Fin (cfgM m hO).N) : Vec F S1024x512 .bf16 :=
  if k0_cond2 (rowsAt c (grid0.coords t) (tbl m 1)) = 1#1 then
    k0_pay4 (rowsAt c (grid0.coords t) (tbl m 1)) (iblk m hO c 0 t) (k0_pay1 (iblk m hO c 1 t)) (k0_pay2 (iblk m hO c 2 t)) (k0_pay3 (iblk m hO c 3 t))
  else k0_pay5 (F := F)

/-- The three weight copies at the weights of point `t`, and the generator's register. -/
def kept (hO : Ok m) (c : Dev nD) (t : Fin (cfgM m hO).N) : sProp 𝕄 :=
  iprop(iprop(owns (c : Thread nD τ) mW1 fullShare (k0_pay1 (iblk m hO c 1 t)) ∗ owns (c : Thread nD τ) mW3 fullShare (k0_pay2 (iblk m hO c 2 t))
    ∗ owns (c : Thread nD τ) mW2 fullShare (k0_pay3 (iblk m hO c 3 t))) ∗ (∃ r, prngReg c r))

/-- What is held between points: before the first, the copies at anything; after a point, at that point's weights. -/
def between (hO : Ok m) (c : Dev nD) (k : Fin ((cfgM m hO).N + 1)) : sProp 𝕄 :=
  if h : k.val = 0 then Pipeline.ΦA spec0 c else kept m hO c ⟨k.val - 1, by have := k.isLt; omega⟩

def dats (hO : Ok m) (_ : Fin 1) (c : Dev nD) : Dat τ (Elt F) Unit ℕ (UR sig nD τ) ℕ (cfgM m hO) c where
  A w := entry m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outOf m hO c t
  Φ k := iprop(between m hO c k ∗ Pipeline.ΦT pre0 (tbl m) c)
  q _ := fullShare
  owed _ := 0

theorem dats_A (hO : Ok m) (c : Dev nD) (w : Fin (cfgM m hO).W) : (dats m hO 0 c).A w = entry m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = outOf m hO c t := by dsimp only [dats]; try rfl

theorem between_succ (hO : Ok m) (c : Dev nD) (t : Fin (cfgM m hO).N) : between m hO c t.succ = kept m hO c t :=
  dif_neg (Nat.succ_ne_zero _)

theorem kept_forget (hO : Ok m) (c : Dev nD) (t : Fin (cfgM m hO).N) : kept m hO c t ⊢ Pipeline.ΦA spec0 c := by
  rw [scratch_eq]; unfold kept
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

theorem between_forget (hO : Ok m) (c : Dev nD) (k : Fin ((cfgM m hO).N + 1)) : between m hO c k ⊢ Pipeline.ΦA spec0 c := by
  unfold between
  by_cases h : k.val = 0
  · rw [dif_pos h]
  · rw [dif_neg h]; exact kept_forget m hO c _

/-- Points with the same expert have the same block of weight array 1. -/
theorem iblk1_eq (hO : Ok m) (c : Dev nD) (s t : Fin (cfgM m hO).N) (h : expertOf m s = expertOf m t) :
    (iblk m hO c 1 s : Vec F S1x1x1024x512 .f32) = iblk m hO c 1 t := by
  refine funext fun y : S1x1x1024x512.Idx => ?_
  have hy : y = ix4 (y 0) (y 1) (y 2) (y 3) := by funext a; fin_cases a <;> rfl
  rw [hy]
  refine (iblk1_apply m hO c s (y 0) (y 1) (y 2) (y 3)).trans (Eq.trans ?_ (iblk1_apply m hO c t (y 0) (y 1) (y 2) (y 3)).symm)
  exact congrArg (fun e : Fin 16 => (entry m c main_arg3 : Vec F _ .f32) (ix4 0 e (y 2) (y 3))) (Fin.ext h)

/-- Points with the same expert have the same block of weight array 2. -/
theorem iblk2_eq (hO : Ok m) (c : Dev nD) (s t : Fin (cfgM m hO).N) (h : expertOf m s = expertOf m t) :
    (iblk m hO c 2 s : Vec F S1x1x1024x512 .f32) = iblk m hO c 2 t := by
  refine funext fun y : S1x1x1024x512.Idx => ?_
  have hy : y = ix4 (y 0) (y 1) (y 2) (y 3) := by funext a; fin_cases a <;> rfl
  rw [hy]
  refine (iblk2_apply m hO c s (y 0) (y 1) (y 2) (y 3)).trans (Eq.trans ?_ (iblk2_apply m hO c t (y 0) (y 1) (y 2) (y 3)).symm)
  exact congrArg (fun e : Fin 16 => (entry m c main_arg4 : Vec F _ .f32) (ix4 0 e (y 2) (y 3))) (Fin.ext h)

/-- Points with the same expert have the same block of weight array 3. -/
theorem iblk3_eq (hO : Ok m) (c : Dev nD) (s t : Fin (cfgM m hO).N) (h : expertOf m s = expertOf m t) :
    (iblk m hO c 3 s : Vec F S1x1x512x1024 .f32) = iblk m hO c 3 t := by
  refine funext fun y : S1x1x512x1024.Idx => ?_
  have hy : y = ix4 (y 0) (y 1) (y 2) (y 3) := by funext a; fin_cases a <;> rfl
  rw [hy]
  refine (iblk3_apply m hO c s (y 0) (y 1) (y 2) (y 3)).trans (Eq.trans ?_ (iblk3_apply m hO c t (y 0) (y 1) (y 2) (y 3)).symm)
  exact congrArg (fun e : Fin 16 => (entry m c main_arg5 : Vec F _ .f32) (ix4 0 e (y 2) (y 3))) (Fin.ext h)

/-- At a point that keeps the weights, the point before it had the same weight blocks. -/
theorem between_keep (hO : Ok m) (c : Dev nD) (t : Fin (cfgM m hO).N) (h : ¬ Copies c (grid0.coords t) (tbl m 0)) :
    between m hO c t.castSucc = kept m hO c t := by
  obtain ⟨h0, he⟩ := keeps_iff c _ _ h
  have hv := coords_val t
  have ht : t.val ≠ 0 := by rw [← hv]; exact h0
  have hlt : t.val - 1 < grid0.N := lt_of_le_of_lt (Nat.sub_le _ _) t.isLt
  have hx : expertOf m ⟨t.val - 1, hlt⟩ = expertOf m t := by
    have hh := (hereAt_eq c (grid0.coords t) (tbl m 0)).symm.trans (he.trans (prevAt_eq c (grid0.coords t)
      (grid0.coords ⟨t.val - 1, hlt⟩) (by rw [coords_val, coords_val]) (tbl m 0)))
    exact (congrArg BitVec.toNat hh).symm
  unfold between
  rw [dif_neg (show ¬ (t.castSucc).val = 0 from ht)]
  unfold kept
  have e1 := iblk1_eq m hO c ⟨t.val - 1, hlt⟩ t hx
  have e2 := iblk2_eq m hO c ⟨t.val - 1, hlt⟩ t hx
  have e3 := iblk3_eq m hO c ⟨t.val - 1, hlt⟩ t hx
  show (iprop(iprop(owns (c : Thread nD τ) mW1 fullShare (k0_pay1 (iblk m hO c 1 ⟨t.val - 1, hlt⟩) : Vec F S1024x512 .bf16) ∗ owns (c : Thread nD τ) mW3 fullShare (k0_pay2 (iblk m hO c 2 ⟨t.val - 1, hlt⟩) : Vec F S1024x512 .bf16)
      ∗ owns (c : Thread nD τ) mW2 fullShare (k0_pay3 (iblk m hO c 3 ⟨t.val - 1, hlt⟩) : Vec F S512x1024 .bf16)) ∗ (∃ r, prngReg c r)) : sProp 𝕄) = _
  rw [show (k0_pay1 (iblk m hO c 1 ⟨t.val - 1, hlt⟩) : Vec F S1024x512 .bf16) = k0_pay1 (iblk m hO c 1 t) from congrArg _ e1,
    show (k0_pay2 (iblk m hO c 2 ⟨t.val - 1, hlt⟩) : Vec F S1024x512 .bf16) = k0_pay2 (iblk m hO c 2 t) from congrArg _ e2,
    show (k0_pay3 (iblk m hO c 3 ⟨t.val - 1, hlt⟩) : Vec F S512x1024 .bf16) = k0_pay3 (iblk m hO c 3 t) from congrArg _ e3]

/-- What the body starts from at point `t`. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st0 m hO t) fullShare ((dats m hO 0 c).before 0 t d))
    ∗ (∃ d, owns (c : Thread nD τ) (st1 m hO t) fullShare ((dats m hO 0 c).before 1 t d))
    ∗ (∃ d, owns (c : Thread nD τ) (st2 m hO t) fullShare ((dats m hO 0 c).before 2 t d))
    ∗ (∃ d, owns (c : Thread nD τ) (st3 m hO t) fullShare ((dats m hO 0 c).before 3 t d))
    ∗ (∃ d, owns (c : Thread nD τ) (st4 m hO t) fullShare ((dats m hO 0 c).before 4 t d)))

/-- What it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (st0 m hO t) fullShare ((dats m hO 0 c).after 0 t)
    ∗ owns (c : Thread nD τ) (st1 m hO t) fullShare ((dats m hO 0 c).after 1 t)
    ∗ owns (c : Thread nD τ) (st2 m hO t) fullShare ((dats m hO 0 c).after 2 t)
    ∗ owns (c : Thread nD τ) (st3 m hO t) fullShare ((dats m hO 0 c).after 3 t)
    ∗ owns (c : Thread nD τ) (st4 m hO t) fullShare ((dats m hO 0 c).after 4 t))

set_option maxHeartbeats 3200000 in
/-- The body's triple at any point. -/
theorem sound_body (hO : Ok m) (hR : RowsOk m) (c : Dev nD) (t : Fin (cfgM m hO).N) :
    bodyPre m hO c t ⊢ wp frame (wpE (defs₀ (F := F)) Variants.none c none) Set.univ (bodyAt m hO t) (fun _ => bodyPost m hO c t) := by
  have hb := before_in m hO (dats m hO 0 c) (dats_A m hO c) t
  unfold bodyPre bodyPost bodyAt
  simp only [hb.1 (after_0 m hO c), hb.2.1 (after_1 m hO c), hb.2.2.1 (after_2 m hO c), hb.2.2.2 (after_3 m hO c)]
  rw [show (dats m hO 0 c).owesAt () t.succ = (dats m hO 0 c).owesAt () t.castSucc from rfl, after_0, after_1, after_2, after_3, after_4]
  rw [show (dats m hO 0 c).Φ t.castSucc = iprop(between m hO c t.castSucc ∗ Pipeline.ΦT pre0 (tbl m) c) from rfl,
    show (dats m hO 0 c).Φ t.succ = iprop(between m hO c t.succ ∗ Pipeline.ΦT pre0 (tbl m) c) from rfl, tables_eq, between_succ]
  have hr : 0 ≤ (rowsAt c (grid0.coords t) (tbl m 1) : BitVec 32).toInt := le_of_le_of_eq (hR _) (congrArg BitVec.toInt (rowsAt_eq c (grid0.coords t) (tbl m 1)).symm)
  unfold outOf
  have hk : kept m hO c t = iprop(iprop(owns (c : Thread nD τ) mW1 fullShare (k0_pay1 (iblk m hO c 1 t)) ∗ owns (c : Thread nD τ) mW3 fullShare (k0_pay2 (iblk m hO c 2 t))
    ∗ owns (c : Thread nD τ) mW2 fullShare (k0_pay3 (iblk m hO c 3 t))) ∗ (∃ r, prngReg c r)) := rfl
  rcases Classical.em (Copies c (grid0.coords t) (tbl m 0)) with hc | hc <;> rcases conds_of_nonneg _ hr with ⟨hp, hz, -⟩ | ⟨hp, hz, -⟩
  · rw [if_pos hp, hk]
    refine (sep_mono (sep_mono (between_forget m hO c _) .rfl) .rfl).trans ?_
    rw [scratch_eq]
    iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩⟩
    iapply (run_copy_rows c (grid0.coords t) _ _ _ _ _ _ _ _ _ _ _ _ _ _ _ _ (iblk m hO c 0 t) (iblk m hO c 1 t) (iblk m hO c 2 t)
      (iblk m hO c 3 t) (tbl m 0) (tbl m 1) hc hp hz Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HT0]; · iexact HT0
    isplitl [HT1]; · iexact HT1
    iintro ⟨H0, H1, H2, H3, H4, HS0, HS1, HS2, HT0, HT1⟩
    isplitl [HS0 HS1 HS2 Hg HT0 HT1]
    · isplitl [HS0 HS1 HS2 Hg]
      · isplitl [HS0 HS1 HS2]
        · isplitl [HS0]
          · iexact HS0
          isplitl [HS1]
          · iexact HS1
          iexact HS2
        iexact Hg
      isplitl [HT0]; · iexact HT0
      iexact HT1
    isplitl [Ho]; · iexact Ho
    isplitl [H0]; · iexact H0
    isplitl [H1]; · iexact H1
    isplitl [H2]; · iexact H2
    isplitl [H3]; · iexact H3
    iexact H4
  · rw [if_neg hp, hk]
    refine (sep_mono (sep_mono (between_forget m hO c _) .rfl) .rfl).trans ?_
    rw [scratch_eq]
    iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩⟩
    iapply (run_copy_none c (grid0.coords t) _ _ _ _ _ _ _ _ _ _ _ _ _ _ _ _ (iblk m hO c 0 t) (iblk m hO c 1 t) (iblk m hO c 2 t)
      (iblk m hO c 3 t) (tbl m 0) (tbl m 1) hc hp hz Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HT0]; · iexact HT0
    isplitl [HT1]; · iexact HT1
    iintro ⟨H0, H1, H2, H3, H4, HS0, HS1, HS2, HT0, HT1⟩
    isplitl [HS0 HS1 HS2 Hg HT0 HT1]
    · isplitl [HS0 HS1 HS2 Hg]
      · isplitl [HS0 HS1 HS2]
        · isplitl [HS0]
          · iexact HS0
          isplitl [HS1]
          · iexact HS1
          iexact HS2
        iexact Hg
      isplitl [HT0]; · iexact HT0
      iexact HT1
    isplitl [Ho]; · iexact Ho
    isplitl [H0]; · iexact H0
    isplitl [H1]; · iexact H1
    isplitl [H2]; · iexact H2
    isplitl [H3]; · iexact H3
    iexact H4
  · rw [if_pos hp, between_keep m hO c t hc, hk]
    iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩⟩
    iapply (run_keep_rows c (grid0.coords t) _ _ _ _ _ _ _ _ _ _ _ _ _ _ _ _ (iblk m hO c 0 t) (iblk m hO c 1 t) (iblk m hO c 2 t)
      (iblk m hO c 3 t) (tbl m 0) (tbl m 1) (k0_pay1 (iblk m hO c 1 t)) (k0_pay2 (iblk m hO c 2 t)) (k0_pay3 (iblk m hO c 3 t)) hc hp hz Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HT0]; · iexact HT0
    isplitl [HT1]; · iexact HT1
    iintro ⟨H0, H1, H2, H3, H4, HS0, HS1, HS2, HT0, HT1⟩
    isplitl [HS0 HS1 HS2 Hg HT0 HT1]
    · isplitl [HS0 HS1 HS2 Hg]
      · isplitl [HS0 HS1 HS2]
        · isplitl [HS0]
          · iexact HS0
          isplitl [HS1]
          · iexact HS1
          iexact HS2
        iexact Hg
      isplitl [HT0]; · iexact HT0
      iexact HT1
    isplitl [Ho]; · iexact Ho
    isplitl [H0]; · iexact H0
    isplitl [H1]; · iexact H1
    isplitl [H2]; · iexact H2
    isplitl [H3]; · iexact H3
    iexact H4
  · rw [if_neg hp, between_keep m hO c t hc, hk]
    iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩⟩
    iapply (run_keep_none c (grid0.coords t) _ _ _ _ _ _ _ _ _ _ _ _ _ _ _ _ (iblk m hO c 0 t) (iblk m hO c 1 t) (iblk m hO c 2 t)
      (iblk m hO c 3 t) (tbl m 0) (tbl m 1) (k0_pay1 (iblk m hO c 1 t)) (k0_pay2 (iblk m hO c 2 t)) (k0_pay3 (iblk m hO c 3 t)) hc hp hz Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HT0]; · iexact HT0
    isplitl [HT1]; · iexact HT1
    iintro ⟨H0, H1, H2, H3, H4, HS0, HS1, HS2, HT0, HT1⟩
    isplitl [HS0 HS1 HS2 Hg HT0 HT1]
    · isplitl [HS0 HS1 HS2 Hg]
      · isplitl [HS0 HS1 HS2]
        · isplitl [HS0]
          · iexact HS0
          isplitl [HS1]
          · iexact HS1
          iexact HS2
        iexact Hg
      isplitl [HT0]; · iexact HT0
      iexact HT1
    isplitl [Ho]; · iexact Ho
    isplitl [H0]; · iexact H0
    isplitl [H1]; · iexact H1
    isplitl [H2]; · iexact H2
    isplitl [H3]; · iexact H3
    iexact H4

/-- The result's window is written at every point. -/
theorem busy (hR : RowsOk m) (i : grid0.Coords) : idle0 (tbl m) 4 i = false := by
  have e : Pipeline.Prefetch.Contents.atD (tbl m) 1 (k0_off1 i) = tbl m 1 (tix i) := by
    have h : ∀ a : Fin 1, k0_off1 i a + 1 ≤ S32.size a := fun a => by
      have := k0_off1_inb i a
      obtain rfl : a = 0 := Subsingleton.elim _ _
      exact this
    exact (dif_pos h).trans (congrArg (tbl m 1) (funext fun a => Fin.ext (off1_val i a)))
  show (!(k0_cond2 (Pipeline.Prefetch.Contents.atD (tbl m) 1 (k0_off1 i)) == 1#1) && !(k0_cond3 (Pipeline.Prefetch.Contents.atD (tbl m) 1 (k0_off1 i)) == 1#1)) = false
  rw [e]
  rcases conds_of_nonneg _ (hR i) with ⟨hp, -, -⟩ | ⟨-, hz, -⟩
  · rw [hp]; rfl
  · rw [hz]; simp

theorem body_obligation (hO : Ok m) (hR : RowsOk m) (c : Dev nD) :
    BodyObligation (dats (F := F) m hO 0 c) (defs₀ (F := F)) Variants.none () Set.univ := fun t => by
  rw [bigSep_W0, bigSep_W0, body_row m hO]
  have hbz : (cfgM m hO).idle (4 : Fin 5) ((cfgM m hO).grid.coords t) = false := busy m hR _
  rw [hbz]
  exact triple_restated (sound_body m hO hR c t) rfl .rfl fun _ => .rfl

set_option backward.isDefEq.respectTransparency.types false in
/-- The run: it ends with every window's array named and every semaphore at zero. -/
theorem run_main (hO : Ok m) (hR : RowsOk m) : θ_run defs (onTc (τ := τ) (main (F := F))) (s₀ m ρ)
    (fun r => Pipeline.FramePost (Pipeline.pin pcfgs fun _ => adm m hO) (dats m hO) (0 : Fin 1) (entry m) r ∧ r.2.sem = fun _ => 0) :=
  Pipeline.θ_run_frameP_track (Q' := _) pcfgs (fun _ => adm m hO) (dats m hO) (0 : Fin 1) launch0 defs₀ Variants.none m ρ main
    (hbody := fun c => (body_obligation m hO hR c).loose) (hshare := fun c => (dats m hO 0 c).share_full fun _ => rfl)
    (howed := fun _ _ => rfl) (V := entry m) (hmain := main_prefix m Variants.none) (hA := dats_A m hO) (hpf := entry_tbl m)
    (hin := fun c => .rfl) (hout := fun c => sep_elim_left.trans (between_forget m hO c _))

/-- THE RUN of the ideal program: the result is the window's array after the last point, the arguments are unchanged. -/
theorem run_value (hO : Ok m) (hR : RowsOk m) : θ_run defs (onTc (τ := τ) (main (F := F))) ⟨m, fun _ => 0, ρ⟩ (fun r => (∀ c : Dev nD,
      r.2.mem ((c.tc : Thread nD τ).loc main_v7) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hh => ⟨fun c => ⟨((hh.1) c).1 4,
      (((hh.1) c).2 main_arg0 (by decide : main_arg0 ∈ Pipeline.restRefs sig spec0)).trans (entry_args m c).1,
      (((hh.1) c).2 main_arg1 (by decide : main_arg1 ∈ Pipeline.restRefs sig spec0)).trans (entry_args m c).2.1,
      (((hh.1) c).2 main_arg2 (by decide : main_arg2 ∈ Pipeline.restRefs sig spec0)).trans (entry_args m c).2.2.1,
      (((hh.1) c).1 1).trans (((dats m hO 0 c).arrAt_in 1 rfl _).trans ((dats_A m hO c 1).trans (entry_args m c).2.2.2.1)),
      (((hh.1) c).1 2).trans (((dats m hO 0 c).arrAt_in 2 rfl _).trans ((dats_A m hO c 2).trans (entry_args m c).2.2.2.2.1)),
      (((hh.1) c).1 3).trans (((dats m hO 0 c).arrAt_in 3 rfl _).trans ((dats_A m hO c 3).trans (entry_args m c).2.2.2.2.2))⟩, hh.2⟩) (run_main m ρ hO hR)

end Cert.ContextIdeal.Gen

end
-- ==== Proof.ContextMeet.lean ====
/- The context's expert program's result is the reference's. -/
module

public import proofs.«01_k».proof.Proof.ContextRef
public import proofs.«01_k».proof.Proof.ContextIdealRow
public import proofs.«01_k».proof.Proof.ContextIdealFrame
public import proofs.«01_k».proof.Defs
public import Idealize.ShloMosaic.Lib.Pipeline.Covers

@[expose] public section

set_option maxRecDepth 16384

noncomputable section

open Idealize.ShloMosaic Idealize.ShloMosaic.TcCoe Idealize.SL.Sem

namespace Cert.ContextIdeal.Row

open Cert.ContextIdeal Cert.ContextIdeal.Gen Cert.Ffn

variable (m : (ℓ : Loc nD τ sig) → Buf (Elt Ideal) ℓ)

/-- The result's block at a point is the point's own. -/
theorem index4 : ∀ t : Fin grid0.N, cc0_transform_4 (grid0.coords t) = ![t.val, 0] := by decide +kernel

theorem covers (hO : Ok m) : ((cfgM m hO).win 4).Covers := by
  have e : ∀ t, ((cfgM m hO).win 4).index t = ![t.val, 0] := index4
  refine Pipeline.Window.covers_of_index_surj _ rfl (by decide : ∀ a : Fin 2, 0 < S1024x512.size a) fun (β : (a : Fin 2) → Fin ((S32768x512.size a + S1024x512.size a - 1) / S1024x512.size a)) => ?_
  refine ⟨⟨(β 0).val, show (β 0).val < 32 from lt_of_lt_of_eq (β 0).isLt (by decide)⟩, fun (a : Fin 2) => ?_⟩
  rw [e]
  fin_cases a
  · rfl
  · exact (Nat.lt_one_iff.1 (β 1).isLt).symm

/-- The expert of a tile, from the table. -/
def theExpert (hO : Ok m) (t : Fin grid0.N) : Fin 16 := ⟨expertOf m t, expert_lt m hO t⟩

/-- What the body leaves of the result at a point, from the arguments. -/
theorem out_apply (hO : Ok m) (hR : RowsOk m) (c : Dev nD) (t : Fin grid0.N) (r : Fin 1024) (q : Fin 512) :
    outOf m hO c t (ix2 r q) = ffn (masked (rowsAt c (grid0.coords t) (tbl m 1)) ⟨r.val / 2, by omega⟩
        fun k => (m ((c : Thread nD τ).loc main_arg0) : FVec Ideal S16384x1024 .f32) (ix2 ⟨t.val * 512 + r.val / 2, by have : t.val < 32 := t.isLt; omega⟩ k))
      (fun k f => (m ((c : Thread nD τ).loc main_arg3) : FVec Ideal S4x16x1024x512 .f32) (ix4 0 (theExpert m hO t) k f))
      (fun k f => (m ((c : Thread nD τ).loc main_arg4) : FVec Ideal S4x16x1024x512 .f32) (ix4 0 (theExpert m hO t) k f))
      (fun f d => (m ((c : Thread nD τ).loc main_arg5) : FVec Ideal S4x16x512x1024 .f32) (ix4 0 (theExpert m hO t) f d))
      ⟨(1 - r.val % 2) * 512 + q.val, by omega⟩ := by
  have hr : (rowsAt c (grid0.coords t) (tbl m 1) : BitVec 32) = tbl m 1 (tix (grid0.coords t)) := rowsAt_eq c _ (tbl m 1)
  have ht : t.val < 32 := t.isLt
  have hc := conds_of_nonneg (rowsAt c (grid0.coords t) (tbl m 1)) (le_of_le_of_eq (hR _) (congrArg BitVec.toInt hr.symm))
  unfold outOf
  refine tile_apply _ _ _ _ _ (hc.imp (fun h => h.1) fun h => ⟨h.1, h.2.2⟩) r q _ _ _ _ (fun k => ?_) (fun k f => ?_) (fun k f => ?_) (fun f k => ?_)
  · by_cases h : k.val < 512
    · refine (dif_pos h).trans ?_
      refine (iblk0_apply m hO c t _ _ (by show t.val * 1024 + (2 * (r.val / 2) + 1) < 32768; omega)).trans (Eq.trans ?_ (entry_odd m c ⟨t.val * 512 + r.val / 2, by omega⟩ ⟨k.val, h⟩))
      exact congrArg (fun z : Fin 32768 => (entry m c main_v6 : FVec Ideal S32768x512 .bf16) (ix2 z _)) (Fin.ext (by show t.val * 1024 + (2 * (r.val / 2) + 1) = 2 * (t.val * 512 + r.val / 2) + 1; omega))
    · refine (dif_neg h).trans ?_
      refine (iblk0_apply m hO c t _ _ (by show t.val * 1024 + 2 * (r.val / 2) < 32768; omega)).trans (Eq.trans ?_ ((entry_even m c ⟨t.val * 512 + r.val / 2, by omega⟩ ⟨k.val - 512, by omega⟩).trans ?_))
      · exact congrArg (fun z : Fin 32768 => (entry m c main_v6 : FVec Ideal S32768x512 .bf16) (ix2 z _)) (Fin.ext (by show t.val * 1024 + 2 * (r.val / 2) = 2 * (t.val * 512 + r.val / 2); omega))
      · exact congrArg (fun z : Fin 1024 => (m ((c : Thread nD τ).loc main_arg0) : FVec Ideal S16384x1024 .f32) (ix2 _ z)) (Fin.ext (by show 512 + (k.val - 512) = k.val; omega))
  · exact (iblk1_apply m hO c t 0 0 k f).trans (congrFun (entry_args m c).2.2.2.1 _)
  · exact (iblk2_apply m hO c t 0 0 k f).trans (congrFun (entry_args m c).2.2.2.2.1 _)
  · exact (iblk3_apply m hO c t 0 0 f k).trans (congrFun (entry_args m c).2.2.2.2.2 _)

/-- The reference's result at pair row `r` of tile `t`. -/
theorem ref_apply (X : FVec Ideal ContextReferenceIdeal.S16384x1024 .f32) (e n : IVec ContextReferenceIdeal.S32 32) (W1 W3 : FVec Ideal ContextReferenceIdeal.S4x16x1024x512 .f32)
    (W2 : FVec Ideal ContextReferenceIdeal.S4x16x512x1024 .f32) (t : Fin 32) (r : Fin 1024) (q : Fin 512) (x : Fin 16) (hx : (e (ix1 t)).toNat = x.val) :
    ContextReferenceIdeal.Read.result e (ContextReferenceIdeal.Read.all (ContextReferenceIdeal.Read.rows X n) W1 W3 W2) (ix2 ⟨t.val * 1024 + r.val, by omega⟩ q)
      = ffn (masked (n (ix1 t)) ⟨r.val / 2, by omega⟩ fun k => X (ix2 ⟨t.val * 512 + r.val / 2, by omega⟩ k))
        (fun k f => W1 (ix4 0 x k f)) (fun k f => W3 (ix4 0 x k f)) (fun f d => W2 (ix4 0 x f d)) ⟨(1 - r.val % 2) * 512 + q.val, by omega⟩ := by
  rw [ContextReferenceIdeal.Read.result_apply e _ ⟨t.val * 1024 + r.val, by omega⟩ q t ⟨r.val / 2, by omega⟩ ⟨(1 - r.val % 2) * 512 + q.val, by omega⟩
    (by show t.val = (t.val * 1024 + r.val) / 1024; omega) (by show r.val / 2 = (t.val * 1024 + r.val) / 2 % 512; omega)
    (by show (1 - r.val % 2) * 512 + q.val = (1 - (t.val * 1024 + r.val) % 2) * 512 + q.val; omega)]
  simp only [ContextReferenceIdeal.Read.mine_apply e _ t x hx]
  rw [pick, ContextReferenceIdeal.Read.all_apply]
  simp only [ContextReferenceIdeal.Read.rows_apply]

theorem tix_coords (t : Fin grid0.N) : tix (grid0.coords t) = ix1 (⟨t.val, t.isLt⟩ : Fin 32) := by
  funext a
  obtain rfl : a = 0 := Subsingleton.elim _ _
  exact Fin.ext (coords_val t)

/-- THE RESULT ARRAY AFTER THE RUN is the reference's, over the tables the program reads. -/
theorem final (hO : Ok m) (hR : RowsOk m) (c : Dev nD) (e n : IVec S32 32) (he : (tbl m 0 : IVec S32 32) = e) (hn : (tbl m 1 : IVec S32 32) = n) :
    (dats m hO 0 c).arrAt 4 (cfgM m hO).N = Cert.ContextReferenceIdeal.Read.result e
      (Cert.ContextReferenceIdeal.Read.all (Cert.ContextReferenceIdeal.Read.rows (m ((c : Thread nD τ).loc main_arg0)) n)
        (m ((c : Thread nD τ).loc main_arg3)) (m ((c : Thread nD τ).loc main_arg4)) (m ((c : Thread nD τ).loc main_arg5))) := by
  have e4 : ∀ t, ((cfgM m hO).win 4).index t = ![t.val, 0] := index4
  refine (dats m hO 0 c).arrAt_eq_of_covers 4 _ (covers m hO) fun t _ (y : S1024x512.Idx) => ?_
  blk_simp
  rw [after_4]
  have ht : t.val < 32 := t.isLt
  obtain ⟨r, q, hy⟩ : ∃ (r : Fin 1024) (q : Fin 512), y = ix2 r q := ⟨y 0, y 1, by funext a; fin_cases a <;> rfl⟩
  have hi : (((cfgM m hO).win 4).blk t).view.emb y = ix2 (⟨t.val * 1024 + r.val, by omega⟩ : Fin 32768) q := by
    subst hy
    funext a
    fin_cases a <;> refine Fin.ext ?_ <;> blk_simp [e4 t] <;> rfl
  refine Eq.trans ?_ (congrArg _ hi.symm)
  refine (congrArg (outOf m hO c t) hy).trans ((out_apply m hO hR c t r q).trans (Eq.trans ?_ (ref_apply (m ((c : Thread nD τ).loc main_arg0)) e n
    (m ((c : Thread nD τ).loc main_arg3)) (m ((c : Thread nD τ).loc main_arg4)) (m ((c : Thread nD τ).loc main_arg5)) ⟨t.val, ht⟩ r q (theExpert m hO t) ?_).symm))
  · refine congrArg (fun v : BitVec 32 => ffn (masked v _ _) _ _ _ _) ?_
    rw [← hn, ← tix_coords]
    exact rowsAt_eq c _ (tbl m 1)
  · rw [← he, ← tix_coords]
    rfl

end Cert.ContextIdeal.Row

end
-- ==== Proof.ContextClaims.lean ====
/- The claims of the context's expert kernel. -/
module

public import proofs.«01_k».proof.Proof.ContextPre
public import proofs.«01_k».proof.Proof.ContextFrame
public import proofs.«01_k».proof.Proof.ContextMeet
public import proofs.«01_k».proof.Defs
public import Idealize.ShloMosaic.Lib.Bf16Pair

@[expose] public section

noncomputable section

open Idealize.ShloMosaic Idealize.ShloMosaic.TcCoe Idealize.SL.Sem

namespace Cert.ContextClaims

/-- The precondition gives the kernel's tables what its run needs. -/
theorem ok (m : (ℓ : Loc Context.nD Context.τ Context.sig) → Buf (Elt Bits) ℓ) (h : Pre_Context m) : Context.Gen.Ok m := by
  refine Context.Gen.ok_of_lt _ fun i => ?_
  rw [Context.Gen.tbl_zero]
  exact ContextTables.expert_lt _ _ _ _ _ _ (h 0).1 _

/-- The same of the idealized kernel. -/
theorem ok_ideal (m : (ℓ : Loc ContextIdeal.nD ContextIdeal.τ ContextIdeal.sig) → Buf (Elt Ideal) ℓ) (h : Pre_ContextIdeal m) : ContextIdeal.Gen.Ok m := by
  refine ContextIdeal.Gen.ok_of_lt _ fun i => ?_
  rw [ContextIdeal.Gen.tbl_zero]
  exact ContextTables.expert_lt _ _ _ _ _ _ (h 0).1 _

/-- No tile of the idealized kernel counts fewer than no rows. -/
theorem rows_ideal (m : (ℓ : Loc ContextIdeal.nD ContextIdeal.τ ContextIdeal.sig) → Buf (Elt Ideal) ℓ) (h : Pre_ContextIdeal m) : ContextIdeal.Gen.RowsOk m := fun i => by
  rw [ContextIdeal.Gen.tbl_one]
  exact ContextTables.rows_nonneg _ _ _ _ _ _ (h 0).2 _

/-- The kernel as printed runs and keeps its arguments. -/
theorem frame : quiescent_Context := fun m ρ h => Context.Gen.frame m ρ (ok m h)

/-- So does the idealized kernel. -/
theorem frame_ideal : quiescent_ContextIdeal := fun m ρ h =>
  (θ_run ContextIdeal.defs _ _).mono (fun r hh => ⟨fun c => (hh.1 c).2, hh.2⟩) (ContextIdeal.Gen.run_value m ρ (ok_ideal m h) (rows_ideal m h))

/-- The experts' reference runs, keeps its arguments, and has no counter to leave open. -/
theorem frame_reference : quiescent_ContextReferenceIdeal := fun m ρ _ =>
  (θ_run ContextReferenceIdeal.defs _ _).mono (fun r h => ⟨fun c => (h c).2, sem_eq_zero_of_no_sems (by decide) r.2⟩)
    (ContextReferenceIdeal.Value.run (F := Ideal) m ρ)

/-- The same under the precondition, which the run does not need. -/
theorem frame_reference_pre : quiescent_ContextReferenceIdeal_pre_context_tiles_ok := fun m ρ _ => frame_reference m ρ trivial

/-- The rewrites the idealized kernel makes: words of two halves, at the shapes it has them. -/
theorem preserves : preserves_Context_ContextIdeal :=
  ⟨IdealRules.bf16_pair.statement _ _, IdealRules.bf16_pair.selectZeroStatement _, IdealRules.bf16_pack.statement _⟩

/-- The algebraic claim of the experts. -/
theorem algebraic : algebraic_ContextIdeal_ContextReferenceIdeal := by
  intro m g m' g' hpre hargs
  have hO := ok_ideal m hpre
  have hR := rows_ideal m hpre
  refine ⟨fun c => (ContextIdeal.Gen.dats m hO 0 c).arrAt 4 (ContextIdeal.Gen.cfgM m hO).N,
    (θ_run _ _ _).mono (fun r h => h.1) (ContextIdeal.Gen.run_value m g hO hR), ?_⟩
  refine (θ_run _ _ _).mono (fun r h c => ⟨(h c).1.trans ?_, (h c).2⟩) (ContextReferenceIdeal.Read.run_stages m' g')
  obtain ⟨e0, e1, e2, e3, e4, e5⟩ := hargs c
  obtain rfl : c = 0 := Subsingleton.elim _ _
  rw [e0, e1, e2, e3, e4, e5]
  exact (ContextIdeal.Row.final m hO hR 0 _ _ (ContextIdeal.Gen.tbl_zero m) (ContextIdeal.Gen.tbl_one m)).symm

end Cert.ContextClaims

end
-- ==== Proof.CombineArray.lean ====
/- The sum of a token's two experts and the residual: what the kernel's run leaves in the result array. -/
module

public import proofs.«01_k».proof.Proof.Gen.CombineIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CombineIdeal.Row

open Cert.CombineIdeal Cert.CombineIdeal.Gen

/-- A row of an expert's output, from the pair of stored rows that holds it. -/
def half (Y : FVec Ideal S1024x512 .bf16) (r : Fin 512) (d : Fin 1024) : EReal :=
  if h : d.val < 512 then Y (ix2 ⟨2 * r.val + 1, by omega⟩ ⟨d.val, h⟩) else Y (ix2 ⟨2 * r.val, by omega⟩ ⟨d.val - 512, by omega⟩)

/-- The body's block at an index. -/
theorem out_apply (x0 : Vec Ideal S1x512x1024 .f32) (x1 : Vec Ideal S1x6x1024 .f32) (x2 x3 : Vec Ideal S1024x512 .bf16)
    (x4 : Vec Ideal S1x512x128 .f32) (r : Fin 512) (d : Fin 1024) :
    out0_5 x0 x1 x2 x3 x4 (ix3 0 r d)
      = ((x0 (ix3 0 r d) + x1 (ix3 0 5 d) * (x4 (ix3 0 r 2) * half x2 r d + x4 (ix3 0 r 3) * half x3 r d) : EReal)) := by
  unfold out0_5
  frame_out
  pointwise [k0_pay1, k0_pay2]
  by_cases h : d.val < 512
  · simp only [half, dif_pos h]
  · simp only [half, dif_neg h]

variable (m : (ℓ : Loc nD τ sig) → Buf (Elt Ideal) ℓ)

theorem idx : ∀ t : Fin cfg0.N, win0_0.index t = ![t.val / 4, t.val % 4, 0] ∧ win0_1.index t = ![t.val / 4, 0, 0]
    ∧ win0_2.index t = ![t.val, 0] ∧ win0_3.index t = ![64 + t.val, 0] ∧ win0_4.index t = ![t.val / 4, t.val % 4, 0]
    ∧ win0_5.index t = ![t.val / 4, t.val % 4, 0] ∧ t.val < 64 :=
  (by decide +kernel : ∀ t : Fin grid0.N, _)

/-- The array of stored pairs: the second half of row `s`'s columns, then the first. -/
theorem entry_even (c : Dev nD) (s : Fin 65536) (q : Fin 512) : (V m c main_v6 : FVec Ideal S131072x512 .bf16) (ix2 ⟨2 * s.val, by omega⟩ q)
    = (m ((c : Thread nD τ).loc main_arg2) : FVec Ideal S65536x1024 .f32) (ix2 s ⟨512 + q.val, by omega⟩) := by
  entry_read
  pointwise
  rw [dif_pos (by omega)]
  exact congrArg (fun r : Fin 65536 => (m ((c : Thread nD τ).loc main_arg2) : FVec Ideal S65536x1024 .f32) (ix2 r _)) (Fin.ext (by show 2 * s.val / 2 = s.val; omega))

theorem entry_odd (c : Dev nD) (s : Fin 65536) (q : Fin 512) : (V m c main_v6 : FVec Ideal S131072x512 .bf16) (ix2 ⟨2 * s.val + 1, by omega⟩ q)
    = (m ((c : Thread nD τ).loc main_arg2) : FVec Ideal S65536x1024 .f32) (ix2 s ⟨q.val, by omega⟩) := by
  entry_read
  pointwise
  rw [dif_neg (by omega)]
  exact congrArg (fun r : Fin 65536 => (m ((c : Thread nD τ).loc main_arg2) : FVec Ideal S65536x1024 .f32) (ix2 r _)) (Fin.ext (by show (2 * s.val + 1) / 2 = s.val; omega))

theorem block_x (c : Dev nD) (t : Fin cfg0.N) (r : Fin 512) (d : Fin 1024) : iblk m c 0 t (ix3 0 r d)
    = (V m c main_arg0 : FVec Ideal S16x2048x1024 .f32) (ix3 ⟨t.val / 4, by have := (idx t).2.2.2.2.2.2; omega⟩ ⟨t.val % 4 * 512 + r.val, by omega⟩ d) := by
  blk_ext [iblk, idx t]

theorem block_mod (c : Dev nD) (t : Fin cfg0.N) (k : Fin 6) (d : Fin 1024) : iblk m c 1 t (ix3 0 k d)
    = (V m c main_arg1 : FVec Ideal S24x6x1024 .f32) (ix3 ⟨t.val / 4, by have := (idx t).2.2.2.2.2.2; omega⟩ k d) := by
  blk_ext [iblk, idx t]

theorem block_route (c : Dev nD) (t : Fin cfg0.N) (r : Fin 512) (k : Fin 128) : iblk m c 4 t (ix3 0 r k)
    = (V m c main_arg3 : FVec Ideal S16x2048x128 .f32) (ix3 ⟨t.val / 4, by have := (idx t).2.2.2.2.2.2; omega⟩ ⟨t.val % 4 * 512 + r.val, by omega⟩ k) := by
  blk_ext [iblk, idx t]

theorem block_a (c : Dev nD) (t : Fin cfg0.N) (r : Fin 1024) (q : Fin 512) (h : t.val * 1024 + r.val < 131072) : iblk m c 2 t (ix2 r q)
    = (V m c main_v6 : FVec Ideal S131072x512 .bf16) (ix2 ⟨t.val * 1024 + r.val, h⟩ q) := by
  blk_ext [iblk, idx t]

theorem block_b (c : Dev nD) (t : Fin cfg0.N) (r : Fin 1024) (q : Fin 512) (h : (64 + t.val) * 1024 + r.val < 131072) : iblk m c 3 t (ix2 r q)
    = (V m c main_v6 : FVec Ideal S131072x512 .bf16) (ix2 ⟨(64 + t.val) * 1024 + r.val, h⟩ q) := by
  blk_ext [iblk, idx t]

theorem pair_a (c : Dev nD) (t : Fin cfg0.N) (r : Fin 512) (d : Fin 1024) (h : t.val * 512 + r.val < 65536) :
    half (iblk m c 2 t) r d = (m ((c : Thread nD τ).loc main_arg2) : FVec Ideal S65536x1024 .f32) (ix2 ⟨t.val * 512 + r.val, h⟩ d) := by
  have ht := (idx t).2.2.2.2.2.2
  unfold half
  split
  · rename_i hd
    refine (block_a m c t _ _ (by show t.val * 1024 + (2 * r.val + 1) < _; omega)).trans (Eq.trans ?_ (entry_odd m c ⟨t.val * 512 + r.val, h⟩ ⟨d.val, hd⟩))
    exact congrArg (fun z : Fin 131072 => (V m c main_v6 : FVec Ideal S131072x512 .bf16) (ix2 z _)) (Fin.ext (by show t.val * 1024 + (2 * r.val + 1) = 2 * (t.val * 512 + r.val) + 1; omega))
  · rename_i hd
    refine (block_a m c t _ _ (by show t.val * 1024 + (2 * r.val) < _; omega)).trans (Eq.trans ?_ ((entry_even m c ⟨t.val * 512 + r.val, h⟩ ⟨d.val - 512, by omega⟩).trans ?_))
    · exact congrArg (fun z : Fin 131072 => (V m c main_v6 : FVec Ideal S131072x512 .bf16) (ix2 z _)) (Fin.ext (by show t.val * 1024 + 2 * r.val = 2 * (t.val * 512 + r.val); omega))
    · exact congrArg (fun z : Fin 1024 => (m ((c : Thread nD τ).loc main_arg2) : FVec Ideal S65536x1024 .f32) (ix2 _ z)) (Fin.ext (by show 512 + (d.val - 512) = d.val; omega))

theorem pair_b (c : Dev nD) (t : Fin cfg0.N) (r : Fin 512) (d : Fin 1024) (h : 32768 + (t.val * 512 + r.val) < 65536) :
    half (iblk m c 3 t) r d = (m ((c : Thread nD τ).loc main_arg2) : FVec Ideal S65536x1024 .f32) (ix2 ⟨32768 + (t.val * 512 + r.val), h⟩ d) := by
  have ht := (idx t).2.2.2.2.2.2
  unfold half
  split
  · rename_i hd
    refine (block_b m c t _ _ (by show (64 + t.val) * 1024 + (2 * r.val + 1) < _; omega)).trans (Eq.trans ?_ (entry_odd m c ⟨32768 + (t.val * 512 + r.val), h⟩ ⟨d.val, hd⟩))
    exact congrArg (fun z : Fin 131072 => (V m c main_v6 : FVec Ideal S131072x512 .bf16) (ix2 z _)) (Fin.ext (by show (64 + t.val) * 1024 + (2 * r.val + 1) = 2 * (32768 + (t.val * 512 + r.val)) + 1; omega))
  · rename_i hd
    refine (block_b m c t _ _ (by show (64 + t.val) * 1024 + (2 * r.val) < _; omega)).trans (Eq.trans ?_ ((entry_even m c ⟨32768 + (t.val * 512 + r.val), h⟩ ⟨d.val - 512, by omega⟩).trans ?_))
    · exact congrArg (fun z : Fin 131072 => (V m c main_v6 : FVec Ideal S131072x512 .bf16) (ix2 z _)) (Fin.ext (by show (64 + t.val) * 1024 + 2 * r.val = 2 * (32768 + (t.val * 512 + r.val)); omega))
    · exact congrArg (fun z : Fin 1024 => (m ((c : Thread nD τ).loc main_arg2) : FVec Ideal S65536x1024 .f32) (ix2 _ z)) (Fin.ext (by show 512 + (d.val - 512) = d.val; omega))

/-- The result at a batch, a row and a column. -/
def entryAt (X : FVec Ideal S16x2048x1024 .f32) (M : FVec Ideal S24x6x1024 .f32) (Y : FVec Ideal S65536x1024 .f32) (P : FVec Ideal S16x2048x128 .f32)
    (b : Fin 16) (s : Fin 2048) (d : Fin 1024) : EReal :=
  X (ix3 b s d) + M (ix3 ⟨b.val, by omega⟩ 5 d) * (P (ix3 b s 2) * Y (ix2 ⟨b.val * 2048 + s.val, by omega⟩ d) + P (ix3 b s 3) * Y (ix2 ⟨32768 + (b.val * 2048 + s.val), by omega⟩ d))

/-- It depends on its coordinates' numbers alone. -/
theorem entryAt_congr (X : FVec Ideal S16x2048x1024 .f32) (M : FVec Ideal S24x6x1024 .f32) (Y : FVec Ideal S65536x1024 .f32) (P : FVec Ideal S16x2048x128 .f32)
    {b b' : Fin 16} {s s' : Fin 2048} {d d' : Fin 1024} (hb : b.val = b'.val) (hs : s.val = s'.val) (hd : d.val = d'.val) :
    entryAt X M Y P b s d = entryAt X M Y P b' s' d' := by
  rw [Fin.ext hb, Fin.ext hs, Fin.ext hd]

/-- The result array over the arguments. -/
def arrayOut (X : FVec Ideal S16x2048x1024 .f32) (M : FVec Ideal S24x6x1024 .f32) (Y : FVec Ideal S65536x1024 .f32) (P : FVec Ideal S16x2048x128 .f32) :
    FVec Ideal S16x2048x1024 .f32 := fun i => entryAt X M Y P (i 0) (i 1) (i 2)

theorem out_point (c : Dev nD) (t : Fin cfg0.N) (r : Fin 512) (d : Fin 1024) :
    out0_5 (iblk m c 0 t) (iblk m c 1 t) (iblk m c 2 t) (iblk m c 3 t) (iblk m c 4 t) (ix3 0 r d)
      = entryAt (m ((c : Thread nD τ).loc main_arg0)) (m ((c : Thread nD τ).loc main_arg1)) (m ((c : Thread nD τ).loc main_arg2)) (m ((c : Thread nD τ).loc main_arg3))
          ⟨t.val / 4, by have := (idx t).2.2.2.2.2.2; omega⟩ ⟨t.val % 4 * 512 + r.val, by omega⟩ d := by
  have ht := (idx t).2.2.2.2.2.2
  rw [out_apply, block_x, block_mod, block_route, block_route, pair_a m c t r d (by omega), pair_b m c t r d (by omega), V_main_arg0, V_main_arg1, V_main_arg3]
  unfold entryAt
  have e : t.val * 512 + r.val = t.val / 4 * 2048 + (t.val % 4 * 512 + r.val) := by omega
  simp only [e]

/-- The result array after the run. -/
theorem final (c : Dev nD) : (dats m 0 c).arrAt 5 cfg0.N
    = arrayOut (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  have hy : (y : S1x512x1024.Idx) = ix3 0 (y 1) (y 2) := by
    funext a; fin_cases a
    · exact Fin.ext (Nat.lt_one_iff.mp (y 0).isLt)
    · rfl
    · rfl
  rw [hy]
  refine (out_point m c t _ _).trans ?_
  have e0 : ((((cfg0.win 5).blk t).view.emb y) 0 : ℕ) = t.val / 4 := by blk_simp [idx t]
  have e1 : ((((cfg0.win 5).blk t).view.emb y) 1 : ℕ) = t.val % 4 * 512 + (y 1).val := by blk_simp [idx t]
  have e2 : ((((cfg0.win 5).blk t).view.emb y) 2 : ℕ) = (y 2).val := by blk_simp [idx t]
  rw [← hy]
  exact entryAt_congr _ _ _ _ e0.symm e1.symm e2.symm

end Cert.CombineIdeal.Row

end
-- ==== Proof.CombineClaims.lean ====
/- The claims of the sum of a token's two experts and the residual. -/
module

public import proofs.«01_k».proof.Proof.CombineArray
public import proofs.«01_k».proof.Proof.Gen.Combine.Frame
public import proofs.«01_k».proof.Proof.Gen.CombineReferenceIdeal.Run
public import proofs.«01_k».proof.Defs
public import Idealize.ShloMosaic.Lib.Bf16Pair

@[expose] public section

noncomputable section

open Idealize.ShloMosaic Idealize.ShloMosaic.TcCoe Idealize.SL.Sem

namespace Cert.CombineReferenceIdeal.Read

open Cert.CombineReferenceIdeal Cert.CombineReferenceIdeal.Gen

/-- The weighted sum of the two experts' rows. -/
def summed (Y : FVec Ideal S65536x1024 .f32) (P : FVec Ideal S16x2048x128 .f32) : FVec Ideal S32768x1024 .f32 :=
  Host.dotGeneral dot_S32768x2_S2x32768x1024_S32768x1024_1_0_n_2_0_1 none
    (shapeCast S32768x2 (extractStridedSlice S16x2048x2 ![0, 0, 2] P slices_S16x2048x128_S16x2048x2_0_0_2) shapeCasts_S16x2048x2_S32768x2)
    (shapeCast S2x32768x1024 Y shapeCasts_S65536x1024_S2x32768x1024)

/-- The reference's result. -/
def result (X : FVec Ideal S16x2048x1024 .f32) (M : FVec Ideal S24x6x1024 .f32) (Y : FVec Ideal S65536x1024 .f32) (P : FVec Ideal S16x2048x128 .f32) :
    FVec Ideal S16x2048x1024 .f32 :=
  addf X (mulf (broadcastInDim S16x2048x1024 ![0, 1, 2] bcast_S16x1x1024_S16x2048x1024_0_1_2 (broadcastInDim S16x1x1024 ![0, 2] bcast_S16x1024_S16x1x1024_0_2
      (shapeCast S16x1024 (extractStridedSlice S16x1x1024 ![0, 5, 0] M slices_S24x6x1024_S16x1x1024_0_5_0) shapeCasts_S16x1x1024_S16x1024)))
    (shapeCast S16x2048x1024 (summed Y P) shapeCasts_S32768x1024_S16x2048x1024))

theorem summed_apply (Y P) (n : Fin 32768) (d : Fin 1024) :
    summed Y P (ix2 n d) = ((P (ix3 ⟨n.val / 2048, by omega⟩ ⟨n.val % 2048, by omega⟩ 2) * Y (ix2 ⟨n.val, by omega⟩ d)
      + P (ix3 ⟨n.val / 2048, by omega⟩ ⟨n.val % 2048, by omega⟩ 3) * Y (ix2 ⟨32768 + n.val, by omega⟩ d) : EReal)) := by
  pointwise [summed]
  rw [Fin.sum_univ_two]
  pointwise

theorem result_apply (X M Y P) (b : Fin 16) (s : Fin 2048) (d : Fin 1024) : result X M Y P (ix3 b s d) = CombineIdeal.Row.entryAt X M Y P b s d := by
  pointwise [result, summed_apply]
  have e1 : (b.val * 2048 + s.val) / 2048 = b.val := by omega
  have e2 : (b.val * 2048 + s.val) % 2048 = s.val := by omega
  simp only [e1, e2]
  rfl

theorem result_eq (X M Y P) : result X M Y P = CombineIdeal.Row.arrayOut X M Y P := by
  funext i
  have hi : i = ix3 (i 0) (i 1) (i 2) := by
    funext a; fin_cases a <;> rfl
  rw [hi]
  exact result_apply _ _ _ _ _ _ _

end Cert.CombineReferenceIdeal.Read

namespace Cert.CombineClaims

/-- The reference runs, keeps its arguments, and has no counter to leave open. -/
theorem frame_reference : quiescent_CombineReferenceIdeal := fun m ρ _ =>
  (θ_run CombineReferenceIdeal.defs _ _).mono (fun r h => ⟨fun c => (h c).2, sem_eq_zero_of_no_sems (by decide) r.2⟩)
    (CombineReferenceIdeal.Value.run (F := Ideal) m ρ)

/-- The rewrites the idealized kernel makes: words of two halves, at the shapes it has them. -/
theorem preserves : preserves_Combine_CombineIdeal := IdealRules.bf16_pair.statement _ _

/-- The algebraic claim: kernel and reference leave the same array. -/
theorem algebraic : algebraic_CombineIdeal_CombineReferenceIdeal := by
  intro m g m' g' hpre hargs
  refine ⟨fun c => (CombineIdeal.Gen.dats m 0 c).arrAt 5 CombineIdeal.cfg0.N, CombineIdeal.Value.run_blocks m g, ?_⟩
  refine (θ_run _ _ _).mono (fun r h c => ⟨(h c).1.trans ?_, (h c).2⟩) (CombineReferenceIdeal.Value.run m' g')
  obtain ⟨e0, e1, e2, e3⟩ := hargs c
  rw [e0, e1, e2, e3]
  exact (CombineReferenceIdeal.Read.result_eq _ _ _ _).trans (CombineIdeal.Row.final m c).symm

end Cert.CombineClaims

end
-- ==== Proof.ProjectRow.lean ====
/- The input projection of one row: the norm of a head, its rotation by position, and the kernel's forms of both, which work on all
   heads of a row at once. -/
module

public import Idealize.ShloMosaic.Lib.Pipeline.ValueKit

@[expose] public section

noncomputable section

open Idealize.ShloMosaic

namespace Cert.ProjectRow

/-- The small number added before the reciprocal square root. -/
def eps : EReal := Ideal.ofBits .f32 897988541#32

/-- A row of the stream: normalized, scaled by the gain, modulated. -/
def normed (x g a b : Fin 1024 → EReal) (k : Fin 1024) : EReal :=
  x k * Ideal.rsqrt (Ideal.div (∑ i, x i * x i) (Ideal.ofBits .f32 1149239296#32) + eps) * g k * (1 + a k) + b k

/-- A head of 64 columns, normalized and scaled by its gain. -/
def headNorm (t g : Fin 64 → EReal) (d : Fin 64) : EReal :=
  t d * Ideal.rsqrt (Ideal.div (∑ i, t i * t i) (Ideal.ofBits .f32 1115684864#32) + eps) * g d

/-- A head rotated by its position: two axes of 32 columns, the first 16 paired with the second 16. -/
def turned (f : Fin 64 → EReal) (c s : Fin 2 → Fin 16 → EReal) (d : Fin 64) : EReal :=
  if h : d.val % 32 < 16 then
    f d * c ⟨d.val / 32, by omega⟩ ⟨d.val % 16, by omega⟩ - f ⟨d.val + 16, by omega⟩ * s ⟨d.val / 32, by omega⟩ ⟨d.val % 16, by omega⟩
  else
    f d * c ⟨d.val / 32, by omega⟩ ⟨d.val % 16, by omega⟩ + f ⟨d.val - 16, by omega⟩ * s ⟨d.val / 32, by omega⟩ ⟨d.val % 16, by omega⟩

/-- The kernel's norm: the sums of squares of all heads at once, by a product with a table of zeros and ones. -/
def wideNorm {n : Nat} (t : Fin n → EReal) (hs : Fin n → Fin n → EReal) (g : Fin n → EReal) (j : Fin n) : EReal :=
  t j * Ideal.rsqrt ((∑ i, t i * t i * hs i j) * Ideal.ofBits .f32 1015021568#32 + eps) * g j

/-- The kernel's rotation: the partner of a column from the row shifted by 16 either way, the sign in the table of sines. -/
def wideTurn {n : Nat} (f c s : Fin n → EReal) (j : Fin n) : EReal :=
  f j * c j + (if j.val % 32 < 16 then f ⟨(j.val + 16) % n, Nat.mod_lt _ (by have := j.isLt; omega)⟩
    else f ⟨(j.val + n - 16) % n, Nat.mod_lt _ (by have := j.isLt; omega)⟩) * s j

/-- The table of zeros and ones: one where both columns are of one head. -/
def sameHead (n : Nat) (i j : Fin n) : EReal := if i.val / 64 = j.val / 64 then 1 else 0

/-- The sum over all columns against the table is the sum over the head. -/
theorem sum_sameHead (H : Nat) (f : Fin (H * 64) → EReal) (hh : Fin H) (d : Fin 64) (h : hh.val * 64 + d.val < H * 64) :
    ∑ i, f i * sameHead (H * 64) i ⟨hh.val * 64 + d.val, h⟩ = ∑ e : Fin 64, f ⟨hh.val * 64 + e.val, by omega⟩ := by
  have key : ∀ p : Fin H × Fin 64, f (finProdFinEquiv p) * sameHead (H * 64) (finProdFinEquiv p) ⟨hh.val * 64 + d.val, h⟩
      = if p.1 = hh then f (finProdFinEquiv p) else 0 := by
    intro p
    have e : (finProdFinEquiv p).val / 64 = p.1.val := by
      show (p.2.val + 64 * p.1.val) / 64 = p.1.val
      omega
    have e' : (hh.val * 64 + d.val) / 64 = hh.val := by omega
    unfold sameHead
    rw [e, e']
    by_cases q : p.1 = hh
    · rw [if_pos (congrArg Fin.val q), if_pos q, mul_one]
    · rw [if_neg (fun z => q (Fin.ext z)), if_neg q, mul_zero]
  rw [← Equiv.sum_comp finProdFinEquiv]
  rw [Finset.sum_congr rfl fun p _ => key p, Fintype.sum_prod_type]
  rw [Finset.sum_eq_single hh]
  · refine Finset.sum_congr rfl fun e _ => ?_
    rw [if_pos rfl]
    refine congrArg f (Fin.ext ?_)
    show e.val + 64 * hh.val = hh.val * 64 + e.val
    omega
  · intro b _ hb
    exact Finset.sum_eq_zero fun e _ => if_neg hb
  · intro q
    exact absurd (Finset.mem_univ _) q

theorem ofBits_64 : Ideal.ofBits .f32 1115684864#32 = ((64 : ℝ) : EReal) := by
  simp [Ideal.ofBits, Ideal.ieee, -EReal.coe_mul]; norm_num

theorem ofBits_64th : Ideal.ofBits .f32 1015021568#32 = ((1 / 64 : ℝ) : EReal) := by
  simp [Ideal.ofBits, Ideal.ieee, -EReal.coe_mul]; norm_num

/-- The kernel's norm is the head's. -/
theorem wideNorm_eq (H : Nat) (t g : Fin (H * 64) → EReal) (hh : Fin H) (d : Fin 64) (h : hh.val * 64 + d.val < H * 64) :
    wideNorm t (sameHead (H * 64)) g ⟨hh.val * 64 + d.val, h⟩
      = headNorm (fun e => t ⟨hh.val * 64 + e.val, by omega⟩) (fun e => g ⟨hh.val * 64 + e.val, by omega⟩) d := by
  unfold wideNorm headNorm
  rw [sum_sameHead H (fun i => t i * t i) hh d h, ofBits_64, ofBits_64th, Ideal.div_coe (by norm_num)]

/-- The kernel's rotation is the head's. -/
theorem wideTurn_eq (H : Nat) (f c s : Fin (H * 64) → EReal) (p : Fin 64 → EReal) (u v : Fin 2 → Fin 16 → EReal) (hh : Fin H) (d : Fin 64)
    (h : hh.val * 64 + d.val < H * 64)
    (hf : ∀ e : Fin 64, f ⟨hh.val * 64 + e.val, by omega⟩ = p e)
    (hc : c ⟨hh.val * 64 + d.val, h⟩ = u ⟨d.val / 32, by omega⟩ ⟨d.val % 16, by omega⟩)
    (hs : s ⟨hh.val * 64 + d.val, h⟩ = if d.val % 32 < 16 then -(v ⟨d.val / 32, by omega⟩ ⟨d.val % 16, by omega⟩) else v ⟨d.val / 32, by omega⟩ ⟨d.val % 16, by omega⟩) :
    wideTurn f c s ⟨hh.val * 64 + d.val, h⟩ = turned p u v d := by
  unfold wideTurn turned
  rw [hf d, hc, hs]
  have hm : (hh.val * 64 + d.val) % 32 = d.val % 32 := by omega
  by_cases q : d.val % 32 < 16
  · have e : (⟨(hh.val * 64 + d.val + 16) % (H * 64), Nat.mod_lt _ (by omega)⟩ : Fin (H * 64)) = ⟨hh.val * 64 + (d.val + 16), by omega⟩ :=
      Fin.ext (by show (hh.val * 64 + d.val + 16) % (H * 64) = hh.val * 64 + (d.val + 16); rw [Nat.mod_eq_of_lt (by omega)]; omega)
    have e' := hf ⟨d.val + 16, by omega⟩
    simp only [hm, if_pos q, dif_pos q, e]
    rw [e', mul_neg, sub_eq_add_neg]
  · have e : (⟨(hh.val * 64 + d.val + H * 64 - 16) % (H * 64), Nat.mod_lt _ (by omega)⟩ : Fin (H * 64)) = ⟨hh.val * 64 + (d.val - 16), by omega⟩ :=
      Fin.ext (by
        show (hh.val * 64 + d.val + H * 64 - 16) % (H * 64) = hh.val * 64 + (d.val - 16)
        rw [show hh.val * 64 + d.val + H * 64 - 16 = (hh.val * 64 + (d.val - 16)) + H * 64 by omega, Nat.add_mod_right, Nat.mod_eq_of_lt (by omega)])
    have e' := hf ⟨d.val - 16, by omega⟩
    simp only [hm, if_neg q, dif_neg q, e]
    rw [e']

end Cert.ProjectRow

end
-- ==== Proof.ProjectHeads.lean ====
/- The values the projection's body computes, at an index: the projected columns, the normalized and rotated heads of a row. -/
module

public import proofs.«01_k».proof.Proof.Gen.ProjectIdeal.Value
public import proofs.«01_k».proof.Proof.ProjectRow

@[expose] public section

set_option maxRecDepth 16384

noncomputable section

open Idealize.ShloMosaic Idealize.ShloMosaic.TcCoe Idealize.SL.Sem

namespace Cert.ProjectIdeal.Heads

open Cert.ProjectIdeal Cert.ProjectIdeal.Gen Cert.ProjectRow

/-- Whether a column is among the first 16 of its 32. -/
theorem lane512 : ∀ j : Fin 512, IntOp.cmpi .slt (IntOp.andi (BitVec.ofNat 32 j.val) 31#32) 16#32 = if j.val % 32 < 16 then 1#1 else 0#1 := by
  decide +kernel

theorem lane128 : ∀ j : Fin 128, IntOp.cmpi .slt (IntOp.andi (BitVec.ofNat 32 j.val) 31#32) 16#32 = if j.val % 32 < 16 then 1#1 else 0#1 := by
  decide +kernel

theorem select_lane {α : Type} (b : Prop) [Decidable b] (x y : α) : Scalar.select (if b then 1#1 else 0#1) x y = if b then x else y := by
  by_cases h : b
  · simp [h, Scalar.select]
  · simp [h, Scalar.select]

/-- A table of 128 columns four times side by side. -/
theorem tiled (c : Vec Ideal S256x128 .f32) (r : Fin 256) (j : Fin 512) :
    (if h : j.val < 128 then (c (ix2 r ⟨j.val, h⟩) : EReal) else if h : j.val - 128 < 128 then c (ix2 r ⟨j.val - 128, h⟩)
      else if h : j.val - 128 - 128 < 128 then c (ix2 r ⟨j.val - 128 - 128, h⟩) else c (ix2 r ⟨j.val - 128 - 128 - 128, by omega⟩))
      = c (ix2 r ⟨j.val % 128, by omega⟩) := by
  split_ifs
  all_goals exact congrArg (fun q : Fin 128 => (c (ix2 r q) : EReal)) (Fin.ext (by simp only; omega))

/-- Eight heads of a row, normalized and rotated. -/
theorem eight (h : FVec Ideal S256x1024 .bf16) (w : Vec Ideal S1024x512 .bf16) (hs : Vec Ideal S512x512 .bf16) (g : Vec Ideal S1x512 .f32)
    (c s : Vec Ideal S256x128 .f32) (r : Fin 256) (j : Fin 512) :
    k0_pay4 h w hs g c s (ix2 r j)
      = wideTurn (wideNorm (fun i => ∑ k, h (ix2 r k) * w (ix2 k i)) (fun i i' => hs (ix2 i i')) (fun i => g (ix2 0 i)))
          (fun i => c (ix2 r ⟨i.val % 128, by omega⟩)) (fun i => s (ix2 r ⟨i.val % 128, by omega⟩)) j := by
  pointwise [k0_pay4]
  rw [lane512, select_lane, tiled c, tiled s]
  rfl

/-- Two heads of a row, normalized and rotated. -/
theorem two (h : FVec Ideal S256x1024 .bf16) (w : Vec Ideal S1024x128 .bf16) (hs : Vec Ideal S128x128 .bf16) (g : Vec Ideal S1x128 .f32)
    (c s : Vec Ideal S256x128 .f32) (r : Fin 256) (j : Fin 128) :
    k0_pay78 (k0_pay77 h w hs g) c s (ix2 r j)
      = wideTurn (wideNorm (fun i => ∑ k, h (ix2 r k) * w (ix2 k i)) (fun i i' => hs (ix2 i i')) (fun i => g (ix2 0 i)))
          (fun i => c (ix2 r i)) (fun i => s (ix2 r i)) j := by
  pointwise [k0_pay78, k0_pay77]
  rw [lane128, select_lane]
  rfl

theorem eight_second (h : FVec Ideal S256x1024 .bf16) (w : Vec Ideal S1024x512 .bf16) (hs : Vec Ideal S512x512 .bf16) (g : Vec Ideal S1x512 .f32)
    (c s : Vec Ideal S256x128 .f32) : k0_pay53 h w hs g c s = k0_pay4 h w hs g c s := rfl

theorem eight_window (h : FVec Ideal S256x1024 .bf16) (w : Vec Ideal S1024x512 .bf16) (hs : Vec Ideal S512x512 .bf16) (g : Vec Ideal S1x512 .f32)
    (c s : Vec Ideal S256x128 .f32) :
    k0_pay20 (k0_pay15 h w hs g) (k0_pay16 c) (k0_pay17 s) k0_pay18 (k0_pay19 h w hs g) 16#32 = k0_pay4 h w hs g c s := rfl

theorem eight_window_second (h : FVec Ideal S256x1024 .bf16) (w : Vec Ideal S1024x512 .bf16) (hs : Vec Ideal S512x512 .bf16) (g : Vec Ideal S1x512 .f32)
    (c s : Vec Ideal S256x128 .f32) :
    k0_pay68 (k0_pay64 h w hs g) (k0_pay65 c) (k0_pay66 s) k0_pay67 = k0_pay4 h w hs g c s := rfl

theorem two_first (h : FVec Ideal S256x1024 .bf16) (w : Vec Ideal S1024x128 .bf16) (hs : Vec Ideal S128x128 .bf16) (g : Vec Ideal S1x128 .f32)
    (c s : Vec Ideal S256x128 .f32) : k0_pay32 (k0_pay30 h w hs g) (k0_pay31 c) s = k0_pay78 (k0_pay77 h w hs g) c s := rfl

theorem two_window (h : FVec Ideal S256x1024 .bf16) (w : Vec Ideal S1024x128 .bf16) (hs : Vec Ideal S128x128 .bf16) (g : Vec Ideal S1x128 .f32)
    (c s : Vec Ideal S256x128 .f32) : k0_pay36 (k0_pay35 h w hs) g c s = k0_pay78 (k0_pay77 h w hs g) c s := rfl

theorem two_window_second (h : FVec Ideal S256x1024 .bf16) (w : Vec Ideal S1024x128 .bf16) (hs : Vec Ideal S128x128 .bf16) (g : Vec Ideal S1x128 .f32)
    (c s : Vec Ideal S256x128 .f32) :
    k0_pay83 (k0_pay81 h w) (k0_pay82 h w hs) (Scalar.ofBits .f32 0x358637BD#32) g c s = k0_pay78 (k0_pay77 h w hs g) c s := rfl

end Cert.ProjectIdeal.Heads

end
-- ==== Proof.ProjectOuts.lean ====
/- The projection's output blocks at an index, over the input blocks. -/
module

public import proofs.«01_k».proof.Proof.ProjectHeads

@[expose] public section

set_option maxRecDepth 16384

noncomputable section

open Idealize.ShloMosaic Idealize.ShloMosaic.TcCoe Idealize.SL.Sem

namespace Cert.ProjectIdeal.Heads

open Cert.ProjectIdeal Cert.ProjectIdeal.Gen Cert.ProjectRow

/-- A normalized row of the block. -/
def hrow (x0 : Vec Ideal S1x512x1024 .f32) (x1 : Vec Ideal S1x6x1024 .f32) (x2 : Vec Ideal S1x1024 .f32) (r : Fin 512) : Fin 1024 → EReal :=
  normed (fun k => x0 (ix3 0 r k)) (fun k => x2 (ix2 0 k)) (fun k => x1 (ix3 0 1 k)) (fun k => x1 (ix3 0 0 k))

/-- A projected column of a row of the block. -/
def col (x0 : Vec Ideal S1x512x1024 .f32) (x1 : Vec Ideal S1x6x1024 .f32) (x2 : Vec Ideal S1x1024 .f32) (x3 : Vec Ideal S1024x6144 .bf16)
    (r : Fin 512) (j : Fin 6144) : EReal := ∑ k, hrow x0 x1 x2 r k * x3 (ix2 k j)

/-- Eight heads of a row of the block, from column `lo` on. -/
def blockEight (x0 : Vec Ideal S1x512x1024 .f32) (x1 : Vec Ideal S1x6x1024 .f32) (x2 : Vec Ideal S1x1024 .f32) (x3 : Vec Ideal S1024x6144 .bf16)
    (x8 : Vec Ideal S512x512 .bf16) (x9 x10 : Vec Ideal S512x128 .f32) (lo : Nat) (hlo : lo + 512 ≤ 6144) (g : Vec Ideal S1x512 .f32)
    (r : Fin 512) (j : Fin 512) : EReal :=
  wideTurn (wideNorm (fun i => col x0 x1 x2 x3 r ⟨lo + i.val, by omega⟩) (fun i i' => x8 (ix2 i i')) (fun i => g (ix2 0 i)))
    (fun i => x9 (ix2 r ⟨i.val % 128, by omega⟩)) (fun i => x10 (ix2 r ⟨i.val % 128, by omega⟩)) j

/-- Two heads of a row of the block, from column `lo` on. -/
def blockTwo (x0 : Vec Ideal S1x512x1024 .f32) (x1 : Vec Ideal S1x6x1024 .f32) (x2 : Vec Ideal S1x1024 .f32) (x3 : Vec Ideal S1024x6144 .bf16)
    (x8 : Vec Ideal S512x512 .bf16) (x9 x10 : Vec Ideal S512x128 .f32) (lo : Nat) (hlo : lo + 128 ≤ 6144) (g : Vec Ideal S1x128 .f32)
    (r : Fin 512) (j : Fin 128) : EReal :=
  wideTurn (wideNorm (fun i => col x0 x1 x2 x3 r ⟨lo + i.val, by omega⟩)
      (fun i i' => x8 (ix2 ⟨i.val, by omega⟩ ⟨i'.val, by omega⟩)) (fun i => g (ix2 0 i)))
    (fun i => x9 (ix2 r i)) (fun i => x10 (ix2 r i)) j

variable (x0 : Vec Ideal S1x512x1024 .f32) (x1 : Vec Ideal S1x6x1024 .f32) (x2 : Vec Ideal S1x1024 .f32) (x3 : Vec Ideal S1024x6144 .bf16)
  (x4 : Vec Ideal S1x512 .f32) (x5 : Vec Ideal S1x128 .f32) (x6 : Vec Ideal S1x512 .f32) (x7 : Vec Ideal S1x128 .f32)
  (x8 : Vec Ideal S512x512 .bf16) (x9 x10 : Vec Ideal S512x128 .f32)

theorem blockEight_congr {lo hlo g} {r r' : Fin 512} {j j' : Fin 512} (hr : r.val = r'.val) (hj : j.val = j'.val) :
    blockEight x0 x1 x2 x3 x8 x9 x10 lo hlo g r j = blockEight x0 x1 x2 x3 x8 x9 x10 lo hlo g r' j' := by
  rw [Fin.ext hr, Fin.ext hj]

theorem blockTwo_congr {lo hlo g} {r r' : Fin 512} {j j' : Fin 128} (hr : r.val = r'.val) (hj : j.val = j'.val) :
    blockTwo x0 x1 x2 x3 x8 x9 x10 lo hlo g r j = blockTwo x0 x1 x2 x3 x8 x9 x10 lo hlo g r' j' := by
  rw [Fin.ext hr, Fin.ext hj]

theorem col_congr {r r' : Fin 512} {j j' : Fin 6144} (hr : r.val = r'.val) (hj : j.val = j'.val) :
    col x0 x1 x2 x3 r j = col x0 x1 x2 x3 r' j' := by
  rw [Fin.ext hr, Fin.ext hj]

theorem row_first (r : Fin 256) (k : Fin 1024) :
    k0_pay94 x0 x1 x2 x3 x4 x5 x6 x7 x8 x9 x10 (ix2 r k) = hrow x0 x1 x2 ⟨r.val, by omega⟩ k := by
  pointwise [k0_pay94, k0_pay2]
  rfl

theorem row_second (r : Fin 256) (k : Fin 1024) :
    k0_pay106 x0 x1 x2 x3 x4 x5 x6 x7 x8 x9 x10 (ix2 r k) = hrow x0 x1 x2 ⟨256 + r.val, by omega⟩ k := by
  pointwise [k0_pay106, k0_pay50]
  rfl

theorem eight_a (r : Fin 256) (j : Fin 512) : k0_pay95 x0 x1 x2 x3 x4 x5 x6 x7 x8 x9 x10 (ix2 r j)
    = blockEight x0 x1 x2 x3 x8 x9 x10 0 (by omega) x4 ⟨r.val, by omega⟩ j := by
  unfold k0_pay95
  rw [eight]
  simp only [row_first]
  pointwise
  simp only [blockEight, col, Nat.zero_add]

theorem eight_b (r : Fin 256) (j : Fin 512) : k0_pay107 x0 x1 x2 x3 x4 x5 x6 x7 x8 x9 x10 (ix2 r j)
    = blockEight x0 x1 x2 x3 x8 x9 x10 0 (by omega) x4 ⟨256 + r.val, by omega⟩ j := by
  unfold k0_pay107
  rw [eight_second, eight]
  simp only [row_second]
  pointwise
  simp only [blockEight, col, Nat.zero_add]

theorem eight_wa (r : Fin 256) (j : Fin 512) : k0_pay101 x0 x1 x2 x3 x4 x5 x6 x7 x8 x9 x10 (ix2 r j)
    = blockEight x0 x1 x2 x3 x8 x9 x10 2304 (by omega) x6 ⟨r.val, by omega⟩ j := by
  unfold k0_pay101 k0_pay96 k0_pay97 k0_pay98 k0_pay99 k0_pay100
  rw [eight_window, eight]
  simp only [row_first]
  pointwise
  rfl

theorem eight_wb (r : Fin 256) (j : Fin 512) : k0_pay112 x0 x1 x2 x3 x4 x5 x6 x7 x8 x9 x10 (ix2 r j)
    = blockEight x0 x1 x2 x3 x8 x9 x10 2304 (by omega) x6 ⟨256 + r.val, by omega⟩ j := by
  unfold k0_pay112 k0_pay108 k0_pay109 k0_pay110 k0_pay111
  rw [eight_window_second, eight]
  simp only [row_second]
  pointwise
  rfl

theorem idx4 (x : S1x1x256x64.Idx) : ∃ (r : Fin 256) (d : Fin 64), x = ix4 0 0 r d := by
  refine ⟨x 2, x 3, ?_⟩
  funext a; fin_cases a
  · exact Fin.ext (Nat.lt_one_iff.mp (x 0).isLt)
  · exact Fin.ext (Nat.lt_one_iff.mp (x 1).isLt)
  · rfl
  · rfl

theorem idx4b (x : S1x1x256x128.Idx) : ∃ (r : Fin 256) (d : Fin 128), x = ix4 0 0 r d := by
  refine ⟨x 2, x 3, ?_⟩
  funext a; fin_cases a
  · exact Fin.ext (Nat.lt_one_iff.mp (x 0).isLt)
  · exact Fin.ext (Nat.lt_one_iff.mp (x 1).isLt)
  · rfl
  · rfl

theorem idx3a (x : S1x256x1536.Idx) : ∃ (r : Fin 256) (d : Fin 1536), x = ix3 0 r d := by
  refine ⟨x 1, x 2, ?_⟩
  funext a; fin_cases a
  · exact Fin.ext (Nat.lt_one_iff.mp (x 0).isLt)
  · rfl
  · rfl

theorem idx3b (x : S1x256x3072.Idx) : ∃ (r : Fin 256) (d : Fin 3072), x = ix3 0 r d := by
  refine ⟨x 1, x 2, ?_⟩
  funext a; fin_cases a
  · exact Fin.ext (Nat.lt_one_iff.mp (x 0).isLt)
  · rfl
  · rfl

theorem head_a (r : Fin 256) (d : Fin 64) :
    k0_pay5 (k0_pay94 x0 x1 x2 x3 x4 x5 x6 x7 x8 x9 x10) (View.ld x3 r0_6) (View.ld x8 r0_7) (View.ld x4 r0_8) (View.ld x9 r0_9) (View.ld x10 r0_9) (ix2 r d)
      = blockEight x0 x1 x2 x3 x8 x9 x10 0 (by omega) x4 ⟨r.val, by omega⟩ ⟨d.val, by omega⟩ := by
  show truncf .bf16 (extractStridedSlice S256x64 ![0, 0] (k0_pay95 x0 x1 x2 x3 x4 x5 x6 x7 x8 x9 x10) slices_S256x512_o0_0_S256x64) bitsLt_bf16_f32 (ix2 r d) = _
  pointwise
  exact eight_a ..

theorem head_b (r : Fin 256) (d : Fin 64) :
    k0_pay54 (k0_pay106 x0 x1 x2 x3 x4 x5 x6 x7 x8 x9 x10) (View.ld x3 r0_6) (View.ld x8 r0_7) (View.ld x4 r0_8) (View.ld x9 r0_33) (View.ld x10 r0_33) (ix2 r d)
      = blockEight x0 x1 x2 x3 x8 x9 x10 0 (by omega) x4 ⟨256 + r.val, by omega⟩ ⟨d.val, by omega⟩ := by
  show truncf .bf16 (extractStridedSlice S256x64 ![0, 0] (k0_pay107 x0 x1 x2 x3 x4 x5 x6 x7 x8 x9 x10) slices_S256x512_o0_0_S256x64) bitsLt_bf16_f32 (ix2 r d) = _
  pointwise
  exact eight_b ..

theorem out11 (hh : Fin 8) (r : Fin 512) (d : Fin 64) : out0_11 x0 x1 x2 x3 x4 x5 x6 x7 x8 x9 x10 (ix4 0 hh r d)
    = blockEight x0 x1 x2 x3 x8 x9 x10 0 (by omega) x4 r ⟨hh.val * 64 + d.val, by omega⟩ := by
  canon_tiles x h
  all_goals
    obtain ⟨c, e, rfl⟩ := idx4 x
    change hh.val = _ at h1
    first
    | change r.val = c.val at h2
    | change r.val = 256 + c.val at h2
    change d.val = e.val at h3
    pointwise [k0_pay63, k0_pay62, k0_pay61, k0_pay60, k0_pay59, k0_pay58, k0_pay57, k0_pay56, k0_pay55, k0_pay14, k0_pay13, k0_pay12, k0_pay11, k0_pay10, k0_pay9, k0_pay8, k0_pay7, k0_pay6]
    first
    | rw [eight_a]
    | rw [eight_b]
    | rw [head_a]
    | rw [head_b]
    exact blockEight_congr _ _ _ _ _ _ _ (by simp only; omega) (by simp only; omega)

theorem eight_wa_parts (r : Fin 256) (j : Fin 512) :
    k0_pay20 (k0_pay96 x0 x1 x2 x3 x4 x5 x6 x7 x8 x9 x10) (k0_pay97 x0 x1 x2 x3 x4 x5 x6 x7 x8 x9 x10) (k0_pay98 x0 x1 x2 x3 x4 x5 x6 x7 x8 x9 x10) (k0_pay99 x0 x1 x2 x3 x4 x5 x6 x7 x8 x9 x10) (k0_pay100 x0 x1 x2 x3 x4 x5 x6 x7 x8 x9 x10) 16#32 (ix2 r j)
      = blockEight x0 x1 x2 x3 x8 x9 x10 2304 (by omega) x6 ⟨r.val, by omega⟩ j := eight_wa ..

theorem eight_wb_parts (r : Fin 256) (j : Fin 512) :
    k0_pay68 (k0_pay108 x0 x1 x2 x3 x4 x5 x6 x7 x8 x9 x10) (k0_pay109 x0 x1 x2 x3 x4 x5 x6 x7 x8 x9 x10) (k0_pay110 x0 x1 x2 x3 x4 x5 x6 x7 x8 x9 x10) (k0_pay111 x0 x1 x2 x3 x4 x5 x6 x7 x8 x9 x10) (ix2 r j)
      = blockEight x0 x1 x2 x3 x8 x9 x10 2304 (by omega) x6 ⟨256 + r.val, by omega⟩ j := eight_wb ..

theorem out15 (hh : Fin 8) (r : Fin 512) (d : Fin 64) : out0_15 x0 x1 x2 x3 x4 x5 x6 x7 x8 x9 x10 (ix4 0 hh r d)
    = blockEight x0 x1 x2 x3 x8 x9 x10 2304 (by omega) x6 r ⟨hh.val * 64 + d.val, by omega⟩ := by
  canon_tiles x h
  all_goals
    obtain ⟨c, e, rfl⟩ := idx4 x
    change hh.val = _ at h1
    first
    | change r.val = c.val at h2
    | change r.val = 256 + c.val at h2
    change d.val = e.val at h3
    pointwise [k0_pay76, k0_pay75, k0_pay74, k0_pay73, k0_pay72, k0_pay71, k0_pay70, k0_pay69, k0_pay29, k0_pay28, k0_pay27, k0_pay26, k0_pay25, k0_pay24, k0_pay23, k0_pay22, k0_pay21]
    first
    | rw [eight_wa]
    | rw [eight_wb]
    | rw [eight_wa_parts]
    | rw [eight_wb_parts]
    exact blockEight_congr _ _ _ _ _ _ _ (by simp only; omega) (by simp only; omega)

theorem two_a (r : Fin 256) (j : Fin 128) : k0_pay32 (k0_pay102 x0 x1 x2 x3 x4 x5 x6 x7 x8 x9 x10) (k0_pay103 x0 x1 x2 x3 x4 x5 x6 x7 x8 x9 x10) (View.ld x10 r0_9) (ix2 r j)
    = blockTwo x0 x1 x2 x3 x8 x9 x10 512 (by omega) x5 ⟨r.val, by omega⟩ j := by
  unfold k0_pay102 k0_pay103
  rw [two_first, two]
  simp only [row_first]
  pointwise
  rfl

theorem two_b (r : Fin 256) (j : Fin 128) : k0_pay78 (k0_pay113 x0 x1 x2 x3 x4 x5 x6 x7 x8 x9 x10) (View.ld x9 r0_33) (View.ld x10 r0_33) (ix2 r j)
    = blockTwo x0 x1 x2 x3 x8 x9 x10 512 (by omega) x5 ⟨256 + r.val, by omega⟩ j := by
  unfold k0_pay113
  rw [two]
  simp only [row_second]
  pointwise
  rfl

theorem two_wa (r : Fin 256) (j : Fin 128) : k0_pay36 (k0_pay104 x0 x1 x2 x3 x4 x5 x6 x7 x8 x9 x10) (View.ld x7 r0_21) (View.ld x9 r0_9) (View.ld x10 r0_9) (ix2 r j)
    = blockTwo x0 x1 x2 x3 x8 x9 x10 2816 (by omega) x7 ⟨r.val, by omega⟩ j := by
  unfold k0_pay104
  rw [two_window, two]
  simp only [row_first]
  pointwise
  rfl

theorem two_wb (r : Fin 256) (j : Fin 128) : k0_pay83 (k0_pay114 x0 x1 x2 x3 x4 x5 x6 x7 x8 x9 x10) (k0_pay115 x0 x1 x2 x3 x4 x5 x6 x7 x8 x9 x10) (Scalar.ofBits .f32 0x358637BD#32) (View.ld x7 r0_21) (View.ld x9 r0_33) (View.ld x10 r0_33) (ix2 r j)
    = blockTwo x0 x1 x2 x3 x8 x9 x10 2816 (by omega) x7 ⟨256 + r.val, by omega⟩ j := by
  unfold k0_pay114 k0_pay115
  rw [two_window_second, two]
  simp only [row_second]
  pointwise
  rfl

theorem two_wb_parts (r : Fin 256) (j : Fin 128) : k0_pay83 (k0_pay114 x0 x1 x2 x3 x4 x5 x6 x7 x8 x9 x10) (k0_pay115 x0 x1 x2 x3 x4 x5 x6 x7 x8 x9 x10) (Ideal.ofBits .f32 897988541#32) (View.ld x7 r0_21) (View.ld x9 r0_33) (View.ld x10 r0_33) (ix2 r j)
    = blockTwo x0 x1 x2 x3 x8 x9 x10 2816 (by omega) x7 ⟨256 + r.val, by omega⟩ j := two_wb ..

theorem out12 (hh : Fin 2) (r : Fin 512) (d : Fin 64) : out0_12 x0 x1 x2 x3 x4 x5 x6 x7 x8 x9 x10 (ix4 0 hh r d)
    = blockTwo x0 x1 x2 x3 x8 x9 x10 512 (by omega) x5 r ⟨hh.val * 64 + d.val, by omega⟩ := by
  canon_tiles x h
  all_goals
    obtain ⟨c, e, rfl⟩ := idx4 x
    change hh.val = _ at h1
    first
    | change r.val = c.val at h2
    | change r.val = 256 + c.val at h2
    change d.val = e.val at h3
    pointwise [k0_pay80, k0_pay79, k0_pay34, k0_pay33]
    first
    | rw [two_a]
    | rw [two_b]
    exact blockTwo_congr _ _ _ _ _ _ _ (by simp only; omega) (by simp only; omega)

theorem out16 (hh : Fin 2) (r : Fin 512) (d : Fin 64) : out0_16 x0 x1 x2 x3 x4 x5 x6 x7 x8 x9 x10 (ix4 0 hh r d)
    = blockTwo x0 x1 x2 x3 x8 x9 x10 2816 (by omega) x7 r ⟨hh.val * 64 + d.val, by omega⟩ := by
  canon_tiles x h
  all_goals
    obtain ⟨c, e, rfl⟩ := idx4 x
    change hh.val = _ at h1
    first
    | change r.val = c.val at h2
    | change r.val = 256 + c.val at h2
    change d.val = e.val at h3
    pointwise [k0_pay85, k0_pay84, k0_pay38, k0_pay37]
    first
    | rw [two_wa]
    | rw [two_wb_parts]
    exact blockTwo_congr _ _ _ _ _ _ _ (by simp only; omega) (by simp only; omega)

theorem gate_row_first (r : Fin 256) (k : Fin 1024) :
    k0_pay2 (View.ld x0 r0_0) (View.ld x2 r0_1) (View.ld x1 r0_2) (View.ld x1 r0_3) (ix2 r k) = hrow x0 x1 x2 ⟨r.val, by omega⟩ k := by
  pointwise [k0_pay2]
  rfl

theorem gate_row_second (r : Fin 256) (k : Fin 1024) :
    k0_pay50 (View.ld x0 r0_31) (View.ld x2 r0_1) (View.ld x1 r0_2) (View.ld x1 r0_3) (ix2 r k) = hrow x0 x1 x2 ⟨256 + r.val, by omega⟩ k := by
  pointwise [k0_pay50]
  rfl

theorem out14 (r : Fin 512) (j : Fin 1536) : out0_14 x0 x1 x2 x3 x4 x5 x6 x7 x8 x9 x10 (ix3 0 r j) = col x0 x1 x2 x3 r ⟨768 + j.val, by omega⟩ := by
  canon_tiles x h
  all_goals
    obtain ⟨c, e, rfl⟩ := idx3a x
    first
    | change r.val = c.val at h1
    | change r.val = 256 + c.val at h1
    change j.val = e.val at h2
    pointwise [k0_pay1, k0_pay49, k0_pay48]
    first
    | simp only [row_first]
    | simp only [row_second]
    obtain rfl := Fin.ext h2
    first
    | obtain rfl : r = ⟨c.val, Nat.lt_trans c.isLt (by decide)⟩ := Fin.ext h1
      rfl
    | obtain rfl : r = ⟨256 + c.val, Nat.add_lt_add_left c.isLt 256⟩ := Fin.ext h1
      rfl

theorem out18 (r : Fin 512) (j : Fin 3072) : out0_18 x0 x1 x2 x3 x4 x5 x6 x7 x8 x9 x10 (ix3 0 r j) = Ideal.logistic (col x0 x1 x2 x3 r ⟨3072 + j.val, by omega⟩) := by
  canon_tiles x h
  all_goals
    obtain ⟨c, e, rfl⟩ := idx3b x
    first
    | change r.val = c.val at h1
    | change r.val = 256 + c.val at h1
    change j.val = e.val at h2
    pointwise [k0_pay52, k0_pay51, k0_pay3]
    first
    | simp only [gate_row_first]
    | simp only [gate_row_second]
    obtain rfl := Fin.ext h2
    first
    | obtain rfl : r = ⟨c.val, Nat.lt_trans c.isLt (by decide)⟩ := Fin.ext h1
      rfl
    | obtain rfl : r = ⟨256 + c.val, Nat.add_lt_add_left c.isLt 256⟩ := Fin.ext h1
      rfl

theorem ones (n : Nat) (hn : n < 64) :
    (FloatOps.sitofp .f32 (BitVec.setWidth 32 (IntOp.cmpi .eq (BitVec.ofNat 32 n) 0#32)) : Ideal .f32) = if n = 0 then (1 : EReal) else 0 := by
  have h : ∀ m : Fin 64, BitVec.setWidth 32 (IntOp.cmpi .eq (BitVec.ofNat 32 m.val) 0#32) = if m.val = 0 then 1#32 else 0#32 := by decide +kernel
  rw [h ⟨n, hn⟩]
  by_cases h0 : n = 0
  · simp [h0, FloatOps.sitofp]
  · simp [h0, FloatOps.sitofp]

/-- Two heads of values of a row of the block, from column `lo` on: 64 columns, a one, and zeros. -/
def blockValue (lo : Nat) (hlo : lo + 128 ≤ 6144) (hh : Fin 2) (r : Fin 512) (d : Fin 128) : EReal :=
  if h : d.val < 64 then col x0 x1 x2 x3 r ⟨lo + (hh.val * 64 + d.val), by omega⟩ else if d.val = 64 then 1 else 0

theorem value_piece {lo hlo hh} {r : Fin 512} {e : Fin 128} {v : e.val < 64 → EReal} {w : ¬ e.val < 64 → EReal}
    (hv : ∀ h, v h = col x0 x1 x2 x3 r ⟨lo + (hh.val * 64 + e.val), by omega⟩)
    (hw : ∀ h, w h = if e.val - 64 = 0 then (1 : EReal) else 0) :
    (if h : e.val < 64 then v h else w h) = blockValue x0 x1 x2 x3 lo hlo hh r e := by
  unfold blockValue
  by_cases h : e.val < 64
  · rw [dif_pos h, dif_pos h, hv h]
  · rw [dif_neg h, dif_neg h, hw h]
    exact if_congr (by omega) rfl rfl

theorem out13 (hh : Fin 2) (r : Fin 512) (d : Fin 128) : out0_13 x0 x1 x2 x3 x4 x5 x6 x7 x8 x9 x10 (ix4 0 hh r d)
    = blockValue x0 x1 x2 x3 640 (by omega) hh r d := by
  canon_tiles x h
  all_goals
    obtain ⟨c, e, rfl⟩ := idx4b x
    change hh.val = _ at h1
    first
    | change r.val = c.val at h2
    | change r.val = 256 + c.val at h2
    change d.val = e.val at h3
    pointwise [k0_pay89, k0_pay88, k0_pay43, k0_pay42, k0_pay39, k0_pay41, k0_pay105, k0_pay40, k0_pay117, k0_pay116, k0_pay86, k0_pay87]
    first
    | simp only [row_first]
    | simp only [row_second]
    obtain rfl := Fin.ext h3
    refine value_piece x0 x1 x2 x3 (fun h => ?_) (fun h => ones _ (by omega))
    exact col_congr x0 x1 x2 x3 h2.symm (by simp only; omega)

theorem out17 (hh : Fin 2) (r : Fin 512) (d : Fin 128) : out0_17 x0 x1 x2 x3 x4 x5 x6 x7 x8 x9 x10 (ix4 0 hh r d)
    = blockValue x0 x1 x2 x3 2944 (by omega) hh r d := by
  canon_tiles x h
  all_goals
    obtain ⟨c, e, rfl⟩ := idx4b x
    change hh.val = _ at h1
    first
    | change r.val = c.val at h2
    | change r.val = 256 + c.val at h2
    change d.val = e.val at h3
    pointwise [k0_pay93, k0_pay92, k0_pay91, k0_pay90, k0_pay47, k0_pay46, k0_pay45, k0_pay44]
    first
    | simp only [row_first]
    | simp only [row_second]
    obtain rfl := Fin.ext h3
    refine value_piece x0 x1 x2 x3 (fun h => ?_) (fun h => ones _ (by omega))
    exact col_congr x0 x1 x2 x3 h2.symm (by simp only; omega)

end Cert.ProjectIdeal.Heads

end
-- ==== Proof.ProjectEntries.lean ====
/- What the host code of the projection prepares: the gains side by side, the table of heads, the tables of cosines and sines. -/
module

public import proofs.«01_k».proof.Proof.ProjectOuts

@[expose] public section

set_option maxRecDepth 16384

noncomputable section

open Idealize.ShloMosaic Idealize.ShloMosaic.TcCoe Idealize.SL.Sem
open Idealize.ShloMosaic.Pipeline (Dat)

namespace Cert.ProjectIdeal.Heads

open Cert.ProjectIdeal Cert.ProjectIdeal.Gen Cert.ProjectRow

variable (m : (ℓ : Loc nD τ sig) → Buf (Elt Ideal) ℓ)

theorem entry_gain (c : Dev nD) (k : Fin 1024) : (V m c main_v51 : FVec Ideal S1x1024 .f32) (ix2 0 k)
    = (m ((c : Thread nD τ).loc main_arg2) : FVec Ideal S1024 .f32) (ix1 k) := by
  simp only [V, hostOps0, hostOps0_1, hostOps0_2, hostOps0_3, hostOps0_4, List.flatten_cons, List.flatten_nil, List.append_nil, List.cons_append, List.nil_append]
  entry_read
  pointwise

theorem entry_weight (c : Dev nD) (k : Fin 1024) (j : Fin 6144) : (V m c main_v52 : FVec Ideal S1024x6144 .bf16) (ix2 k j)
    = (m ((c : Thread nD τ).loc main_arg3) : FVec Ideal S1024x6144 .f32) (ix2 k j) := by
  simp only [V, hostOps0, hostOps0_1, hostOps0_2, hostOps0_3, hostOps0_4, List.flatten_cons, List.flatten_nil, List.append_nil, List.cons_append, List.nil_append]
  entry_read
  pointwise

theorem entry_gain_a (c : Dev nD) (j : Fin 512) : (V m c main_v5 : FVec Ideal S1x512 .f32) (ix2 0 j)
    = (m ((c : Thread nD τ).loc main_arg4) : FVec Ideal S4x64 .f32) (ix2 0 ⟨j.val % 64, by omega⟩) := by
  simp only [V, hostOps0, hostOps0_1, hostOps0_2, hostOps0_3, hostOps0_4, List.flatten_cons, List.flatten_nil, List.append_nil, List.cons_append, List.nil_append]
  entry_read
  pointwise

theorem entry_gain_b (c : Dev nD) (j : Fin 128) : (V m c main_v11 : FVec Ideal S1x128 .f32) (ix2 0 j)
    = (m ((c : Thread nD τ).loc main_arg4) : FVec Ideal S4x64 .f32) (ix2 1 ⟨j.val % 64, by omega⟩) := by
  simp only [V, hostOps0, hostOps0_1, hostOps0_2, hostOps0_3, hostOps0_4, List.flatten_cons, List.flatten_nil, List.append_nil, List.cons_append, List.nil_append]
  entry_read
  pointwise

theorem entry_gain_c (c : Dev nD) (j : Fin 512) : (V m c main_v17 : FVec Ideal S1x512 .f32) (ix2 0 j)
    = (m ((c : Thread nD τ).loc main_arg4) : FVec Ideal S4x64 .f32) (ix2 2 ⟨j.val % 64, by omega⟩) := by
  simp only [V, hostOps0, hostOps0_1, hostOps0_2, hostOps0_3, hostOps0_4, List.flatten_cons, List.flatten_nil, List.append_nil, List.cons_append, List.nil_append]
  entry_read
  pointwise

theorem entry_gain_d (c : Dev nD) (j : Fin 128) : (V m c main_v23 : FVec Ideal S1x128 .f32) (ix2 0 j)
    = (m ((c : Thread nD τ).loc main_arg4) : FVec Ideal S4x64 .f32) (ix2 3 ⟨j.val % 64, by omega⟩) := by
  simp only [V, hostOps0, hostOps0_1, hostOps0_2, hostOps0_3, hostOps0_4, List.flatten_cons, List.flatten_nil, List.append_nil, List.cons_append, List.nil_append]
  entry_read
  pointwise

/-- Whole division of a table's entries by 64, rounding down. -/
def floorTable (v : IVec S512x512 32) : IVec S512x512 32 :=
  select (andi (cmpi .ne (signi v) (broadcastInDim S512x512 ![] bcast_S_S512x512 (signi (constantI S_ 32 64#32))))
      (cmpi .ne (Host.remsi v (broadcastInDim S512x512 ![] bcast_S_S512x512 (constantI S_ 32 64#32))) (broadcastInDim S512x512 ![] bcast_S_S512x512 (constantI S_ 32 0#32))))
    (subi (Host.divsi v (broadcastInDim S512x512 ![] bcast_S_S512x512 (constantI S_ 32 64#32))) (broadcastInDim S512x512 ![] bcast_S_S512x512 (constantI S_ 32 1#32)))
    (Host.divsi v (broadcastInDim S512x512 ![] bcast_S_S512x512 (constantI S_ 32 64#32)))

/-- The division at one entry. -/
def floorNumber (n : Nat) : BitVec 32 :=
  Scalar.select
      (IntOp.andi
        (IntOp.cmpi .ne (if BitVec.ofNat 32 n = 0 then (0 : BitVec 32) else if (BitVec.ofNat 32 n).msb = true then -1 else 1)
          (if 64#32 = 0 then (0 : BitVec 32) else if (64#32).msb = true then -1 else 1))
        (IntOp.cmpi .ne (IntOp.remsi .host (BitVec.ofNat 32 n) 64#32) 0#32))
      (IntOp.subi (IntOp.divsi .host (BitVec.ofNat 32 n) 64#32) 1#32) (IntOp.divsi .host (BitVec.ofNat 32 n) 64#32)

theorem floor_number : ∀ i : Fin 512, floorNumber i.val = BitVec.ofNat 32 (i.val / 64) := by
  decide +kernel

theorem same_number : ∀ a b : Fin 8, BitVec.setWidth 32 (IntOp.cmpi .eq (BitVec.ofNat 32 a.val) (BitVec.ofNat 32 b.val)) = if a.val = b.val then 1#32 else 0#32 := by
  decide +kernel

theorem entry_heads (c : Dev nD) (i j : Fin 512) : (V m c main_v30 : FVec Ideal S512x512 .bf16) (ix2 i j) = sameHead 512 i j := by
  simp only [V, hostOps0, hostOps0_1, hostOps0_2, hostOps0_3, hostOps0_4, List.flatten_cons, List.flatten_nil, List.append_nil, List.cons_append, List.nil_append]
  entry_read
  show (sitofp .bf16 (extui 32 (cmpi .eq (floorTable (iotaInDim S512x512 32 0)) (floorTable (iotaInDim S512x512 32 1))) natLt_1_32) : FVec Ideal S512x512 .bf16) (ix2 i j) = _
  pointwise [floorTable]
  change (FloatOps.sitofp .bf16 (BitVec.setWidth 32 (IntOp.cmpi .eq (floorNumber i.val) (floorNumber j.val))) : Ideal .bf16) = _
  rw [floor_number, floor_number, same_number ⟨i.val / 64, by omega⟩ ⟨j.val / 64, by omega⟩]
  unfold sameHead
  by_cases h : i.val / 64 = j.val / 64
  · simp [h, FloatOps.sitofp]
  · simp [h, FloatOps.sitofp]

end Cert.ProjectIdeal.Heads

end
-- ==== Proof.ProjectTables.lean ====
/- What the host code of the projection prepares: the gains side by side, the table of heads, the tables of cosines and sines. -/
module

public import proofs.«01_k».proof.Proof.ProjectOuts
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.ProjectIdeal.Heads

open Cert.ProjectIdeal Cert.ProjectIdeal.Gen Cert.ProjectRow

variable (m : (ℓ : Loc nD τ sig) → Buf (Elt Ideal) ℓ)

/-- Four slices side by side, twice over: the table both heads of a pair read. -/
def fourWide (t0 t1 t2 t3 : FVec Ideal S2048x16 .f32) : FVec Ideal S2048x128 .f32 :=
  shapeCast S2048x128 (broadcastInDim S1x2048x2x64 ![0, 1, 2, 3] bcast_S1x2048x1x64_S1x2048x2x64_0_1_2_3
    (shapeCast S1x2048x1x64
      (concatenate S2048x64 1
        [⟨S2048x16, t0⟩, ⟨S2048x16, t1⟩, ⟨S2048x16, t2⟩, ⟨S2048x16, t3⟩]
        concatenates_S2048x16_S2048x16_S2048x16_S2048x16_S2048x64_d1) shapeCasts_S2048x64_S1x2048x1x64))
    shapeCasts_S1x2048x2x64_S2048x128

theorem fourWide_congr {a b c d a' b' c' d' : FVec Ideal S2048x16 .f32} {i : S2048x128.Idx} {v : Ideal .f32}
    (ha : a = a') (hb : b = b') (hc : c = c') (hd : d = d') (h : fourWide a' b' c' d' i = v) : fourWide a b c d i = v := by
  rw [ha, hb, hc, hd]; exact h

/-- One of the two position tables of a pair. -/
def half0 (t : FVec Ideal S2048x2x16 .f32) : FVec Ideal S2048x16 .f32 :=
  shapeCast S2048x16 (extractStridedSlice S2048x1x16 ![0, 0, 0] t slices_S2048x2x16_S2048x1x16_0_0_0) shapeCasts_S2048x1x16_S2048x16

def half1 (t : FVec Ideal S2048x2x16 .f32) : FVec Ideal S2048x16 .f32 :=
  shapeCast S2048x16 (extractStridedSlice S2048x1x16 ![0, 1, 0] t slices_S2048x2x16_S2048x1x16_0_1_0) shapeCasts_S2048x1x16_S2048x16

theorem at_congr (t : FVec Ideal S2048x2x16 .f32) {s : Fin 2048} {p p' : Fin 2} {q q' : Fin 16}
    (hp : p.val = p'.val) (hq : q.val = q'.val) : t (ix3 s p q) = t (ix3 s p' q') := by
  rw [Fin.ext hp, Fin.ext hq]

set_option maxHeartbeats 2000000 in
theorem entry_cos (c : Dev nD) (s : Fin 2048) (j : Fin 128) : (V m c main_v55 : FVec Ideal S2048x128 .f32) (ix2 s j)
    = (m ((c : Thread nD τ).loc main_arg5) : FVec Ideal S2048x2x16 .f32) (ix3 s ⟨j.val % 64 / 32, by omega⟩ ⟨j.val % 16, by omega⟩) := by
  simp only [V, hostOps0, hostOps0_1, hostOps0_2, hostOps0_3, hostOps0_4, List.flatten_cons, List.flatten_nil, List.append_nil, List.cons_append, List.nil_append]
  after_reads_simp
  refine fourWide_congr (a' := half0 (m ((c : Thread nD τ).loc main_arg5))) (b' := half0 (m ((c : Thread nD τ).loc main_arg5)))
    (c' := half1 (m ((c : Thread nD τ).loc main_arg5))) (d' := half1 (m ((c : Thread nD τ).loc main_arg5))) ?_ ?_ ?_ ?_ ?_
  · change (StableHlo.upto (τ := τ) (sig := sig) (Val := Elt Ideal) _ _ _ (Proc.devRef .tc main_v32) : FVec Ideal S2048x16 .f32) = _
    after_reads_simp
    rfl
  · change (StableHlo.upto (τ := τ) (sig := sig) (Val := Elt Ideal) _ _ _ (Proc.devRef .tc main_v34) : FVec Ideal S2048x16 .f32) = _
    after_reads_simp
    rfl
  · change (StableHlo.upto (τ := τ) (sig := sig) (Val := Elt Ideal) _ _ _ (Proc.devRef .tc main_v36) : FVec Ideal S2048x16 .f32) = _
    after_reads_simp
    rfl
  · change (StableHlo.upto (τ := τ) (sig := sig) (Val := Elt Ideal) _ _ _ (Proc.devRef .tc main_v38) : FVec Ideal S2048x16 .f32) = _
    after_reads_simp
    rfl
  · pointwise [fourWide, half0, half1]
    have hj : j.val < 128 := j.isLt
    by_cases h0 : j.val % 64 < 16
    · rw [dif_pos h0]
      exact at_congr _ (by show 0 = j.val % 64 / 32; omega) (by show j.val % 64 = j.val % 16; omega)
    rw [dif_neg h0]
    by_cases h1 : j.val % 64 - 16 < 16
    · rw [dif_pos h1]
      exact at_congr _ (by show 0 = j.val % 64 / 32; omega) (by show j.val % 64 - 16 = j.val % 16; omega)
    rw [dif_neg h1]
    by_cases h2 : j.val % 64 - 16 - 16 < 16
    · rw [dif_pos h2]
      exact at_congr _ (by show 1 = j.val % 64 / 32; omega) (by show j.val % 64 - 16 - 16 = j.val % 16; omega)
    rw [dif_neg h2]
    exact at_congr _ (by show 1 = j.val % 64 / 32; omega) (by show j.val % 64 - 16 - 16 - 16 = j.val % 16; omega)

set_option maxHeartbeats 2000000 in
theorem entry_sin (c : Dev nD) (s : Fin 2048) (j : Fin 128) : (V m c main_v58 : FVec Ideal S2048x128 .f32) (ix2 s j)
    = if j.val % 32 < 16 then -(show EReal from (m ((c : Thread nD τ).loc main_arg6) : FVec Ideal S2048x2x16 .f32) (ix3 s ⟨j.val % 64 / 32, by omega⟩ ⟨j.val % 16, by omega⟩))
      else (m ((c : Thread nD τ).loc main_arg6) : FVec Ideal S2048x2x16 .f32) (ix3 s ⟨j.val % 64 / 32, by omega⟩ ⟨j.val % 16, by omega⟩) := by
  simp only [V, hostOps0, hostOps0_1, hostOps0_2, hostOps0_3, hostOps0_4, List.flatten_cons, List.flatten_nil, List.append_nil, List.cons_append, List.nil_append]
  after_reads_simp
  refine fourWide_congr (a' := Host.negf (half0 (m ((c : Thread nD τ).loc main_arg6)))) (b' := half0 (m ((c : Thread nD τ).loc main_arg6)))
    (c' := Host.negf (half1 (m ((c : Thread nD τ).loc main_arg6)))) (d' := half1 (m ((c : Thread nD τ).loc main_arg6))) ?_ ?_ ?_ ?_ ?_
  · change (StableHlo.upto (τ := τ) (sig := sig) (Val := Elt Ideal) _ _ _ (Proc.devRef .tc main_v42) : FVec Ideal S2048x16 .f32) = _
    after_reads_simp
    rfl
  · change (StableHlo.upto (τ := τ) (sig := sig) (Val := Elt Ideal) _ _ _ (Proc.devRef .tc main_v44) : FVec Ideal S2048x16 .f32) = _
    after_reads_simp
    rfl
  · change (StableHlo.upto (τ := τ) (sig := sig) (Val := Elt Ideal) _ _ _ (Proc.devRef .tc main_v47) : FVec Ideal S2048x16 .f32) = _
    after_reads_simp
    rfl
  · change (StableHlo.upto (τ := τ) (sig := sig) (Val := Elt Ideal) _ _ _ (Proc.devRef .tc main_v49) : FVec Ideal S2048x16 .f32) = _
    after_reads_simp
    rfl
  · pointwise [fourWide, half0, half1]
    have hj : j.val < 128 := j.isLt
    by_cases h0 : j.val % 64 < 16
    · refine (dif_pos h0).trans (Eq.trans ?_ (if_pos (by omega)).symm)
      refine congrArg (fun z : EReal => -z) ?_
      exact at_congr _ (by show 0 = j.val % 64 / 32; omega) (by show j.val % 64 = j.val % 16; omega)
    refine (dif_neg h0).trans ?_
    by_cases h1 : j.val % 64 - 16 < 16
    · refine (dif_pos h1).trans (Eq.trans ?_ (if_neg (by omega)).symm)
      exact at_congr _ (by show 0 = j.val % 64 / 32; omega) (by show j.val % 64 - 16 = j.val % 16; omega)
    refine (dif_neg h1).trans ?_
    by_cases h2 : j.val % 64 - 16 - 16 < 16
    · refine (dif_pos h2).trans (Eq.trans ?_ (if_pos (by omega)).symm)
      refine congrArg (fun z : EReal => -z) ?_
      exact at_congr _ (by show 1 = j.val % 64 / 32; omega) (by show j.val % 64 - 16 - 16 = j.val % 16; omega)
    refine (dif_neg h2).trans (Eq.trans ?_ (if_neg (by omega)).symm)
    exact at_congr _ (by show 1 = j.val % 64 / 32; omega) (by show j.val % 64 - 16 - 16 - 16 = j.val % 16; omega)

end Cert.ProjectIdeal.Heads

end
-- ==== Proof.ProjectArray.lean ====
/- The input projection: what the kernel's run leaves in its eight result arrays. -/
module

public import proofs.«01_k».proof.Proof.ProjectEntries
public import proofs.«01_k».proof.Proof.ProjectTables

@[expose] public section

set_option maxRecDepth 16384

noncomputable section

open Idealize.ShloMosaic Idealize.ShloMosaic.TcCoe Idealize.SL.Sem
open Idealize.ShloMosaic.Pipeline (Dat)

namespace Cert.ProjectIdeal.Heads

open Cert.ProjectIdeal Cert.ProjectIdeal.Gen Cert.ProjectRow

/-- A normalized, modulated row of the stream. -/
def rowAt (X : FVec Ideal S16x2048x1024 .f32) (M : FVec Ideal S24x6x1024 .f32) (G : FVec Ideal S1024 .f32) (b : Fin 16) (s : Fin 2048) : Fin 1024 → EReal :=
  normed (fun k => X (ix3 b s k)) (fun k => G (ix1 k)) (fun k => M (ix3 ⟨b.val, by omega⟩ 1 k)) (fun k => M (ix3 ⟨b.val, by omega⟩ 0 k))

/-- A projected column of a row. -/
def colAt (X : FVec Ideal S16x2048x1024 .f32) (M : FVec Ideal S24x6x1024 .f32) (G : FVec Ideal S1024 .f32) (W : FVec Ideal S1024x6144 .f32)
    (b : Fin 16) (s : Fin 2048) (j : Fin 6144) : EReal := ∑ k, rowAt X M G b s k * W (ix2 k j)

/-- A column of a normalized, rotated head; the heads stand from column `lo` on, and row `i` of `Q` is their gain. -/
def headAt (X : FVec Ideal S16x2048x1024 .f32) (M : FVec Ideal S24x6x1024 .f32) (G : FVec Ideal S1024 .f32) (W : FVec Ideal S1024x6144 .f32)
    (Q : FVec Ideal S4x64 .f32) (C S : FVec Ideal S2048x2x16 .f32) (n lo : Nat) (hlo : lo + n * 64 ≤ 6144) (i : Fin 4)
    (b : Fin 16) (hh : Fin n) (s : Fin 2048) (d : Fin 64) : EReal :=
  turned (headNorm (fun e => colAt X M G W b s ⟨lo + (hh.val * 64 + e.val), by omega⟩) (fun e => Q (ix2 i e)))
    (fun p q => C (ix3 s p q)) (fun p q => S (ix3 s p q)) d

/-- A stored value: 64 columns of the head, then a column of ones, then zeros. -/
def valueAt (X : FVec Ideal S16x2048x1024 .f32) (M : FVec Ideal S24x6x1024 .f32) (G : FVec Ideal S1024 .f32) (W : FVec Ideal S1024x6144 .f32)
    (lo : Nat) (hlo : lo + 128 ≤ 6144) (b : Fin 16) (hh : Fin 2) (s : Fin 2048) (d : Fin 128) : EReal :=
  if h : d.val < 64 then colAt X M G W b s ⟨lo + (hh.val * 64 + d.val), by omega⟩ else if d.val = 64 then 1 else 0

/-- The arrays of these entries. -/
def headsEight (X : FVec Ideal S16x2048x1024 .f32) (M : FVec Ideal S24x6x1024 .f32) (G : FVec Ideal S1024 .f32) (W : FVec Ideal S1024x6144 .f32)
    (Q : FVec Ideal S4x64 .f32) (C S : FVec Ideal S2048x2x16 .f32) (lo : Nat) (hlo : lo + 8 * 64 ≤ 6144) (i : Fin 4) : FVec Ideal S16x8x2048x64 .bf16 :=
  fun y => headAt X M G W Q C S 8 lo hlo i (y 0) (y 1) (y 2) (y 3)

def headsTwo (X : FVec Ideal S16x2048x1024 .f32) (M : FVec Ideal S24x6x1024 .f32) (G : FVec Ideal S1024 .f32) (W : FVec Ideal S1024x6144 .f32)
    (Q : FVec Ideal S4x64 .f32) (C S : FVec Ideal S2048x2x16 .f32) (lo : Nat) (hlo : lo + 2 * 64 ≤ 6144) (i : Fin 4) : FVec Ideal S16x2x2048x64 .bf16 :=
  fun y => headAt X M G W Q C S 2 lo hlo i (y 0) (y 1) (y 2) (y 3)

def values (X : FVec Ideal S16x2048x1024 .f32) (M : FVec Ideal S24x6x1024 .f32) (G : FVec Ideal S1024 .f32) (W : FVec Ideal S1024x6144 .f32)
    (lo : Nat) (hlo : lo + 128 ≤ 6144) : FVec Ideal S16x2x2048x128 .bf16 := fun y => valueAt X M G W lo hlo (y 0) (y 1) (y 2) (y 3)

def plain (X : FVec Ideal S16x2048x1024 .f32) (M : FVec Ideal S24x6x1024 .f32) (G : FVec Ideal S1024 .f32) (W : FVec Ideal S1024x6144 .f32) : FVec Ideal S16x2048x1536 .f32 :=
  fun y => colAt X M G W (y 0) (y 1) ⟨768 + (y 2).val, Nat.lt_of_lt_of_le (Nat.add_lt_add_left (y 2).isLt 768) (by decide)⟩

def gates (X : FVec Ideal S16x2048x1024 .f32) (M : FVec Ideal S24x6x1024 .f32) (G : FVec Ideal S1024 .f32) (W : FVec Ideal S1024x6144 .f32) : FVec Ideal S16x2048x3072 .bf16 :=
  fun y => Ideal.logistic (colAt X M G W (y 0) (y 1) ⟨3072 + (y 2).val, Nat.lt_of_lt_of_le (Nat.add_lt_add_left (y 2).isLt 3072) (by decide)⟩)

theorem headAt_congr (X : FVec Ideal S16x2048x1024 .f32) (M : FVec Ideal S24x6x1024 .f32) (G : FVec Ideal S1024 .f32) (W : FVec Ideal S1024x6144 .f32)
    (Q : FVec Ideal S4x64 .f32) (C S : FVec Ideal S2048x2x16 .f32) {n lo : Nat} {hlo : lo + n * 64 ≤ 6144} {i : Fin 4} {b b' : Fin 16} {hh hh' : Fin n}
    {s s' : Fin 2048} {d d' : Fin 64} (hb : b.val = b'.val) (hk : hh.val = hh'.val) (hs : s.val = s'.val) (hd : d.val = d'.val) :
    headAt X M G W Q C S n lo hlo i b hh s d = headAt X M G W Q C S n lo hlo i b' hh' s' d' := by
  rw [Fin.ext hb, Fin.ext hk, Fin.ext hs, Fin.ext hd]

theorem valueAt_congr (X : FVec Ideal S16x2048x1024 .f32) (M : FVec Ideal S24x6x1024 .f32) (G : FVec Ideal S1024 .f32) (W : FVec Ideal S1024x6144 .f32)
    {lo : Nat} {hlo : lo + 128 ≤ 6144} {b b' : Fin 16} {hh hh' : Fin 2} {s s' : Fin 2048} {d d' : Fin 128}
    (hb : b.val = b'.val) (hk : hh.val = hh'.val) (hs : s.val = s'.val) (hd : d.val = d'.val) :
    valueAt X M G W lo hlo b hh s d = valueAt X M G W lo hlo b' hh' s' d' := by
  rw [Fin.ext hb, Fin.ext hk, Fin.ext hs, Fin.ext hd]

theorem colAt_congr (X : FVec Ideal S16x2048x1024 .f32) (M : FVec Ideal S24x6x1024 .f32) (G : FVec Ideal S1024 .f32) (W : FVec Ideal S1024x6144 .f32)
    {b b' : Fin 16} {s s' : Fin 2048} {j j' : Fin 6144} (hb : b.val = b'.val) (hs : s.val = s'.val) (hj : j.val = j'.val) :
    colAt X M G W b s j = colAt X M G W b' s' j' := by
  rw [Fin.ext hb, Fin.ext hs, Fin.ext hj]

section Blocks

variable {x0 : Vec Ideal S1x512x1024 .f32} {x1 : Vec Ideal S1x6x1024 .f32} {x2 : Vec Ideal S1x1024 .f32} {x3 : Vec Ideal S1024x6144 .bf16}
  {x8 : Vec Ideal S512x512 .bf16} {x9 x10 : Vec Ideal S512x128 .f32} {γ : Fin 64 → EReal} {u v : Fin 2 → Fin 16 → EReal} {r : Fin 512}

/-- Eight heads of the block are heads. -/
theorem eight_point {g : Vec Ideal S1x512 .f32} (lo : Nat) (hlo : lo + 512 ≤ 6144)
    (h8 : ∀ i i', x8 (ix2 i i') = sameHead 512 i i') (hg : ∀ j : Fin 512, g (ix2 0 j) = γ ⟨j.val % 64, by omega⟩)
    (h9 : ∀ j : Fin 128, x9 (ix2 r j) = u ⟨j.val % 64 / 32, by omega⟩ ⟨j.val % 16, by omega⟩)
    (h10 : ∀ j : Fin 128, x10 (ix2 r j) = if j.val % 32 < 16 then -(v ⟨j.val % 64 / 32, by omega⟩ ⟨j.val % 16, by omega⟩) else v ⟨j.val % 64 / 32, by omega⟩ ⟨j.val % 16, by omega⟩)
    (hh : Fin 8) (d : Fin 64) : blockEight x0 x1 x2 x3 x8 x9 x10 lo hlo g r ⟨hh.val * 64 + d.val, by omega⟩
      = turned (headNorm (fun e => col x0 x1 x2 x3 r ⟨lo + (hh.val * 64 + e.val), by omega⟩) γ) u v d := by
  have e8 : (fun i i' : Fin 512 => (x8 (ix2 i i') : EReal)) = sameHead 512 := funext fun i => funext fun i' => h8 i i'
  have a1 : (hh.val * 64 + d.val) % 128 % 64 / 32 = d.val / 32 := by omega
  have a2 : (hh.val * 64 + d.val) % 128 % 16 = d.val % 16 := by omega
  have a3 : (hh.val * 64 + d.val) % 128 % 32 = d.val % 32 := by omega
  unfold blockEight
  rw [e8]
  refine wideTurn_eq 8 _ _ _ _ u v hh d (by omega) (fun e => (wideNorm_eq 8 _ _ hh e (by omega)).trans ?_) ((h9 _).trans ?_) ((h10 _).trans ?_)
  · refine congrArg (fun z => headNorm _ z e) (funext fun e' => (hg _).trans (congrArg γ (Fin.ext ?_)))
    show (hh.val * 64 + e'.val) % 64 = e'.val
    omega
  · simp only [a1, a2]
  · simp only [a1, a2, a3]

/-- Two heads of the block are heads. -/
theorem two_point {g : Vec Ideal S1x128 .f32} (lo : Nat) (hlo : lo + 128 ≤ 6144)
    (h8 : ∀ i i', x8 (ix2 i i') = sameHead 512 i i') (hg : ∀ j : Fin 128, g (ix2 0 j) = γ ⟨j.val % 64, by omega⟩)
    (h9 : ∀ j : Fin 128, x9 (ix2 r j) = u ⟨j.val % 64 / 32, by omega⟩ ⟨j.val % 16, by omega⟩)
    (h10 : ∀ j : Fin 128, x10 (ix2 r j) = if j.val % 32 < 16 then -(v ⟨j.val % 64 / 32, by omega⟩ ⟨j.val % 16, by omega⟩) else v ⟨j.val % 64 / 32, by omega⟩ ⟨j.val % 16, by omega⟩)
    (hh : Fin 2) (d : Fin 64) : blockTwo x0 x1 x2 x3 x8 x9 x10 lo hlo g r ⟨hh.val * 64 + d.val, by omega⟩
      = turned (headNorm (fun e => col x0 x1 x2 x3 r ⟨lo + (hh.val * 64 + e.val), by omega⟩) γ) u v d := by
  have e8 : (fun i i' : Fin 128 => (x8 (ix2 ⟨i.val, by omega⟩ ⟨i'.val, by omega⟩) : EReal)) = sameHead 128 :=
    funext fun i => funext fun i' => h8 _ _
  have a1 : (hh.val * 64 + d.val) % 64 / 32 = d.val / 32 := by omega
  have a2 : (hh.val * 64 + d.val) % 16 = d.val % 16 := by omega
  have a3 : (hh.val * 64 + d.val) % 32 = d.val % 32 := by omega
  unfold blockTwo
  rw [e8]
  refine wideTurn_eq 2 _ _ _ _ u v hh d (by omega) (fun e => (wideNorm_eq 2 _ _ hh e (by omega)).trans ?_) ((h9 _).trans ?_) ((h10 _).trans ?_)
  · refine congrArg (fun z => headNorm _ z e) (funext fun e' => (hg _).trans (congrArg γ (Fin.ext ?_)))
    show (hh.val * 64 + e'.val) % 64 = e'.val
    omega
  · simp only [a1, a2]
  · simp only [a1, a2, a3]

end Blocks

variable (m : (ℓ : Loc nD τ sig) → Buf (Elt Ideal) ℓ)

theorem idx : ∀ t : Fin cfg0.N, win0_0.index t = ![t.val / 4, t.val % 4, 0] ∧ win0_1.index t = ![t.val / 4, 0, 0]
    ∧ win0_2.index t = ![0, 0] ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val % 4, 0] ∧ win0_10.index t = ![t.val % 4, 0] ∧ t.val < 64 :=
  (by decide +kernel : ∀ t : Fin grid0.N, _)

theorem idx_out : ∀ t : Fin cfg0.N, win0_11.index t = ![t.val / 4, 0, t.val % 4, 0] ∧ win0_12.index t = ![t.val / 4, 0, t.val % 4, 0]
    ∧ win0_13.index t = ![t.val / 4, 0, t.val % 4, 0] ∧ win0_14.index t = ![t.val / 4, t.val % 4, 0] ∧ win0_15.index t = ![t.val / 4, 0, t.val % 4, 0]
    ∧ win0_16.index t = ![t.val / 4, 0, t.val % 4, 0] ∧ win0_17.index t = ![t.val / 4, 0, t.val % 4, 0] ∧ win0_18.index t = ![t.val / 4, t.val % 4, 0] :=
  (by decide +kernel : ∀ t : Fin grid0.N, _)

theorem bound (t : Fin cfg0.N) : t.val < 64 := (idx t).2.2.2.2.2.2.2.2.2.2.2

/-- The batch and the rows of a block. -/
def bat (t : Fin cfg0.N) : Fin 16 := ⟨t.val / 4, by have := bound t; omega⟩
def pos (t : Fin cfg0.N) (r : Fin 512) : Fin 2048 := ⟨t.val % 4 * 512 + r.val, by omega⟩

theorem block_x (c : Dev nD) (t : Fin cfg0.N) (r : Fin 512) (d : Fin 1024) : iblk m c 0 t (ix3 0 r d)
    = (V m c main_arg0 : FVec Ideal S16x2048x1024 .f32) (ix3 (bat t) (pos t r) d) := by
  unfold bat pos
  blk_ext [iblk, idx t]

theorem block_mod (c : Dev nD) (t : Fin cfg0.N) (k : Fin 6) (d : Fin 1024) : iblk m c 1 t (ix3 0 k d)
    = (V m c main_arg1 : FVec Ideal S24x6x1024 .f32) (ix3 ⟨t.val / 4, by have := bound t; omega⟩ k d) := by
  blk_ext [iblk, idx t]

theorem block_gain (c : Dev nD) (t : Fin cfg0.N) (k : Fin 1024) : iblk m c 2 t (ix2 0 k) = (V m c main_v51 : FVec Ideal S1x1024 .f32) (ix2 0 k) := by
  blk_ext [iblk, idx t]

theorem block_weight (c : Dev nD) (t : Fin cfg0.N) (k : Fin 1024) (j : Fin 6144) : iblk m c 3 t (ix2 k j) = (V m c main_v52 : FVec Ideal S1024x6144 .bf16) (ix2 k j) := by
  blk_ext [iblk, idx t]

theorem block_gain_a (c : Dev nD) (t : Fin cfg0.N) (j : Fin 512) : iblk m c 4 t (ix2 0 j) = (V m c main_v5 : FVec Ideal S1x512 .f32) (ix2 0 j) := by
  blk_ext [iblk, idx t]

theorem block_gain_b (c : Dev nD) (t : Fin cfg0.N) (j : Fin 128) : iblk m c 5 t (ix2 0 j) = (V m c main_v11 : FVec Ideal S1x128 .f32) (ix2 0 j) := by
  blk_ext [iblk, idx t]

theorem block_gain_c (c : Dev nD) (t : Fin cfg0.N) (j : Fin 512) : iblk m c 6 t (ix2 0 j) = (V m c main_v17 : FVec Ideal S1x512 .f32) (ix2 0 j) := by
  blk_ext [iblk, idx t]

theorem block_gain_d (c : Dev nD) (t : Fin cfg0.N) (j : Fin 128) : iblk m c 7 t (ix2 0 j) = (V m c main_v23 : FVec Ideal S1x128 .f32) (ix2 0 j) := by
  blk_ext [iblk, idx t]

theorem block_heads (c : Dev nD) (t : Fin cfg0.N) (i j : Fin 512) : iblk m c 8 t (ix2 i j) = (V m c main_v30 : FVec Ideal S512x512 .bf16) (ix2 i j) := by
  blk_ext [iblk, idx t]

theorem block_cos (c : Dev nD) (t : Fin cfg0.N) (r : Fin 512) (j : Fin 128) : iblk m c 9 t (ix2 r j) = (V m c main_v55 : FVec Ideal S2048x128 .f32) (ix2 (pos t r) j) := by
  unfold pos
  blk_ext [iblk, idx t]

theorem block_sin (c : Dev nD) (t : Fin cfg0.N) (r : Fin 512) (j : Fin 128) : iblk m c 10 t (ix2 r j) = (V m c main_v58 : FVec Ideal S2048x128 .f32) (ix2 (pos t r) j) := by
  unfold pos
  blk_ext [iblk, idx t]

theorem normed_congr {x x' g g' a a' b b' : Fin 1024 → EReal} (hx : ∀ k, x k = x' k) (hg : ∀ k, g k = g' k) (ha : ∀ k, a k = a' k)
    (hb : ∀ k, b k = b' k) : normed x g a b = normed x' g' a' b' := by
  rw [funext hx, funext hg, funext ha, funext hb]

theorem row_point (c : Dev nD) (t : Fin cfg0.N) (r : Fin 512) : hrow (iblk m c 0 t) (iblk m c 1 t) (iblk m c 2 t) r
    = rowAt (m ((c : Thread nD τ).loc main_arg0)) (m ((c : Thread nD τ).loc main_arg1)) (m ((c : Thread nD τ).loc main_arg2)) (bat t) (pos t r) := by
  refine normed_congr (fun k => (block_x m c t r k).trans ?_) (fun k => (block_gain m c t k).trans (entry_gain m c k))
    (fun k => (block_mod m c t 1 k).trans ?_) (fun k => (block_mod m c t 0 k).trans ?_)
  · rw [V_main_arg0]
  · rw [V_main_arg1]; rfl
  · rw [V_main_arg1]; rfl

/-- The projected columns of a block are those of its rows. -/
theorem col_point (c : Dev nD) (t : Fin cfg0.N) (r : Fin 512) (j : Fin 6144) : col (iblk m c 0 t) (iblk m c 1 t) (iblk m c 2 t) (iblk m c 3 t) r j
    = colAt (m ((c : Thread nD τ).loc main_arg0)) (m ((c : Thread nD τ).loc main_arg1)) (m ((c : Thread nD τ).loc main_arg2)) (m ((c : Thread nD τ).loc main_arg3))
        (bat t) (pos t r) j :=
  Finset.sum_congr rfl fun k _ => congrArg₂ (fun p q : EReal => p * q) (congrFun (row_point m c t r) k) ((block_weight m c t k j).trans (entry_weight m c k j))

theorem turned_congr {t t' g : Fin 64 → EReal} {u v : Fin 2 → Fin 16 → EReal} (h : ∀ e, t e = t' e) (d : Fin 64) :
    turned (headNorm t g) u v d = turned (headNorm t' g) u v d := by
  rw [funext h]

end Cert.ProjectIdeal.Heads

end
-- ==== Proof.ProjectFinal.lean ====
/- The input projection: the eight result arrays after the run, over the arguments. -/
module

public import proofs.«01_k».proof.Proof.ProjectArray

@[expose] public section

set_option maxRecDepth 16384

noncomputable section

open Idealize.ShloMosaic Idealize.ShloMosaic.TcCoe Idealize.SL.Sem
open Idealize.ShloMosaic.Pipeline (Dat)

namespace Cert.ProjectIdeal.Heads

open Cert.ProjectIdeal Cert.ProjectIdeal.Gen Cert.ProjectRow

variable (m : (ℓ : Loc nD τ sig) → Buf (Elt Ideal) ℓ)

theorem point11 (c : Dev nD) (t : Fin cfg0.N) (hh : Fin 8) (r : Fin 512) (d : Fin 64) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix4 0 hh r d)
      = headAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
          8 0 (by omega) 0 (bat t) hh (pos t r) d := by
  refine (out11 _ _ _ _ _ _ _ _ _ _ _ hh r d).trans ?_
  refine (eight_point 0 (by omega) (fun i i' => (block_heads m c t i i').trans (entry_heads m c i i')) (γ := fun e => (m ((c : Thread nD τ).loc main_arg4)) (ix2 0 e))
    (u := fun p q => (m ((c : Thread nD τ).loc main_arg5)) (ix3 (pos t r) p q)) (v := fun p q => (m ((c : Thread nD τ).loc main_arg6)) (ix3 (pos t r) p q))
    (fun j => (block_gain_a m c t j).trans (entry_gain_a m c j))
    (fun j => (block_cos m c t r j).trans (entry_cos m c (pos t r) j)) (fun j => (block_sin m c t r j).trans (entry_sin m c (pos t r) j)) hh d).trans ?_
  exact turned_congr (fun e => col_point m c t r _) d

theorem point12 (c : Dev nD) (t : Fin cfg0.N) (hh : Fin 2) (r : Fin 512) (d : Fin 64) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix4 0 hh r d)
      = headAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
          2 512 (by omega) 1 (bat t) hh (pos t r) d := by
  refine (out12 _ _ _ _ _ _ _ _ _ _ _ hh r d).trans ?_
  refine (two_point 512 (by omega) (fun i i' => (block_heads m c t i i').trans (entry_heads m c i i')) (γ := fun e => (m ((c : Thread nD τ).loc main_arg4)) (ix2 1 e))
    (u := fun p q => (m ((c : Thread nD τ).loc main_arg5)) (ix3 (pos t r) p q)) (v := fun p q => (m ((c : Thread nD τ).loc main_arg6)) (ix3 (pos t r) p q))
    (fun j => (block_gain_b m c t j).trans (entry_gain_b m c j))
    (fun j => (block_cos m c t r j).trans (entry_cos m c (pos t r) j)) (fun j => (block_sin m c t r j).trans (entry_sin m c (pos t r) j)) hh d).trans ?_
  exact turned_congr (fun e => col_point m c t r _) d

theorem point15 (c : Dev nD) (t : Fin cfg0.N) (hh : Fin 8) (r : Fin 512) (d : Fin 64) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix4 0 hh r d)
      = headAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
          8 2304 (by omega) 2 (bat t) hh (pos t r) d := by
  refine (out15 _ _ _ _ _ _ _ _ _ _ _ hh r d).trans ?_
  refine (eight_point 2304 (by omega) (fun i i' => (block_heads m c t i i').trans (entry_heads m c i i')) (γ := fun e => (m ((c : Thread nD τ).loc main_arg4)) (ix2 2 e))
    (u := fun p q => (m ((c : Thread nD τ).loc main_arg5)) (ix3 (pos t r) p q)) (v := fun p q => (m ((c : Thread nD τ).loc main_arg6)) (ix3 (pos t r) p q))
    (fun j => (block_gain_c m c t j).trans (entry_gain_c m c j))
    (fun j => (block_cos m c t r j).trans (entry_cos m c (pos t r) j)) (fun j => (block_sin m c t r j).trans (entry_sin m c (pos t r) j)) hh d).trans ?_
  exact turned_congr (fun e => col_point m c t r _) d

theorem point16 (c : Dev nD) (t : Fin cfg0.N) (hh : Fin 2) (r : Fin 512) (d : Fin 64) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix4 0 hh r d)
      = headAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
          2 2816 (by omega) 3 (bat t) hh (pos t r) d := by
  refine (out16 _ _ _ _ _ _ _ _ _ _ _ hh r d).trans ?_
  refine (two_point 2816 (by omega) (fun i i' => (block_heads m c t i i').trans (entry_heads m c i i')) (γ := fun e => (m ((c : Thread nD τ).loc main_arg4)) (ix2 3 e))
    (u := fun p q => (m ((c : Thread nD τ).loc main_arg5)) (ix3 (pos t r) p q)) (v := fun p q => (m ((c : Thread nD τ).loc main_arg6)) (ix3 (pos t r) p q))
    (fun j => (block_gain_d m c t j).trans (entry_gain_d m c j))
    (fun j => (block_cos m c t r j).trans (entry_cos m c (pos t r) j)) (fun j => (block_sin m c t r j).trans (entry_sin m c (pos t r) j)) hh d).trans ?_
  exact turned_congr (fun e => col_point m c t r _) d

theorem point13 (c : Dev nD) (t : Fin cfg0.N) (hh : Fin 2) (r : Fin 512) (d : Fin 128) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix4 0 hh r d)
      = valueAt (m ((c : Thread nD τ).loc main_arg0)) (m ((c : Thread nD τ).loc main_arg1)) (m ((c : Thread nD τ).loc main_arg2)) (m ((c : Thread nD τ).loc main_arg3))
          640 (by omega) (bat t) hh (pos t r) d := by
  refine (out13 _ _ _ _ _ _ _ _ _ _ _ hh r d).trans ?_
  unfold blockValue valueAt
  by_cases h : d.val < 64
  · rw [dif_pos h, dif_pos h]
    exact col_point m c t r _
  · rw [dif_neg h, dif_neg h]

theorem point17 (c : Dev nD) (t : Fin cfg0.N) (hh : Fin 2) (r : Fin 512) (d : Fin 128) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix4 0 hh r d)
      = valueAt (m ((c : Thread nD τ).loc main_arg0)) (m ((c : Thread nD τ).loc main_arg1)) (m ((c : Thread nD τ).loc main_arg2)) (m ((c : Thread nD τ).loc main_arg3))
          2944 (by omega) (bat t) hh (pos t r) d := by
  refine (out17 _ _ _ _ _ _ _ _ _ _ _ hh r d).trans ?_
  unfold blockValue valueAt
  by_cases h : d.val < 64
  · rw [dif_pos h, dif_pos h]
    exact col_point m c t r _
  · rw [dif_neg h, dif_neg h]

theorem point14 (c : Dev nD) (t : Fin cfg0.N) (r : Fin 512) (j : Fin 1536) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 r j)
      = colAt (m ((c : Thread nD τ).loc main_arg0)) (m ((c : Thread nD τ).loc main_arg1)) (m ((c : Thread nD τ).loc main_arg2)) (m ((c : Thread nD τ).loc main_arg3)) (bat t) (pos t r) ⟨768 + j.val, by omega⟩ :=
  (out14 _ _ _ _ _ _ _ _ _ _ _ r j).trans (col_point m c t r _)

theorem point18 (c : Dev nD) (t : Fin cfg0.N) (r : Fin 512) (j : Fin 3072) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 r j)
      = Ideal.logistic (colAt (m ((c : Thread nD τ).loc main_arg0)) (m ((c : Thread nD τ).loc main_arg1)) (m ((c : Thread nD τ).loc main_arg2)) (m ((c : Thread nD τ).loc main_arg3)) (bat t) (pos t r) ⟨3072 + j.val, by omega⟩) :=
  (out18 _ _ _ _ _ _ _ _ _ _ _ r j).trans (congrArg Ideal.logistic (col_point m c t r _))

/-- A result array after the run. -/
theorem final11 (c : Dev nD) : (dats m 0 c).arrAt 11 cfg0.N = headsEight (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) 0 (by omega) 0 := by
  refine (dats m 0 c).arrAt_eq_of_covers 11 _ (by decide +kernel) fun t _ y => ?_
  blk_simp
  rw [after0_11]
  have hy : (y : S1x8x512x64.Idx) = ix4 0 (y 1) (y 2) (y 3) := by
    funext a; fin_cases a
    · exact Fin.ext (Nat.lt_one_iff.mp (y 0).isLt)
    · rfl
    · rfl
    · rfl
  rw [hy]
  refine (point11 m c t _ _ _).trans ?_
  have e0 : ((((cfg0.win 11).blk t).view.emb y) 0 : ℕ) = t.val / 4 := by blk_simp [idx_out t]
  have e1 : ((((cfg0.win 11).blk t).view.emb y) 1 : ℕ) = (y 1).val := by blk_simp [idx_out t]
  have e2 : ((((cfg0.win 11).blk t).view.emb y) 2 : ℕ) = t.val % 4 * 512 + (y 2).val := by blk_simp [idx_out t]
  have e3 : ((((cfg0.win 11).blk t).view.emb y) 3 : ℕ) = (y 3).val := by blk_simp [idx_out t]
  rw [← hy]
  exact headAt_congr _ _ _ _ _ _ _ e0.symm e1.symm e2.symm e3.symm

/-- A result array after the run. -/
theorem final12 (c : Dev nD) : (dats m 0 c).arrAt 12 cfg0.N = headsTwo (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) 512 (by omega) 1 := by
  refine (dats m 0 c).arrAt_eq_of_covers 12 _ (by decide +kernel) fun t _ y => ?_
  blk_simp
  rw [after0_12]
  have hy : (y : S1x2x512x64.Idx) = ix4 0 (y 1) (y 2) (y 3) := by
    funext a; fin_cases a
    · exact Fin.ext (Nat.lt_one_iff.mp (y 0).isLt)
    · rfl
    · rfl
    · rfl
  rw [hy]
  refine (point12 m c t _ _ _).trans ?_
  have e0 : ((((cfg0.win 12).blk t).view.emb y) 0 : ℕ) = t.val / 4 := by blk_simp [idx_out t]
  have e1 : ((((cfg0.win 12).blk t).view.emb y) 1 : ℕ) = (y 1).val := by blk_simp [idx_out t]
  have e2 : ((((cfg0.win 12).blk t).view.emb y) 2 : ℕ) = t.val % 4 * 512 + (y 2).val := by blk_simp [idx_out t]
  have e3 : ((((cfg0.win 12).blk t).view.emb y) 3 : ℕ) = (y 3).val := by blk_simp [idx_out t]
  rw [← hy]
  exact headAt_congr _ _ _ _ _ _ _ e0.symm e1.symm e2.symm e3.symm

/-- A result array after the run. -/
theorem final13 (c : Dev nD) : (dats m 0 c).arrAt 13 cfg0.N = values (m ((c : Thread nD τ).loc main_arg0)) (m ((c : Thread nD τ).loc main_arg1)) (m ((c : Thread nD τ).loc main_arg2)) (m ((c : Thread nD τ).loc main_arg3)) 640 (by omega) := by
  refine (dats m 0 c).arrAt_eq_of_covers 13 _ (by decide +kernel) fun t _ y => ?_
  blk_simp
  rw [after0_13]
  have hy : (y : S1x2x512x128.Idx) = ix4 0 (y 1) (y 2) (y 3) := by
    funext a; fin_cases a
    · exact Fin.ext (Nat.lt_one_iff.mp (y 0).isLt)
    · rfl
    · rfl
    · rfl
  rw [hy]
  refine (point13 m c t _ _ _).trans ?_
  have e0 : ((((cfg0.win 13).blk t).view.emb y) 0 : ℕ) = t.val / 4 := by blk_simp [idx_out t]
  have e1 : ((((cfg0.win 13).blk t).view.emb y) 1 : ℕ) = (y 1).val := by blk_simp [idx_out t]
  have e2 : ((((cfg0.win 13).blk t).view.emb y) 2 : ℕ) = t.val % 4 * 512 + (y 2).val := by blk_simp [idx_out t]
  have e3 : ((((cfg0.win 13).blk t).view.emb y) 3 : ℕ) = (y 3).val := by blk_simp [idx_out t]
  rw [← hy]
  exact valueAt_congr _ _ _ _ e0.symm e1.symm e2.symm e3.symm

/-- A result array after the run. -/
theorem final15 (c : Dev nD) : (dats m 0 c).arrAt 15 cfg0.N = headsEight (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) 2304 (by omega) 2 := by
  refine (dats m 0 c).arrAt_eq_of_covers 15 _ (by decide +kernel) fun t _ y => ?_
  blk_simp
  rw [after0_15]
  have hy : (y : S1x8x512x64.Idx) = ix4 0 (y 1) (y 2) (y 3) := by
    funext a; fin_cases a
    · exact Fin.ext (Nat.lt_one_iff.mp (y 0).isLt)
    · rfl
    · rfl
    · rfl
  rw [hy]
  refine (point15 m c t _ _ _).trans ?_
  have e0 : ((((cfg0.win 15).blk t).view.emb y) 0 : ℕ) = t.val / 4 := by blk_simp [idx_out t]
  have e1 : ((((cfg0.win 15).blk t).view.emb y) 1 : ℕ) = (y 1).val := by blk_simp [idx_out t]
  have e2 : ((((cfg0.win 15).blk t).view.emb y) 2 : ℕ) = t.val % 4 * 512 + (y 2).val := by blk_simp [idx_out t]
  have e3 : ((((cfg0.win 15).blk t).view.emb y) 3 : ℕ) = (y 3).val := by blk_simp [idx_out t]
  rw [← hy]
  exact headAt_congr _ _ _ _ _ _ _ e0.symm e1.symm e2.symm e3.symm

/-- A result array after the run. -/
theorem final16 (c : Dev nD) : (dats m 0 c).arrAt 16 cfg0.N = headsTwo (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) 2816 (by omega) 3 := by
  refine (dats m 0 c).arrAt_eq_of_covers 16 _ (by decide +kernel) fun t _ y => ?_
  blk_simp
  rw [after0_16]
  have hy : (y : S1x2x512x64.Idx) = ix4 0 (y 1) (y 2) (y 3) := by
    funext a; fin_cases a
    · exact Fin.ext (Nat.lt_one_iff.mp (y 0).isLt)
    · rfl
    · rfl
    · rfl
  rw [hy]
  refine (point16 m c t _ _ _).trans ?_
  have e0 : ((((cfg0.win 16).blk t).view.emb y) 0 : ℕ) = t.val / 4 := by blk_simp [idx_out t]
  have e1 : ((((cfg0.win 16).blk t).view.emb y) 1 : ℕ) = (y 1).val := by blk_simp [idx_out t]
  have e2 : ((((cfg0.win 16).blk t).view.emb y) 2 : ℕ) = t.val % 4 * 512 + (y 2).val := by blk_simp [idx_out t]
  have e3 : ((((cfg0.win 16).blk t).view.emb y) 3 : ℕ) = (y 3).val := by blk_simp [idx_out t]
  rw [← hy]
  exact headAt_congr _ _ _ _ _ _ _ e0.symm e1.symm e2.symm e3.symm

/-- A result array after the run. -/
theorem final17 (c : Dev nD) : (dats m 0 c).arrAt 17 cfg0.N = values (m ((c : Thread nD τ).loc main_arg0)) (m ((c : Thread nD τ).loc main_arg1)) (m ((c : Thread nD τ).loc main_arg2)) (m ((c : Thread nD τ).loc main_arg3)) 2944 (by omega) := by
  refine (dats m 0 c).arrAt_eq_of_covers 17 _ (by decide +kernel) fun t _ y => ?_
  blk_simp
  rw [after0_17]
  have hy : (y : S1x2x512x128.Idx) = ix4 0 (y 1) (y 2) (y 3) := by
    funext a; fin_cases a
    · exact Fin.ext (Nat.lt_one_iff.mp (y 0).isLt)
    · rfl
    · rfl
    · rfl
  rw [hy]
  refine (point17 m c t _ _ _).trans ?_
  have e0 : ((((cfg0.win 17).blk t).view.emb y) 0 : ℕ) = t.val / 4 := by blk_simp [idx_out t]
  have e1 : ((((cfg0.win 17).blk t).view.emb y) 1 : ℕ) = (y 1).val := by blk_simp [idx_out t]
  have e2 : ((((cfg0.win 17).blk t).view.emb y) 2 : ℕ) = t.val % 4 * 512 + (y 2).val := by blk_simp [idx_out t]
  have e3 : ((((cfg0.win 17).blk t).view.emb y) 3 : ℕ) = (y 3).val := by blk_simp [idx_out t]
  rw [← hy]
  exact valueAt_congr _ _ _ _ e0.symm e1.symm e2.symm e3.symm

/-- A result array after the run. -/
theorem final14 (c : Dev nD) : (dats m 0 c).arrAt 14 cfg0.N = plain (m ((c : Thread nD τ).loc main_arg0)) (m ((c : Thread nD τ).loc main_arg1)) (m ((c : Thread nD τ).loc main_arg2)) (m ((c : Thread nD τ).loc main_arg3)) := by
  refine (dats m 0 c).arrAt_eq_of_covers 14 _ (by decide +kernel) fun t _ y => ?_
  blk_simp
  rw [after0_14]
  have hy : (y : S1x512x1536.Idx) = ix3 0 (y 1) (y 2) := by
    funext a; fin_cases a
    · exact Fin.ext (Nat.lt_one_iff.mp (y 0).isLt)
    · rfl
    · rfl
  rw [hy]
  refine (point14 m c t _ _).trans ?_
  have e0 : ((((cfg0.win 14).blk t).view.emb y) 0 : ℕ) = t.val / 4 := by blk_simp [idx_out t]
  have e1 : ((((cfg0.win 14).blk t).view.emb y) 1 : ℕ) = t.val % 4 * 512 + (y 1).val := by blk_simp [idx_out t]
  have e2 : ((((cfg0.win 14).blk t).view.emb y) 2 : ℕ) = (y 2).val := by blk_simp [idx_out t]
  rw [← hy]
  exact (colAt_congr _ _ _ _ e0.symm e1.symm (congrArg (fun z : ℕ => 768 + z) e2.symm))

/-- A result array after the run. -/
theorem final18 (c : Dev nD) : (dats m 0 c).arrAt 18 cfg0.N = gates (m ((c : Thread nD τ).loc main_arg0)) (m ((c : Thread nD τ).loc main_arg1)) (m ((c : Thread nD τ).loc main_arg2)) (m ((c : Thread nD τ).loc main_arg3)) := by
  refine (dats m 0 c).arrAt_eq_of_covers 18 _ (by decide +kernel) fun t _ y => ?_
  blk_simp
  rw [after0_18]
  have hy : (y : S1x512x3072.Idx) = ix3 0 (y 1) (y 2) := by
    funext a; fin_cases a
    · exact Fin.ext (Nat.lt_one_iff.mp (y 0).isLt)
    · rfl
    · rfl
  rw [hy]
  refine (point18 m c t _ _).trans ?_
  have e0 : ((((cfg0.win 18).blk t).view.emb y) 0 : ℕ) = t.val / 4 := by blk_simp [idx_out t]
  have e1 : ((((cfg0.win 18).blk t).view.emb y) 1 : ℕ) = t.val % 4 * 512 + (y 1).val := by blk_simp [idx_out t]
  have e2 : ((((cfg0.win 18).blk t).view.emb y) 2 : ℕ) = (y 2).val := by blk_simp [idx_out t]
  rw [← hy]
  exact congrArg Ideal.logistic (colAt_congr _ _ _ _ e0.symm e1.symm (congrArg (fun z : ℕ => 3072 + z) e2.symm))

end Cert.ProjectIdeal.Heads

end
-- ==== Proof.ProjectTurn.lean ====
/- The rotation of a head read as pairs of halves of two axes. -/
module

public import proofs.«01_k».proof.Proof.ProjectRow

@[expose] public section

noncomputable section

namespace Cert.ProjectRow

/-- A head given by axis, half and frequency, rotated. -/
theorem turned_pairs (q : Fin 2 → Fin 2 → Fin 16 → EReal) (u v : Fin 2 → Fin 16 → EReal) (d : Fin 64) :
    (if h : d.val / 16 % 2 < 1 then
        q ⟨d.val / 32, by omega⟩ 0 ⟨d.val % 16, by omega⟩ * u ⟨d.val / 32, by omega⟩ ⟨d.val % 16, by omega⟩
          - q ⟨d.val / 32, by omega⟩ 1 ⟨d.val % 16, by omega⟩ * v ⟨d.val / 32, by omega⟩ ⟨d.val % 16, by omega⟩
      else
        q ⟨d.val / 32, by omega⟩ 1 ⟨d.val % 16, by omega⟩ * u ⟨d.val / 32, by omega⟩ ⟨d.val % 16, by omega⟩
          + q ⟨d.val / 32, by omega⟩ 0 ⟨d.val % 16, by omega⟩ * v ⟨d.val / 32, by omega⟩ ⟨d.val % 16, by omega⟩)
      = turned (fun e => q ⟨e.val / 32, by omega⟩ ⟨e.val % 32 / 16, by omega⟩ ⟨e.val % 16, by omega⟩) u v d := by
  have key : ∀ {a a' h h' : Fin 2} {f f' : Fin 16}, a.val = a'.val → h.val = h'.val → f.val = f'.val → q a h f = q a' h' f' := by
    intro a a' h h' f f' e1 e2 e3
    rw [Fin.ext e1, Fin.ext e2, Fin.ext e3]
  have hd := d.isLt
  unfold turned
  by_cases h : d.val % 32 < 16
  · rw [dif_pos h, dif_pos (by omega)]
    refine congrArg₂ (fun x y : EReal => x - y) (congrArg (fun x : EReal => x * _) (key rfl ?_ rfl)) (congrArg (fun x : EReal => x * _) (key ?_ ?_ ?_))
    · show 0 = d.val % 32 / 16; omega
    · show d.val / 32 = (d.val + 16) / 32; omega
    · show 1 = (d.val + 16) % 32 / 16; omega
    · show d.val % 16 = (d.val + 16) % 16; omega
  · rw [dif_neg h, dif_neg (by omega)]
    refine congrArg₂ (fun x y : EReal => x + y) (congrArg (fun x : EReal => x * _) (key rfl ?_ rfl)) (congrArg (fun x : EReal => x * _) (key ?_ ?_ ?_))
    · show 1 = d.val % 32 / 16; omega
    · show d.val / 32 = (d.val - 16) / 32; omega
    · show 0 = (d.val - 16) % 32 / 16; omega
    · show d.val % 16 = (d.val - 16) % 16; omega

end Cert.ProjectRow

end
-- ==== Proof.ProjectRef.lean ====
/- The reference of the input projection, read entry by entry. -/
module

public import proofs.«01_k».proof.Proof.ProjectArray
public import proofs.«01_k».proof.Proof.ProjectTurn
public import proofs.«01_k».proof.Proof.Gen.ProjectReferenceIdeal.Run

@[expose] public section

set_option maxRecDepth 16384

noncomputable section

open Idealize.ShloMosaic Idealize.ShloMosaic.TcCoe Idealize.SL.Sem

namespace Cert.ProjectReferenceIdeal.Read

open Cert.ProjectReferenceIdeal Cert.ProjectReferenceIdeal.Gen Cert.ProjectRow
open Cert.ProjectIdeal.Heads (rowAt colAt headAt valueAt headsEight headsTwo values plain gates)

/-- The normalized, modulated stream. -/
def stream (X : FVec Ideal S16x2048x1024 .f32) (M : FVec Ideal S24x6x1024 .f32) (G : FVec Ideal S1024 .f32) : FVec Ideal S16x2048x1024 .f32 :=
  (addf (mulf (mulf (mulf X (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf X X) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 G))) (broadcastInDim S16x2048x1024 ![0, 1, 2] bcast_S16x1x1024_S16x2048x1024_0_1_2 (addf (broadcastInDim S16x1x1024 ![] bcast_S_S16x1x1024 (constant S_ .f32 0x3F800000#32)) (broadcastInDim S16x1x1024 ![0, 2] bcast_S16x1024_S16x1x1024_0_2 (shapeCast _ (extractStridedSlice S16x1x1024 ![0, 1, 0] M slices_S24x6x1024_S16x1x1024_0_1_0) shapeCasts_S16x1x1024_S16x1024))))) (broadcastInDim S16x2048x1024 ![0, 1, 2] bcast_S16x1x1024_S16x2048x1024_0_1_2 (broadcastInDim S16x1x1024 ![0, 2] bcast_S16x1024_S16x1x1024_0_2 (shapeCast _ (extractStridedSlice S16x1x1024 ![0, 0, 0] M slices_S24x6x1024_S16x1x1024_0_0_0) shapeCasts_S16x1x1024_S16x1024))))

/-- The projected table. -/
def table (X : FVec Ideal S16x2048x1024 .f32) (M : FVec Ideal S24x6x1024 .f32) (G : FVec Ideal S1024 .f32) (W : FVec Ideal S1024x6144 .f32) : FVec Ideal S16x2048x6144 .f32 :=
  Host.dotGeneral dot_S16x2048x1024_S1024x6144_S16x2048x6144_2_0_01_1_n_n none (stream X M G) W

/-- 8 heads, normalized and scaled, as pairs of halves of two axes. -/
def norm8 (t : FVec Ideal S16x2048x8x64 .f32) (g : FVec Ideal S64 .f32) : FVec Ideal S16x2048x8x2x2x16 .f32 :=
  shapeCast _ (mulf (mulf t (broadcastInDim S16x2048x8x64 ![0, 1, 2, 3] bcast_S16x2048x8x1_S16x2048x8x64_0_1_2_3 (Host.rsqrt (addf (Host.divf (broadcastInDim S16x2048x8x1 ![0, 1, 2] bcast_S16x2048x8_S16x2048x8x1_0_1_2 (Host.reduceAdd (mulf t t) (constant S_ .f32 0x00000000#32) reducesTo_S16x2048x8x64_S16x2048x8_d3 h_S_)) (broadcastInDim S16x2048x8x1 ![] bcast_S_S16x2048x8x1 (constant S_ .f32 0x42800000#32))) (broadcastInDim S16x2048x8x1 ![] bcast_S_S16x2048x8x1 (constant S_ .f32 0x358637BD#32)))))) (broadcastInDim S16x2048x8x64 ![0, 1, 2, 3] bcast_S1x1x1x64_S16x2048x8x64_0_1_2_3 (broadcastInDim S1x1x1x64 ![3] bcast_S64_S1x1x1x64_3 g))) shapeCasts_S16x2048x8x64_S16x2048x8x2x2x16

/-- 8 heads rotated, and the heads before the rows. -/
def turn8 (p : FVec Ideal S16x2048x8x2x2x16 .f32) (C S : FVec Ideal S2048x2x16 .f32) : FVec Ideal S16x8x2048x64 .bf16 :=
  truncf .bf16 (transpose S16x8x2048x64 [0, 2, 1, 3] (shapeCast _ (concatenate S16x2048x8x2x2x16 4 [⟨S16x2048x8x2x1x16, (broadcastInDim S16x2048x8x2x1x16 ![0, 1, 2, 3, 5] bcast_S16x2048x8x2x16_S16x2048x8x2x1x16_0_1_2_3_5 (subf (mulf (shapeCast _ (extractStridedSlice S16x2048x8x2x1x16 ![0, 0, 0, 0, 0, 0] p slices_S16x2048x8x2x2x16_S16x2048x8x2x1x16_0_0_0_0_0_0) shapeCasts_S16x2048x8x2x1x16_S16x2048x8x2x16) (broadcastInDim S16x2048x8x2x16 ![0, 1, 2, 3, 4] bcast_S1x2048x1x2x16_S16x2048x8x2x16_0_1_2_3_4 (broadcastInDim S1x2048x1x2x16 ![1, 2, 3, 4] bcast_S2048x1x2x16_S1x2048x1x2x16_1_2_3_4 (broadcastInDim S2048x1x2x16 ![0, 2, 3] bcast_S2048x2x16_S2048x1x2x16_0_2_3 C)))) (mulf (shapeCast _ (extractStridedSlice S16x2048x8x2x1x16 ![0, 0, 0, 0, 1, 0] p slices_S16x2048x8x2x2x16_S16x2048x8x2x1x16_0_0_0_0_1_0) shapeCasts_S16x2048x8x2x1x16_S16x2048x8x2x16) (broadcastInDim S16x2048x8x2x16 ![0, 1, 2, 3, 4] bcast_S1x2048x1x2x16_S16x2048x8x2x16_0_1_2_3_4 (broadcastInDim S1x2048x1x2x16 ![1, 2, 3, 4] bcast_S2048x1x2x16_S1x2048x1x2x16_1_2_3_4 (broadcastInDim S2048x1x2x16 ![0, 2, 3] bcast_S2048x2x16_S2048x1x2x16_0_2_3 S))))))⟩, ⟨S16x2048x8x2x1x16, (broadcastInDim S16x2048x8x2x1x16 ![0, 1, 2, 3, 5] bcast_S16x2048x8x2x16_S16x2048x8x2x1x16_0_1_2_3_5 (addf (mulf (shapeCast _ (extractStridedSlice S16x2048x8x2x1x16 ![0, 0, 0, 0, 1, 0] p slices_S16x2048x8x2x2x16_S16x2048x8x2x1x16_0_0_0_0_1_0) shapeCasts_S16x2048x8x2x1x16_S16x2048x8x2x16) (broadcastInDim S16x2048x8x2x16 ![0, 1, 2, 3, 4] bcast_S1x2048x1x2x16_S16x2048x8x2x16_0_1_2_3_4 (broadcastInDim S1x2048x1x2x16 ![1, 2, 3, 4] bcast_S2048x1x2x16_S1x2048x1x2x16_1_2_3_4 (broadcastInDim S2048x1x2x16 ![0, 2, 3] bcast_S2048x2x16_S2048x1x2x16_0_2_3 C)))) (mulf (shapeCast _ (extractStridedSlice S16x2048x8x2x1x16 ![0, 0, 0, 0, 0, 0] p slices_S16x2048x8x2x2x16_S16x2048x8x2x1x16_0_0_0_0_0_0) shapeCasts_S16x2048x8x2x1x16_S16x2048x8x2x16) (broadcastInDim S16x2048x8x2x16 ![0, 1, 2, 3, 4] bcast_S1x2048x1x2x16_S16x2048x8x2x16_0_1_2_3_4 (broadcastInDim S1x2048x1x2x16 ![1, 2, 3, 4] bcast_S2048x1x2x16_S1x2048x1x2x16_1_2_3_4 (broadcastInDim S2048x1x2x16 ![0, 2, 3] bcast_S2048x2x16_S2048x1x2x16_0_2_3 S))))))⟩] concatenates_S16x2048x8x2x1x16_S16x2048x8x2x1x16_S16x2048x8x2x2x16_d4) shapeCasts_S16x2048x8x2x2x16_S16x2048x8x64) transposes_S16x2048x8x64_S16x8x2048x64_0_2_1_3) bitsLt_bf16_f32

/-- 2 heads, normalized and scaled, as pairs of halves of two axes. -/
def norm2 (t : FVec Ideal S16x2048x2x64 .f32) (g : FVec Ideal S64 .f32) : FVec Ideal S16x2048x2x2x2x16 .f32 :=
  shapeCast _ (mulf (mulf t (broadcastInDim S16x2048x2x64 ![0, 1, 2, 3] bcast_S16x2048x2x1_S16x2048x2x64_0_1_2_3 (Host.rsqrt (addf (Host.divf (broadcastInDim S16x2048x2x1 ![0, 1, 2] bcast_S16x2048x2_S16x2048x2x1_0_1_2 (Host.reduceAdd (mulf t t) (constant S_ .f32 0x00000000#32) reducesTo_S16x2048x2x64_S16x2048x2_d3 h_S_)) (broadcastInDim S16x2048x2x1 ![] bcast_S_S16x2048x2x1 (constant S_ .f32 0x42800000#32))) (broadcastInDim S16x2048x2x1 ![] bcast_S_S16x2048x2x1 (constant S_ .f32 0x358637BD#32)))))) (broadcastInDim S16x2048x2x64 ![0, 1, 2, 3] bcast_S1x1x1x64_S16x2048x2x64_0_1_2_3 (broadcastInDim S1x1x1x64 ![3] bcast_S64_S1x1x1x64_3 g))) shapeCasts_S16x2048x2x64_S16x2048x2x2x2x16

/-- 2 heads rotated, and the heads before the rows. -/
def turn2 (p : FVec Ideal S16x2048x2x2x2x16 .f32) (C S : FVec Ideal S2048x2x16 .f32) : FVec Ideal S16x2x2048x64 .bf16 :=
  truncf .bf16 (transpose S16x2x2048x64 [0, 2, 1, 3] (shapeCast _ (concatenate S16x2048x2x2x2x16 4 [⟨S16x2048x2x2x1x16, (broadcastInDim S16x2048x2x2x1x16 ![0, 1, 2, 3, 5] bcast_S16x2048x2x2x16_S16x2048x2x2x1x16_0_1_2_3_5 (subf (mulf (shapeCast _ (extractStridedSlice S16x2048x2x2x1x16 ![0, 0, 0, 0, 0, 0] p slices_S16x2048x2x2x2x16_S16x2048x2x2x1x16_0_0_0_0_0_0) shapeCasts_S16x2048x2x2x1x16_S16x2048x2x2x16) (broadcastInDim S16x2048x2x2x16 ![0, 1, 2, 3, 4] bcast_S1x2048x1x2x16_S16x2048x2x2x16_0_1_2_3_4 (broadcastInDim S1x2048x1x2x16 ![1, 2, 3, 4] bcast_S2048x1x2x16_S1x2048x1x2x16_1_2_3_4 (broadcastInDim S2048x1x2x16 ![0, 2, 3] bcast_S2048x2x16_S2048x1x2x16_0_2_3 C)))) (mulf (shapeCast _ (extractStridedSlice S16x2048x2x2x1x16 ![0, 0, 0, 0, 1, 0] p slices_S16x2048x2x2x2x16_S16x2048x2x2x1x16_0_0_0_0_1_0) shapeCasts_S16x2048x2x2x1x16_S16x2048x2x2x16) (broadcastInDim S16x2048x2x2x16 ![0, 1, 2, 3, 4] bcast_S1x2048x1x2x16_S16x2048x2x2x16_0_1_2_3_4 (broadcastInDim S1x2048x1x2x16 ![1, 2, 3, 4] bcast_S2048x1x2x16_S1x2048x1x2x16_1_2_3_4 (broadcastInDim S2048x1x2x16 ![0, 2, 3] bcast_S2048x2x16_S2048x1x2x16_0_2_3 S))))))⟩, ⟨S16x2048x2x2x1x16, (broadcastInDim S16x2048x2x2x1x16 ![0, 1, 2, 3, 5] bcast_S16x2048x2x2x16_S16x2048x2x2x1x16_0_1_2_3_5 (addf (mulf (shapeCast _ (extractStridedSlice S16x2048x2x2x1x16 ![0, 0, 0, 0, 1, 0] p slices_S16x2048x2x2x2x16_S16x2048x2x2x1x16_0_0_0_0_1_0) shapeCasts_S16x2048x2x2x1x16_S16x2048x2x2x16) (broadcastInDim S16x2048x2x2x16 ![0, 1, 2, 3, 4] bcast_S1x2048x1x2x16_S16x2048x2x2x16_0_1_2_3_4 (broadcastInDim S1x2048x1x2x16 ![1, 2, 3, 4] bcast_S2048x1x2x16_S1x2048x1x2x16_1_2_3_4 (broadcastInDim S2048x1x2x16 ![0, 2, 3] bcast_S2048x2x16_S2048x1x2x16_0_2_3 C)))) (mulf (shapeCast _ (extractStridedSlice S16x2048x2x2x1x16 ![0, 0, 0, 0, 0, 0] p slices_S16x2048x2x2x2x16_S16x2048x2x2x1x16_0_0_0_0_0_0) shapeCasts_S16x2048x2x2x1x16_S16x2048x2x2x16) (broadcastInDim S16x2048x2x2x16 ![0, 1, 2, 3, 4] bcast_S1x2048x1x2x16_S16x2048x2x2x16_0_1_2_3_4 (broadcastInDim S1x2048x1x2x16 ![1, 2, 3, 4] bcast_S2048x1x2x16_S1x2048x1x2x16_1_2_3_4 (broadcastInDim S2048x1x2x16 ![0, 2, 3] bcast_S2048x2x16_S2048x1x2x16_0_2_3 S))))))⟩] concatenates_S16x2048x2x2x1x16_S16x2048x2x2x1x16_S16x2048x2x2x2x16_d4) shapeCasts_S16x2048x2x2x2x16_S16x2048x2x64) transposes_S16x2048x2x64_S16x2x2048x64_0_2_1_3) bitsLt_bf16_f32

/-- Values with a column of ones and zeros behind them. -/
def stored (t : FVec Ideal S16x2048x128 .f32) : FVec Ideal S16x2x2048x128 .bf16 :=
  truncf .bf16 (concatenate S16x2x2048x128 3 [⟨S16x2x2048x64, (transpose S16x2x2048x64 [0, 2, 1, 3] (shapeCast _ t shapeCasts_S16x2048x128_S16x2048x2x64) transposes_S16x2048x2x64_S16x2x2048x64_0_2_1_3)⟩, ⟨S16x2x2048x64, (sitofp .f32 (extui 32 (cmpi .eq (iotaInDim S16x2x2048x64 32 3) (broadcastInDim S16x2x2048x64 ![] bcast_S_S16x2x2048x64 (constantI S_ 32 0#32))) natLt_1_32))⟩] concatenates_S16x2x2048x64_S16x2x2048x64_S16x2x2048x128_d3) bitsLt_bf16_f32

/-- The gates. -/
def gate (t : FVec Ideal S16x2048x3072 .f32) : FVec Ideal S16x2048x3072 .bf16 :=
  truncf .bf16 (Host.divf (broadcastInDim S16x2048x3072 ![] bcast_S_S16x2048x3072 (constant S_ .f32 0x3F800000#32)) (addf (broadcastInDim S16x2048x3072 ![] bcast_S_S16x2048x3072 (constant S_ .f32 0x3F800000#32)) (Host.exp (Host.negf t)))) bitsLt_bf16_f32

theorem stream_apply (X M G) (b : Fin 16) (s : Fin 2048) (k : Fin 1024) : stream X M G (ix3 b s k) = rowAt X M G b s k := by
  pointwise [stream]
  rfl

theorem table_apply (X M G W) (b : Fin 16) (s : Fin 2048) (j : Fin 6144) : table X M G W (ix3 b s j) = colAt X M G W b s j := by
  pointwise [table]
  simp only [stream_apply]
  rfl

theorem norm8_apply (t g) (b : Fin 16) (s : Fin 2048) (hh : Fin 8) (a h : Fin 2) (f : Fin 16) : norm8 t g (ix6 b s hh a h f)
    = headNorm (fun e => t (ix4 b s hh e)) (fun e => g (ix1 e)) ⟨a.val * 32 + h.val * 16 + f.val, by omega⟩ := by
  pointwise [norm8]
  rfl

theorem turn8_apply (p C S) (b : Fin 16) (s : Fin 2048) (hh : Fin 8) (d : Fin 64) : turn8 p C S (ix4 b hh s d)
    = turned (fun e => p (ix6 b s hh ⟨e.val / 32, by omega⟩ ⟨e.val % 32 / 16, by omega⟩ ⟨e.val % 16, by omega⟩)) (fun i j => C (ix3 s i j)) (fun i j => S (ix3 s i j)) d := by
  pointwise [turn8]
  exact turned_pairs (fun a h f => p (ix6 b s hh a h f)) (fun i j => C (ix3 s i j)) (fun i j => S (ix3 s i j)) d

theorem norm2_apply (t g) (b : Fin 16) (s : Fin 2048) (hh : Fin 2) (a h : Fin 2) (f : Fin 16) : norm2 t g (ix6 b s hh a h f)
    = headNorm (fun e => t (ix4 b s hh e)) (fun e => g (ix1 e)) ⟨a.val * 32 + h.val * 16 + f.val, by omega⟩ := by
  pointwise [norm2]
  rfl

theorem turn2_apply (p C S) (b : Fin 16) (s : Fin 2048) (hh : Fin 2) (d : Fin 64) : turn2 p C S (ix4 b hh s d)
    = turned (fun e => p (ix6 b s hh ⟨e.val / 32, by omega⟩ ⟨e.val % 32 / 16, by omega⟩ ⟨e.val % 16, by omega⟩)) (fun i j => C (ix3 s i j)) (fun i j => S (ix3 s i j)) d := by
  pointwise [turn2]
  exact turned_pairs (fun a h f => p (ix6 b s hh a h f)) (fun i j => C (ix3 s i j)) (fun i j => S (ix3 s i j)) d

theorem stored_apply (t) (b : Fin 16) (s : Fin 2048) (hh : Fin 2) (d : Fin 128) : stored t (ix4 b hh s d)
    = if h : d.val < 64 then t (ix3 b s ⟨hh.val * 64 + d.val, by omega⟩) else if d.val = 64 then (1 : EReal) else 0 := by
  pointwise [stored]
  by_cases h : d.val < 64
  · rw [dif_pos h, dif_pos h]
  · rw [dif_neg h, dif_neg h]
    refine (Cert.ProjectIdeal.Heads.ones (d.val - 64) (by omega)).trans ?_
    have e : d.val - 64 = 0 ↔ d.val = 64 := by omega
    simp only [e]

theorem gate_apply (t) (b : Fin 16) (s : Fin 2048) (j : Fin 3072) : gate t (ix3 b s j) = Ideal.logistic (t (ix3 b s j)) := by
  pointwise [gate]
  rfl

end Cert.ProjectReferenceIdeal.Read

end
-- ==== Proof.ProjectRefArrays.lean ====
/- The reference's eight results are the arrays the kernel leaves. -/
module

public import proofs.«01_k».proof.Proof.ProjectRef

@[expose] public section

set_option maxRecDepth 16384

noncomputable section

open Idealize.ShloMosaic Idealize.ShloMosaic.TcCoe Idealize.SL.Sem

namespace Cert.ProjectReferenceIdeal.Read

open Cert.ProjectReferenceIdeal Cert.ProjectReferenceIdeal.Gen Cert.ProjectRow
open Cert.ProjectIdeal.Heads (rowAt colAt headAt valueAt headsEight headsTwo values plain gates)

/-- 8 normalized, rotated heads. -/
theorem heads8_eq (X : FVec Ideal S16x2048x1024 .f32) (M : FVec Ideal S24x6x1024 .f32) (G : FVec Ideal S1024 .f32) (W : FVec Ideal S1024x6144 .f32)
    (Q : FVec Ideal S4x64 .f32) (C S : FVec Ideal S2048x2x16 .f32) (lo : Nat) (hlo : lo + 8 * 64 ≤ 6144) (i : Fin 4) (t : FVec Ideal S16x2048x8x64 .f32) (g : FVec Ideal S64 .f32)
    (ht : ∀ (b : Fin 16) (s : Fin 2048) (hh : Fin 8) (e : Fin 64), t (ix4 b s hh e) = colAt X M G W b s ⟨lo + (hh.val * 64 + e.val), by omega⟩)
    (hg : ∀ e : Fin 64, g (ix1 e) = Q (ix2 i e)) : turn8 (norm8 t g) C S = headsEight X M G W Q C S lo hlo i := by
  funext y
  have hy : y = ix4 (y 0) (y 1) (y 2) (y 3) := by
    funext a; fin_cases a <;> rfl
  rw [hy]
  refine (turn8_apply _ C S (y 0) (y 2) (y 1) (y 3)).trans ?_
  refine congrArg (fun f => turned f _ _ _) (funext fun e => (norm8_apply t g _ _ _ _ _ _).trans ?_)
  rw [funext (ht (y 0) (y 2) (y 1)), funext hg]
  refine congrArg (headNorm _ _) (Fin.ext ?_)
  show e.val / 32 * 32 + e.val % 32 / 16 * 16 + e.val % 16 = e.val
  omega

/-- 2 normalized, rotated heads. -/
theorem heads2_eq (X : FVec Ideal S16x2048x1024 .f32) (M : FVec Ideal S24x6x1024 .f32) (G : FVec Ideal S1024 .f32) (W : FVec Ideal S1024x6144 .f32)
    (Q : FVec Ideal S4x64 .f32) (C S : FVec Ideal S2048x2x16 .f32) (lo : Nat) (hlo : lo + 2 * 64 ≤ 6144) (i : Fin 4) (t : FVec Ideal S16x2048x2x64 .f32) (g : FVec Ideal S64 .f32)
    (ht : ∀ (b : Fin 16) (s : Fin 2048) (hh : Fin 2) (e : Fin 64), t (ix4 b s hh e) = colAt X M G W b s ⟨lo + (hh.val * 64 + e.val), by omega⟩)
    (hg : ∀ e : Fin 64, g (ix1 e) = Q (ix2 i e)) : turn2 (norm2 t g) C S = headsTwo X M G W Q C S lo hlo i := by
  funext y
  have hy : y = ix4 (y 0) (y 1) (y 2) (y 3) := by
    funext a; fin_cases a <;> rfl
  rw [hy]
  refine (turn2_apply _ C S (y 0) (y 2) (y 1) (y 3)).trans ?_
  refine congrArg (fun f => turned f _ _ _) (funext fun e => (norm2_apply t g _ _ _ _ _ _).trans ?_)
  rw [funext (ht (y 0) (y 2) (y 1)), funext hg]
  refine congrArg (headNorm _ _) (Fin.ext ?_)
  show e.val / 32 * 32 + e.val % 32 / 16 * 16 + e.val % 16 = e.val
  omega

theorem qa_eq (X : FVec Ideal S16x2048x1024 .f32) (M : FVec Ideal S24x6x1024 .f32) (G : FVec Ideal S1024 .f32) (W : FVec Ideal S1024x6144 .f32) (Q : FVec Ideal S4x64 .f32) (C S : FVec Ideal S2048x2x16 .f32) :
    turn8 (norm8 (shapeCast _ (extractStridedSlice S16x2048x512 ![0, 0, 0] (table X M G W) slices_S16x2048x6144_S16x2048x512_0_0_0) shapeCasts_S16x2048x512_S16x2048x8x64) (shapeCast _ (extractStridedSlice S1x64 ![0, 0] Q slices_S4x64_S1x64_0_0) shapeCasts_S1x64_S64)) C S
      = headsEight X M G W Q C S 0 (by omega) 0 := by
  refine heads8_eq X M G W Q C S 0 (by omega) 0 _ _ (fun b s hh e => ?_) (fun e => ?_)
  · pointwise [table_apply]
  · pointwise

theorem ka_eq (X : FVec Ideal S16x2048x1024 .f32) (M : FVec Ideal S24x6x1024 .f32) (G : FVec Ideal S1024 .f32) (W : FVec Ideal S1024x6144 .f32) (Q : FVec Ideal S4x64 .f32) (C S : FVec Ideal S2048x2x16 .f32) :
    turn2 (norm2 (shapeCast _ (extractStridedSlice S16x2048x128 ![0, 0, 512] (table X M G W) slices_S16x2048x6144_S16x2048x128_0_0_512) shapeCasts_S16x2048x128_S16x2048x2x64) (shapeCast _ (extractStridedSlice S1x64 ![1, 0] Q slices_S4x64_S1x64_1_0) shapeCasts_S1x64_S64)) C S
      = headsTwo X M G W Q C S 512 (by omega) 1 := by
  refine heads2_eq X M G W Q C S 512 (by omega) 1 _ _ (fun b s hh e => ?_) (fun e => ?_)
  · pointwise [table_apply]
  · pointwise

theorem qw_eq (X : FVec Ideal S16x2048x1024 .f32) (M : FVec Ideal S24x6x1024 .f32) (G : FVec Ideal S1024 .f32) (W : FVec Ideal S1024x6144 .f32) (Q : FVec Ideal S4x64 .f32) (C S : FVec Ideal S2048x2x16 .f32) :
    turn8 (norm8 (shapeCast _ (extractStridedSlice S16x2048x512 ![0, 0, 2304] (table X M G W) slices_S16x2048x6144_S16x2048x512_0_0_2304) shapeCasts_S16x2048x512_S16x2048x8x64) (shapeCast _ (extractStridedSlice S1x64 ![2, 0] Q slices_S4x64_S1x64_2_0) shapeCasts_S1x64_S64)) C S
      = headsEight X M G W Q C S 2304 (by omega) 2 := by
  refine heads8_eq X M G W Q C S 2304 (by omega) 2 _ _ (fun b s hh e => ?_) (fun e => ?_)
  · pointwise [table_apply]
  · pointwise

theorem kw_eq (X : FVec Ideal S16x2048x1024 .f32) (M : FVec Ideal S24x6x1024 .f32) (G : FVec Ideal S1024 .f32) (W : FVec Ideal S1024x6144 .f32) (Q : FVec Ideal S4x64 .f32) (C S : FVec Ideal S2048x2x16 .f32) :
    turn2 (norm2 (shapeCast _ (extractStridedSlice S16x2048x128 ![0, 0, 2816] (table X M G W) slices_S16x2048x6144_S16x2048x128_0_0_2816) shapeCasts_S16x2048x128_S16x2048x2x64) (shapeCast _ (extractStridedSlice S1x64 ![3, 0] Q slices_S4x64_S1x64_3_0) shapeCasts_S1x64_S64)) C S
      = headsTwo X M G W Q C S 2816 (by omega) 3 := by
  refine heads2_eq X M G W Q C S 2816 (by omega) 3 _ _ (fun b s hh e => ?_) (fun e => ?_)
  · pointwise [table_apply]
  · pointwise

theorem va_eq (X : FVec Ideal S16x2048x1024 .f32) (M : FVec Ideal S24x6x1024 .f32) (G : FVec Ideal S1024 .f32) (W : FVec Ideal S1024x6144 .f32) :
    stored (extractStridedSlice S16x2048x128 ![0, 0, 640] (table X M G W) slices_S16x2048x6144_S16x2048x128_0_0_640) = values X M G W 640 (by omega) := by
  funext y
  have hy : y = ix4 (y 0) (y 1) (y 2) (y 3) := by
    funext a; fin_cases a <;> rfl
  rw [hy]
  refine (stored_apply _ (y 0) (y 2) (y 1) (y 3)).trans ?_
  show _ = valueAt X M G W 640 (by omega) (y 0) (y 1) (y 2) (y 3)
  unfold valueAt
  split
  · pointwise [table_apply]
  · rfl

theorem vw_eq (X : FVec Ideal S16x2048x1024 .f32) (M : FVec Ideal S24x6x1024 .f32) (G : FVec Ideal S1024 .f32) (W : FVec Ideal S1024x6144 .f32) :
    stored (extractStridedSlice S16x2048x128 ![0, 0, 2944] (table X M G W) slices_S16x2048x6144_S16x2048x128_0_0_2944) = values X M G W 2944 (by omega) := by
  funext y
  have hy : y = ix4 (y 0) (y 1) (y 2) (y 3) := by
    funext a; fin_cases a <;> rfl
  rw [hy]
  refine (stored_apply _ (y 0) (y 2) (y 1) (y 3)).trans ?_
  show _ = valueAt X M G W 2944 (by omega) (y 0) (y 1) (y 2) (y 3)
  unfold valueAt
  split
  · pointwise [table_apply]
  · rfl

theorem uh_eq (X : FVec Ideal S16x2048x1024 .f32) (M : FVec Ideal S24x6x1024 .f32) (G : FVec Ideal S1024 .f32) (W : FVec Ideal S1024x6144 .f32) :
    extractStridedSlice S16x2048x1536 ![0, 0, 768] (table X M G W) slices_S16x2048x6144_S16x2048x1536_0_0_768 = plain X M G W := by
  funext y
  have hy : y = ix3 (y 0) (y 1) (y 2) := by
    funext a; fin_cases a <;> rfl
  rw [hy]
  pointwise [table_apply]
  rfl

theorem gt_eq (X : FVec Ideal S16x2048x1024 .f32) (M : FVec Ideal S24x6x1024 .f32) (G : FVec Ideal S1024 .f32) (W : FVec Ideal S1024x6144 .f32) :
    gate (extractStridedSlice S16x2048x3072 ![0, 0, 3072] (table X M G W) slices_S16x2048x6144_S16x2048x3072_0_0_3072) = gates X M G W := by
  funext y
  have hy : y = ix3 (y 0) (y 1) (y 2) := by
    funext a; fin_cases a <;> rfl
  rw [hy]
  refine (gate_apply _ (y 0) (y 1) (y 2)).trans (congrArg Ideal.logistic ?_)
  pointwise [table_apply]

end Cert.ProjectReferenceIdeal.Read

end
-- ==== Proof.ProjectClaims.lean ====
/- The claims of the input projection. -/
module

public import proofs.«01_k».proof.Proof.ProjectFinal
public import proofs.«01_k».proof.Proof.ProjectRefArrays
public import proofs.«01_k».proof.Proof.Gen.Project.Frame
public import proofs.«01_k».proof.Defs

@[expose] public section

noncomputable section

open Idealize.ShloMosaic Idealize.ShloMosaic.TcCoe Idealize.SL.Sem

namespace Cert.ProjectClaims

/-- The reference runs, keeps its arguments, and has no counter to leave open. -/
theorem frame_reference : quiescent_ProjectReferenceIdeal := fun m ρ _ =>
  (θ_run ProjectReferenceIdeal.defs _ _).mono (fun r h => ⟨fun c => (h c).2.2.2.2.2.2.2.2, sem_eq_zero_of_no_sems (by decide) r.2⟩)
    (ProjectReferenceIdeal.Value.run (F := Ideal) m ρ)

/-- Arrays of equal arguments are equal. -/
theorem congr4 {α β γ δ ε : Type} (f : α → β → γ → δ → ε) {a a' b b' c c' d d'} (ha : a = a') (hb : b = b') (hc : c = c') (hd : d = d') :
    f a b c d = f a' b' c' d' := by
  rw [ha, hb, hc, hd]

theorem congr7 {α β γ δ ε ζ η θ : Type} (f : α → β → γ → δ → ε → ζ → η → θ) {a a' b b' c c' d d' e e' i i' j j'}
    (ha : a = a') (hb : b = b') (hc : c = c') (hd : d = d') (he : e = e') (hi : i = i') (hj : j = j') : f a b c d e i j = f a' b' c' d' e' i' j' := by
  rw [ha, hb, hc, hd, he, hi, hj]

set_option maxHeartbeats 2000000 in
/-- The algebraic claim: kernel and reference leave the same eight arrays. -/
theorem algebraic : algebraic_ProjectIdeal_ProjectReferenceIdeal := by
  intro m g m' g' hpre hargs
  refine ⟨fun c => (ProjectIdeal.Gen.dats m 0 c).arrAt 11 ProjectIdeal.cfg0.N, fun c => (ProjectIdeal.Gen.dats m 0 c).arrAt 12 ProjectIdeal.cfg0.N,
    fun c => (ProjectIdeal.Gen.dats m 0 c).arrAt 13 ProjectIdeal.cfg0.N, fun c => (ProjectIdeal.Gen.dats m 0 c).arrAt 14 ProjectIdeal.cfg0.N,
    fun c => (ProjectIdeal.Gen.dats m 0 c).arrAt 15 ProjectIdeal.cfg0.N, fun c => (ProjectIdeal.Gen.dats m 0 c).arrAt 16 ProjectIdeal.cfg0.N,
    fun c => (ProjectIdeal.Gen.dats m 0 c).arrAt 17 ProjectIdeal.cfg0.N, fun c => (ProjectIdeal.Gen.dats m 0 c).arrAt 18 ProjectIdeal.cfg0.N,
    ProjectIdeal.Value.run_blocks m g, ?_⟩
  refine (θ_run _ _ _).mono (fun r h c => ?_) (ProjectReferenceIdeal.Value.run m' g')
  obtain ⟨e0, e1, e2, e3, e4, e5, e6⟩ := hargs c
  obtain ⟨h0, h1, h2, h3, h4, h5, h6, h7, h8⟩ := h c
  refine ⟨h0.trans ?_, h1.trans ?_, h2.trans ?_, h3.trans ?_, h4.trans ?_, h5.trans ?_, h6.trans ?_, h7.trans ?_, h8⟩
  · refine (ProjectReferenceIdeal.Read.qa_eq _ _ _ _ _ _ _).trans (Eq.trans ?_ (ProjectIdeal.Heads.final11 m c).symm)
    exact congr7 (fun X M G W Q C S => ProjectIdeal.Heads.headsEight X M G W Q C S 0 (by omega) 0) e0 e1 e2 e3 e4 e5 e6
  · refine (ProjectReferenceIdeal.Read.ka_eq _ _ _ _ _ _ _).trans (Eq.trans ?_ (ProjectIdeal.Heads.final12 m c).symm)
    exact congr7 (fun X M G W Q C S => ProjectIdeal.Heads.headsTwo X M G W Q C S 512 (by omega) 1) e0 e1 e2 e3 e4 e5 e6
  · refine (ProjectReferenceIdeal.Read.va_eq _ _ _ _).trans (Eq.trans ?_ (ProjectIdeal.Heads.final13 m c).symm)
    exact congr4 (fun X M G W => ProjectIdeal.Heads.values X M G W 640 (by omega)) e0 e1 e2 e3
  · refine (ProjectReferenceIdeal.Read.uh_eq _ _ _ _).trans (Eq.trans ?_ (ProjectIdeal.Heads.final14 m c).symm)
    exact congr4 ProjectIdeal.Heads.plain e0 e1 e2 e3
  · refine (ProjectReferenceIdeal.Read.qw_eq _ _ _ _ _ _ _).trans (Eq.trans ?_ (ProjectIdeal.Heads.final15 m c).symm)
    exact congr7 (fun X M G W Q C S => ProjectIdeal.Heads.headsEight X M G W Q C S 2304 (by omega) 2) e0 e1 e2 e3 e4 e5 e6
  · refine (ProjectReferenceIdeal.Read.kw_eq _ _ _ _ _ _ _).trans (Eq.trans ?_ (ProjectIdeal.Heads.final16 m c).symm)
    exact congr7 (fun X M G W Q C S => ProjectIdeal.Heads.headsTwo X M G W Q C S 2816 (by omega) 3) e0 e1 e2 e3 e4 e5 e6
  · refine (ProjectReferenceIdeal.Read.vw_eq _ _ _ _).trans (Eq.trans ?_ (ProjectIdeal.Heads.final17 m c).symm)
    exact congr4 (fun X M G W => ProjectIdeal.Heads.values X M G W 2944 (by omega)) e0 e1 e2 e3
  · refine (ProjectReferenceIdeal.Read.gt_eq _ _ _ _).trans (Eq.trans ?_ (ProjectIdeal.Heads.final18 m c).symm)
    exact congr4 ProjectIdeal.Heads.gates e0 e1 e2 e3

end Cert.ProjectClaims

end
-- ==== Proof.MergeRow.lean ====
/- The merge of the branches, one row: the gated sum, the stream's new row, and its token. -/
module

public import proofs.«01_k».proof.Proof.ProjectRow

@[expose] public section

set_option maxRecDepth 16384

noncomputable section

open Idealize.ShloMosaic Idealize.ShloMosaic.TcCoe Idealize.SL.Sem

namespace Cert.MergeRow

/-- The three branches of a row, each through its weight, gated and summed. -/
def mixed (g : Fin 3072 → EReal) (a h w : Fin 512 → EReal) (B : Fin 3 → Fin 512 → Fin 1024 → EReal) (k : Fin 1024) : EReal :=
  g ⟨k.val, by omega⟩ * (∑ i, a i * B 0 i k) + g ⟨1024 + k.val, by omega⟩ * (∑ i, h i * B 1 i k)
    + g ⟨2048 + k.val, by omega⟩ * (∑ i, w i * B 2 i k)

/-- The row of the stream with the merged branches added, scaled by `u`. -/
def added (x u y : Fin 1024 → EReal) (O : Fin 1024 → Fin 1024 → EReal) (k : Fin 1024) : EReal := x k + u k * ∑ i, y i * O i k

theorem mixed_congr {g g' : Fin 3072 → EReal} {a a' h h' w w' : Fin 512 → EReal} {B B' : Fin 3 → Fin 512 → Fin 1024 → EReal}
    (hg : ∀ j, g j = g' j) (ha : ∀ i, a i = a' i) (hh : ∀ i, h i = h' i) (hw : ∀ i, w i = w' i) (hB : ∀ p i k, B p i k = B' p i k) :
    mixed g a h w B = mixed g' a' h' w' B' := by
  rw [funext hg, funext ha, funext hh, funext hw, show B = B' from funext fun p => funext fun i => funext fun k => hB p i k]

theorem added_congr {x x' u u' y y' : Fin 1024 → EReal} {O O' : Fin 1024 → Fin 1024 → EReal}
    (hx : ∀ k, x k = x' k) (hu : ∀ k, u k = u' k) (hy : y = y') (hO : ∀ i k, O i k = O' i k) : added x u y O = added x' u' y' O' := by
  rw [funext hx, funext hu, hy, show O = O' from funext fun i => funext fun k => hO i k]

end Cert.MergeRow

end
-- ==== Proof.MergeOuts.lean ====
/- The merge's output blocks at an index, over the input blocks. -/
module

public import proofs.«01_k».proof.Proof.MergeRow
public import proofs.«01_k».proof.Proof.Gen.MergeIdeal.Value
public import Idealize.ShloMosaic.Lib.Bf16Pair

@[expose] public section

set_option maxRecDepth 16384

noncomputable section

open Idealize.ShloMosaic Idealize.ShloMosaic.TcCoe Idealize.SL.Sem

namespace Cert.MergeIdeal.Rows

open Cert.MergeIdeal Cert.MergeIdeal.Gen Cert.MergeRow
open Cert.ProjectRow (normed)

variable (x0 : Vec Ideal S1x512x1024 .f32) (x1 : Vec Ideal S1x6x1024 .f32) (x2 : Vec Ideal S1x512x512 .bf16) (x3 : Vec Ideal S1x512x512 .bf16) (x4 : Vec Ideal S1x512x512 .bf16) (x5 : Vec Ideal S1x512x3072 .bf16) (x6 : Vec Ideal S3x512x1024 .bf16) (x7 : Vec Ideal S1024x1024 .bf16) (x8 : Vec Ideal S1x1024 .f32) (x9 : Vec Ideal S1024x256 .bf16) (x10 : Vec Ideal S1x128 .f32)

/-- The gated sum of a row of the block. -/
def blockMix (x2 x3 x4 : Vec Ideal S1x512x512 .bf16) (x5 : Vec Ideal S1x512x3072 .bf16) (x6 : Vec Ideal S3x512x1024 .bf16) (r : Fin 512) : Fin 1024 → EReal :=
  mixed (fun j => x5 (ix3 0 r j)) (fun i => x2 (ix3 0 r i)) (fun i => x3 (ix3 0 r i)) (fun i => x4 (ix3 0 r i)) (fun p i k => x6 (ix3 p i k))

/-- The new row of the block. -/
def blockRow (x0 : Vec Ideal S1x512x1024 .f32) (x1 : Vec Ideal S1x6x1024 .f32) (x2 x3 x4 : Vec Ideal S1x512x512 .bf16) (x5 : Vec Ideal S1x512x3072 .bf16)
    (x6 : Vec Ideal S3x512x1024 .bf16) (x7 : Vec Ideal S1024x1024 .bf16) (r : Fin 512) : Fin 1024 → EReal :=
  added (fun k => x0 (ix3 0 r k)) (fun k => x1 (ix3 0 2 k)) (blockMix x2 x3 x4 x5 x6 r) (fun i k => x7 (ix2 i k))

/-- The token of the row. -/
def blockToken (x0 : Vec Ideal S1x512x1024 .f32) (x1 : Vec Ideal S1x6x1024 .f32) (x2 x3 x4 : Vec Ideal S1x512x512 .bf16) (x5 : Vec Ideal S1x512x3072 .bf16)
    (x6 : Vec Ideal S3x512x1024 .bf16) (x7 : Vec Ideal S1024x1024 .bf16) (x8 : Vec Ideal S1x1024 .f32) (r : Fin 512) : Fin 1024 → EReal :=
  normed (blockRow x0 x1 x2 x3 x4 x5 x6 x7 r) (fun k => x8 (ix2 0 k)) (fun k => x1 (ix3 0 4 k)) (fun k => x1 (ix3 0 3 k))

theorem row_congr {r r' : Fin 512} {k k' : Fin 1024} (hr : r.val = r'.val) (hk : k.val = k'.val) :
    blockRow x0 x1 x2 x3 x4 x5 x6 x7 r k = blockRow x0 x1 x2 x3 x4 x5 x6 x7 r' k' := by
  rw [Fin.ext hr, Fin.ext hk]

theorem token_congr {r r' : Fin 512} {k k' : Fin 1024} (hr : r.val = r'.val) (hk : k.val = k'.val) :
    blockToken x0 x1 x2 x3 x4 x5 x6 x7 x8 r k = blockToken x0 x1 x2 x3 x4 x5 x6 x7 x8 r' k' := by
  rw [Fin.ext hr, Fin.ext hk]

theorem mix_first (r : Fin 256) (k : Fin 1024) : k0_pay52 x0 x1 x2 x3 x4 x5 x6 x7 x8 x9 x10 (ix2 r k) = blockMix x2 x3 x4 x5 x6 ⟨r.val, by omega⟩ k := by
  pointwise [k0_pay52, k0_pay1]
  rfl

theorem mix_second (r : Fin 256) (k : Fin 1024) : k0_pay64 x0 x1 x2 x3 x4 x5 x6 x7 x8 x9 x10 (ix2 r k) = blockMix x2 x3 x4 x5 x6 ⟨256 + r.val, by omega⟩ k := by
  pointwise [k0_pay64, k0_pay26]
  rfl

theorem row_first (r : Fin 256) (k : Fin 1024) :
    k0_pay3 (k0_pay52 x0 x1 x2 x3 x4 x5 x6 x7 x8 x9 x10) (k0_pay53 x0 x1 x2 x3 x4 x5 x6 x7 x8 x9 x10) (View.ld x1 r0_6) (View.ld x7 r0_7) (ix2 r k) = blockRow x0 x1 x2 x3 x4 x5 x6 x7 ⟨r.val, by omega⟩ k := by
  pointwise [k0_pay3, k0_pay53, k0_pay2]
  simp only [mix_first]
  rfl

theorem row_second (r : Fin 256) (k : Fin 1024) :
    k0_pay27 (k0_pay62 x0 x1 x2 x3 x4 x5 x6 x7 x8 x9 x10) (k0_pay63 x0 x1 x2 x3 x4 x5 x6 x7 x8 x9 x10) (k0_pay64 x0 x1 x2 x3 x4 x5 x6 x7 x8 x9 x10) (View.ld x7 r0_7) (ix2 r k) = blockRow x0 x1 x2 x3 x4 x5 x6 x7 ⟨256 + r.val, by omega⟩ k := by
  pointwise [k0_pay27, k0_pay62, k0_pay24, k0_pay63, k0_pay25]
  simp only [mix_second]
  rfl

theorem token_first (r : Fin 256) (k : Fin 1024) :
    k0_pay5 (k0_pay52 x0 x1 x2 x3 x4 x5 x6 x7 x8 x9 x10) (k0_pay53 x0 x1 x2 x3 x4 x5 x6 x7 x8 x9 x10) (View.ld x1 r0_6) (View.ld x7 r0_7) (View.ld x8 r0_8) (View.ld x1 r0_9) (View.ld x1 r0_10) (ix2 r k)
      = blockToken x0 x1 x2 x3 x4 x5 x6 x7 x8 ⟨r.val, by omega⟩ k := by
  pointwise [k0_pay5]
  simp only [row_first]
  rfl

theorem token_second (r : Fin 256) (k : Fin 1024) :
    k0_pay29 (k0_pay62 x0 x1 x2 x3 x4 x5 x6 x7 x8 x9 x10) (k0_pay63 x0 x1 x2 x3 x4 x5 x6 x7 x8 x9 x10) (k0_pay64 x0 x1 x2 x3 x4 x5 x6 x7 x8 x9 x10) (View.ld x7 r0_7) (View.ld x8 r0_8) (View.ld x1 r0_9) (View.ld x1 r0_10) (ix2 r k)
      = blockToken x0 x1 x2 x3 x4 x5 x6 x7 x8 ⟨256 + r.val, by omega⟩ k := by
  pointwise [k0_pay29]
  simp only [row_second]
  rfl

theorem idx3 (x : S1x256x1024.Idx) : ∃ (r : Fin 256) (d : Fin 1024), x = ix3 0 r d := by
  refine ⟨x 1, x 2, ?_⟩
  funext a; fin_cases a
  · exact Fin.ext (Nat.lt_one_iff.mp (x 0).isLt)
  · rfl
  · rfl

theorem idx2 (x : S512x512.Idx) : ∃ (r : Fin 512) (d : Fin 512), x = ix2 r d := by
  refine ⟨x 0, x 1, ?_⟩
  funext a; fin_cases a <;> rfl

theorem out11 (r : Fin 512) (k : Fin 1024) : out0_11 x0 x1 x2 x3 x4 x5 x6 x7 x8 x9 x10 (ix3 0 r k) = blockRow x0 x1 x2 x3 x4 x5 x6 x7 r k := by
  canon_tiles x h
  all_goals
    obtain ⟨c, e, rfl⟩ := idx3 x
    first
    | change r.val = c.val at h1
    | change r.val = 256 + c.val at h1
    change k.val = e.val at h2
    pointwise [k0_pay28, k0_pay4]
    first
    | rw [row_first]
    | rw [row_second]
    exact row_congr _ _ _ _ _ _ _ _ (by first | omega | (simp only; omega)) (by first | omega | (simp only; omega))

/-- 256 tokens stored as pair rows: each token's second half of columns, then its first. -/
def pairs (Y : FVec Ideal S256x1024 .f32) : FVec Ideal S512x512 .bf16 :=
  interleaveRows S512x512
    (truncf .bf16 (extf .f32 (truncf .bf16 (extractStridedSlice S256x512 ![0, 512] Y slices_S256x1024_o0_512_S256x512) bitsLt_bf16_f32) bitsLt_bf16_f32) : FVec Ideal S256x512 .bf16)
    (truncf .bf16 (extf .f32 (truncf .bf16 (extractStridedSlice S256x512 ![0, 0] Y slices_S256x1024_o0_0_S256x512) bitsLt_bf16_f32) bitsLt_bf16_f32) : FVec Ideal S256x512 .bf16)
    bitcasts_S512x512_w16_S256x512_w32

theorem pairs_apply (Y) (r q : Fin 512) :
    pairs Y (ix2 r q) = Y (ix2 ⟨r.val / 2, by omega⟩ ⟨(1 - r.val % 2) * 512 + q.val, by omega⟩) := by
  pointwise [pairs]
  rcases Nat.mod_two_eq_zero_or_one r.val with h | h
  · rw [if_pos h]
    exact congrArg (fun z : Fin 1024 => Y (ix2 _ z)) (Fin.ext (by show 512 + q.val = (1 - r.val % 2) * 512 + q.val; omega))
  · rw [if_neg (by omega)]
    exact congrArg (fun z : Fin 1024 => Y (ix2 _ z)) (Fin.ext (by show q.val = (1 - r.val % 2) * 512 + q.val; omega))

theorem pairs_first (r q : Fin 512) :
    k0_pay7 (k0_pay54 x0 x1 x2 x3 x4 x5 x6 x7 x8 x9 x10) (k0_pay6 (k0_pay52 x0 x1 x2 x3 x4 x5 x6 x7 x8 x9 x10) (k0_pay53 x0 x1 x2 x3 x4 x5 x6 x7 x8 x9 x10) (View.ld x1 r0_6) (View.ld x7 r0_7) (View.ld x8 r0_8) (View.ld x1 r0_9) (View.ld x1 r0_10)) (ix2 r q)
      = blockToken x0 x1 x2 x3 x4 x5 x6 x7 x8 ⟨r.val / 2, by omega⟩ ⟨(1 - r.val % 2) * 512 + q.val, by omega⟩ :=
  (pairs_apply (k0_pay5 (k0_pay52 x0 x1 x2 x3 x4 x5 x6 x7 x8 x9 x10) (k0_pay53 x0 x1 x2 x3 x4 x5 x6 x7 x8 x9 x10) (View.ld x1 r0_6) (View.ld x7 r0_7) (View.ld x8 r0_8) (View.ld x1 r0_9) (View.ld x1 r0_10)) r q).trans
    (token_first ..)

theorem pairs_second (r q : Fin 512) :
    k0_pay32 (k0_pay30 (k0_pay62 x0 x1 x2 x3 x4 x5 x6 x7 x8 x9 x10) (k0_pay63 x0 x1 x2 x3 x4 x5 x6 x7 x8 x9 x10) (k0_pay64 x0 x1 x2 x3 x4 x5 x6 x7 x8 x9 x10) (View.ld x7 r0_7) (View.ld x8 r0_8) (View.ld x1 r0_9) (View.ld x1 r0_10))
        (k0_pay31 (k0_pay62 x0 x1 x2 x3 x4 x5 x6 x7 x8 x9 x10) (k0_pay63 x0 x1 x2 x3 x4 x5 x6 x7 x8 x9 x10) (k0_pay64 x0 x1 x2 x3 x4 x5 x6 x7 x8 x9 x10) (View.ld x7 r0_7) (View.ld x8 r0_8) (View.ld x1 r0_9) (View.ld x1 r0_10)) (ix2 r q)
      = blockToken x0 x1 x2 x3 x4 x5 x6 x7 x8 ⟨256 + r.val / 2, by omega⟩ ⟨(1 - r.val % 2) * 512 + q.val, by omega⟩ :=
  (pairs_apply (k0_pay29 (k0_pay62 x0 x1 x2 x3 x4 x5 x6 x7 x8 x9 x10) (k0_pay63 x0 x1 x2 x3 x4 x5 x6 x7 x8 x9 x10) (k0_pay64 x0 x1 x2 x3 x4 x5 x6 x7 x8 x9 x10) (View.ld x7 r0_7) (View.ld x8 r0_8) (View.ld x1 r0_9) (View.ld x1 r0_10)) r q).trans
    (token_second ..)

theorem out12 (r : Fin 1024) (q : Fin 512) : out0_12 x0 x1 x2 x3 x4 x5 x6 x7 x8 x9 x10 (ix2 r q)
    = blockToken x0 x1 x2 x3 x4 x5 x6 x7 x8 ⟨r.val / 2, by omega⟩ ⟨(1 - r.val % 2) * 512 + q.val, by omega⟩ := by
  canon_tiles x h
  all_goals
    obtain ⟨c, e, rfl⟩ := idx2 x
    first
    | change r.val = c.val at h0
    | change r.val = 512 + c.val at h0
    change q.val = e.val at h1
    first
    | rw [pairs_first]
    | rw [pairs_second]
    exact token_congr _ _ _ _ _ _ _ _ _ (by first | omega | (simp only; omega)) (by first | omega | (simp only; omega))

end Cert.MergeIdeal.Rows

end
-- ==== Proof.MergeArray.lean ====
/- The merge: its results as arrays over the arguments, and the blocks as parts of them. -/
module

public import proofs.«01_k».proof.Proof.MergeOuts

@[expose] public section

set_option maxRecDepth 16384

noncomputable section

open Idealize.ShloMosaic Idealize.ShloMosaic.TcCoe Idealize.SL.Sem
open Idealize.ShloMosaic.Pipeline (Dat)

namespace Cert.MergeIdeal.Rows

open Cert.MergeIdeal Cert.MergeIdeal.Gen Cert.MergeRow
open Cert.ProjectRow (normed)

/-- A new row of the stream. -/
def rowAt (X : FVec Ideal S16x2048x1024 .f32) (M : FVec Ideal S24x6x1024 .f32) (A H W : FVec Ideal S16x2048x512 .f32) (T : FVec Ideal S16x2048x3072 .f32)
    (B : FVec Ideal S3x512x1024 .f32) (O : FVec Ideal S1024x1024 .f32) (b : Fin 16) (s : Fin 2048) : Fin 1024 → EReal :=
  added (fun k => X (ix3 b s k)) (fun k => M (ix3 ⟨b.val, by omega⟩ 2 k))
    (mixed (fun j => T (ix3 b s j)) (fun i => A (ix3 b s i)) (fun i => H (ix3 b s i)) (fun i => W (ix3 b s i)) (fun p i k => B (ix3 p i k)))
    (fun i k => O (ix2 i k))

/-- A token: the new row, normalized and modulated. -/
def tokenAt (X : FVec Ideal S16x2048x1024 .f32) (M : FVec Ideal S24x6x1024 .f32) (A H W : FVec Ideal S16x2048x512 .f32) (T : FVec Ideal S16x2048x3072 .f32)
    (B : FVec Ideal S3x512x1024 .f32) (O : FVec Ideal S1024x1024 .f32) (G : FVec Ideal S1024 .f32) (b : Fin 16) (s : Fin 2048) : Fin 1024 → EReal :=
  normed (rowAt X M A H W T B O b s) (fun k => G (ix1 k)) (fun k => M (ix3 ⟨b.val, by omega⟩ 4 k)) (fun k => M (ix3 ⟨b.val, by omega⟩ 3 k))

/-- The tokens as stored: of each the second half of columns, then the first, in a row of its own. -/
def pairAt (X : FVec Ideal S16x2048x1024 .f32) (M : FVec Ideal S24x6x1024 .f32) (A H W : FVec Ideal S16x2048x512 .f32) (T : FVec Ideal S16x2048x3072 .f32)
    (B : FVec Ideal S3x512x1024 .f32) (O : FVec Ideal S1024x1024 .f32) (G : FVec Ideal S1024 .f32) (R : Fin 65536) (q : Fin 512) : EReal :=
  tokenAt X M A H W T B O G ⟨R.val / 4096, by omega⟩ ⟨R.val % 4096 / 2, by omega⟩ ⟨(1 - R.val % 2) * 512 + q.val, by omega⟩

/-- The arrays of these entries. -/
def stream (X : FVec Ideal S16x2048x1024 .f32) (M : FVec Ideal S24x6x1024 .f32) (A H W : FVec Ideal S16x2048x512 .f32) (T : FVec Ideal S16x2048x3072 .f32)
    (B : FVec Ideal S3x512x1024 .f32) (O : FVec Ideal S1024x1024 .f32) : FVec Ideal S16x2048x1024 .f32 := fun y => rowAt X M A H W T B O (y 0) (y 1) (y 2)

def stored (X : FVec Ideal S16x2048x1024 .f32) (M : FVec Ideal S24x6x1024 .f32) (A H W : FVec Ideal S16x2048x512 .f32) (T : FVec Ideal S16x2048x3072 .f32)
    (B : FVec Ideal S3x512x1024 .f32) (O : FVec Ideal S1024x1024 .f32) (G : FVec Ideal S1024 .f32) : FVec Ideal S65536x512 .bf16 := fun y => pairAt X M A H W T B O G (y 0) (y 1)

theorem rowAt_congr (X : FVec Ideal S16x2048x1024 .f32) (M : FVec Ideal S24x6x1024 .f32) (A H W : FVec Ideal S16x2048x512 .f32) (T : FVec Ideal S16x2048x3072 .f32)
    (B : FVec Ideal S3x512x1024 .f32) (O : FVec Ideal S1024x1024 .f32) {b b' : Fin 16} {s s' : Fin 2048} {k k' : Fin 1024} (hb : b.val = b'.val) (hs : s.val = s'.val) (hk : k.val = k'.val) :
    rowAt X M A H W T B O b s k = rowAt X M A H W T B O b' s' k' := by
  rw [Fin.ext hb, Fin.ext hs, Fin.ext hk]

theorem tokenAt_congr (X : FVec Ideal S16x2048x1024 .f32) (M : FVec Ideal S24x6x1024 .f32) (A H W : FVec Ideal S16x2048x512 .f32) (T : FVec Ideal S16x2048x3072 .f32)
    (B : FVec Ideal S3x512x1024 .f32) (O : FVec Ideal S1024x1024 .f32) (G : FVec Ideal S1024 .f32) {b b' : Fin 16} {s s' : Fin 2048} {k k' : Fin 1024} (hb : b.val = b'.val) (hs : s.val = s'.val)
    (hk : k.val = k'.val) : tokenAt X M A H W T B O G b s k = tokenAt X M A H W T B O G b' s' k' := by
  rw [Fin.ext hb, Fin.ext hs, Fin.ext hk]

variable (m : (ℓ : Loc nD τ sig) → Buf (Elt Ideal) ℓ)

theorem idx : ∀ t : Fin cfg0.N, win0_0.index t = ![t.val / 4, t.val % 4, 0] ∧ win0_1.index t = ![t.val / 4, 0, 0]
    ∧ win0_2.index t = ![t.val / 4, t.val % 4, 0] ∧ win0_3.index t = ![t.val / 4, t.val % 4, 0] ∧ win0_4.index t = ![t.val / 4, t.val % 4, 0]
    ∧ win0_5.index t = ![t.val / 4, t.val % 4, 0] ∧ win0_6.index t = ![0, 0, 0] ∧ win0_7.index t = ![0, 0] ∧ win0_8.index t = ![0, 0]
    ∧ win0_11.index t = ![t.val / 4, t.val % 4, 0] ∧ win0_12.index t = ![t.val, 0] ∧ t.val < 64 :=
  (by decide +kernel : ∀ t : Fin grid0.N, _)

theorem bound (t : Fin cfg0.N) : t.val < 64 := (idx t).2.2.2.2.2.2.2.2.2.2.2

/-- The batch and the rows of a block. -/
def bat (t : Fin cfg0.N) : Fin 16 := ⟨t.val / 4, by have := bound t; omega⟩
def pos (t : Fin cfg0.N) (r : Fin 512) : Fin 2048 := ⟨t.val % 4 * 512 + r.val, by omega⟩

theorem entry_v19 (c : Dev nD) (b : Fin 16) (s : Fin 2048) (k : Fin 512) : (V m c main_v19 : FVec Ideal S16x2048x512 .bf16) (ix3 b s k)
    = (m ((c : Thread nD τ).loc main_arg2) : FVec Ideal S16x2048x512 .f32) (ix3 b s k) := by
  simp only [V, hostOps0, List.flatten_cons, List.flatten_nil, List.append_nil, List.cons_append, List.nil_append]
  entry_read
  pointwise

theorem entry_v20 (c : Dev nD) (b : Fin 16) (s : Fin 2048) (k : Fin 512) : (V m c main_v20 : FVec Ideal S16x2048x512 .bf16) (ix3 b s k)
    = (m ((c : Thread nD τ).loc main_arg3) : FVec Ideal S16x2048x512 .f32) (ix3 b s k) := by
  simp only [V, hostOps0, List.flatten_cons, List.flatten_nil, List.append_nil, List.cons_append, List.nil_append]
  entry_read
  pointwise

theorem entry_v21 (c : Dev nD) (b : Fin 16) (s : Fin 2048) (k : Fin 512) : (V m c main_v21 : FVec Ideal S16x2048x512 .bf16) (ix3 b s k)
    = (m ((c : Thread nD τ).loc main_arg4) : FVec Ideal S16x2048x512 .f32) (ix3 b s k) := by
  simp only [V, hostOps0, List.flatten_cons, List.flatten_nil, List.append_nil, List.cons_append, List.nil_append]
  entry_read
  pointwise

theorem entry_v22 (c : Dev nD) (b : Fin 16) (s : Fin 2048) (k : Fin 3072) : (V m c main_v22 : FVec Ideal S16x2048x3072 .bf16) (ix3 b s k)
    = (m ((c : Thread nD τ).loc main_arg5) : FVec Ideal S16x2048x3072 .f32) (ix3 b s k) := by
  simp only [V, hostOps0, List.flatten_cons, List.flatten_nil, List.append_nil, List.cons_append, List.nil_append]
  entry_read
  pointwise

theorem entry_v23 (c : Dev nD) (p : Fin 3) (i : Fin 512) (k : Fin 1024) : (V m c main_v23 : FVec Ideal S3x512x1024 .bf16) (ix3 p i k)
    = (m ((c : Thread nD τ).loc main_arg6) : FVec Ideal S3x512x1024 .f32) (ix3 p i k) := by
  simp only [V, hostOps0, List.flatten_cons, List.flatten_nil, List.append_nil, List.cons_append, List.nil_append]
  entry_read
  pointwise

theorem entry_v24 (c : Dev nD) (i k : Fin 1024) : (V m c main_v24 : FVec Ideal S1024x1024 .bf16) (ix2 i k)
    = (m ((c : Thread nD τ).loc main_arg7) : FVec Ideal S1024x1024 .f32) (ix2 i k) := by
  simp only [V, hostOps0, List.flatten_cons, List.flatten_nil, List.append_nil, List.cons_append, List.nil_append]
  entry_read
  pointwise

theorem entry_v25 (c : Dev nD) (k : Fin 1024) : (V m c main_v25 : FVec Ideal S1x1024 .f32) (ix2 0 k)
    = (m ((c : Thread nD τ).loc main_arg8) : FVec Ideal S1024 .f32) (ix1 k) := by
  simp only [V, hostOps0, List.flatten_cons, List.flatten_nil, List.append_nil, List.cons_append, List.nil_append]
  entry_read
  pointwise

theorem block_0 (c : Dev nD) (t : Fin cfg0.N) (r : Fin 512) (k : Fin 1024) : iblk m c 0 t (ix3 0 r k) = (V m c main_arg0 : FVec Ideal S16x2048x1024 .f32) (ix3 (bat t) (pos t r) k) := by
  unfold bat pos
  blk_ext [iblk, idx t]

theorem block_1 (c : Dev nD) (t : Fin cfg0.N) (p : Fin 6) (k : Fin 1024) : iblk m c 1 t (ix3 0 p k) = (V m c main_arg1 : FVec Ideal S24x6x1024 .f32) (ix3 ⟨t.val / 4, by have := bound t; omega⟩ p k) := by
  blk_ext [iblk, idx t]

theorem block_2 (c : Dev nD) (t : Fin cfg0.N) (r : Fin 512) (k : Fin 512) : iblk m c 2 t (ix3 0 r k) = (V m c main_v19 : FVec Ideal S16x2048x512 .bf16) (ix3 (bat t) (pos t r) k) := by
  unfold bat pos
  blk_ext [iblk, idx t]

theorem block_3 (c : Dev nD) (t : Fin cfg0.N) (r : Fin 512) (k : Fin 512) : iblk m c 3 t (ix3 0 r k) = (V m c main_v20 : FVec Ideal S16x2048x512 .bf16) (ix3 (bat t) (pos t r) k) := by
  unfold bat pos
  blk_ext [iblk, idx t]

theorem block_4 (c : Dev nD) (t : Fin cfg0.N) (r : Fin 512) (k : Fin 512) : iblk m c 4 t (ix3 0 r k) = (V m c main_v21 : FVec Ideal S16x2048x512 .bf16) (ix3 (bat t) (pos t r) k) := by
  unfold bat pos
  blk_ext [iblk, idx t]

theorem block_5 (c : Dev nD) (t : Fin cfg0.N) (r : Fin 512) (k : Fin 3072) : iblk m c 5 t (ix3 0 r k) = (V m c main_v22 : FVec Ideal S16x2048x3072 .bf16) (ix3 (bat t) (pos t r) k) := by
  unfold bat pos
  blk_ext [iblk, idx t]

theorem block_6 (c : Dev nD) (t : Fin cfg0.N) (p : Fin 3) (i : Fin 512) (k : Fin 1024) : iblk m c 6 t (ix3 p i k) = (V m c main_v23 : FVec Ideal S3x512x1024 .bf16) (ix3 p i k) := by
  blk_ext [iblk, idx t]

theorem block_7 (c : Dev nD) (t : Fin cfg0.N) (i k : Fin 1024) : iblk m c 7 t (ix2 i k) = (V m c main_v24 : FVec Ideal S1024x1024 .bf16) (ix2 i k) := by
  blk_ext [iblk, idx t]

theorem block_8 (c : Dev nD) (t : Fin cfg0.N) (k : Fin 1024) : iblk m c 8 t (ix2 0 k) = (V m c main_v25 : FVec Ideal S1x1024 .f32) (ix2 0 k) := by
  blk_ext [iblk, idx t]

theorem row_point (c : Dev nD) (t : Fin cfg0.N) (r : Fin 512) : blockRow (iblk m c 0 t) (iblk m c 1 t) (iblk m c 2 t) (iblk m c 3 t) (iblk m c 4 t) (iblk m c 5 t) (iblk m c 6 t) (iblk m c 7 t) r
    = rowAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (bat t) (pos t r) := by
  refine added_congr (fun k => (block_0 m c t r k).trans ?_) (fun k => (block_1 m c t 2 k).trans ?_)
    (mixed_congr (fun j => (block_5 m c t r j).trans (entry_v22 m c _ _ j)) (fun i => (block_2 m c t r i).trans (entry_v19 m c _ _ i))
      (fun i => (block_3 m c t r i).trans (entry_v20 m c _ _ i)) (fun i => (block_4 m c t r i).trans (entry_v21 m c _ _ i))
      (fun p i k => (block_6 m c t p i k).trans (entry_v23 m c p i k))) (fun i k => (block_7 m c t i k).trans (entry_v24 m c i k))
  · rw [V_main_arg0]
  · rw [V_main_arg1]; rfl

theorem normed_congr {x x' g g' a a' b b' : Fin 1024 → EReal} (hx : x = x') (hg : ∀ k, g k = g' k) (ha : ∀ k, a k = a' k)
    (hb : ∀ k, b k = b' k) : normed x g a b = normed x' g' a' b' := by
  rw [hx, funext hg, funext ha, funext hb]

theorem token_point (c : Dev nD) (t : Fin cfg0.N) (r : Fin 512) : blockToken (iblk m c 0 t) (iblk m c 1 t) (iblk m c 2 t) (iblk m c 3 t) (iblk m c 4 t) (iblk m c 5 t) (iblk m c 6 t) (iblk m c 7 t) (iblk m c 8 t) r
    = tokenAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (bat t) (pos t r) := by
  refine normed_congr (row_point m c t r) (fun k => (block_8 m c t k).trans (entry_v25 m c k))
    (fun k => (block_1 m c t 4 k).trans ?_) (fun k => (block_1 m c t 3 k).trans ?_)
  · rw [V_main_arg1]; rfl
  · rw [V_main_arg1]; rfl

/-- The stream after the run. -/
theorem final11 (c : Dev nD) : (dats m 0 c).arrAt 11 cfg0.N = stream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t _ y => ?_
  blk_simp
  rw [after0_11]
  have hy : (y : S1x512x1024.Idx) = ix3 0 (y 1) (y 2) := by
    funext a; fin_cases a
    · exact Fin.ext (Nat.lt_one_iff.mp (y 0).isLt)
    · rfl
    · rfl
  rw [hy]
  refine (out11 _ _ _ _ _ _ _ _ _ _ _ _ _).trans ((congrFun (row_point m c t _) _).trans ?_)
  have e0 : ((((cfg0.win 11).blk t).view.emb y) 0 : ℕ) = t.val / 4 := by blk_simp [idx t]
  have e1 : ((((cfg0.win 11).blk t).view.emb y) 1 : ℕ) = t.val % 4 * 512 + (y 1).val := by blk_simp [idx t]
  have e2 : ((((cfg0.win 11).blk t).view.emb y) 2 : ℕ) = (y 2).val := by blk_simp [idx t]
  rw [← hy]
  exact rowAt_congr _ _ _ _ _ _ _ _ e0.symm e1.symm e2.symm

/-- The stored tokens after the run. -/
theorem final12 (c : Dev nD) : (dats m 0 c).arrAt 12 cfg0.N = stored (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 12 _ (by decide +kernel) fun t _ y => ?_
  blk_simp
  rw [after0_12]
  have hy : (y : S1024x512.Idx) = ix2 (y 0) (y 1) := by
    funext a; fin_cases a <;> rfl
  rw [hy]
  refine (out12 _ _ _ _ _ _ _ _ _ _ _ _ _).trans ((congrFun (token_point m c t _) _).trans ?_)
  have e0 : ((((cfg0.win 12).blk t).view.emb y) 0 : ℕ) = t.val * 1024 + (y 0).val := by blk_simp [idx t]
  have e1 : ((((cfg0.win 12).blk t).view.emb y) 1 : ℕ) = (y 1).val := by blk_simp [idx t]
  have hr : (y 0).val < 1024 := (y 0).isLt
  have ht := bound t
  rw [← hy]
  refine tokenAt_congr _ _ _ _ _ _ _ _ _ ?_ ?_ ?_
  · show t.val / 4 = ((((cfg0.win 12).blk t).view.emb y) 0 : ℕ) / 4096
    omega
  · show t.val % 4 * 512 + (y 0).val / 2 = ((((cfg0.win 12).blk t).view.emb y) 0 : ℕ) % 4096 / 2
    omega
  · show (1 - (y 0).val % 2) * 512 + (y 1).val = (1 - ((((cfg0.win 12).blk t).view.emb y) 0 : ℕ) % 2) * 512 + ((((cfg0.win 12).blk t).view.emb y) 1 : ℕ)
    rw [e0, e1, show (t.val * 1024 + (y 0).val) % 2 = (y 0).val % 2 by omega]

end Cert.MergeIdeal.Rows

end
-- ==== Proof.MergeRef.lean ====
/- The reference of the merge, read entry by entry: its two results are the arrays the kernel leaves. -/
module

public import proofs.«01_k».proof.Proof.MergeArray
public import proofs.«01_k».proof.Proof.Gen.MergeReferenceIdeal.Run

@[expose] public section

set_option maxRecDepth 16384

noncomputable section

open Idealize.ShloMosaic Idealize.ShloMosaic.TcCoe Idealize.SL.Sem

namespace Cert.MergeReferenceIdeal.Read

open Cert.MergeReferenceIdeal Cert.MergeReferenceIdeal.Gen Cert.MergeRow
open Cert.ProjectRow (normed)
open Cert.MergeIdeal.Rows (rowAt tokenAt pairAt stream stored)

/-- The new stream. -/
def newStream (X : FVec Ideal S16x2048x1024 .f32) (M : FVec Ideal S24x6x1024 .f32) (A H W : FVec Ideal S16x2048x512 .f32) (T : FVec Ideal S16x2048x3072 .f32)
    (B : FVec Ideal S3x512x1024 .f32) (O : FVec Ideal S1024x1024 .f32) : FVec Ideal S16x2048x1024 .f32 :=
  addf X (mulf (broadcastInDim S16x2048x1024 ![0, 1, 2] bcast_S16x1x1024_S16x2048x1024_0_1_2 (broadcastInDim S16x1x1024 ![0, 2] bcast_S16x1024_S16x1x1024_0_2 (shapeCast _ (extractStridedSlice S16x1x1024 ![0, 2, 0] M slices_S24x6x1024_S16x1x1024_0_2_0) shapeCasts_S16x1x1024_S16x1024))) (Host.dotGeneral dot_S16x2048x1024_S1024x1024_S16x2048x1024_2_0_01_1_n_n none (addf (addf (mulf (extractStridedSlice S16x2048x1024 ![0, 0, 0] T slices_S16x2048x3072_S16x2048x1024_0_0_0) (Host.dotGeneral dot_S16x2048x512_S512x1024_S16x2048x1024_2_0_01_1_n_n none A (shapeCast _ (extractStridedSlice S1x512x1024 ![0, 0, 0] B slices_S3x512x1024_S1x512x1024_0_0_0) shapeCasts_S1x512x1024_S512x1024))) (mulf (extractStridedSlice S16x2048x1024 ![0, 0, 1024] T slices_S16x2048x3072_S16x2048x1024_0_0_1024) (Host.dotGeneral dot_S16x2048x512_S512x1024_S16x2048x1024_2_0_01_1_n_n none H (shapeCast _ (extractStridedSlice S1x512x1024 ![1, 0, 0] B slices_S3x512x1024_S1x512x1024_1_0_0) shapeCasts_S1x512x1024_S512x1024)))) (mulf (extractStridedSlice S16x2048x1024 ![0, 0, 2048] T slices_S16x2048x3072_S16x2048x1024_0_0_2048) (Host.dotGeneral dot_S16x2048x512_S512x1024_S16x2048x1024_2_0_01_1_n_n none W (shapeCast _ (extractStridedSlice S1x512x1024 ![2, 0, 0] B slices_S3x512x1024_S1x512x1024_2_0_0) shapeCasts_S1x512x1024_S512x1024)))) O))

/-- The stored tokens of a stream. -/
def storedTokens (Y : FVec Ideal S16x2048x1024 .f32) (M : FVec Ideal S24x6x1024 .f32) (G : FVec Ideal S1024 .f32) : FVec Ideal S65536x512 .bf16 :=
  truncf .bf16 (shapeCast _ (Host.reverse [2] (shapeCast _ (addf (mulf (mulf (mulf Y (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf Y Y) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 G))) (broadcastInDim S16x2048x1024 ![0, 1, 2] bcast_S16x1x1024_S16x2048x1024_0_1_2 (addf (broadcastInDim S16x1x1024 ![] bcast_S_S16x1x1024 (constant S_ .f32 0x3F800000#32)) (broadcastInDim S16x1x1024 ![0, 2] bcast_S16x1024_S16x1x1024_0_2 (shapeCast _ (extractStridedSlice S16x1x1024 ![0, 4, 0] M slices_S24x6x1024_S16x1x1024_0_4_0) shapeCasts_S16x1x1024_S16x1024))))) (broadcastInDim S16x2048x1024 ![0, 1, 2] bcast_S16x1x1024_S16x2048x1024_0_1_2 (broadcastInDim S16x1x1024 ![0, 2] bcast_S16x1024_S16x1x1024_0_2 (shapeCast _ (extractStridedSlice S16x1x1024 ![0, 3, 0] M slices_S24x6x1024_S16x1x1024_0_3_0) shapeCasts_S16x1x1024_S16x1024)))) shapeCasts_S16x2048x1024_S16x2048x2x512)) shapeCasts_S16x2048x2x512_S65536x512) bitsLt_bf16_f32

theorem newStream_apply (X : FVec Ideal S16x2048x1024 .f32) (M : FVec Ideal S24x6x1024 .f32) (A H W : FVec Ideal S16x2048x512 .f32) (T : FVec Ideal S16x2048x3072 .f32)
    (B : FVec Ideal S3x512x1024 .f32) (O : FVec Ideal S1024x1024 .f32) (b : Fin 16) (s : Fin 2048) (k : Fin 1024) :
    newStream X M A H W T B O (ix3 b s k) = rowAt X M A H W T B O b s k := by
  pointwise [newStream]
  rfl

theorem newStream_eq (X : FVec Ideal S16x2048x1024 .f32) (M : FVec Ideal S24x6x1024 .f32) (A H W : FVec Ideal S16x2048x512 .f32) (T : FVec Ideal S16x2048x3072 .f32)
    (B : FVec Ideal S3x512x1024 .f32) (O : FVec Ideal S1024x1024 .f32) : newStream X M A H W T B O = stream X M A H W T B O := by
  funext y
  have hy : y = ix3 (y 0) (y 1) (y 2) := by
    funext a; fin_cases a <;> rfl
  rw [hy]
  exact newStream_apply _ _ _ _ _ _ _ _ (y 0) (y 1) (y 2)

theorem storedTokens_apply (Y : FVec Ideal S16x2048x1024 .f32) (M : FVec Ideal S24x6x1024 .f32) (G : FVec Ideal S1024 .f32) (R : Fin 65536) (q : Fin 512) :
    storedTokens Y M G (ix2 R q) = normed (fun k => Y (ix3 ⟨R.val / 4096, by omega⟩ ⟨R.val % 4096 / 2, by omega⟩ k)) (fun k => G (ix1 k))
      (fun k => M (ix3 ⟨R.val / 4096, by omega⟩ 4 k)) (fun k => M (ix3 ⟨R.val / 4096, by omega⟩ 3 k)) ⟨(1 - R.val % 2) * 512 + q.val, by omega⟩ := by
  have hR := R.isLt
  have hq := q.isLt
  have e : R.val / 2 % 2048 = R.val % 4096 / 2 := by omega
  have f : (Fin.rev (⟨R.val % 2, Nat.mod_lt _ (by decide)⟩ : Fin 2)).val = 1 - R.val % 2 := by
    rw [Fin.val_rev]
    show 2 - (R.val % 2 + 1) = _
    omega
  pointwise [storedTokens]
  show normed (fun k => Y (ix3 ⟨R.val / 4096, by omega⟩ ⟨R.val / 2 % 2048, by omega⟩ k)) (fun k => G (ix1 k))
      (fun k => M (ix3 ⟨R.val / 4096, by omega⟩ 4 k)) (fun k => M (ix3 ⟨R.val / 4096, by omega⟩ 3 k))
      ⟨(Fin.rev (⟨R.val % 2, Nat.mod_lt _ (by decide)⟩ : Fin 2)).val * 512 + q.val, by omega⟩ = _
  simp only [e, f]

theorem storedTokens_eq (X : FVec Ideal S16x2048x1024 .f32) (M : FVec Ideal S24x6x1024 .f32) (A H W : FVec Ideal S16x2048x512 .f32) (T : FVec Ideal S16x2048x3072 .f32)
    (B : FVec Ideal S3x512x1024 .f32) (O : FVec Ideal S1024x1024 .f32) (G : FVec Ideal S1024 .f32) : storedTokens (newStream X M A H W T B O) M G = stored X M A H W T B O G := by
  funext y
  have hy : y = ix2 (y 0) (y 1) := by
    funext a; fin_cases a <;> rfl
  rw [hy]
  refine (storedTokens_apply _ M G (y 0) (y 1)).trans ?_
  exact congrArg (fun z => normed z _ _ _ _) (funext fun k => newStream_apply _ _ _ _ _ _ _ _ _ _ k)

end Cert.MergeReferenceIdeal.Read

end
-- ==== Proof.MergeClaims.lean ====
/- The claims of the merge. -/
module

public import proofs.«01_k».proof.Proof.MergeRef
public import proofs.«01_k».proof.Proof.Gen.Merge.Frame
public import proofs.«01_k».proof.Defs

@[expose] public section

noncomputable section

open Idealize.ShloMosaic Idealize.ShloMosaic.TcCoe Idealize.SL.Sem

namespace Cert.MergeClaims

/-- The reference runs, keeps its arguments, and has no counter to leave open. -/
theorem frame_reference : quiescent_MergeReferenceIdeal := fun m ρ _ =>
  (θ_run MergeReferenceIdeal.defs _ _).mono (fun r h => ⟨fun c => (h c).2.2, sem_eq_zero_of_no_sems (by decide) r.2⟩)
    (MergeReferenceIdeal.Value.run (F := Ideal) m ρ)

/-- The rewritten stores hold the same pairs. -/
theorem preserves : preserves_Merge_MergeIdeal :=
  ⟨IdealRules.bf16_pair.statement _ _, IdealRules.bf16_pack.statement _⟩

/-- Streams of equal arguments are equal. -/
theorem stream_congr {X X' M M' A A' H H' W W' T T' B B' O O'} (hX : X = X') (hM : M = M') (hA : A = A') (hH : H = H') (hW : W = W')
    (hT : T = T') (hB : B = B') (hO : O = O') :
    MergeIdeal.Rows.stream X M A H W T B O = MergeIdeal.Rows.stream X' M' A' H' W' T' B' O' := by
  rw [hX, hM, hA, hH, hW, hT, hB, hO]

/-- Stored tokens of equal arguments are equal. -/
theorem stored_congr {X X' M M' A A' H H' W W' T T' B B' O O' G G'} (hX : X = X') (hM : M = M') (hA : A = A') (hH : H = H') (hW : W = W')
    (hT : T = T') (hB : B = B') (hO : O = O') (hG : G = G') :
    MergeIdeal.Rows.stored X M A H W T B O G = MergeIdeal.Rows.stored X' M' A' H' W' T' B' O' G' := by
  rw [hX, hM, hA, hH, hW, hT, hB, hO, hG]

set_option maxHeartbeats 2000000 in
/-- The algebraic claim: kernel and reference leave the same stream and the same tokens. -/
theorem algebraic : algebraic_MergeIdeal_MergeReferenceIdeal := by
  intro m g m' g' hpre hargs
  refine ⟨fun c => (MergeIdeal.Gen.dats m 0 c).arrAt 11 MergeIdeal.cfg0.N, fun c => (MergeIdeal.Gen.dats m 0 c).arrAt 12 MergeIdeal.cfg0.N,
    (θ_run _ _ _).mono (fun r h c => ?_) (MergeIdeal.Value.run_blocks m g), ?_⟩
  · obtain ⟨h0, h1, h2, h3, h4⟩ := h c
    exact ⟨h0, h1, h4⟩
  refine (θ_run _ _ _).mono (fun r h c => ?_) (MergeReferenceIdeal.Value.run m' g')
  obtain ⟨e0, e1, e2, e3, e4, e5, e6, e7, e8, _⟩ := hargs c
  obtain ⟨h0, h1, h2⟩ := h c
  refine ⟨h0.trans ?_, h1.trans ?_, h2⟩
  · refine (MergeReferenceIdeal.Read.newStream_eq _ _ _ _ _ _ _ _).trans (Eq.trans ?_ (MergeIdeal.Rows.final11 m c).symm)
    exact stream_congr e0 e1 e2 e3 e4 e5 e6 e7
  · refine (MergeReferenceIdeal.Read.storedTokens_eq _ _ _ _ _ _ _ _ _).trans (Eq.trans ?_ (MergeIdeal.Rows.final12 m c).symm)
    exact stored_congr e0 e1 e2 e3 e4 e5 e6 e7 e8

end Cert.MergeClaims

end
-- ==== Proof.lean ====
module

public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectIdeal.Value
public import proofs.«01_k».proof.Proof.Gen.ProjectReferenceIdeal
public import proofs.«01_k».proof.Proof.Gen.ProjectReferenceIdeal.Run
public import proofs.«01_k».proof.Proof.Meet
public import proofs.«01_k».proof.Proof.ExpertsClaims
public import proofs.«01_k».proof.Proof.ContextClaims
public import proofs.«01_k».proof.Proof.CombineClaims
public import proofs.«01_k».proof.Proof.ProjectClaims
public import proofs.«01_k».proof.Proof.MergeClaims
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Experts
public import proofs.«01_k».proof.Proof.Gen.Context
public import proofs.«01_k».proof.Proof.Gen.Experts.Skeleton
public import proofs.«01_k».proof.Proof.Gen.Context.Skeleton
public import proofs.«01_k».proof.Proof.Gen.Experts.Launch
public import proofs.«01_k».proof.Proof.Gen.Context.Launch
public import proofs.«01_k».proof.Proof.Gen.Experts.Flash
public import proofs.«01_k».proof.Proof.Gen.Context.Flash
public import proofs.«01_k».proof.Proof.Gen.ExpertsIdeal
public import proofs.«01_k».proof.Proof.Gen.ContextIdeal
public import proofs.«01_k».proof.Proof.Gen.ExpertsIdeal.Skeleton
public import proofs.«01_k».proof.Proof.Gen.ContextIdeal.Skeleton
public import proofs.«01_k».proof.Proof.Gen.ExpertsIdeal.Launch
public import proofs.«01_k».proof.Proof.Gen.ContextIdeal.Launch
public import proofs.«01_k».proof.Proof.Gen.ExpertsIdeal.Flash
public import proofs.«01_k».proof.Proof.Gen.ContextIdeal.Flash
public import proofs.«01_k».proof.Proof.Gen.ExpertsReferenceIdeal
public import proofs.«01_k».proof.Proof.Gen.ContextReferenceIdeal
public import proofs.«01_k».proof.Proof.Gen.ContextReferenceIdeal.Run
public import proofs.«01_k».proof.Proof.Gen.Pre_finite_qk
public import proofs.«01_k».proof.Proof.Gen.Pre_tiles_ok
public import proofs.«01_k».proof.Proof.Gen.Pre_context_tiles_ok
public import proofs.«01_k».proof.Proof.Gen.Combine
public import proofs.«01_k».proof.Proof.Gen.Combine.Skeleton
public import proofs.«01_k».proof.Proof.Gen.Combine.Launch
public import proofs.«01_k».proof.Proof.Gen.Combine.Points
public import proofs.«01_k».proof.Proof.Gen.Combine.Frame
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Points
public import proofs.«01_k».proof.Proof.Gen.CombineIdeal.Frame
public import proofs.«01_k».proof.Proof.Gen.CombineIdeal.Value
public import proofs.«01_k».proof.Proof.Gen.CombineReferenceIdeal
public import proofs.«01_k».proof.Proof.Gen.CombineReferenceIdeal.Run
public import Idealize.ShloMosaic.Adequacy
public import Idealize.ShloMosaic.Init

@[expose] public section

noncomputable section

namespace Cert.Proof

open Idealize.ShloMosaic Idealize.SL.Sem Cert.Kernel

/-- The reference runs, keeps its arguments, and has no counter to leave open. -/
theorem reference_frame (h : Cert.Pre_finite_qk.Facts) : Cert.quiescent_ReferenceIdeal ∧ Cert.quiescent_ReferenceIdeal_pre_finite_qk := by
  constructor
  all_goals
    intro m ρ _
    exact (θ_run Cert.ReferenceIdeal.defs _ _).mono (fun r h => ⟨fun c => (h c).2, sem_eq_zero_of_no_sems (by decide) r.2⟩)
      (Cert.ReferenceIdeal.Value.run (F := Ideal) m ρ)

theorem claim : Cert.Claim := ⟨Cert.Kernel.Gen.facts, Cert.KernelIdeal.Gen.facts, Cert.ReferenceIdeal.Gen.facts, Cert.Experts.Gen.facts, Cert.ExpertsIdeal.Gen.facts, Cert.ExpertsReferenceIdeal.Gen.facts, Cert.Combine.Gen.facts, Cert.CombineIdeal.Gen.facts, Cert.CombineReferenceIdeal.Gen.facts, Cert.Project.Gen.facts, Cert.ProjectIdeal.Gen.facts, Cert.ProjectReferenceIdeal.Gen.facts, Cert.Merge.Gen.facts, Cert.MergeIdeal.Gen.facts, Cert.MergeReferenceIdeal.Gen.facts, Cert.Context.Gen.facts, Cert.ContextIdeal.Gen.facts, Cert.ContextReferenceIdeal.Gen.facts, Cert.Pre_finite_qk.Gen.facts, Cert.Pre_tiles_ok.Gen.facts, Cert.Pre_context_tiles_ok.Gen.facts,
  fun m ρ _ => Cert.Kernel.Gen.frame m ρ, fun m ρ _ => Cert.KernelIdeal.Gen.frame m ρ, fun m ρ _ => Cert.KernelIdeal.Gen.frame m ρ, (reference_frame Cert.Pre_finite_qk.Gen.facts).1, (reference_frame Cert.Pre_finite_qk.Gen.facts).2,
  Cert.ExpertsClaims.frame, Cert.ExpertsClaims.frame_ideal, Cert.ExpertsClaims.frame_reference, Cert.ExpertsClaims.frame_reference_pre,
  fun m ρ _ => Cert.Combine.Gen.frame m ρ, fun m ρ _ => Cert.CombineIdeal.Gen.frame m ρ, Cert.CombineClaims.frame_reference,
  fun m ρ _ => Cert.Project.Gen.frame m ρ, fun m ρ _ => Cert.ProjectIdeal.Gen.frame m ρ, Cert.ProjectClaims.frame_reference,
  fun m ρ _ => Cert.Merge.Gen.frame m ρ, fun m ρ _ => Cert.MergeIdeal.Gen.frame m ρ, Cert.MergeClaims.frame_reference,
  Cert.ContextClaims.frame, Cert.ContextClaims.frame_ideal, Cert.ContextClaims.frame_reference, Cert.ContextClaims.frame_reference_pre,
  IdealRules.named_const.statement _ _ _ _ _ rfl, Cert.Meet.algebraic, Cert.ExpertsClaims.preserves, Cert.ExpertsClaims.algebraic, Cert.CombineClaims.preserves, Cert.CombineClaims.algebraic,
  trivial, Cert.ProjectClaims.algebraic, Cert.MergeClaims.preserves, Cert.MergeClaims.algebraic, Cert.ContextClaims.preserves, Cert.ContextClaims.algebraic⟩

end Cert.Proof

end
